-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_RefDownIdeal (m : (ℓ : Loc Cert.RefDownIdeal.nD Cert.RefDownIdeal.τ Cert.RefDownIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_RefGateIdeal (m : (ℓ : Loc Cert.RefGateIdeal.nD Cert.RefGateIdeal.τ Cert.RefGateIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_RefOutIdeal (m : (ℓ : Loc Cert.RefOutIdeal.nD Cert.RefOutIdeal.τ Cert.RefOutIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_RefKvIdeal (m : (ℓ : Loc Cert.RefKvIdeal.nD Cert.RefKvIdeal.τ Cert.RefKvIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_RefQueryIdeal (m : (ℓ : Loc Cert.RefQueryIdeal.nD Cert.RefQueryIdeal.τ Cert.RefQueryIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_RefInIdeal (m : (ℓ : Loc Cert.RefInIdeal.nD Cert.RefInIdeal.τ Cert.RefInIdeal.sig) → Buf (Elt Ideal) ℓ) : Prop :=
  True

def Pre_Second (m : (ℓ : Loc Cert.Second.nD Cert.Second.τ Cert.Second.sig) → Buf (Elt Bits) ℓ) : Prop :=
  True

def Pre_SecondIdeal (m : (ℓ : Loc Cert.SecondIdeal.nD Cert.SecondIdeal.τ Cert.SecondIdeal.sig) → Buf (Elt Ideal) ℓ) : Prop :=
  True

def Pre_RefSecondIdeal (m : (ℓ : Loc Cert.RefSecondIdeal.nD Cert.RefSecondIdeal.τ Cert.RefSecondIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_RefDownIdeal [hRefDownIdeal : Cert.RefDownIdeal.Facts] : Prop :=
  ∀ (m : (ℓ : Loc Cert.RefDownIdeal.nD Cert.RefDownIdeal.τ Cert.RefDownIdeal.sig) → Buf (Elt Ideal) ℓ) (g : Dev Cert.RefDownIdeal.nD → PrngReg), Pre_RefDownIdeal m →
    θ_run (Cert.RefDownIdeal.defs (F := Ideal)) (onTc (τ := Cert.RefDownIdeal.τ) (Cert.RefDownIdeal.main (F := Ideal))) ⟨m, fun _ => 0, g⟩ (fun r => (∀ c : Dev Cert.RefDownIdeal.nD,
      r.2.mem ((c.tc : Thread Cert.RefDownIdeal.nD Cert.RefDownIdeal.τ).loc Cert.RefDownIdeal.main_arg0) = m ((c.tc : Thread Cert.RefDownIdeal.nD Cert.RefDownIdeal.τ).loc Cert.RefDownIdeal.main_arg0)
      ∧ r.2.mem ((c.tc : Thread Cert.RefDownIdeal.nD Cert.RefDownIdeal.τ).loc Cert.RefDownIdeal.main_arg1) = m ((c.tc : Thread Cert.RefDownIdeal.nD Cert.RefDownIdeal.τ).loc Cert.RefDownIdeal.main_arg1)
      ∧ r.2.mem ((c.tc : Thread Cert.RefDownIdeal.nD Cert.RefDownIdeal.τ).loc Cert.RefDownIdeal.main_arg2) = m ((c.tc : Thread Cert.RefDownIdeal.nD Cert.RefDownIdeal.τ).loc Cert.RefDownIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_RefGateIdeal [hRefGateIdeal : Cert.RefGateIdeal.Facts] : Prop :=
  ∀ (m : (ℓ : Loc Cert.RefGateIdeal.nD Cert.RefGateIdeal.τ Cert.RefGateIdeal.sig) → Buf (Elt Ideal) ℓ) (g : Dev Cert.RefGateIdeal.nD → PrngReg), Pre_RefGateIdeal m →
    θ_run (Cert.RefGateIdeal.defs (F := Ideal)) (onTc (τ := Cert.RefGateIdeal.τ) (Cert.RefGateIdeal.main (F := Ideal))) ⟨m, fun _ => 0, g⟩ (fun r => (∀ c : Dev Cert.RefGateIdeal.nD,
      r.2.mem ((c.tc : Thread Cert.RefGateIdeal.nD Cert.RefGateIdeal.τ).loc Cert.RefGateIdeal.main_arg0) = m ((c.tc : Thread Cert.RefGateIdeal.nD Cert.RefGateIdeal.τ).loc Cert.RefGateIdeal.main_arg0)
      ∧ r.2.mem ((c.tc : Thread Cert.RefGateIdeal.nD Cert.RefGateIdeal.τ).loc Cert.RefGateIdeal.main_arg1) = m ((c.tc : Thread Cert.RefGateIdeal.nD Cert.RefGateIdeal.τ).loc Cert.RefGateIdeal.main_arg1)
      ∧ r.2.mem ((c.tc : Thread Cert.RefGateIdeal.nD Cert.RefGateIdeal.τ).loc Cert.RefGateIdeal.main_arg2) = m ((c.tc : Thread Cert.RefGateIdeal.nD Cert.RefGateIdeal.τ).loc Cert.RefGateIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_RefOutIdeal [hRefOutIdeal : Cert.RefOutIdeal.Facts] : Prop :=
  ∀ (m : (ℓ : Loc Cert.RefOutIdeal.nD Cert.RefOutIdeal.τ Cert.RefOutIdeal.sig) → Buf (Elt Ideal) ℓ) (g : Dev Cert.RefOutIdeal.nD → PrngReg), Pre_RefOutIdeal m →
    θ_run (Cert.RefOutIdeal.defs (F := Ideal)) (onTc (τ := Cert.RefOutIdeal.τ) (Cert.RefOutIdeal.main (F := Ideal))) ⟨m, fun _ => 0, g⟩ (fun r => (∀ c : Dev Cert.RefOutIdeal.nD,
      r.2.mem ((c.tc : Thread Cert.RefOutIdeal.nD Cert.RefOutIdeal.τ).loc Cert.RefOutIdeal.main_arg0) = m ((c.tc : Thread Cert.RefOutIdeal.nD Cert.RefOutIdeal.τ).loc Cert.RefOutIdeal.main_arg0)
      ∧ r.2.mem ((c.tc : Thread Cert.RefOutIdeal.nD Cert.RefOutIdeal.τ).loc Cert.RefOutIdeal.main_arg1) = m ((c.tc : Thread Cert.RefOutIdeal.nD Cert.RefOutIdeal.τ).loc Cert.RefOutIdeal.main_arg1)
      ∧ r.2.mem ((c.tc : Thread Cert.RefOutIdeal.nD Cert.RefOutIdeal.τ).loc Cert.RefOutIdeal.main_arg2) = m ((c.tc : Thread Cert.RefOutIdeal.nD Cert.RefOutIdeal.τ).loc Cert.RefOutIdeal.main_arg2))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ r.2.sem = fun _ => 0)

def quiescent_RefKvIdeal [hRefKvIdeal : Cert.RefKvIdeal.Facts] : Prop :=
  ∀ (m : (ℓ : Loc Cert.RefKvIdeal.nD Cert.RefKvIdeal.τ Cert.RefKvIdeal.sig) → Buf (Elt Ideal) ℓ) (g : Dev Cert.RefKvIdeal.nD → PrngReg), Pre_RefKvIdeal m →
    θ_run (Cert.RefKvIdeal.defs (F := Ideal)) (onTc (τ := Cert.RefKvIdeal.τ) (Cert.RefKvIdeal.main (F := Ideal))) ⟨m, fun _ => 0, g⟩ (fun r => (∀ c : Dev Cert.RefKvIdeal.nD,
      r.2.mem ((c.tc : Thread Cert.RefKvIdeal.nD Cert.RefKvIdeal.τ).loc Cert.RefKvIdeal.main_arg0) = m ((c.tc : Thread Cert.RefKvIdeal.nD Cert.RefKvIdeal.τ).loc Cert.RefKvIdeal.main_arg0)
      ∧ r.2.mem ((c.tc : Thread Cert.RefKvIdeal.nD Cert.RefKvIdeal.τ).loc Cert.RefKvIdeal.main_arg1) = m ((c.tc : Thread Cert.RefKvIdeal.nD Cert.RefKvIdeal.τ).loc Cert.RefKvIdeal.main_arg1)
      ∧ r.2.mem ((c.tc : Thread Cert.RefKvIdeal.nD Cert.RefKvIdeal.τ).loc Cert.RefKvIdeal.main_arg2) = m ((c.tc : Thread Cert.RefKvIdeal.nD Cert.RefKvIdeal.τ).loc Cert.RefKvIdeal.main_arg2))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1)
      ∧ r.2.mem ((c.tc : Thread Cert.Query.nD Cert.Query.τ).loc Cert.Query.main_arg2) = m ((c.tc : Thread Cert.Query.nD Cert.Query.τ).loc Cert.Query.main_arg2))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
      ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2))
      ∧ r.2.sem = fun _ => 0)

def quiescent_RefQueryIdeal [hRefQueryIdeal : Cert.RefQueryIdeal.Facts] : Prop :=
  ∀ (m : (ℓ : Loc Cert.RefQueryIdeal.nD Cert.RefQueryIdeal.τ Cert.RefQueryIdeal.sig) → Buf (Elt Ideal) ℓ) (g : Dev Cert.RefQueryIdeal.nD → PrngReg), Pre_RefQueryIdeal m →
    θ_run (Cert.RefQueryIdeal.defs (F := Ideal)) (onTc (τ := Cert.RefQueryIdeal.τ) (Cert.RefQueryIdeal.main (F := Ideal))) ⟨m, fun _ => 0, g⟩ (fun r => (∀ c : Dev Cert.RefQueryIdeal.nD,
      r.2.mem ((c.tc : Thread Cert.RefQueryIdeal.nD Cert.RefQueryIdeal.τ).loc Cert.RefQueryIdeal.main_arg0) = m ((c.tc : Thread Cert.RefQueryIdeal.nD Cert.RefQueryIdeal.τ).loc Cert.RefQueryIdeal.main_arg0)
      ∧ r.2.mem ((c.tc : Thread Cert.RefQueryIdeal.nD Cert.RefQueryIdeal.τ).loc Cert.RefQueryIdeal.main_arg1) = m ((c.tc : Thread Cert.RefQueryIdeal.nD Cert.RefQueryIdeal.τ).loc Cert.RefQueryIdeal.main_arg1)
      ∧ r.2.mem ((c.tc : Thread Cert.RefQueryIdeal.nD Cert.RefQueryIdeal.τ).loc Cert.RefQueryIdeal.main_arg2) = m ((c.tc : Thread Cert.RefQueryIdeal.nD Cert.RefQueryIdeal.τ).loc Cert.RefQueryIdeal.main_arg2))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5))
      ∧ r.2.sem = fun _ => 0)

def quiescent_RefInIdeal [hRefInIdeal : Cert.RefInIdeal.Facts] : Prop :=
  ∀ (m : (ℓ : Loc Cert.RefInIdeal.nD Cert.RefInIdeal.τ Cert.RefInIdeal.sig) → Buf (Elt Ideal) ℓ) (g : Dev Cert.RefInIdeal.nD → PrngReg), Pre_RefInIdeal m →
    θ_run (Cert.RefInIdeal.defs (F := Ideal)) (onTc (τ := Cert.RefInIdeal.τ) (Cert.RefInIdeal.main (F := Ideal))) ⟨m, fun _ => 0, g⟩ (fun r => (∀ c : Dev Cert.RefInIdeal.nD,
      r.2.mem ((c.tc : Thread Cert.RefInIdeal.nD Cert.RefInIdeal.τ).loc Cert.RefInIdeal.main_arg0) = m ((c.tc : Thread Cert.RefInIdeal.nD Cert.RefInIdeal.τ).loc Cert.RefInIdeal.main_arg0)
      ∧ r.2.mem ((c.tc : Thread Cert.RefInIdeal.nD Cert.RefInIdeal.τ).loc Cert.RefInIdeal.main_arg1) = m ((c.tc : Thread Cert.RefInIdeal.nD Cert.RefInIdeal.τ).loc Cert.RefInIdeal.main_arg1)
      ∧ r.2.mem ((c.tc : Thread Cert.RefInIdeal.nD Cert.RefInIdeal.τ).loc Cert.RefInIdeal.main_arg2) = m ((c.tc : Thread Cert.RefInIdeal.nD Cert.RefInIdeal.τ).loc Cert.RefInIdeal.main_arg2)
      ∧ r.2.mem ((c.tc : Thread Cert.RefInIdeal.nD Cert.RefInIdeal.τ).loc Cert.RefInIdeal.main_arg3) = m ((c.tc : Thread Cert.RefInIdeal.nD Cert.RefInIdeal.τ).loc Cert.RefInIdeal.main_arg3)
      ∧ r.2.mem ((c.tc : Thread Cert.RefInIdeal.nD Cert.RefInIdeal.τ).loc Cert.RefInIdeal.main_arg4) = m ((c.tc : Thread Cert.RefInIdeal.nD Cert.RefInIdeal.τ).loc Cert.RefInIdeal.main_arg4)
      ∧ r.2.mem ((c.tc : Thread Cert.RefInIdeal.nD Cert.RefInIdeal.τ).loc Cert.RefInIdeal.main_arg5) = m ((c.tc : Thread Cert.RefInIdeal.nD Cert.RefInIdeal.τ).loc Cert.RefInIdeal.main_arg5))
      ∧ r.2.sem = fun _ => 0)

def quiescent_Second [hSecond : Cert.Second.Facts] : Prop :=
  ∀ (m : (ℓ : Loc Cert.Second.nD Cert.Second.τ Cert.Second.sig) → Buf (Elt Bits) ℓ) (g : Dev Cert.Second.nD → PrngReg), Pre_Second m →
    θ_run (Cert.Second.defs (F := Bits)) (onTc (τ := Cert.Second.τ) (Cert.Second.main (F := Bits))) ⟨m, fun _ => 0, g⟩ (fun r => (∀ c : Dev Cert.Second.nD,
      r.2.mem ((c.tc : Thread Cert.Second.nD Cert.Second.τ).loc Cert.Second.main_arg0) = m ((c.tc : Thread Cert.Second.nD Cert.Second.τ).loc Cert.Second.main_arg0)
      ∧ r.2.mem ((c.tc : Thread Cert.Second.nD Cert.Second.τ).loc Cert.Second.main_arg1) = m ((c.tc : Thread Cert.Second.nD Cert.Second.τ).loc Cert.Second.main_arg1)
      ∧ r.2.mem ((c.tc : Thread Cert.Second.nD Cert.Second.τ).loc Cert.Second.main_arg2) = m ((c.tc : Thread Cert.Second.nD Cert.Second.τ).loc Cert.Second.main_arg2)
      ∧ r.2.mem ((c.tc : Thread Cert.Second.nD Cert.Second.τ).loc Cert.Second.main_arg3) = m ((c.tc : Thread Cert.Second.nD Cert.Second.τ).loc Cert.Second.main_arg3)
      ∧ r.2.mem ((c.tc : Thread Cert.Second.nD Cert.Second.τ).loc Cert.Second.main_arg4) = m ((c.tc : Thread Cert.Second.nD Cert.Second.τ).loc Cert.Second.main_arg4)
      ∧ r.2.mem ((c.tc : Thread Cert.Second.nD Cert.Second.τ).loc Cert.Second.main_arg5) = m ((c.tc : Thread Cert.Second.nD Cert.Second.τ).loc Cert.Second.main_arg5)
      ∧ r.2.mem ((c.tc : Thread Cert.Second.nD Cert.Second.τ).loc Cert.Second.main_arg6) = m ((c.tc : Thread Cert.Second.nD Cert.Second.τ).loc Cert.Second.main_arg6)
      ∧ r.2.mem ((c.tc : Thread Cert.Second.nD Cert.Second.τ).loc Cert.Second.main_arg7) = m ((c.tc : Thread Cert.Second.nD Cert.Second.τ).loc Cert.Second.main_arg7)
      ∧ r.2.mem ((c.tc : Thread Cert.Second.nD Cert.Second.τ).loc Cert.Second.main_arg8) = m ((c.tc : Thread Cert.Second.nD Cert.Second.τ).loc Cert.Second.main_arg8))
      ∧ r.2.sem = fun _ => 0)

def quiescent_SecondIdeal [hSecondIdeal : Cert.SecondIdeal.Facts] : Prop :=
  ∀ (m : (ℓ : Loc Cert.SecondIdeal.nD Cert.SecondIdeal.τ Cert.SecondIdeal.sig) → Buf (Elt Ideal) ℓ) (g : Dev Cert.SecondIdeal.nD → PrngReg), Pre_SecondIdeal m →
    θ_run (Cert.SecondIdeal.defs (F := Ideal)) (onTc (τ := Cert.SecondIdeal.τ) (Cert.SecondIdeal.main (F := Ideal))) ⟨m, fun _ => 0, g⟩ (fun r => (∀ c : Dev Cert.SecondIdeal.nD,
      r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
      ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
      ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
      ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3)
      ∧ r.2.mem ((c.tc : Thread Cert.SecondIdeal.nD Cert.SecondIdeal.τ).loc Cert.SecondIdeal.main_arg4) = m ((c.tc : Thread Cert.SecondIdeal.nD Cert.SecondIdeal.τ).loc Cert.SecondIdeal.main_arg4)
      ∧ r.2.mem ((c.tc : Thread Cert.SecondIdeal.nD Cert.SecondIdeal.τ).loc Cert.SecondIdeal.main_arg5) = m ((c.tc : Thread Cert.SecondIdeal.nD Cert.SecondIdeal.τ).loc Cert.SecondIdeal.main_arg5)
      ∧ r.2.mem ((c.tc : Thread Cert.SecondIdeal.nD Cert.SecondIdeal.τ).loc Cert.SecondIdeal.main_arg6) = m ((c.tc : Thread Cert.SecondIdeal.nD Cert.SecondIdeal.τ).loc Cert.SecondIdeal.main_arg6)
      ∧ r.2.mem ((c.tc : Thread Cert.SecondIdeal.nD Cert.SecondIdeal.τ).loc Cert.SecondIdeal.main_arg7) = m ((c.tc : Thread Cert.SecondIdeal.nD Cert.SecondIdeal.τ).loc Cert.SecondIdeal.main_arg7)
      ∧ r.2.mem ((c.tc : Thread Cert.SecondIdeal.nD Cert.SecondIdeal.τ).loc Cert.SecondIdeal.main_arg8) = m ((c.tc : Thread Cert.SecondIdeal.nD Cert.SecondIdeal.τ).loc Cert.SecondIdeal.main_arg8))
      ∧ r.2.sem = fun _ => 0)

def quiescent_RefSecondIdeal [hRefSecondIdeal : Cert.RefSecondIdeal.Facts] : Prop :=
  ∀ (m : (ℓ : Loc Cert.RefSecondIdeal.nD Cert.RefSecondIdeal.τ Cert.RefSecondIdeal.sig) → Buf (Elt Ideal) ℓ) (g : Dev Cert.RefSecondIdeal.nD → PrngReg), Pre_RefSecondIdeal m →
    θ_run (Cert.RefSecondIdeal.defs (F := Ideal)) (onTc (τ := Cert.RefSecondIdeal.τ) (Cert.RefSecondIdeal.main (F := Ideal))) ⟨m, fun _ => 0, g⟩ (fun r => (∀ c : Dev Cert.RefSecondIdeal.nD,
      r.2.mem ((c.tc : Thread Cert.RefSecondIdeal.nD Cert.RefSecondIdeal.τ).loc Cert.RefSecondIdeal.main_arg0) = m ((c.tc : Thread Cert.RefSecondIdeal.nD Cert.RefSecondIdeal.τ).loc Cert.RefSecondIdeal.main_arg0)
      ∧ r.2.mem ((c.tc : Thread Cert.RefSecondIdeal.nD Cert.RefSecondIdeal.τ).loc Cert.RefSecondIdeal.main_arg1) = m ((c.tc : Thread Cert.RefSecondIdeal.nD Cert.RefSecondIdeal.τ).loc Cert.RefSecondIdeal.main_arg1)
      ∧ r.2.mem ((c.tc : Thread Cert.RefSecondIdeal.nD Cert.RefSecondIdeal.τ).loc Cert.RefSecondIdeal.main_arg2) = m ((c.tc : Thread Cert.RefSecondIdeal.nD Cert.RefSecondIdeal.τ).loc Cert.RefSecondIdeal.main_arg2)
      ∧ r.2.mem ((c.tc : Thread Cert.RefSecondIdeal.nD Cert.RefSecondIdeal.τ).loc Cert.RefSecondIdeal.main_arg3) = m ((c.tc : Thread Cert.RefSecondIdeal.nD Cert.RefSecondIdeal.τ).loc Cert.RefSecondIdeal.main_arg3)
      ∧ r.2.mem ((c.tc : Thread Cert.RefSecondIdeal.nD Cert.RefSecondIdeal.τ).loc Cert.RefSecondIdeal.main_arg4) = m ((c.tc : Thread Cert.RefSecondIdeal.nD Cert.RefSecondIdeal.τ).loc Cert.RefSecondIdeal.main_arg4)
      ∧ r.2.mem ((c.tc : Thread Cert.RefSecondIdeal.nD Cert.RefSecondIdeal.τ).loc Cert.RefSecondIdeal.main_arg5) = m ((c.tc : Thread Cert.RefSecondIdeal.nD Cert.RefSecondIdeal.τ).loc Cert.RefSecondIdeal.main_arg5)
      ∧ r.2.mem ((c.tc : Thread Cert.RefSecondIdeal.nD Cert.RefSecondIdeal.τ).loc Cert.RefSecondIdeal.main_arg6) = m ((c.tc : Thread Cert.RefSecondIdeal.nD Cert.RefSecondIdeal.τ).loc Cert.RefSecondIdeal.main_arg6)
      ∧ r.2.mem ((c.tc : Thread Cert.RefSecondIdeal.nD Cert.RefSecondIdeal.τ).loc Cert.RefSecondIdeal.main_arg7) = m ((c.tc : Thread Cert.RefSecondIdeal.nD Cert.RefSecondIdeal.τ).loc Cert.RefSecondIdeal.main_arg7)
      ∧ r.2.mem ((c.tc : Thread Cert.RefSecondIdeal.nD Cert.RefSecondIdeal.τ).loc Cert.RefSecondIdeal.main_arg8) = m ((c.tc : Thread Cert.RefSecondIdeal.nD Cert.RefSecondIdeal.τ).loc Cert.RefSecondIdeal.main_arg8))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v155)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v155) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Down_DownIdeal : Prop :=
  True

def algebraic_DownIdeal_RefDownIdeal [hDownIdeal : Cert.DownIdeal.Facts] [hRefDownIdeal : Cert.RefDownIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.RefDownIdeal.nD Cert.RefDownIdeal.τ Cert.RefDownIdeal.sig) → Buf (Elt Ideal) ℓ) (g' : Dev Cert.RefDownIdeal.nD → PrngReg), Pre_DownIdeal m →
    (∀ c : Dev Cert.DownIdeal.nD,
      m' ((c.tc : Thread Cert.RefDownIdeal.nD Cert.RefDownIdeal.τ).loc Cert.RefDownIdeal.main_arg0) = m ((c.tc : Thread Cert.DownIdeal.nD Cert.DownIdeal.τ).loc Cert.DownIdeal.main_arg0)
      ∧ m' ((c.tc : Thread Cert.RefDownIdeal.nD Cert.RefDownIdeal.τ).loc Cert.RefDownIdeal.main_arg1) = m ((c.tc : Thread Cert.DownIdeal.nD Cert.DownIdeal.τ).loc Cert.DownIdeal.main_arg1)
      ∧ m' ((c.tc : Thread Cert.RefDownIdeal.nD Cert.RefDownIdeal.τ).loc Cert.RefDownIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v4_0)) (v1 : (c : Dev Cert.DownIdeal.nD) → Buf (Elt Ideal) ((c.tc : Thread Cert.DownIdeal.nD Cert.DownIdeal.τ).loc Cert.DownIdeal.main_v4_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v4_0) = v0 c
          ∧ r.2.mem ((c.tc : Thread Cert.DownIdeal.nD Cert.DownIdeal.τ).loc Cert.DownIdeal.main_v4_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.RefDownIdeal.defs (F := Ideal)) (onTc (τ := Cert.RefDownIdeal.τ) (Cert.RefDownIdeal.main (F := Ideal))) ⟨m', fun _ => 0, g'⟩ (fun r => ∀ c : Dev Cert.RefDownIdeal.nD,
          r.2.mem ((c.tc : Thread Cert.RefDownIdeal.nD Cert.RefDownIdeal.τ).loc Cert.RefDownIdeal.main_v4) = v0 c
          ∧ r.2.mem ((c.tc : Thread Cert.RefDownIdeal.nD Cert.RefDownIdeal.τ).loc Cert.RefDownIdeal.main_v9) = v1 c
          ∧ r.2.mem ((c.tc : Thread Cert.RefDownIdeal.nD Cert.RefDownIdeal.τ).loc Cert.RefDownIdeal.main_arg0) = m' ((c.tc : Thread Cert.RefDownIdeal.nD Cert.RefDownIdeal.τ).loc Cert.RefDownIdeal.main_arg0)
          ∧ r.2.mem ((c.tc : Thread Cert.RefDownIdeal.nD Cert.RefDownIdeal.τ).loc Cert.RefDownIdeal.main_arg1) = m' ((c.tc : Thread Cert.RefDownIdeal.nD Cert.RefDownIdeal.τ).loc Cert.RefDownIdeal.main_arg1)
          ∧ r.2.mem ((c.tc : Thread Cert.RefDownIdeal.nD Cert.RefDownIdeal.τ).loc Cert.RefDownIdeal.main_arg2) = m' ((c.tc : Thread Cert.RefDownIdeal.nD Cert.RefDownIdeal.τ).loc Cert.RefDownIdeal.main_arg2))

def preserves_Gate_GateIdeal : Prop :=
  True

def algebraic_GateIdeal_RefGateIdeal [hGateIdeal : Cert.GateIdeal.Facts] [hRefGateIdeal : Cert.RefGateIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.RefGateIdeal.nD Cert.RefGateIdeal.τ Cert.RefGateIdeal.sig) → Buf (Elt Ideal) ℓ) (g' : Dev Cert.RefGateIdeal.nD → PrngReg), Pre_GateIdeal m →
    (∀ c : Dev Cert.GateIdeal.nD,
      m' ((c.tc : Thread Cert.RefGateIdeal.nD Cert.RefGateIdeal.τ).loc Cert.RefGateIdeal.main_arg0) = m ((c.tc : Thread Cert.GateIdeal.nD Cert.GateIdeal.τ).loc Cert.GateIdeal.main_arg0)
      ∧ m' ((c.tc : Thread Cert.RefGateIdeal.nD Cert.RefGateIdeal.τ).loc Cert.RefGateIdeal.main_arg1) = m ((c.tc : Thread Cert.GateIdeal.nD Cert.GateIdeal.τ).loc Cert.GateIdeal.main_arg1)
      ∧ m' ((c.tc : Thread Cert.RefGateIdeal.nD Cert.RefGateIdeal.τ).loc Cert.RefGateIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v4_0)) (v1 : (c : Dev Cert.GateIdeal.nD) → Buf (Elt Ideal) ((c.tc : Thread Cert.GateIdeal.nD Cert.GateIdeal.τ).loc Cert.GateIdeal.main_v4_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v4_0) = v0 c
          ∧ r.2.mem ((c.tc : Thread Cert.GateIdeal.nD Cert.GateIdeal.τ).loc Cert.GateIdeal.main_v4_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.RefGateIdeal.defs (F := Ideal)) (onTc (τ := Cert.RefGateIdeal.τ) (Cert.RefGateIdeal.main (F := Ideal))) ⟨m', fun _ => 0, g'⟩ (fun r => ∀ c : Dev Cert.RefGateIdeal.nD,
          r.2.mem ((c.tc : Thread Cert.RefGateIdeal.nD Cert.RefGateIdeal.τ).loc Cert.RefGateIdeal.main_v8) = v0 c
          ∧ r.2.mem ((c.tc : Thread Cert.RefGateIdeal.nD Cert.RefGateIdeal.τ).loc Cert.RefGateIdeal.main_v17) = v1 c
          ∧ r.2.mem ((c.tc : Thread Cert.RefGateIdeal.nD Cert.RefGateIdeal.τ).loc Cert.RefGateIdeal.main_arg0) = m' ((c.tc : Thread Cert.RefGateIdeal.nD Cert.RefGateIdeal.τ).loc Cert.RefGateIdeal.main_arg0)
          ∧ r.2.mem ((c.tc : Thread Cert.RefGateIdeal.nD Cert.RefGateIdeal.τ).loc Cert.RefGateIdeal.main_arg1) = m' ((c.tc : Thread Cert.RefGateIdeal.nD Cert.RefGateIdeal.τ).loc Cert.RefGateIdeal.main_arg1)
          ∧ r.2.mem ((c.tc : Thread Cert.RefGateIdeal.nD Cert.RefGateIdeal.τ).loc Cert.RefGateIdeal.main_arg2) = m' ((c.tc : Thread Cert.RefGateIdeal.nD Cert.RefGateIdeal.τ).loc Cert.RefGateIdeal.main_arg2))

def preserves_Out_OutIdeal : Prop :=
  True

def algebraic_OutIdeal_RefOutIdeal [hOutIdeal : Cert.OutIdeal.Facts] [hRefOutIdeal : Cert.RefOutIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.RefOutIdeal.nD Cert.RefOutIdeal.τ Cert.RefOutIdeal.sig) → Buf (Elt Ideal) ℓ) (g' : Dev Cert.RefOutIdeal.nD → PrngReg), Pre_OutIdeal m →
    (∀ c : Dev Cert.OutIdeal.nD,
      m' ((c.tc : Thread Cert.RefOutIdeal.nD Cert.RefOutIdeal.τ).loc Cert.RefOutIdeal.main_arg0) = m ((c.tc : Thread Cert.OutIdeal.nD Cert.OutIdeal.τ).loc Cert.OutIdeal.main_arg0)
      ∧ m' ((c.tc : Thread Cert.RefOutIdeal.nD Cert.RefOutIdeal.τ).loc Cert.RefOutIdeal.main_arg1) = m ((c.tc : Thread Cert.OutIdeal.nD Cert.OutIdeal.τ).loc Cert.OutIdeal.main_arg1)
      ∧ m' ((c.tc : Thread Cert.RefOutIdeal.nD Cert.RefOutIdeal.τ).loc Cert.RefOutIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v4_0)) (v1 : (c : Dev Cert.OutIdeal.nD) → Buf (Elt Ideal) ((c.tc : Thread Cert.OutIdeal.nD Cert.OutIdeal.τ).loc Cert.OutIdeal.main_v4_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v4_0) = v0 c
          ∧ r.2.mem ((c.tc : Thread Cert.OutIdeal.nD Cert.OutIdeal.τ).loc Cert.OutIdeal.main_v4_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.RefOutIdeal.defs (F := Ideal)) (onTc (τ := Cert.RefOutIdeal.τ) (Cert.RefOutIdeal.main (F := Ideal))) ⟨m', fun _ => 0, g'⟩ (fun r => ∀ c : Dev Cert.RefOutIdeal.nD,
          r.2.mem ((c.tc : Thread Cert.RefOutIdeal.nD Cert.RefOutIdeal.τ).loc Cert.RefOutIdeal.main_v4) = v0 c
          ∧ r.2.mem ((c.tc : Thread Cert.RefOutIdeal.nD Cert.RefOutIdeal.τ).loc Cert.RefOutIdeal.main_v9) = v1 c
          ∧ r.2.mem ((c.tc : Thread Cert.RefOutIdeal.nD Cert.RefOutIdeal.τ).loc Cert.RefOutIdeal.main_arg0) = m' ((c.tc : Thread Cert.RefOutIdeal.nD Cert.RefOutIdeal.τ).loc Cert.RefOutIdeal.main_arg0)
          ∧ r.2.mem ((c.tc : Thread Cert.RefOutIdeal.nD Cert.RefOutIdeal.τ).loc Cert.RefOutIdeal.main_arg1) = m' ((c.tc : Thread Cert.RefOutIdeal.nD Cert.RefOutIdeal.τ).loc Cert.RefOutIdeal.main_arg1)
          ∧ r.2.mem ((c.tc : Thread Cert.RefOutIdeal.nD Cert.RefOutIdeal.τ).loc Cert.RefOutIdeal.main_arg2) = m' ((c.tc : Thread Cert.RefOutIdeal.nD Cert.RefOutIdeal.τ).loc Cert.RefOutIdeal.main_arg2))

def preserves_Kv_KvIdeal : Prop :=
  True

def algebraic_KvIdeal_RefKvIdeal [hKvIdeal : Cert.KvIdeal.Facts] [hRefKvIdeal : Cert.RefKvIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.RefKvIdeal.nD Cert.RefKvIdeal.τ Cert.RefKvIdeal.sig) → Buf (Elt Ideal) ℓ) (g' : Dev Cert.RefKvIdeal.nD → PrngReg), Pre_KvIdeal m →
    (∀ c : Dev Cert.KvIdeal.nD,
      m' ((c.tc : Thread Cert.RefKvIdeal.nD Cert.RefKvIdeal.τ).loc Cert.RefKvIdeal.main_arg0) = m ((c.tc : Thread Cert.KvIdeal.nD Cert.KvIdeal.τ).loc Cert.KvIdeal.main_arg0)
      ∧ m' ((c.tc : Thread Cert.RefKvIdeal.nD Cert.RefKvIdeal.τ).loc Cert.RefKvIdeal.main_arg1) = m ((c.tc : Thread Cert.KvIdeal.nD Cert.KvIdeal.τ).loc Cert.KvIdeal.main_arg1)
      ∧ m' ((c.tc : Thread Cert.RefKvIdeal.nD Cert.RefKvIdeal.τ).loc Cert.RefKvIdeal.main_arg2) = m ((c.tc : Thread Cert.KvIdeal.nD Cert.KvIdeal.τ).loc Cert.KvIdeal.main_arg2)) →
    ∃ (v0 : (c : Dev Cert.KvIdeal.nD) → Buf (Elt Ideal) ((c.tc : Thread Cert.KvIdeal.nD Cert.KvIdeal.τ).loc Cert.KvIdeal.main_v5_0)) (v1 : (c : Dev Cert.KvIdeal.nD) → Buf (Elt Ideal) ((c.tc : Thread Cert.KvIdeal.nD Cert.KvIdeal.τ).loc Cert.KvIdeal.main_v5_1)) (v2 : (c : Dev Cert.KvIdeal.nD) → Buf (Elt Ideal) ((c.tc : Thread Cert.KvIdeal.nD Cert.KvIdeal.τ).loc Cert.KvIdeal.main_v5_2)) (v3 : (c : Dev Cert.KvIdeal.nD) → Buf (Elt Ideal) ((c.tc : Thread Cert.KvIdeal.nD Cert.KvIdeal.τ).loc Cert.KvIdeal.main_v5_3)) (v4 : (c : Dev Cert.KvIdeal.nD) → Buf (Elt Ideal) ((c.tc : Thread Cert.KvIdeal.nD Cert.KvIdeal.τ).loc Cert.KvIdeal.main_v5_4)) (v5 : (c : Dev Cert.KvIdeal.nD) → Buf (Elt Ideal) ((c.tc : Thread Cert.KvIdeal.nD Cert.KvIdeal.τ).loc Cert.KvIdeal.main_v5_5)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v5_0) = v0 c
          ∧ r.2.mem ((c.tc : Thread Cert.KvIdeal.nD Cert.KvIdeal.τ).loc Cert.KvIdeal.main_v5_1) = v1 c
          ∧ r.2.mem ((c.tc : Thread Cert.KvIdeal.nD Cert.KvIdeal.τ).loc Cert.KvIdeal.main_v5_2) = v2 c
          ∧ r.2.mem ((c.tc : Thread Cert.KvIdeal.nD Cert.KvIdeal.τ).loc Cert.KvIdeal.main_v5_3) = v3 c
          ∧ r.2.mem ((c.tc : Thread Cert.KvIdeal.nD Cert.KvIdeal.τ).loc Cert.KvIdeal.main_v5_4) = v4 c
          ∧ r.2.mem ((c.tc : Thread Cert.KvIdeal.nD Cert.KvIdeal.τ).loc Cert.KvIdeal.main_v5_5) = v5 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ θ_run (Cert.RefKvIdeal.defs (F := Ideal)) (onTc (τ := Cert.RefKvIdeal.τ) (Cert.RefKvIdeal.main (F := Ideal))) ⟨m', fun _ => 0, g'⟩ (fun r => ∀ c : Dev Cert.RefKvIdeal.nD,
          r.2.mem ((c.tc : Thread Cert.RefKvIdeal.nD Cert.RefKvIdeal.τ).loc Cert.RefKvIdeal.main_v7) = v0 c
          ∧ r.2.mem ((c.tc : Thread Cert.RefKvIdeal.nD Cert.RefKvIdeal.τ).loc Cert.RefKvIdeal.main_v9) = v1 c
          ∧ r.2.mem ((c.tc : Thread Cert.RefKvIdeal.nD Cert.RefKvIdeal.τ).loc Cert.RefKvIdeal.main_v11) = v2 c
          ∧ r.2.mem ((c.tc : Thread Cert.RefKvIdeal.nD Cert.RefKvIdeal.τ).loc Cert.RefKvIdeal.main_v13) = v3 c
          ∧ r.2.mem ((c.tc : Thread Cert.RefKvIdeal.nD Cert.RefKvIdeal.τ).loc Cert.RefKvIdeal.main_v14) = v4 c
          ∧ r.2.mem ((c.tc : Thread Cert.RefKvIdeal.nD Cert.RefKvIdeal.τ).loc Cert.RefKvIdeal.main_v15) = v5 c
          ∧ r.2.mem ((c.tc : Thread Cert.RefKvIdeal.nD Cert.RefKvIdeal.τ).loc Cert.RefKvIdeal.main_arg0) = m' ((c.tc : Thread Cert.RefKvIdeal.nD Cert.RefKvIdeal.τ).loc Cert.RefKvIdeal.main_arg0)
          ∧ r.2.mem ((c.tc : Thread Cert.RefKvIdeal.nD Cert.RefKvIdeal.τ).loc Cert.RefKvIdeal.main_arg1) = m' ((c.tc : Thread Cert.RefKvIdeal.nD Cert.RefKvIdeal.τ).loc Cert.RefKvIdeal.main_arg1)
          ∧ r.2.mem ((c.tc : Thread Cert.RefKvIdeal.nD Cert.RefKvIdeal.τ).loc Cert.RefKvIdeal.main_arg2) = m' ((c.tc : Thread Cert.RefKvIdeal.nD Cert.RefKvIdeal.τ).loc Cert.RefKvIdeal.main_arg2))

def preserves_Query_QueryIdeal : Prop :=
  IdealRules.named_const.Statement Cert.QueryIdeal.κ "qscale" .f32 0x3E0293EE#32 ((((Real.sqrt 128) * (Real.log 2))⁻¹ : ℝ) : EReal)

def algebraic_QueryIdeal_RefQueryIdeal [hQueryIdeal : Cert.QueryIdeal.Facts] [hRefQueryIdeal : Cert.RefQueryIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.RefQueryIdeal.nD Cert.RefQueryIdeal.τ Cert.RefQueryIdeal.sig) → Buf (Elt Ideal) ℓ) (g' : Dev Cert.RefQueryIdeal.nD → PrngReg), Pre_QueryIdeal m →
    (∀ c : Dev Cert.QueryIdeal.nD,
      m' ((c.tc : Thread Cert.RefQueryIdeal.nD Cert.RefQueryIdeal.τ).loc Cert.RefQueryIdeal.main_arg0) = m ((c.tc : Thread Cert.QueryIdeal.nD Cert.QueryIdeal.τ).loc Cert.QueryIdeal.main_arg0)
      ∧ m' ((c.tc : Thread Cert.RefQueryIdeal.nD Cert.RefQueryIdeal.τ).loc Cert.RefQueryIdeal.main_arg1) = m ((c.tc : Thread Cert.QueryIdeal.nD Cert.QueryIdeal.τ).loc Cert.QueryIdeal.main_arg1)
      ∧ m' ((c.tc : Thread Cert.RefQueryIdeal.nD Cert.RefQueryIdeal.τ).loc Cert.RefQueryIdeal.main_arg2) = m ((c.tc : Thread Cert.QueryIdeal.nD Cert.QueryIdeal.τ).loc Cert.QueryIdeal.main_arg2)) →
    ∃ (v0 : (c : Dev Cert.QueryIdeal.nD) → Buf (Elt Ideal) ((c.tc : Thread Cert.QueryIdeal.nD Cert.QueryIdeal.τ).loc Cert.QueryIdeal.main_v4_0)) (v1 : (c : Dev Cert.QueryIdeal.nD) → Buf (Elt Ideal) ((c.tc : Thread Cert.QueryIdeal.nD Cert.QueryIdeal.τ).loc Cert.QueryIdeal.main_v4_1)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v4_0) = v0 c
          ∧ r.2.mem ((c.tc : Thread Cert.QueryIdeal.nD Cert.QueryIdeal.τ).loc Cert.QueryIdeal.main_v4_1) = v1 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
          ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2))
      ∧ θ_run (Cert.RefQueryIdeal.defs (F := Ideal)) (onTc (τ := Cert.RefQueryIdeal.τ) (Cert.RefQueryIdeal.main (F := Ideal))) ⟨m', fun _ => 0, g'⟩ (fun r => ∀ c : Dev Cert.RefQueryIdeal.nD,
          r.2.mem ((c.tc : Thread Cert.RefQueryIdeal.nD Cert.RefQueryIdeal.τ).loc Cert.RefQueryIdeal.main_v9) = v0 c
          ∧ r.2.mem ((c.tc : Thread Cert.RefQueryIdeal.nD Cert.RefQueryIdeal.τ).loc Cert.RefQueryIdeal.main_v16) = v1 c
          ∧ r.2.mem ((c.tc : Thread Cert.RefQueryIdeal.nD Cert.RefQueryIdeal.τ).loc Cert.RefQueryIdeal.main_arg0) = m' ((c.tc : Thread Cert.RefQueryIdeal.nD Cert.RefQueryIdeal.τ).loc Cert.RefQueryIdeal.main_arg0)
          ∧ r.2.mem ((c.tc : Thread Cert.RefQueryIdeal.nD Cert.RefQueryIdeal.τ).loc Cert.RefQueryIdeal.main_arg1) = m' ((c.tc : Thread Cert.RefQueryIdeal.nD Cert.RefQueryIdeal.τ).loc Cert.RefQueryIdeal.main_arg1)
          ∧ r.2.mem ((c.tc : Thread Cert.RefQueryIdeal.nD Cert.RefQueryIdeal.τ).loc Cert.RefQueryIdeal.main_arg2) = m' ((c.tc : Thread Cert.RefQueryIdeal.nD Cert.RefQueryIdeal.τ).loc Cert.RefQueryIdeal.main_arg2))

def preserves_In_InIdeal : Prop :=
  True

def algebraic_InIdeal_RefInIdeal [hInIdeal : Cert.InIdeal.Facts] [hRefInIdeal : Cert.RefInIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.RefInIdeal.nD Cert.RefInIdeal.τ Cert.RefInIdeal.sig) → Buf (Elt Ideal) ℓ) (g' : Dev Cert.RefInIdeal.nD → PrngReg), Pre_InIdeal m →
    (∀ c : Dev Cert.InIdeal.nD,
      m' ((c.tc : Thread Cert.RefInIdeal.nD Cert.RefInIdeal.τ).loc Cert.RefInIdeal.main_arg0) = m ((c.tc : Thread Cert.InIdeal.nD Cert.InIdeal.τ).loc Cert.InIdeal.main_arg0)
      ∧ m' ((c.tc : Thread Cert.RefInIdeal.nD Cert.RefInIdeal.τ).loc Cert.RefInIdeal.main_arg1) = m ((c.tc : Thread Cert.InIdeal.nD Cert.InIdeal.τ).loc Cert.InIdeal.main_arg1)
      ∧ m' ((c.tc : Thread Cert.RefInIdeal.nD Cert.RefInIdeal.τ).loc Cert.RefInIdeal.main_arg2) = m ((c.tc : Thread Cert.InIdeal.nD Cert.InIdeal.τ).loc Cert.InIdeal.main_arg2)
      ∧ m' ((c.tc : Thread Cert.RefInIdeal.nD Cert.RefInIdeal.τ).loc Cert.RefInIdeal.main_arg3) = m ((c.tc : Thread Cert.InIdeal.nD Cert.InIdeal.τ).loc Cert.InIdeal.main_arg3)
      ∧ m' ((c.tc : Thread Cert.RefInIdeal.nD Cert.RefInIdeal.τ).loc Cert.RefInIdeal.main_arg4) = m ((c.tc : Thread Cert.InIdeal.nD Cert.InIdeal.τ).loc Cert.InIdeal.main_arg4)
      ∧ m' ((c.tc : Thread Cert.RefInIdeal.nD Cert.RefInIdeal.τ).loc Cert.RefInIdeal.main_arg5) = m ((c.tc : Thread Cert.InIdeal.nD Cert.InIdeal.τ).loc Cert.InIdeal.main_arg5)) →
    ∃ (v0 : (c : Dev Cert.InIdeal.nD) → Buf (Elt Ideal) ((c.tc : Thread Cert.InIdeal.nD Cert.InIdeal.τ).loc Cert.InIdeal.main_v4_0)) (v1 : (c : Dev Cert.InIdeal.nD) → Buf (Elt Ideal) ((c.tc : Thread Cert.InIdeal.nD Cert.InIdeal.τ).loc Cert.InIdeal.main_v4_1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v4_0) = v0 c
          ∧ r.2.mem ((c.tc : Thread Cert.InIdeal.nD Cert.InIdeal.τ).loc Cert.InIdeal.main_v4_1) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5))
      ∧ θ_run (Cert.RefInIdeal.defs (F := Ideal)) (onTc (τ := Cert.RefInIdeal.τ) (Cert.RefInIdeal.main (F := Ideal))) ⟨m', fun _ => 0, g'⟩ (fun r => ∀ c : Dev Cert.RefInIdeal.nD,
          r.2.mem ((c.tc : Thread Cert.RefInIdeal.nD Cert.RefInIdeal.τ).loc Cert.RefInIdeal.main_v36) = v0 c
          ∧ r.2.mem ((c.tc : Thread Cert.RefInIdeal.nD Cert.RefInIdeal.τ).loc Cert.RefInIdeal.main_v54) = v1 c
          ∧ r.2.mem ((c.tc : Thread Cert.RefInIdeal.nD Cert.RefInIdeal.τ).loc Cert.RefInIdeal.main_arg0) = m' ((c.tc : Thread Cert.RefInIdeal.nD Cert.RefInIdeal.τ).loc Cert.RefInIdeal.main_arg0)
          ∧ r.2.mem ((c.tc : Thread Cert.RefInIdeal.nD Cert.RefInIdeal.τ).loc Cert.RefInIdeal.main_arg1) = m' ((c.tc : Thread Cert.RefInIdeal.nD Cert.RefInIdeal.τ).loc Cert.RefInIdeal.main_arg1)
          ∧ r.2.mem ((c.tc : Thread Cert.RefInIdeal.nD Cert.RefInIdeal.τ).loc Cert.RefInIdeal.main_arg2) = m' ((c.tc : Thread Cert.RefInIdeal.nD Cert.RefInIdeal.τ).loc Cert.RefInIdeal.main_arg2)
          ∧ r.2.mem ((c.tc : Thread Cert.RefInIdeal.nD Cert.RefInIdeal.τ).loc Cert.RefInIdeal.main_arg3) = m' ((c.tc : Thread Cert.RefInIdeal.nD Cert.RefInIdeal.τ).loc Cert.RefInIdeal.main_arg3)
          ∧ r.2.mem ((c.tc : Thread Cert.RefInIdeal.nD Cert.RefInIdeal.τ).loc Cert.RefInIdeal.main_arg4) = m' ((c.tc : Thread Cert.RefInIdeal.nD Cert.RefInIdeal.τ).loc Cert.RefInIdeal.main_arg4)
          ∧ r.2.mem ((c.tc : Thread Cert.RefInIdeal.nD Cert.RefInIdeal.τ).loc Cert.RefInIdeal.main_arg5) = m' ((c.tc : Thread Cert.RefInIdeal.nD Cert.RefInIdeal.τ).loc Cert.RefInIdeal.main_arg5))

def preserves_Second_SecondIdeal : Prop :=
  True

def algebraic_SecondIdeal_RefSecondIdeal [hSecondIdeal : Cert.SecondIdeal.Facts] [hRefSecondIdeal : Cert.RefSecondIdeal.Facts] : Prop :=
  ∀ (m : (ℓ : Loc Cert.SecondIdeal.nD Cert.SecondIdeal.τ Cert.SecondIdeal.sig) → Buf (Elt Ideal) ℓ) (g : Dev Cert.SecondIdeal.nD → PrngReg)
    (m' : (ℓ : Loc Cert.RefSecondIdeal.nD Cert.RefSecondIdeal.τ Cert.RefSecondIdeal.sig) → Buf (Elt Ideal) ℓ) (g' : Dev Cert.RefSecondIdeal.nD → PrngReg), Pre_SecondIdeal m →
    (∀ c : Dev Cert.SecondIdeal.nD,
      m' ((c.tc : Thread Cert.RefSecondIdeal.nD Cert.RefSecondIdeal.τ).loc Cert.RefSecondIdeal.main_arg0) = m ((c.tc : Thread Cert.SecondIdeal.nD Cert.SecondIdeal.τ).loc Cert.SecondIdeal.main_arg0)
      ∧ m' ((c.tc : Thread Cert.RefSecondIdeal.nD Cert.RefSecondIdeal.τ).loc Cert.RefSecondIdeal.main_arg1) = m ((c.tc : Thread Cert.SecondIdeal.nD Cert.SecondIdeal.τ).loc Cert.SecondIdeal.main_arg1)
      ∧ m' ((c.tc : Thread Cert.RefSecondIdeal.nD Cert.RefSecondIdeal.τ).loc Cert.RefSecondIdeal.main_arg2) = m ((c.tc : Thread Cert.SecondIdeal.nD Cert.SecondIdeal.τ).loc Cert.SecondIdeal.main_arg2)
      ∧ m' ((c.tc : Thread Cert.RefSecondIdeal.nD Cert.RefSecondIdeal.τ).loc Cert.RefSecondIdeal.main_arg3) = m ((c.tc : Thread Cert.SecondIdeal.nD Cert.SecondIdeal.τ).loc Cert.SecondIdeal.main_arg3)
      ∧ m' ((c.tc : Thread Cert.RefSecondIdeal.nD Cert.RefSecondIdeal.τ).loc Cert.RefSecondIdeal.main_arg4) = m ((c.tc : Thread Cert.SecondIdeal.nD Cert.SecondIdeal.τ).loc Cert.SecondIdeal.main_arg4)
      ∧ m' ((c.tc : Thread Cert.RefSecondIdeal.nD Cert.RefSecondIdeal.τ).loc Cert.RefSecondIdeal.main_arg5) = m ((c.tc : Thread Cert.SecondIdeal.nD Cert.SecondIdeal.τ).loc Cert.SecondIdeal.main_arg5)
      ∧ m' ((c.tc : Thread Cert.RefSecondIdeal.nD Cert.RefSecondIdeal.τ).loc Cert.RefSecondIdeal.main_arg6) = m ((c.tc : Thread Cert.SecondIdeal.nD Cert.SecondIdeal.τ).loc Cert.SecondIdeal.main_arg6)
      ∧ m' ((c.tc : Thread Cert.RefSecondIdeal.nD Cert.RefSecondIdeal.τ).loc Cert.RefSecondIdeal.main_arg7) = m ((c.tc : Thread Cert.SecondIdeal.nD Cert.SecondIdeal.τ).loc Cert.SecondIdeal.main_arg7)
      ∧ m' ((c.tc : Thread Cert.RefSecondIdeal.nD Cert.RefSecondIdeal.τ).loc Cert.RefSecondIdeal.main_arg8) = m ((c.tc : Thread Cert.SecondIdeal.nD Cert.SecondIdeal.τ).loc Cert.SecondIdeal.main_arg8)) →
    ∃ (v0 : (c : Dev Cert.SecondIdeal.nD) → Buf (Elt Ideal) ((c.tc : Thread Cert.SecondIdeal.nD Cert.SecondIdeal.τ).loc Cert.SecondIdeal.main_v7_0)) (v1 : (c : Dev Cert.SecondIdeal.nD) → Buf (Elt Ideal) ((c.tc : Thread Cert.SecondIdeal.nD Cert.SecondIdeal.τ).loc Cert.SecondIdeal.main_v7_1)) (v2 : (c : Dev Cert.SecondIdeal.nD) → Buf (Elt Ideal) ((c.tc : Thread Cert.SecondIdeal.nD Cert.SecondIdeal.τ).loc Cert.SecondIdeal.main_v7_2)),
      θ_run (Cert.SecondIdeal.defs (F := Ideal)) (onTc (τ := Cert.SecondIdeal.τ) (Cert.SecondIdeal.main (F := Ideal))) ⟨m, fun _ => 0, g⟩ (fun r => ∀ c : Dev Cert.SecondIdeal.nD,
          r.2.mem ((c.tc : Thread Cert.SecondIdeal.nD Cert.SecondIdeal.τ).loc Cert.SecondIdeal.main_v7_0) = v0 c
          ∧ r.2.mem ((c.tc : Thread Cert.SecondIdeal.nD Cert.SecondIdeal.τ).loc Cert.SecondIdeal.main_v7_1) = v1 c
          ∧ r.2.mem ((c.tc : Thread Cert.SecondIdeal.nD Cert.SecondIdeal.τ).loc Cert.SecondIdeal.main_v7_2) = v2 c
          ∧ r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
          ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
          ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
          ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3)
          ∧ r.2.mem ((c.tc : Thread Cert.SecondIdeal.nD Cert.SecondIdeal.τ).loc Cert.SecondIdeal.main_arg4) = m ((c.tc : Thread Cert.SecondIdeal.nD Cert.SecondIdeal.τ).loc Cert.SecondIdeal.main_arg4)
          ∧ r.2.mem ((c.tc : Thread Cert.SecondIdeal.nD Cert.SecondIdeal.τ).loc Cert.SecondIdeal.main_arg5) = m ((c.tc : Thread Cert.SecondIdeal.nD Cert.SecondIdeal.τ).loc Cert.SecondIdeal.main_arg5)
          ∧ r.2.mem ((c.tc : Thread Cert.SecondIdeal.nD Cert.SecondIdeal.τ).loc Cert.SecondIdeal.main_arg6) = m ((c.tc : Thread Cert.SecondIdeal.nD Cert.SecondIdeal.τ).loc Cert.SecondIdeal.main_arg6)
          ∧ r.2.mem ((c.tc : Thread Cert.SecondIdeal.nD Cert.SecondIdeal.τ).loc Cert.SecondIdeal.main_arg7) = m ((c.tc : Thread Cert.SecondIdeal.nD Cert.SecondIdeal.τ).loc Cert.SecondIdeal.main_arg7)
          ∧ r.2.mem ((c.tc : Thread Cert.SecondIdeal.nD Cert.SecondIdeal.τ).loc Cert.SecondIdeal.main_arg8) = m ((c.tc : Thread Cert.SecondIdeal.nD Cert.SecondIdeal.τ).loc Cert.SecondIdeal.main_arg8))
      ∧ θ_run (Cert.RefSecondIdeal.defs (F := Ideal)) (onTc (τ := Cert.RefSecondIdeal.τ) (Cert.RefSecondIdeal.main (F := Ideal))) ⟨m', fun _ => 0, g'⟩ (fun r => ∀ c : Dev Cert.RefSecondIdeal.nD,
          r.2.mem ((c.tc : Thread Cert.RefSecondIdeal.nD Cert.RefSecondIdeal.τ).loc Cert.RefSecondIdeal.main_v35) = v0 c
          ∧ r.2.mem ((c.tc : Thread Cert.RefSecondIdeal.nD Cert.RefSecondIdeal.τ).loc Cert.RefSecondIdeal.main_v53) = v1 c
          ∧ r.2.mem ((c.tc : Thread Cert.RefSecondIdeal.nD Cert.RefSecondIdeal.τ).loc Cert.RefSecondIdeal.main_v71) = v2 c
          ∧ r.2.mem ((c.tc : Thread Cert.RefSecondIdeal.nD Cert.RefSecondIdeal.τ).loc Cert.RefSecondIdeal.main_arg0) = m' ((c.tc : Thread Cert.RefSecondIdeal.nD Cert.RefSecondIdeal.τ).loc Cert.RefSecondIdeal.main_arg0)
          ∧ r.2.mem ((c.tc : Thread Cert.RefSecondIdeal.nD Cert.RefSecondIdeal.τ).loc Cert.RefSecondIdeal.main_arg1) = m' ((c.tc : Thread Cert.RefSecondIdeal.nD Cert.RefSecondIdeal.τ).loc Cert.RefSecondIdeal.main_arg1)
          ∧ r.2.mem ((c.tc : Thread Cert.RefSecondIdeal.nD Cert.RefSecondIdeal.τ).loc Cert.RefSecondIdeal.main_arg2) = m' ((c.tc : Thread Cert.RefSecondIdeal.nD Cert.RefSecondIdeal.τ).loc Cert.RefSecondIdeal.main_arg2)
          ∧ r.2.mem ((c.tc : Thread Cert.RefSecondIdeal.nD Cert.RefSecondIdeal.τ).loc Cert.RefSecondIdeal.main_arg3) = m' ((c.tc : Thread Cert.RefSecondIdeal.nD Cert.RefSecondIdeal.τ).loc Cert.RefSecondIdeal.main_arg3)
          ∧ r.2.mem ((c.tc : Thread Cert.RefSecondIdeal.nD Cert.RefSecondIdeal.τ).loc Cert.RefSecondIdeal.main_arg4) = m' ((c.tc : Thread Cert.RefSecondIdeal.nD Cert.RefSecondIdeal.τ).loc Cert.RefSecondIdeal.main_arg4)
          ∧ r.2.mem ((c.tc : Thread Cert.RefSecondIdeal.nD Cert.RefSecondIdeal.τ).loc Cert.RefSecondIdeal.main_arg5) = m' ((c.tc : Thread Cert.RefSecondIdeal.nD Cert.RefSecondIdeal.τ).loc Cert.RefSecondIdeal.main_arg5)
          ∧ r.2.mem ((c.tc : Thread Cert.RefSecondIdeal.nD Cert.RefSecondIdeal.τ).loc Cert.RefSecondIdeal.main_arg6) = m' ((c.tc : Thread Cert.RefSecondIdeal.nD Cert.RefSecondIdeal.τ).loc Cert.RefSecondIdeal.main_arg6)
          ∧ r.2.mem ((c.tc : Thread Cert.RefSecondIdeal.nD Cert.RefSecondIdeal.τ).loc Cert.RefSecondIdeal.main_arg7) = m' ((c.tc : Thread Cert.RefSecondIdeal.nD Cert.RefSecondIdeal.τ).loc Cert.RefSecondIdeal.main_arg7)
          ∧ r.2.mem ((c.tc : Thread Cert.RefSecondIdeal.nD Cert.RefSecondIdeal.τ).loc Cert.RefSecondIdeal.main_arg8) = m' ((c.tc : Thread Cert.RefSecondIdeal.nD Cert.RefSecondIdeal.τ).loc Cert.RefSecondIdeal.main_arg8))

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hRefDownIdeal : Cert.RefDownIdeal.Facts) (hGate : Cert.Gate.Facts) (hGateIdeal : Cert.GateIdeal.Facts) (hRefGateIdeal : Cert.RefGateIdeal.Facts) (hOut : Cert.Out.Facts) (hOutIdeal : Cert.OutIdeal.Facts) (hRefOutIdeal : Cert.RefOutIdeal.Facts) (hKv : Cert.Kv.Facts) (hKvIdeal : Cert.KvIdeal.Facts) (hRefKvIdeal : Cert.RefKvIdeal.Facts) (hQuery : Cert.Query.Facts) (hQueryIdeal : Cert.QueryIdeal.Facts) (hRefQueryIdeal : Cert.RefQueryIdeal.Facts) (hIn : Cert.In.Facts) (hInIdeal : Cert.InIdeal.Facts) (hRefInIdeal : Cert.RefInIdeal.Facts) (hSecond : Cert.Second.Facts) (hSecondIdeal : Cert.SecondIdeal.Facts) (hRefSecondIdeal : Cert.RefSecondIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Down (hDown := hDown)
    ∧ quiescent_DownIdeal (hDownIdeal := hDownIdeal)
    ∧ quiescent_RefDownIdeal (hRefDownIdeal := hRefDownIdeal)
    ∧ quiescent_Gate (hGate := hGate)
    ∧ quiescent_GateIdeal (hGateIdeal := hGateIdeal)
    ∧ quiescent_RefGateIdeal (hRefGateIdeal := hRefGateIdeal)
    ∧ quiescent_Out (hOut := hOut)
    ∧ quiescent_OutIdeal (hOutIdeal := hOutIdeal)
    ∧ quiescent_RefOutIdeal (hRefOutIdeal := hRefOutIdeal)
    ∧ quiescent_Kv (hKv := hKv)
    ∧ quiescent_KvIdeal (hKvIdeal := hKvIdeal)
    ∧ quiescent_RefKvIdeal (hRefKvIdeal := hRefKvIdeal)
    ∧ quiescent_Query (hQuery := hQuery)
    ∧ quiescent_QueryIdeal (hQueryIdeal := hQueryIdeal)
    ∧ quiescent_RefQueryIdeal (hRefQueryIdeal := hRefQueryIdeal)
    ∧ quiescent_In (hIn := hIn)
    ∧ quiescent_InIdeal (hInIdeal := hInIdeal)
    ∧ quiescent_RefInIdeal (hRefInIdeal := hRefInIdeal)
    ∧ quiescent_Second (hSecond := hSecond)
    ∧ quiescent_SecondIdeal (hSecondIdeal := hSecondIdeal)
    ∧ quiescent_RefSecondIdeal (hRefSecondIdeal := hRefSecondIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Down_DownIdeal
    ∧ algebraic_DownIdeal_RefDownIdeal (hDownIdeal := hDownIdeal) (hRefDownIdeal := hRefDownIdeal)
    ∧ preserves_Gate_GateIdeal
    ∧ algebraic_GateIdeal_RefGateIdeal (hGateIdeal := hGateIdeal) (hRefGateIdeal := hRefGateIdeal)
    ∧ preserves_Out_OutIdeal
    ∧ algebraic_OutIdeal_RefOutIdeal (hOutIdeal := hOutIdeal) (hRefOutIdeal := hRefOutIdeal)
    ∧ preserves_Kv_KvIdeal
    ∧ algebraic_KvIdeal_RefKvIdeal (hKvIdeal := hKvIdeal) (hRefKvIdeal := hRefKvIdeal)
    ∧ preserves_Query_QueryIdeal
    ∧ algebraic_QueryIdeal_RefQueryIdeal (hQueryIdeal := hQueryIdeal) (hRefQueryIdeal := hRefQueryIdeal)
    ∧ preserves_In_InIdeal
    ∧ algebraic_InIdeal_RefInIdeal (hInIdeal := hInIdeal) (hRefInIdeal := hRefInIdeal)
    ∧ preserves_Second_SecondIdeal
    ∧ algebraic_SecondIdeal_RefSecondIdeal (hSecondIdeal := hSecondIdeal) (hRefSecondIdeal := hRefSecondIdeal)
-- ==== Pre_finite.lean ====
abbrev S4x2048x4096 : Shape := ⟨3, ![4, 2048, 4096]⟩
abbrev S4x2048x8192 : Shape := ⟨3, ![4, 2048, 8192]⟩
abbrev S32x257 : Shape := ⟨2, ![32, 257]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4x2048x8192 : S_.BroadcastsInDim S4x2048x8192 (![] : Fin 0 → Fin S4x2048x8192.rank)
  reducesTo_S4x2048x8192_S_d0_1_2 : S4x2048x8192.ReducesTo [0, 1, 2] S_
  bcast_S_S32x257 : S_.BroadcastsInDim S32x257 (![] : Fin 0 → Fin S32x257.rank)
  reducesTo_S32x257_S_d0_1 : S32x257.ReducesTo [0, 1] S_

variable [Facts]

def fn {F : FTy → Type} [FloatOps F] (main_arg0 : FVec F S4x2048x4096 .f32) (main_arg1 : FVec F S4x2048x8192 .f32) (main_arg2 : FVec F S32x257 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4x2048x8192 .f32 := Host.absf main_arg1
  let main_cst_0 : FVec F S_ .f32 := constant S_ .f32 0x7F800000#32
  let main_v5 : FVec F S4x2048x8192 .f32 := broadcastInDim S4x2048x8192 ![] bcast_S_S4x2048x8192 main_cst_0
  let main_v6 : IVec S4x2048x8192 1 := cmpf .olt main_v4 main_v5
  let main_c_1 : IVec S_ 1 := constantI S_ 1 1#1
  let main_v7 : IVec S_ 1 := (fun x v => Host.reduce IntOp.andi x v reducesTo_S4x2048x8192_S_d0_1_2 h_S_) main_v6 main_c_1
  let main_v8 : IVec S_ 1 := andi main_v3 main_v7
  let main_v9 : FVec F S32x257 .f32 := Host.absf main_arg2
  let main_cst_2 : FVec F S_ .f32 := constant S_ .f32 0x7F800000#32
  let main_v10 : FVec F S32x257 .f32 := broadcastInDim S32x257 ![] bcast_S_S32x257 main_cst_2
  let main_v11 : IVec S32x257 1 := cmpf .olt main_v9 main_v10
  let main_c_3 : IVec S_ 1 := constantI S_ 1 1#1
  let main_v12 : IVec S_ 1 := (fun x v => Host.reduce IntOp.andi x v reducesTo_S32x257_S_d0_1 h_S_) main_v11 main_c_3
  let main_v13 : IVec S_ 1 := andi main_v8 main_v12
  main_v13
-- ==== Kernel.lean ====
abbrev S4x2048x4096 : Shape := ⟨3, ![4, 2048, 4096]⟩
abbrev S4x2048x8192 : Shape := ⟨3, ![4, 2048, 8192]⟩
abbrev S32x257 : Shape := ⟨2, ![32, 257]⟩
abbrev S_ : Shape := ⟨0, ![]⟩
abbrev S383 : Shape := ⟨1, ![383]⟩
abbrev S383x1 : Shape := ⟨2, ![383, 1]⟩
abbrev S1 : Shape := ⟨1, ![1]⟩
abbrev S1x1 : Shape := ⟨2, ![1, 1]⟩
abbrev S32x383 : Shape := ⟨2, ![32, 383]⟩
abbrev S32x320 : Shape := ⟨2, ![32, 320]⟩
abbrev S32x1x320 : Shape := ⟨3, ![32, 1, 320]⟩
abbrev S32x16x320 : Shape := ⟨3, ![32, 16, 320]⟩
abbrev S32x64x320 : Shape := ⟨3, ![32, 64, 320]⟩
abbrev S32x64x256 : Shape := ⟨3, ![32, 64, 256]⟩
abbrev S32x1x64x256 : Shape := ⟨4, ![32, 1, 64, 256]⟩
abbrev S32x2x64x256 : Shape := ⟨4, ![32, 2, 64, 256]⟩
abbrev S1x256x2048 : Shape := ⟨3, ![1, 256, 2048]⟩
abbrev S16x2x64x256 : Shape := ⟨4, ![16, 2, 64, 256]⟩
abbrev S16x256x768 : Shape := ⟨3, ![16, 256, 768]⟩
abbrev S256x768 : Shape := ⟨2, ![256, 768]⟩
abbrev S1x1x1x1 : Shape := ⟨4, ![1, 1, 1, 1]⟩
abbrev S1x256x768 : Shape := ⟨3, ![1, 256, 768]⟩
abbrev S1x1x64x256 : Shape := ⟨4, ![1, 1, 64, 256]⟩
abbrev S64x256 : Shape := ⟨2, ![64, 256]⟩
abbrev S1x64x256 : Shape := ⟨3, ![1, 64, 256]⟩
abbrev S1x256x128 : Shape := ⟨3, ![1, 256, 128]⟩
abbrev S256x128 : Shape := ⟨2, ![256, 128]⟩
abbrev S768x128 : Shape := ⟨2, ![768, 128]⟩
abbrev S256 : Shape := ⟨1, ![256]⟩
abbrev S256x1 : Shape := ⟨2, ![256, 1]⟩

abbrev nBuf : Space → Nat
  | .hbm => 194
  | .vmem => 19
  | .smem => 0
  | _ => 0

abbrev hbmTy0_0 (i : Nat) : BufTy := match i % 128 with
  | 0 => ⟨S4x2048x4096, .f32⟩
  | 1 => ⟨S4x2048x8192, .f32⟩
  | 2 => ⟨S32x257, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S4x2048x4096, .f32⟩
  | 11 => ⟨S4x2048x4096, .f32⟩
  | 12 => ⟨S4x2048x4096, .bf16⟩
  | 13 => ⟨S4x2048x8192, .bf16⟩
  | 14 => ⟨S383, .i32⟩
  | 15 => ⟨S_, .i32⟩
  | 16 => ⟨S383, .i32⟩
  | 17 => ⟨S383, .i32⟩
  | 18 => ⟨S_, .i32⟩
  | 19 => ⟨S383, .i32⟩
  | 20 => ⟨S383, .i32⟩
  | 21 => ⟨S_, .i32⟩
  | 22 => ⟨S_, .i32⟩
  | 23 => ⟨S_, .i32⟩
  | 24 => ⟨S383, .i32⟩
  | 25 => ⟨S383, .i32⟩
  | 26 => ⟨S_, .i32⟩
  | 27 => ⟨S383, .i32⟩
  | 28 => ⟨S383, .i32⟩
  | 29 => ⟨S_, .i32⟩
  | 30 => ⟨S383, .i32⟩
  | 31 => ⟨S383, .i32⟩
  | 32 => ⟨S_, .i32⟩
  | 33 => ⟨S383, .i32⟩
  | 34 => ⟨S383, .i1⟩
  | 35 => ⟨S_, .i32⟩
  | 36 => ⟨S383, .i32⟩
  | 37 => ⟨S383, .i32⟩
  | 38 => ⟨S383, .i32⟩
  | 39 => ⟨S383x1, .i32⟩
  | 40 => ⟨S1, .i32⟩
  | 41 => ⟨S_, .i32⟩
  | 42 => ⟨S383x1, .i32⟩
  | 43 => ⟨S383x1, .i1⟩
  | 44 => ⟨S1x1, .i32⟩
  | 45 => ⟨S383x1, .i32⟩
  | 46 => ⟨S383x1, .i1⟩
  | 47 => ⟨S383x1, .i1⟩
  | 48 => ⟨S_, .i1⟩
  | 49 => ⟨S383, .i1⟩
  | 50 => ⟨S32x383, .f32⟩
  | 51 => ⟨S32x383, .i1⟩
  | 52 => ⟨S_, .f32⟩
  | 53 => ⟨S32x383, .f32⟩
  | 54 => ⟨S32x383, .f32⟩
  | 55 => ⟨S32x320, .f32⟩
  | 56 => ⟨S32x320, .f32⟩
  | 57 => ⟨S32x320, .f32⟩
  | 58 => ⟨S32x320, .f32⟩
  | 59 => ⟨S32x320, .f32⟩
  | 60 => ⟨S32x320, .f32⟩
  | 61 => ⟨S32x320, .f32⟩
  | 62 => ⟨S32x320, .f32⟩
  | 63 => ⟨S32x320, .f32⟩
  | 64 => ⟨S32x320, .f32⟩
  | 65 => ⟨S32x320, .f32⟩
  | 66 => ⟨S32x320, .f32⟩
  | 67 => ⟨S32x320, .f32⟩
  | 68 => ⟨S32x320, .f32⟩
  | 69 => ⟨S32x320, .f32⟩
  | 70 => ⟨S32x320, .f32⟩
  | 71 => ⟨S32x320, .f32⟩
  | 72 => ⟨S32x320, .f32⟩
  | 73 => ⟨S32x320, .f32⟩
  | 74 => ⟨S32x320, .f32⟩
  | 75 => ⟨S32x320, .f32⟩
  | 76 => ⟨S32x320, .f32⟩
  | 77 => ⟨S32x320, .f32⟩
  | 78 => ⟨S32x320, .f32⟩
  | 79 => ⟨S32x320, .f32⟩
  | 80 => ⟨S32x320, .f32⟩
  | 81 => ⟨S32x320, .f32⟩
  | 82 => ⟨S32x320, .f32⟩
  | 83 => ⟨S32x320, .f32⟩
  | 84 => ⟨S32x320, .f32⟩
  | 85 => ⟨S32x320, .f32⟩
  | 86 => ⟨S32x320, .f32⟩
  | 87 => ⟨S32x320, .f32⟩
  | 88 => ⟨S32x320, .f32⟩
  | 89 => ⟨S32x320, .f32⟩
  | 90 => ⟨S32x320, .f32⟩
  | 91 => ⟨S32x320, .f32⟩
  | 92 => ⟨S32x320, .f32⟩
  | 93 => ⟨S32x320, .f32⟩
  | 94 => ⟨S32x320, .f32⟩
  | 95 => ⟨S32x320, .f32⟩
  | 96 => ⟨S32x320, .f32⟩
  | 97 => ⟨S32x320, .f32⟩
  | 98 => ⟨S32x320, .f32⟩
  | 99 => ⟨S32x320, .f32⟩
  | 100 => ⟨S32x320, .f32⟩
  | 101 => ⟨S32x320, .f32⟩
  | 102 => ⟨S32x320, .f32⟩
  | 103 => ⟨S32x320, .f32⟩
  | 104 => ⟨S32x320, .f32⟩
  | 105 => ⟨S32x320, .f32⟩
  | 106 => ⟨S32x320, .f32⟩
  | 107 => ⟨S32x320, .f32⟩
  | 108 => ⟨S32x320, .f32⟩
  | 109 => ⟨S32x320, .f32⟩
  | 110 => ⟨S32x320, .f32⟩
  | 111 => ⟨S32x320, .f32⟩
  | 112 => ⟨S32x320, .f32⟩
  | 113 => ⟨S32x320, .f32⟩
  | 114 => ⟨S32x320, .f32⟩
  | 115 => ⟨S32x320, .f32⟩
  | 116 => ⟨S32x320, .f32⟩
  | 117 => ⟨S32x320, .f32⟩
  | 118 => ⟨S32x320, .f32⟩
  | 119 => ⟨S32x1x320, .f32⟩
  | 120 => ⟨S32x1x320, .f32⟩
  | 121 => ⟨S32x1x320, .f32⟩
  | 122 => ⟨S32x1x320, .f32⟩
  | 123 => ⟨S32x1x320, .f32⟩
  | 124 => ⟨S32x1x320, .f32⟩
  | 125 => ⟨S32x1x320, .f32⟩
  | 126 => ⟨S32x1x320, .f32⟩
  | 127 => ⟨S32x1x320, .f32⟩
  | _ => ⟨S4x2048x4096, .f32⟩

abbrev hbmTy0_1 (i : Nat) : BufTy := match i % 128 with
  | 0 => ⟨S32x1x320, .f32⟩
  | 1 => ⟨S32x1x320, .f32⟩
  | 2 => ⟨S32x1x320, .f32⟩
  | 3 => ⟨S32x1x320, .f32⟩
  | 4 => ⟨S32x1x320, .f32⟩
  | 5 => ⟨S32x1x320, .f32⟩
  | 6 => ⟨S32x1x320, .f32⟩
  | 7 => ⟨S32x1x320, .f32⟩
  | 8 => ⟨S32x1x320, .f32⟩
  | 9 => ⟨S32x1x320, .f32⟩
  | 10 => ⟨S32x1x320, .f32⟩
  | 11 => ⟨S32x1x320, .f32⟩
  | 12 => ⟨S32x1x320, .f32⟩
  | 13 => ⟨S32x1x320, .f32⟩
  | 14 => ⟨S32x1x320, .f32⟩
  | 15 => ⟨S32x1x320, .f32⟩
  | 16 => ⟨S32x1x320, .f32⟩
  | 17 => ⟨S32x1x320, .f32⟩
  | 18 => ⟨S32x1x320, .f32⟩
  | 19 => ⟨S32x1x320, .f32⟩
  | 20 => ⟨S32x1x320, .f32⟩
  | 21 => ⟨S32x1x320, .f32⟩
  | 22 => ⟨S32x1x320, .f32⟩
  | 23 => ⟨S32x1x320, .f32⟩
  | 24 => ⟨S32x1x320, .f32⟩
  | 25 => ⟨S32x1x320, .f32⟩
  | 26 => ⟨S32x1x320, .f32⟩
  | 27 => ⟨S32x1x320, .f32⟩
  | 28 => ⟨S32x1x320, .f32⟩
  | 29 => ⟨S32x1x320, .f32⟩
  | 30 => ⟨S32x1x320, .f32⟩
  | 31 => ⟨S32x1x320, .f32⟩
  | 32 => ⟨S32x1x320, .f32⟩
  | 33 => ⟨S32x1x320, .f32⟩
  | 34 => ⟨S32x1x320, .f32⟩
  | 35 => ⟨S32x1x320, .f32⟩
  | 36 => ⟨S32x1x320, .f32⟩
  | 37 => ⟨S32x1x320, .f32⟩
  | 38 => ⟨S32x1x320, .f32⟩
  | 39 => ⟨S32x1x320, .f32⟩
  | 40 => ⟨S32x1x320, .f32⟩
  | 41 => ⟨S32x1x320, .f32⟩
  | 42 => ⟨S32x1x320, .f32⟩
  | 43 => ⟨S32x1x320, .f32⟩
  | 44 => ⟨S32x1x320, .f32⟩
  | 45 => ⟨S32x1x320, .f32⟩
  | 46 => ⟨S32x1x320, .f32⟩
  | 47 => ⟨S32x1x320, .f32⟩
  | 48 => ⟨S32x1x320, .f32⟩
  | 49 => ⟨S32x1x320, .f32⟩
  | 50 => ⟨S32x1x320, .f32⟩
  | 51 => ⟨S32x1x320, .f32⟩
  | 52 => ⟨S32x1x320, .f32⟩
  | 53 => ⟨S32x1x320, .f32⟩
  | 54 => ⟨S32x1x320, .f32⟩
  | 55 => ⟨S32x16x320, .f32⟩
  | 56 => ⟨S32x16x320, .f32⟩
  | 57 => ⟨S32x16x320, .f32⟩
  | 58 => ⟨S32x16x320, .f32⟩
  | 59 => ⟨S32x64x320, .f32⟩
  | 60 => ⟨S32x64x256, .f32⟩
  | 61 => ⟨S32x64x256, .f32⟩
  | 62 => ⟨S32x1x64x256, .f32⟩
  | 63 => ⟨S32x1x64x256, .f32⟩
  | 64 => ⟨S32x2x64x256, .f32⟩
  | 65 => ⟨S4x2048x4096, .bf16⟩
  | _ => ⟨S4x2048x4096, .f32⟩

abbrev hbmTy (i : Nat) : BufTy := match i / 128 with
  | 0 => hbmTy0_0 i
  | 1 => hbmTy0_1 i
  | _ => ⟨S4x2048x4096, .f32⟩

abbrev bufTy : (tb : Table) → Fin (tcTables nBuf tb) → BufTy
  | .hbm, ⟨i, _⟩ => hbmTy i
  | .local _ .vmem, ⟨0, _⟩ => ⟨S1x256x2048, .bf16⟩
  | .local _ .vmem, ⟨1, _⟩ => ⟨S1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x256x2048, .bf16⟩
  | .local _ .vmem, ⟨7, _⟩ => ⟨S1x256x2048, .bf16⟩
  | .local _ .vmem, ⟨8, _⟩ => ⟨S1x256x2048, .bf16⟩
  | .local _ .vmem, ⟨9, _⟩ => ⟨S1x256x2048, .bf16⟩
  | .local _ .vmem, ⟨10, _⟩ => ⟨S1x256x2048, .bf16⟩
  | .local _ .vmem, ⟨11, _⟩ => ⟨S1x256x2048, .bf16⟩
  | .local _ .vmem, ⟨12, _⟩ => ⟨S1x256x2048, .bf16⟩
  | .local _ .vmem, ⟨13, _⟩ => ⟨S1x256x2048, .bf16⟩
  | .local _ .vmem, ⟨14, _⟩ => ⟨S16x2x64x256, .f32⟩
  | .local _ .vmem, ⟨15, _⟩ => ⟨S16x2x64x256, .f32⟩
  | .local _ .vmem, ⟨16, _⟩ => ⟨S1x256x2048, .bf16⟩
  | .local _ .vmem, ⟨17, _⟩ => ⟨S1x256x2048, .bf16⟩
  | .local _ .vmem, ⟨18, _⟩ => ⟨S16x256x768, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_c_4 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v13 : Ref sig .tc := ⟨.hbm, 28, rfl⟩
abbrev main_c_5 : Ref sig .tc := ⟨.hbm, 29, rfl⟩
abbrev main_v14 : Ref sig .tc := ⟨.hbm, 30, rfl⟩
abbrev main_v15 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 4, 8], ![false, false, false]⟩

def k0_cond2 (i : grid0.Coords) : BitVec 1 :=
  let c2_i32 : BitVec 32 := 2#32
  let arg2 : BitVec 32 := BitVec.ofNat 32 (i 2).val
  let v6 : BitVec 32 := Scalar.subi c2_i32 arg2
  let c0_i32_2 : BitVec 32 := 0#32
  let v7 : BitVec 1 := Scalar.cmpi .sle v6 c0_i32_2
  let v8 : BitVec 32 := Scalar.extui v7
  let c0_i32_3 : BitVec 32 := 0#32
  let v9 : BitVec 1 := Scalar.cmpi .ne v8 c0_i32_3
  v9

def k0_cond3 (i : grid0.Coords) : BitVec 1 :=
  let c2_i32 : BitVec 32 := 2#32
  let arg2 : BitVec 32 := BitVec.ofNat 32 (i 2).val
  let v6 : BitVec 32 := Scalar.subi c2_i32 arg2
  let c0_i32_4 : BitVec 32 := 0#32
  let v10 : BitVec 1 := Scalar.cmpi .sgt v6 c0_i32_4
  let v11 : BitVec 32 := Scalar.extui v10
  let c0_i32_5 : BitVec 32 := 0#32
  let v12 : BitVec 1 := Scalar.cmpi .ne v11 c0_i32_5
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let v1 : BitVec 32 := Scalar.maxsi v0 c0_i32
  let c0_i32_0 : BitVec 32 := 0#32
  ![arg1.toNat, v1.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  ![arg1.toNat, v1.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let v1 : BitVec 32 := Scalar.maxsi v0 c0_i32_0
  let c0_i32_1 : BitVec 32 := 0#32
  ![arg1.toNat, v1.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let v1 : BitVec 32 := Scalar.maxsi v0 c0_i32
  let c2_i32_0 : BitVec 32 := 2#32
  let v2 : BitVec 32 := Scalar.addi c2_i32_0 arg0
  let c0_i32_1 : BitVec 32 := 0#32
  ![arg1.toNat, v1.toNat, v2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c2_i32 : BitVec 32 := 2#32
  let v2 : BitVec 32 := Scalar.addi c2_i32 arg0
  let c0_i32_0 : BitVec 32 := 0#32
  ![arg1.toNat, v1.toNat, v2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let v1 : BitVec 32 := Scalar.maxsi v0 c0_i32_0
  let c2_i32 : BitVec 32 := 2#32
  let v2 : BitVec 32 := Scalar.addi c2_i32 arg0
  let c0_i32_1 : BitVec 32 := 0#32
  ![arg1.toNat, v1.toNat, v2.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S16x2x64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1x256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S4x2048x4096 : Shape := ⟨3, ![4, 2048, 4096]⟩
abbrev S4x2048x8192 : Shape := ⟨3, ![4, 2048, 8192]⟩
abbrev S32x257 : Shape := ⟨2, ![32, 257]⟩
abbrev S4x2048x64x128 : Shape := ⟨4, ![4, 2048, 64, 128]⟩
abbrev S4x2048x32x128 : Shape := ⟨4, ![4, 2048, 32, 128]⟩
abbrev S2048 : Shape := ⟨1, ![2048]⟩
abbrev S4x32x2048x2048 : Shape := ⟨4, ![4, 32, 2048, 2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S2048x2048x1 : Shape := ⟨3, ![2048, 2048, 1]⟩
abbrev S32x2048x2048 : Shape := ⟨3, ![32, 2048, 2048]⟩
abbrev S1x32x2048x2048 : Shape := ⟨4, ![1, 32, 2048, 2048]⟩
abbrev S4x32x2048 : Shape := ⟨3, ![4, 32, 2048]⟩
abbrev S4x32x2048x1 : Shape := ⟨4, ![4, 32, 2048, 1]⟩
abbrev S4x32x128x2048 : Shape := ⟨4, ![4, 32, 128, 2048]⟩

abbrev nBuf : Space → Nat
  | .hbm => 120
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x2048x8192, .f32⟩
  | .hbm, ⟨2, _⟩ => ⟨S32x257, .f32⟩
  | .hbm, ⟨3, _⟩ => ⟨S4x2048x64x128, .f32⟩
  | .hbm, ⟨4, _⟩ => ⟨S4x2048x32x128, .f32⟩
  | .hbm, ⟨5, _⟩ => ⟨S4x2048x32x128, .f32⟩
  | .hbm, ⟨6, _⟩ => ⟨S4x2048x32x128, .f32⟩
  | .hbm, ⟨7, _⟩ => ⟨S2048, .i32⟩
  | .hbm, ⟨8, _⟩ => ⟨S4x32x2048x2048, .f32⟩
  | .hbm, ⟨9, _⟩ => ⟨S_, .f32⟩
  | .hbm, ⟨10, _⟩ => ⟨S_, .f32⟩
  | .hbm, ⟨11, _⟩ => ⟨S4x32x2048x2048, .f32⟩
  | .hbm, ⟨12, _⟩ => ⟨S4x32x2048x2048, .f32⟩
  | .hbm, ⟨13, _⟩ => ⟨S2048x1, .i32⟩
  | .hbm, ⟨14, _⟩ => ⟨S1x2048, .i32⟩
  | .hbm, ⟨15, _⟩ => ⟨S2048x2048, .i32⟩
  | .hbm, ⟨16, _⟩ => ⟨S2048x2048, .i32⟩
  | .hbm, ⟨17, _⟩ => ⟨S2048x2048, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2048x2048, .i32⟩
  | .hbm, ⟨22, _⟩ => ⟨S2048x2048, .i32⟩
  | .hbm, ⟨23, _⟩ => ⟨S_, .i32⟩
  | .hbm, ⟨24, _⟩ => ⟨S2048x2048, .i32⟩
  | .hbm, ⟨25, _⟩ => ⟨S2048x2048, .i32⟩
  | .hbm, ⟨26, _⟩ => ⟨S_, .i32⟩
  | .hbm, ⟨27, _⟩ => ⟨S2048x2048, .i32⟩
  | .hbm, ⟨28, _⟩ => ⟨S2048x2048, .i32⟩
  | .hbm, ⟨29, _⟩ => ⟨S_, .i32⟩
  | .hbm, ⟨30, _⟩ => ⟨S2048x2048, .i32⟩
  | .hbm, ⟨31, _⟩ => ⟨S2048x2048, .i1⟩
  | .hbm, ⟨32, _⟩ => ⟨S_, .i32⟩
  | .hbm, ⟨33, _⟩ => ⟨S2048x2048, .i32⟩
  | .hbm, ⟨34, _⟩ => ⟨S2048x2048, .i32⟩
  | .hbm, ⟨35, _⟩ => ⟨S2048x2048, .i32⟩
  | .hbm, ⟨36, _⟩ => ⟨S2048x2048x1, .i32⟩
  | .hbm, ⟨37, _⟩ => ⟨S32x2048x2048, .f32⟩
  | .hbm, ⟨38, _⟩ => ⟨S1x32x2048x2048, .f32⟩
  | .hbm, ⟨39, _⟩ => ⟨S4x32x2048x2048, .f32⟩
  | .hbm, ⟨40, _⟩ => ⟨S4x32x2048x2048, .f32⟩
  | .hbm, ⟨41, _⟩ => ⟨S_, .i32⟩
  | .hbm, ⟨42, _⟩ => ⟨S_, .i32⟩
  | .hbm, ⟨43, _⟩ => ⟨S2048, .i32⟩
  | .hbm, ⟨44, _⟩ => ⟨S2048, .i32⟩
  | .hbm, ⟨45, _⟩ => ⟨S2048, .i32⟩
  | .hbm, ⟨46, _⟩ => ⟨S_, .i32⟩
  | .hbm, ⟨47, _⟩ => ⟨S2048, .i32⟩
  | .hbm, ⟨48, _⟩ => ⟨S2048, .i1⟩
  | .hbm, ⟨49, _⟩ => ⟨S2048, .i32⟩
  | .hbm, ⟨50, _⟩ => ⟨S2048, .i32⟩
  | .hbm, ⟨51, _⟩ => ⟨S_, .i32⟩
  | .hbm, ⟨52, _⟩ => ⟨S2048, .i32⟩
  | .hbm, ⟨53, _⟩ => ⟨S2048, .i1⟩
  | .hbm, ⟨54, _⟩ => ⟨S2048, .i1⟩
  | .hbm, ⟨55, _⟩ => ⟨S_, .i32⟩
  | .hbm, ⟨56, _⟩ => ⟨S2048, .i32⟩
  | .hbm, ⟨57, _⟩ => ⟨S2048, .i32⟩
  | .hbm, ⟨58, _⟩ => ⟨S2048, .i32⟩
  | .hbm, ⟨59, _⟩ => ⟨S_, .i32⟩
  | .hbm, ⟨60, _⟩ => ⟨S_, .i32⟩
  | .hbm, ⟨61, _⟩ => ⟨S2048, .i32⟩
  | .hbm, ⟨62, _⟩ => ⟨S2048, .i32⟩
  | .hbm, ⟨63, _⟩ => ⟨S2048, .i32⟩
  | .hbm, ⟨64, _⟩ => ⟨S_, .i32⟩
  | .hbm, ⟨65, _⟩ => ⟨S2048, .i32⟩
  | .hbm, ⟨66, _⟩ => ⟨S2048, .i1⟩
  | .hbm, ⟨67, _⟩ => ⟨S2048, .i32⟩
  | .hbm, ⟨68, _⟩ => ⟨S2048, .i32⟩
  | .hbm, ⟨69, _⟩ => ⟨S_, .i32⟩
  | .hbm, ⟨70, _⟩ => ⟨S2048, .i32⟩
  | .hbm, ⟨71, _⟩ => ⟨S2048, .i1⟩
  | .hbm, ⟨72, _⟩ => ⟨S2048, .i1⟩
  | .hbm, ⟨73, _⟩ => ⟨S_, .i32⟩
  | .hbm, ⟨74, _⟩ => ⟨S2048, .i32⟩
  | .hbm, ⟨75, _⟩ => ⟨S2048, .i32⟩
  | .hbm, ⟨76, _⟩ => ⟨S2048, .i32⟩
  | .hbm, ⟨77, _⟩ => ⟨S1x2048, .i32⟩
  | .hbm, ⟨78, _⟩ => ⟨S_, .i32⟩
  | .hbm, ⟨79, _⟩ => ⟨S1x2048, .i32⟩
  | .hbm, ⟨80, _⟩ => ⟨S1x2048, .i1⟩
  | .hbm, ⟨81, _⟩ => ⟨S1x2048, .i32⟩
  | .hbm, ⟨82, _⟩ => ⟨S2048x1, .i32⟩
  | .hbm, ⟨83, _⟩ => ⟨S2048x2048, .i32⟩
  | .hbm, ⟨84, _⟩ => ⟨S2048x2048, .i32⟩
  | .hbm, ⟨85, _⟩ => ⟨S2048x2048, .i1⟩
  | .hbm, ⟨86, _⟩ => ⟨S2048x2048, .i1⟩
  | .hbm, ⟨87, _⟩ => ⟨S2048x2048, .i1⟩
  | .hbm, ⟨88, _⟩ => ⟨S1x2048, .i32⟩
  | .hbm, ⟨89, _⟩ => ⟨S2048x1, .i32⟩
  | .hbm, ⟨90, _⟩ => ⟨S_, .i32⟩
  | .hbm, ⟨91, _⟩ => ⟨S2048x1, .i32⟩
  | .hbm, ⟨92, _⟩ => ⟨S2048x1, .i32⟩
  | .hbm, ⟨93, _⟩ => ⟨S2048x2048, .i32⟩
  | .hbm, ⟨94, _⟩ => ⟨S2048x2048, .i32⟩
  | .hbm, ⟨95, _⟩ => ⟨S2048x2048, .i1⟩
  | .hbm, ⟨96, _⟩ => ⟨S2048x2048, .i1⟩
  | .hbm, ⟨97, _⟩ => ⟨S_, .f32⟩
  | .hbm, ⟨98, _⟩ => ⟨S_, .f32⟩
  | .hbm, ⟨99, _⟩ => ⟨S4x32x2048x2048, .i1⟩
  | .hbm, ⟨100, _⟩ => ⟨S4x32x2048x2048, .f32⟩
  | .hbm, ⟨101, _⟩ => ⟨S4x32x2048x2048, .f32⟩
  | .hbm, ⟨102, _⟩ => ⟨S_, .f32⟩
  | .hbm, ⟨103, _⟩ => ⟨S4x32x2048, .f32⟩
  | .hbm, ⟨104, _⟩ => ⟨S_, .f32⟩
  | .hbm, ⟨105, _⟩ => ⟨S4x32x2048, .f32⟩
  | .hbm, ⟨106, _⟩ => ⟨S4x32x2048, .f32⟩
  | .hbm, ⟨107, _⟩ => ⟨S4x32x2048x1, .f32⟩
  | .hbm, ⟨108, _⟩ => ⟨S4x32x2048x2048, .f32⟩
  | .hbm, ⟨109, _⟩ => ⟨S4x32x2048x2048, .f32⟩
  | .hbm, ⟨110, _⟩ => ⟨S4x32x2048x2048, .f32⟩
  | .hbm, ⟨111, _⟩ => ⟨S_, .f32⟩
  | .hbm, ⟨112, _⟩ => ⟨S4x32x2048, .f32⟩
  | .hbm, ⟨113, _⟩ => ⟨S4x32x2048x1, .f32⟩
  | .hbm, ⟨114, _⟩ => ⟨S4x32x2048x2048, .f32⟩
  | .hbm, ⟨115, _⟩ => ⟨S4x32x2048x2048, .f32⟩
  | .hbm, ⟨116, _⟩ => ⟨S4x32x128x2048, .f32⟩
  | .hbm, ⟨117, _⟩ => ⟨S4x2048x32x128, .f32⟩
  | .hbm, ⟨118, _⟩ => ⟨S4x2048x4096, .f32⟩
  | .hbm, ⟨119, _⟩ => ⟨S4x2048x4096, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_c_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_c : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_0 : Ref sig .tc := ⟨.hbm, 55, rfl⟩
abbrev main_call1_v12 : Ref sig .tc := ⟨.hbm, 56, rfl⟩
abbrev main_call1_v13 : Ref sig .tc := ⟨.hbm, 57, rfl⟩
abbrev main_v27 : Ref sig .tc := ⟨.hbm, 58, rfl⟩
abbrev main_c_5 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_c : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_0 : Ref sig .tc := ⟨.hbm, 73, rfl⟩
abbrev main_call2_v12 : Ref sig .tc := ⟨.hbm, 74, rfl⟩
abbrev main_call2_v13 : Ref sig .tc := ⟨.hbm, 75, rfl⟩
abbrev main_v28 : Ref sig .tc := ⟨.hbm, 76, rfl⟩
abbrev main_v29 : Ref sig .tc := ⟨.hbm, 77, rfl⟩
abbrev main_c_6 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_c_7 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_cst_8 : Ref sig .tc := ⟨.hbm, 97, rfl⟩
abbrev main_call3_v0 : Ref sig .tc := ⟨.hbm, 98, rfl⟩
abbrev main_call3_v1 : Ref sig .tc := ⟨.hbm, 99, rfl⟩
abbrev main_call3_v2 : Ref sig .tc := ⟨.hbm, 100, rfl⟩
abbrev main_v47 : Ref sig .tc := ⟨.hbm, 101, rfl⟩
abbrev main_cst_9 : Ref sig .tc := ⟨.hbm, 102, rfl⟩
abbrev main_v48 : Ref sig .tc := ⟨.hbm, 103, rfl⟩
abbrev main_cst_10 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_cst_11 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩

abbrev nD : Nat := 1
abbrev τ : Topo := Topo.v7x

variable {F : FTy → Type} [FloatOps F]
-- ==== Down.lean ====
abbrev S4x2048x11008 : Shape := ⟨3, ![4, 2048, 11008]⟩
abbrev S8x16x11008 : Shape := ⟨3, ![8, 16, 11008]⟩
abbrev S4x11008x4096 : Shape := ⟨3, ![4, 11008, 4096]⟩
abbrev S8192x11008 : Shape := ⟨2, ![8192, 11008]⟩
abbrev S128x11008 : Shape := ⟨2, ![128, 11008]⟩
abbrev S8192x4096 : Shape := ⟨2, ![8192, 4096]⟩
abbrev S128x4096 : Shape := ⟨2, ![128, 4096]⟩
abbrev S2048x256 : Shape := ⟨2, ![2048, 256]⟩
abbrev S128x256 : Shape := ⟨2, ![128, 256]⟩
abbrev S1x256x2048 : Shape := ⟨3, ![1, 256, 2048]⟩
abbrev S2048x2048 : Shape := ⟨2, ![2048, 2048]⟩
abbrev S128x2048 : Shape := ⟨2, ![128, 2048]⟩
abbrev S256x2048 : Shape := ⟨2, ![256, 2048]⟩
abbrev S512x2048 : Shape := ⟨2, ![512, 2048]⟩
abbrev S2048x512 : Shape := ⟨2, ![2048, 512]⟩
abbrev S128x512 : Shape := ⟨2, ![128, 512]⟩

abbrev nBuf : Space → Nat
  | .hbm => 9
  | .vmem => 18
  | .smem => 0
  | _ => 0

abbrev bufTy : (tb : Table) → Fin (tcTables nBuf tb) → BufTy
  | .hbm, ⟨0, _⟩ => ⟨S4x2048x11008, .f32⟩
  | .hbm, ⟨1, _⟩ => ⟨S8x16x11008, .f32⟩
  | .hbm, ⟨2, _⟩ => ⟨S4x11008x4096, .f32⟩
  | .hbm, ⟨3, _⟩ => ⟨S8192x11008, .f32⟩
  | .hbm, ⟨4, _⟩ => ⟨S8192x11008, .bf16⟩
  | .hbm, ⟨5, _⟩ => ⟨S128x11008, .f32⟩
  | .hbm, ⟨6, _⟩ => ⟨S128x11008, .bf16⟩
  | .hbm, ⟨7, _⟩ => ⟨S8192x4096, .bf16⟩
  | .hbm, ⟨8, _⟩ => ⟨S128x4096, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S2048x2048, .bf16⟩
  | .local _ .vmem, ⟨13, _⟩ => ⟨S2048x2048, .bf16⟩
  | .local _ .vmem, ⟨14, _⟩ => ⟨S128x2048, .bf16⟩
  | .local _ .vmem, ⟨15, _⟩ => ⟨S128x2048, .bf16⟩
  | .local _ .vmem, ⟨16, _⟩ => ⟨S2048x2048, .f32⟩
  | .local _ .vmem, ⟨17, _⟩ => ⟨S128x2048, .f32⟩
  | _, _ => ⟨S4x2048x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 2, 22], ![false, false, false]⟩

def k0_cond2 (i : grid0.Coords) : BitVec 1 :=
  let arg2 : BitVec 32 := BitVec.ofNat 32 (i 2).val
  let c21_i32_15 : BitVec 32 := 21#32
  let v24 : BitVec 1 := Scalar.cmpi .eq arg2 c21_i32_15
  let v25 : BitVec 32 := Scalar.extui v24
  let c0_i32_16 : BitVec 32 := 0#32
  let v26 : BitVec 1 := Scalar.cmpi .ne v25 c0_i32_16
  v26

def k0_cond3 (i : grid0.Coords) : BitVec 1 :=
  let arg0 : BitVec 32 := BitVec.ofNat 32 (i 0).val
  let c3_i32 : BitVec 32 := 3#32
  let v27 : BitVec 1 := Scalar.cmpi .eq arg0 c3_i32
  let v28 : BitVec 32 := Scalar.extui v27
  let c0_i32_17 : BitVec 32 := 0#32
  let v29 : BitVec 1 := Scalar.cmpi .ne v28 c0_i32_17
  v29

def k0_cond5 (i : grid0.Coords) : BitVec 1 :=
  let arg2 : BitVec 32 := BitVec.ofNat 32 (i 2).val
  let c21_i32_29 : BitVec 32 := 21#32
  let v44 : BitVec 1 := Scalar.cmpi .eq arg2 c21_i32_29
  let v45 : BitVec 32 := Scalar.extui v44
  let c0_i32_30 : BitVec 32 := 0#32
  let v46 : BitVec 1 := Scalar.cmpi .ne v45 c0_i32_30
  v46

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.addi v0 c1_i32
  let c42_i32 : BitVec 32 := 42#32
  let v2 : BitVec 32 := Scalar.minsi v1 c42_i32
  let c0_i32 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.addi v0 c1_i32
  let c42_i32 : BitVec 32 := 42#32
  let v2 : BitVec 32 := Scalar.minsi v1 c42_i32
  let c0_i32 : BitVec 32 := 0#32
  let c0_i32_0 : BitVec 32 := 0#32
  ![c0_i32.toNat, v2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c3_i32 : BitVec 32 := 3#32
  let c0_i32 : BitVec 32 := 0#32
  ![c3_i32.toNat, v0.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.addi v0 c1_i32
  let c42_i32 : BitVec 32 := 42#32
  let v2 : BitVec 32 := Scalar.minsi v1 c42_i32
  let c3_i32 : BitVec 32 := 3#32
  let c0_i32 : BitVec 32 := 0#32
  ![c3_i32.toNat, v2.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![c0_i32_0.toNat, v1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S2048x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== RefDownIdeal.lean ====
abbrev S4x2048x11008 : Shape := ⟨3, ![4, 2048, 11008]⟩
abbrev S8x16x11008 : Shape := ⟨3, ![8, 16, 11008]⟩
abbrev S4x11008x4096 : Shape := ⟨3, ![4, 11008, 4096]⟩
abbrev S1x11008x4096 : Shape := ⟨3, ![1, 11008, 4096]⟩
abbrev S11008x4096 : Shape := ⟨2, ![11008, 4096]⟩
abbrev S4x2048x4096 : Shape := ⟨3, ![4, 2048, 4096]⟩
abbrev S8192x4096 : Shape := ⟨2, ![8192, 4096]⟩
abbrev S8x16x4096 : Shape := ⟨3, ![8, 16, 4096]⟩
abbrev S128x4096 : Shape := ⟨2, ![128, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4x2048x11008, .f32⟩
  | .hbm, ⟨1, _⟩ => ⟨S8x16x11008, .f32⟩
  | .hbm, ⟨2, _⟩ => ⟨S4x11008x4096, .f32⟩
  | .hbm, ⟨3, _⟩ => ⟨S1x11008x4096, .f32⟩
  | .hbm, ⟨4, _⟩ => ⟨S11008x4096, .f32⟩
  | .hbm, ⟨5, _⟩ => ⟨S4x2048x4096, .f32⟩
  | .hbm, ⟨6, _⟩ => ⟨S4x2048x4096, .bf16⟩
  | .hbm, ⟨7, _⟩ => ⟨S8192x4096, .bf16⟩
  | .hbm, ⟨8, _⟩ => ⟨S1x11008x4096, .f32⟩
  | .hbm, ⟨9, _⟩ => ⟨S11008x4096, .f32⟩
  | .hbm, ⟨10, _⟩ => ⟨S8x16x4096, .f32⟩
  | .hbm, ⟨11, _⟩ => ⟨S8x16x4096, .bf16⟩
  | .hbm, ⟨12, _⟩ => ⟨S128x4096, .bf16⟩
  | _, _ => ⟨S4x2048x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Gate.lean ====
abbrev S4x2048x4096 : Shape := ⟨3, ![4, 2048, 4096]⟩
abbrev S8x16x4096 : Shape := ⟨3, ![8, 16, 4096]⟩
abbrev S4x4096x22016 : Shape := ⟨3, ![4, 4096, 22016]⟩
abbrev S8192x4096 : Shape := ⟨2, ![8192, 4096]⟩
abbrev S128x4096 : Shape := ⟨2, ![128, 4096]⟩
abbrev S8192x11008 : Shape := ⟨2, ![8192, 11008]⟩
abbrev S128x11008 : Shape := ⟨2, ![128, 11008]⟩
abbrev S2048x4096 : Shape := ⟨2, ![2048, 4096]⟩
abbrev S1x4096x256 : Shape := ⟨3, ![1, 4096, 256]⟩
abbrev S2048x256 : Shape := ⟨2, ![2048, 256]⟩
abbrev S128x256 : Shape := ⟨2, ![128, 256]⟩
abbrev S4096x256 : Shape := ⟨2, ![4096, 256]⟩
abbrev S4096x512 : Shape := ⟨2, ![4096, 512]⟩
abbrev S512x4096 : Shape := ⟨2, ![512, 4096]⟩
abbrev S512x512 : Shape := ⟨2, ![512, 512]⟩
abbrev S512x256 : Shape := ⟨2, ![512, 256]⟩
abbrev S128x512 : Shape := ⟨2, ![128, 512]⟩

abbrev nBuf : Space → Nat
  | .hbm => 9
  | .vmem => 10
  | .smem => 0
  | _ => 0

abbrev bufTy : (tb : Table) → Fin (tcTables nBuf tb) → BufTy
  | .hbm, ⟨0, _⟩ => ⟨S4x2048x4096, .f32⟩
  | .hbm, ⟨1, _⟩ => ⟨S8x16x4096, .f32⟩
  | .hbm, ⟨2, _⟩ => ⟨S4x4096x22016, .f32⟩
  | .hbm, ⟨3, _⟩ => ⟨S8192x4096, .f32⟩
  | .hbm, ⟨4, _⟩ => ⟨S8192x4096, .bf16⟩
  | .hbm, ⟨5, _⟩ => ⟨S128x4096, .f32⟩
  | .hbm, ⟨6, _⟩ => ⟨S128x4096, .bf16⟩
  | .hbm, ⟨7, _⟩ => ⟨S8192x11008, .bf16⟩
  | .hbm, ⟨8, _⟩ => ⟨S128x11008, .bf16⟩
  | .local _ .vmem, ⟨0, _⟩ => ⟨S128x4096, .bf16⟩
  | .local _ .vmem, ⟨1, _⟩ => ⟨S2048x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S2048x256, .bf16⟩
  | .local _ .vmem, ⟨7, _⟩ => ⟨S2048x256, .bf16⟩
  | .local _ .vmem, ⟨8, _⟩ => ⟨S128x256, .bf16⟩
  | .local _ .vmem, ⟨9, _⟩ => ⟨S128x256, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 43], ![false, false]⟩

def k0_cond1 (i : grid0.Coords) : BitVec 1 :=
  let arg0 : BitVec 32 := BitVec.ofNat 32 (i 0).val
  let c3_i32 : BitVec 32 := 3#32
  let v47 : BitVec 1 := Scalar.cmpi .eq arg0 c3_i32
  let v48 : BitVec 32 := Scalar.extui v47
  let c0_i32 : BitVec 32 := 0#32
  let v49 : BitVec 1 := Scalar.cmpi .ne v48 c0_i32
  v49

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c3_i32 : BitVec 32 := 3#32
  let c0_i32_0 : BitVec 32 := 0#32
  let c0_i32_1 : BitVec 32 := 0#32
  ![c3_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg1
  let c3_i32 : BitVec 32 := 3#32
  let c0_i32 : BitVec 32 := 0#32
  let c0_i32_0 : BitVec 32 := 0#32
  ![c3_i32.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![c0_i32_0.toNat, v1.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RefGateIdeal.lean ====
abbrev S4x2048x4096 : Shape := ⟨3, ![4, 2048, 4096]⟩
abbrev S8x16x4096 : Shape := ⟨3, ![8, 16, 4096]⟩
abbrev S4x4096x22016 : Shape := ⟨3, ![4, 4096, 22016]⟩
abbrev S1x4096x22016 : Shape := ⟨3, ![1, 4096, 22016]⟩
abbrev S4096x22016 : Shape := ⟨2, ![4096, 22016]⟩
abbrev S4x2048x22016 : Shape := ⟨3, ![4, 2048, 22016]⟩
abbrev S4x2048x11008 : Shape := ⟨3, ![4, 2048, 11008]⟩
abbrev S_ : Shape := ⟨0, ![]⟩
abbrev S8192x11008 : Shape := ⟨2, ![8192, 11008]⟩
abbrev S8x16x22016 : Shape := ⟨3, ![8, 16, 22016]⟩
abbrev S8x16x11008 : Shape := ⟨3, ![8, 16, 11008]⟩
abbrev S128x11008 : Shape := ⟨2, ![128, 11008]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8x16x4096, .f32⟩
  | .hbm, ⟨2, _⟩ => ⟨S4x4096x22016, .f32⟩
  | .hbm, ⟨3, _⟩ => ⟨S1x4096x22016, .f32⟩
  | .hbm, ⟨4, _⟩ => ⟨S4096x22016, .f32⟩
  | .hbm, ⟨5, _⟩ => ⟨S4x2048x22016, .f32⟩
  | .hbm, ⟨6, _⟩ => ⟨S4x2048x11008, .f32⟩
  | .hbm, ⟨7, _⟩ => ⟨S4x2048x11008, .f32⟩
  | .hbm, ⟨8, _⟩ => ⟨S4x2048x11008, .f32⟩
  | .hbm, ⟨9, _⟩ => ⟨S4x2048x11008, .f32⟩
  | .hbm, ⟨10, _⟩ => ⟨S_, .f32⟩
  | .hbm, ⟨11, _⟩ => ⟨S4x2048x11008, .f32⟩
  | .hbm, ⟨12, _⟩ => ⟨S4x2048x11008, .f32⟩
  | .hbm, ⟨13, _⟩ => ⟨S_, .f32⟩
  | .hbm, ⟨14, _⟩ => ⟨S4x2048x11008, .f32⟩
  | .hbm, ⟨15, _⟩ => ⟨S4x2048x11008, .f32⟩
  | .hbm, ⟨16, _⟩ => ⟨S4x2048x11008, .f32⟩
  | .hbm, ⟨17, _⟩ => ⟨S4x2048x11008, .f32⟩
  | .hbm, ⟨18, _⟩ => ⟨S4x2048x11008, .bf16⟩
  | .hbm, ⟨19, _⟩ => ⟨S8192x11008, .bf16⟩
  | .hbm, ⟨20, _⟩ => ⟨S1x4096x22016, .f32⟩
  | .hbm, ⟨21, _⟩ => ⟨S4096x22016, .f32⟩
  | .hbm, ⟨22, _⟩ => ⟨S8x16x22016, .f32⟩
  | .hbm, ⟨23, _⟩ => ⟨S8x16x11008, .f32⟩
  | .hbm, ⟨24, _⟩ => ⟨S8x16x11008, .f32⟩
  | .hbm, ⟨25, _⟩ => ⟨S8x16x11008, .f32⟩
  | .hbm, ⟨26, _⟩ => ⟨S8x16x11008, .f32⟩
  | .hbm, ⟨27, _⟩ => ⟨S_, .f32⟩
  | .hbm, ⟨28, _⟩ => ⟨S8x16x11008, .f32⟩
  | .hbm, ⟨29, _⟩ => ⟨S8x16x11008, .f32⟩
  | .hbm, ⟨30, _⟩ => ⟨S_, .f32⟩
  | .hbm, ⟨31, _⟩ => ⟨S8x16x11008, .f32⟩
  | .hbm, ⟨32, _⟩ => ⟨S8x16x11008, .f32⟩
  | .hbm, ⟨33, _⟩ => ⟨S8x16x11008, .f32⟩
  | .hbm, ⟨34, _⟩ => ⟨S8x16x11008, .f32⟩
  | .hbm, ⟨35, _⟩ => ⟨S8x16x11008, .bf16⟩
  | .hbm, ⟨36, _⟩ => ⟨S128x11008, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩

abbrev nD : Nat := 1
abbrev τ : Topo := Topo.v7x

variable {F : FTy → Type} [FloatOps F]
-- ==== Out.lean ====
abbrev S4x2048x4096 : Shape := ⟨3, ![4, 2048, 4096]⟩
abbrev S8x16x4096 : Shape := ⟨3, ![8, 16, 4096]⟩
abbrev S2x4096x4096 : Shape := ⟨3, ![2, 4096, 4096]⟩
abbrev S8192x4096 : Shape := ⟨2, ![8192, 4096]⟩
abbrev S128x4096 : Shape := ⟨2, ![128, 4096]⟩
abbrev S2048x4096 : Shape := ⟨2, ![2048, 4096]⟩
abbrev S1x4096x512 : Shape := ⟨3, ![1, 4096, 512]⟩
abbrev S2048x512 : Shape := ⟨2, ![2048, 512]⟩
abbrev S128x512 : Shape := ⟨2, ![128, 512]⟩
abbrev S4096x512 : Shape := ⟨2, ![4096, 512]⟩
abbrev S512x4096 : Shape := ⟨2, ![512, 4096]⟩
abbrev S512x512 : Shape := ⟨2, ![512, 512]⟩

abbrev nBuf : Space → Nat
  | .hbm => 9
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S8x16x4096, .f32⟩
  | .hbm, ⟨2, _⟩ => ⟨S2x4096x4096, .f32⟩
  | .hbm, ⟨3, _⟩ => ⟨S8192x4096, .f32⟩
  | .hbm, ⟨4, _⟩ => ⟨S8192x4096, .bf16⟩
  | .hbm, ⟨5, _⟩ => ⟨S128x4096, .f32⟩
  | .hbm, ⟨6, _⟩ => ⟨S128x4096, .bf16⟩
  | .hbm, ⟨7, _⟩ => ⟨S8192x4096, .bf16⟩
  | .hbm, ⟨8, _⟩ => ⟨S128x4096, .bf16⟩
  | .local _ .vmem, ⟨0, _⟩ => ⟨S128x4096, .bf16⟩
  | .local _ .vmem, ⟨1, _⟩ => ⟨S2048x4096, .bf16⟩
  | .local _ .vmem, ⟨2, _⟩ => ⟨S1x4096x512, .f32⟩
  | .local _ .vmem, ⟨3, _⟩ => ⟨S1x4096x512, .f32⟩
  | .local _ .vmem, ⟨4, _⟩ => ⟨S2048x512, .bf16⟩
  | .local _ .vmem, ⟨5, _⟩ => ⟨S2048x512, .bf16⟩
  | .local _ .vmem, ⟨6, _⟩ => ⟨S128x512, .bf16⟩
  | .local _ .vmem, ⟨7, _⟩ => ⟨S128x512, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c3_i32 : BitVec 32 := 3#32
  let v23 : BitVec 1 := Scalar.cmpi .eq arg0 c3_i32
  let v24 : BitVec 32 := Scalar.extui v23
  let c0_i32 : BitVec 32 := 0#32
  let v25 : BitVec 1 := Scalar.cmpi .ne v24 c0_i32
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![c0_i32_0.toNat, v1.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RefOutIdeal.lean ====
abbrev S4x2048x4096 : Shape := ⟨3, ![4, 2048, 4096]⟩
abbrev S8x16x4096 : Shape := ⟨3, ![8, 16, 4096]⟩
abbrev S2x4096x4096 : Shape := ⟨3, ![2, 4096, 4096]⟩
abbrev S1x4096x4096 : Shape := ⟨3, ![1, 4096, 4096]⟩
abbrev S4096x4096 : Shape := ⟨2, ![4096, 4096]⟩
abbrev S8192x4096 : Shape := ⟨2, ![8192, 4096]⟩
abbrev S128x4096 : Shape := ⟨2, ![128, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8x16x4096, .f32⟩
  | .hbm, ⟨2, _⟩ => ⟨S2x4096x4096, .f32⟩
  | .hbm, ⟨3, _⟩ => ⟨S1x4096x4096, .f32⟩
  | .hbm, ⟨4, _⟩ => ⟨S4096x4096, .f32⟩
  | .hbm, ⟨5, _⟩ => ⟨S4x2048x4096, .f32⟩
  | .hbm, ⟨6, _⟩ => ⟨S4x2048x4096, .bf16⟩
  | .hbm, ⟨7, _⟩ => ⟨S8192x4096, .bf16⟩
  | .hbm, ⟨8, _⟩ => ⟨S1x4096x4096, .f32⟩
  | .hbm, ⟨9, _⟩ => ⟨S4096x4096, .f32⟩
  | .hbm, ⟨10, _⟩ => ⟨S8x16x4096, .f32⟩
  | .hbm, ⟨11, _⟩ => ⟨S8x16x4096, .bf16⟩
  | .hbm, ⟨12, _⟩ => ⟨S128x4096, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kv.lean ====
abbrev S4x2048x4096 : Shape := ⟨3, ![4, 2048, 4096]⟩
abbrev S8x16x4096 : Shape := ⟨3, ![8, 16, 4096]⟩
abbrev S4096x8192 : Shape := ⟨2, ![4096, 8192]⟩
abbrev S8192x4096 : Shape := ⟨2, ![8192, 4096]⟩
abbrev S128x4096 : Shape := ⟨2, ![128, 4096]⟩
abbrev S1x4096x8192 : Shape := ⟨3, ![1, 4096, 8192]⟩
abbrev S8192x8192 : Shape := ⟨2, ![8192, 8192]⟩
abbrev S128x8192 : Shape := ⟨2, ![128, 8192]⟩
abbrev S2048x4096 : Shape := ⟨2, ![2048, 4096]⟩
abbrev S1x4096x512 : Shape := ⟨3, ![1, 4096, 512]⟩
abbrev S2048x512 : Shape := ⟨2, ![2048, 512]⟩
abbrev S128x512 : Shape := ⟨2, ![128, 512]⟩
abbrev S512x512 : Shape := ⟨2, ![512, 512]⟩
abbrev S4096x512 : Shape := ⟨2, ![4096, 512]⟩
abbrev S512x4096 : Shape := ⟨2, ![512, 4096]⟩

abbrev nBuf : Space → Nat
  | .hbm => 14
  | .vmem => 16
  | .smem => 0
  | _ => 0

abbrev bufTy : (tb : Table) → Fin (tcTables nBuf tb) → BufTy
  | .hbm, ⟨0, _⟩ => ⟨S4x2048x4096, .f32⟩
  | .hbm, ⟨1, _⟩ => ⟨S8x16x4096, .f32⟩
  | .hbm, ⟨2, _⟩ => ⟨S4096x8192, .f32⟩
  | .hbm, ⟨3, _⟩ => ⟨S8192x4096, .f32⟩
  | .hbm, ⟨4, _⟩ => ⟨S8192x4096, .bf16⟩
  | .hbm, ⟨5, _⟩ => ⟨S128x4096, .f32⟩
  | .hbm, ⟨6, _⟩ => ⟨S128x4096, .bf16⟩
  | .hbm, ⟨7, _⟩ => ⟨S1x4096x8192, .f32⟩
  | .hbm, ⟨8, _⟩ => ⟨S8192x8192, .bf16⟩
  | .hbm, ⟨9, _⟩ => ⟨S128x8192, .bf16⟩
  | .hbm, ⟨10, _⟩ => ⟨S2048x4096, .f32⟩
  | .hbm, ⟨11, _⟩ => ⟨S2048x4096, .f32⟩
  | .hbm, ⟨12, _⟩ => ⟨S128x4096, .f32⟩
  | .hbm, ⟨13, _⟩ => ⟨S128x4096, .f32⟩
  | .local _ .vmem, ⟨0, _⟩ => ⟨S128x4096, .bf16⟩
  | .local _ .vmem, ⟨1, _⟩ => ⟨S2048x4096, .bf16⟩
  | .local _ .vmem, ⟨2, _⟩ => ⟨S1x4096x512, .f32⟩
  | .local _ .vmem, ⟨3, _⟩ => ⟨S1x4096x512, .f32⟩
  | .local _ .vmem, ⟨4, _⟩ => ⟨S2048x512, .bf16⟩
  | .local _ .vmem, ⟨5, _⟩ => ⟨S2048x512, .bf16⟩
  | .local _ .vmem, ⟨6, _⟩ => ⟨S128x512, .bf16⟩
  | .local _ .vmem, ⟨7, _⟩ => ⟨S128x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev main_v5_4 : Ref sig .tc := ⟨.hbm, 12, rfl⟩
abbrev main_v5_5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 16], ![false, false]⟩

def k0_cond3 (i : grid0.Coords) : BitVec 1 :=
  let arg0 : BitVec 32 := BitVec.ofNat 32 (i 0).val
  let c3_i32 : BitVec 32 := 3#32
  let v29 : BitVec 1 := Scalar.cmpi .eq arg0 c3_i32
  let v30 : BitVec 32 := Scalar.extui v29
  let c0_i32_19 : BitVec 32 := 0#32
  let v31 : BitVec 1 := Scalar.cmpi .ne v30 c0_i32_19
  v31

def k0_cond1 (i : grid0.Coords) : BitVec 1 :=
  let arg1 : BitVec 32 := BitVec.ofNat 32 (i 1).val
  let c8_i32 : BitVec 32 := 8#32
  let v23 : BitVec 1 := Scalar.cmpi .slt arg1 c8_i32
  let v24 : BitVec 32 := Scalar.extui v23
  let c0_i32 : BitVec 32 := 0#32
  let v25 : BitVec 1 := Scalar.cmpi .ne v24 c0_i32
  v25

def k0_cond2 (i : grid0.Coords) : BitVec 1 :=
  let arg1 : BitVec 32 := BitVec.ofNat 32 (i 1).val
  let c8_i32 : BitVec 32 := 8#32
  let v23 : BitVec 1 := Scalar.cmpi .slt arg1 c8_i32
  let v_true : BitVec 1 := 1#1
  let v26 : BitVec 1 := Scalar.xori v23 v_true
  let v27 : BitVec 32 := Scalar.extui v26
  let c0_i32_18 : BitVec 32 := 0#32
  let v28 : BitVec 1 := Scalar.cmpi .ne v27 c0_i32_18
  v28

def k0_cond4 (i : grid0.Coords) : BitVec 1 :=
  let arg1 : BitVec 32 := BitVec.ofNat 32 (i 1).val
  let c8_i32_25 : BitVec 32 := 8#32
  let v37 : BitVec 1 := Scalar.cmpi .slt arg1 c8_i32_25
  let v38 : BitVec 32 := Scalar.extui v37
  let c0_i32_26 : BitVec 32 := 0#32
  let v39 : BitVec 1 := Scalar.cmpi .ne v38 c0_i32_26
  v39

def k0_cond5 (i : grid0.Coords) : BitVec 1 :=
  let arg1 : BitVec 32 := BitVec.ofNat 32 (i 1).val
  let c8_i32_25 : BitVec 32 := 8#32
  let v37 : BitVec 1 := Scalar.cmpi .slt arg1 c8_i32_25
  let true_27 : BitVec 1 := 1#1
  let v40 : BitVec 1 := Scalar.xori v37 true_27
  let v41 : BitVec 32 := Scalar.extui v40
  let c0_i32_28 : BitVec 32 := 0#32
  let v42 : BitVec 1 := Scalar.cmpi .ne v41 c0_i32_28
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![c0_i32_0.toNat, v1.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  ![arg0.toNat, v1.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c7_i32 : BitVec 32 := 7#32
  let v1 : BitVec 32 := Scalar.minsi arg1 c7_i32
  let c0_i32 : BitVec 32 := 0#32
  let v2 : BitVec 32 := Scalar.select v0 v1 c0_i32
  let c0_i32_0 : BitVec 32 := 0#32
  let c0_i32_1 : BitVec 32 := 0#32
  ![c0_i32_0.toNat, v2.toNat]

def cc0_transform_8 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c8_i32 : BitVec 32 := 8#32
  let v1 : BitVec 32 := Scalar.subi arg1 c8_i32
  let c0_i32 : BitVec 32 := 0#32
  let v2 : BitVec 32 := Scalar.maxsi v1 c0_i32
  let c0_i32_0 : BitVec 32 := 0#32
  let v3 : BitVec 32 := Scalar.select v0 v2 c0_i32_0
  let c0_i32_1 : BitVec 32 := 0#32
  let c0_i32_2 : BitVec 32 := 0#32
  ![c0_i32_1.toNat, v3.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RefKvIdeal.lean ====
abbrev S4x2048x4096 : Shape := ⟨3, ![4, 2048, 4096]⟩
abbrev S8x16x4096 : Shape := ⟨3, ![8, 16, 4096]⟩
abbrev S4096x8192 : Shape := ⟨2, ![4096, 8192]⟩
abbrev S4x2048x8192 : Shape := ⟨3, ![4, 2048, 8192]⟩
abbrev S8x16x8192 : Shape := ⟨3, ![8, 16, 8192]⟩
abbrev S8192x8192 : Shape := ⟨2, ![8192, 8192]⟩
abbrev S128x8192 : Shape := ⟨2, ![128, 8192]⟩
abbrev S4x512x4096 : Shape := ⟨3, ![4, 512, 4096]⟩
abbrev S2048x4096 : Shape := ⟨2, ![2048, 4096]⟩
abbrev S128x4096 : Shape := ⟨2, ![128, 4096]⟩

abbrev nBuf : Space → Nat
  | .hbm => 19
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8x16x4096, .f32⟩
  | .hbm, ⟨2, _⟩ => ⟨S4096x8192, .f32⟩
  | .hbm, ⟨3, _⟩ => ⟨S4x2048x8192, .f32⟩
  | .hbm, ⟨4, _⟩ => ⟨S8x16x8192, .f32⟩
  | .hbm, ⟨5, _⟩ => ⟨S4x2048x4096, .f32⟩
  | .hbm, ⟨6, _⟩ => ⟨S4x2048x4096, .f32⟩
  | .hbm, ⟨7, _⟩ => ⟨S8x16x4096, .f32⟩
  | .hbm, ⟨8, _⟩ => ⟨S8x16x4096, .f32⟩
  | .hbm, ⟨9, _⟩ => ⟨S4x2048x8192, .bf16⟩
  | .hbm, ⟨10, _⟩ => ⟨S8192x8192, .bf16⟩
  | .hbm, ⟨11, _⟩ => ⟨S8x16x8192, .bf16⟩
  | .hbm, ⟨12, _⟩ => ⟨S128x8192, .bf16⟩
  | .hbm, ⟨13, _⟩ => ⟨S4x512x4096, .f32⟩
  | .hbm, ⟨14, _⟩ => ⟨S2048x4096, .f32⟩
  | .hbm, ⟨15, _⟩ => ⟨S4x512x4096, .f32⟩
  | .hbm, ⟨16, _⟩ => ⟨S2048x4096, .f32⟩
  | .hbm, ⟨17, _⟩ => ⟨S128x4096, .f32⟩
  | .hbm, ⟨18, _⟩ => ⟨S128x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Query.lean ====
abbrev S4x2048x4096 : Shape := ⟨3, ![4, 2048, 4096]⟩
abbrev S8x16x4096 : Shape := ⟨3, ![8, 16, 4096]⟩
abbrev S2x4096x4096 : Shape := ⟨3, ![2, 4096, 4096]⟩
abbrev S8192x4096 : Shape := ⟨2, ![8192, 4096]⟩
abbrev S128x4096 : Shape := ⟨2, ![128, 4096]⟩
abbrev S2048x4096 : Shape := ⟨2, ![2048, 4096]⟩
abbrev S1x4096x512 : Shape := ⟨3, ![1, 4096, 512]⟩
abbrev S2048x512 : Shape := ⟨2, ![2048, 512]⟩
abbrev S128x512 : Shape := ⟨2, ![128, 512]⟩
abbrev S4096x512 : Shape := ⟨2, ![4096, 512]⟩
abbrev S512x4096 : Shape := ⟨2, ![512, 4096]⟩
abbrev S512x512 : Shape := ⟨2, ![512, 512]⟩

abbrev nBuf : Space → Nat
  | .hbm => 9
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S8x16x4096, .f32⟩
  | .hbm, ⟨2, _⟩ => ⟨S2x4096x4096, .f32⟩
  | .hbm, ⟨3, _⟩ => ⟨S8192x4096, .f32⟩
  | .hbm, ⟨4, _⟩ => ⟨S8192x4096, .bf16⟩
  | .hbm, ⟨5, _⟩ => ⟨S128x4096, .f32⟩
  | .hbm, ⟨6, _⟩ => ⟨S128x4096, .bf16⟩
  | .hbm, ⟨7, _⟩ => ⟨S8192x4096, .bf16⟩
  | .hbm, ⟨8, _⟩ => ⟨S128x4096, .bf16⟩
  | .local _ .vmem, ⟨0, _⟩ => ⟨S128x4096, .bf16⟩
  | .local _ .vmem, ⟨1, _⟩ => ⟨S2048x4096, .bf16⟩
  | .local _ .vmem, ⟨2, _⟩ => ⟨S1x4096x512, .f32⟩
  | .local _ .vmem, ⟨3, _⟩ => ⟨S1x4096x512, .f32⟩
  | .local _ .vmem, ⟨4, _⟩ => ⟨S2048x512, .bf16⟩
  | .local _ .vmem, ⟨5, _⟩ => ⟨S2048x512, .bf16⟩
  | .local _ .vmem, ⟨6, _⟩ => ⟨S128x512, .bf16⟩
  | .local _ .vmem, ⟨7, _⟩ => ⟨S128x512, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c3_i32 : BitVec 32 := 3#32
  let v31 : BitVec 1 := Scalar.cmpi .eq arg0 c3_i32
  let v32 : BitVec 32 := Scalar.extui v31
  let c0_i32 : BitVec 32 := 0#32
  let v33 : BitVec 1 := Scalar.cmpi .ne v32 c0_i32
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![c0_i32_0.toNat, v1.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QueryIdeal.lean ====
variable {F : FTy → Type} [FloatOps F] [Named F]
def κ : String → Option EReal := fun
  | "qscale" => some ((((Real.sqrt 128) * (Real.log 2))⁻¹ : ℝ) : EReal)
  | _ => none
-- ==== RefQueryIdeal.lean ====
abbrev S4x2048x4096 : Shape := ⟨3, ![4, 2048, 4096]⟩
abbrev S8x16x4096 : Shape := ⟨3, ![8, 16, 4096]⟩
abbrev S2x4096x4096 : Shape := ⟨3, ![2, 4096, 4096]⟩
abbrev S_ : Shape := ⟨0, ![]⟩
abbrev S1x4096x4096 : Shape := ⟨3, ![1, 4096, 4096]⟩
abbrev S4096x4096 : Shape := ⟨2, ![4096, 4096]⟩
abbrev S8192x4096 : Shape := ⟨2, ![8192, 4096]⟩
abbrev S128x4096 : Shape := ⟨2, ![128, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8x16x4096, .f32⟩
  | .hbm, ⟨2, _⟩ => ⟨S2x4096x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1x4096x4096, .f32⟩
  | .hbm, ⟨9, _⟩ => ⟨S4096x4096, .f32⟩
  | .hbm, ⟨10, _⟩ => ⟨S4x2048x4096, .f32⟩
  | .hbm, ⟨11, _⟩ => ⟨S4x2048x4096, .f32⟩
  | .hbm, ⟨12, _⟩ => ⟨S4x2048x4096, .f32⟩
  | .hbm, ⟨13, _⟩ => ⟨S4x2048x4096, .bf16⟩
  | .hbm, ⟨14, _⟩ => ⟨S8192x4096, .bf16⟩
  | .hbm, ⟨15, _⟩ => ⟨S1x4096x4096, .f32⟩
  | .hbm, ⟨16, _⟩ => ⟨S4096x4096, .f32⟩
  | .hbm, ⟨17, _⟩ => ⟨S8x16x4096, .f32⟩
  | .hbm, ⟨18, _⟩ => ⟨S8x16x4096, .f32⟩
  | .hbm, ⟨19, _⟩ => ⟨S8x16x4096, .f32⟩
  | .hbm, ⟨20, _⟩ => ⟨S8x16x4096, .bf16⟩
  | .hbm, ⟨21, _⟩ => ⟨S128x4096, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== In.lean ====
abbrev S4x2048x4096 : Shape := ⟨3, ![4, 2048, 4096]⟩
abbrev S4096 : Shape := ⟨1, ![4096]⟩
abbrev S4x1x4096 : Shape := ⟨3, ![4, 1, 4096]⟩
abbrev S8x16x4096 : Shape := ⟨3, ![8, 16, 4096]⟩
abbrev S2x4096x8192 : Shape := ⟨3, ![2, 4096, 8192]⟩
abbrev S128x4096 : Shape := ⟨2, ![128, 4096]⟩
abbrev S8192x4096 : Shape := ⟨2, ![8192, 4096]⟩
abbrev S1x1x4096 : Shape := ⟨3, ![1, 1, 4096]⟩
abbrev S8192x8192 : Shape := ⟨2, ![8192, 8192]⟩
abbrev S128x8192 : Shape := ⟨2, ![128, 8192]⟩
abbrev S64x4096 : Shape := ⟨2, ![64, 4096]⟩
abbrev S1x4096x512 : Shape := ⟨3, ![1, 4096, 512]⟩
abbrev S1024x512 : Shape := ⟨2, ![1024, 512]⟩
abbrev S128x512 : Shape := ⟨2, ![128, 512]⟩
abbrev S1024x4096 : Shape := ⟨2, ![1024, 4096]⟩
abbrev S64 : Shape := ⟨1, ![64]⟩
abbrev S64x1 : Shape := ⟨2, ![64, 1]⟩
abbrev S1x4096 : Shape := ⟨2, ![1, 4096]⟩
abbrev S4096x512 : Shape := ⟨2, ![4096, 512]⟩
abbrev S512x4096 : Shape := ⟨2, ![512, 4096]⟩
abbrev S512x512 : Shape := ⟨2, ![512, 512]⟩

abbrev nBuf : Space → Nat
  | .hbm => 12
  | .vmem => 16
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4x1x4096, .f32⟩
  | .hbm, ⟨3, _⟩ => ⟨S4x1x4096, .f32⟩
  | .hbm, ⟨4, _⟩ => ⟨S8x16x4096, .f32⟩
  | .hbm, ⟨5, _⟩ => ⟨S2x4096x8192, .f32⟩
  | .hbm, ⟨6, _⟩ => ⟨S128x4096, .f32⟩
  | .hbm, ⟨7, _⟩ => ⟨S128x4096, .bf16⟩
  | .hbm, ⟨8, _⟩ => ⟨S8192x4096, .f32⟩
  | .hbm, ⟨9, _⟩ => ⟨S1x1x4096, .f32⟩
  | .hbm, ⟨10, _⟩ => ⟨S8192x8192, .bf16⟩
  | .hbm, ⟨11, _⟩ => ⟨S128x8192, .bf16⟩
  | .local _ .vmem, ⟨0, _⟩ => ⟨S64x4096, .f32⟩
  | .local _ .vmem, ⟨1, _⟩ => ⟨S64x4096, .f32⟩
  | .local _ .vmem, ⟨2, _⟩ => ⟨S1x1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S128x4096, .bf16⟩
  | .local _ .vmem, ⟨8, _⟩ => ⟨S1x4096x512, .f32⟩
  | .local _ .vmem, ⟨9, _⟩ => ⟨S1x4096x512, .f32⟩
  | .local _ .vmem, ⟨10, _⟩ => ⟨S1024x512, .bf16⟩
  | .local _ .vmem, ⟨11, _⟩ => ⟨S1024x512, .bf16⟩
  | .local _ .vmem, ⟨12, _⟩ => ⟨S128x512, .bf16⟩
  | .local _ .vmem, ⟨13, _⟩ => ⟨S128x512, .bf16⟩
  | .local _ .vmem, ⟨14, _⟩ => ⟨S1024x4096, .bf16⟩
  | .local _ .vmem, ⟨15, _⟩ => ⟨S1024x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![9, 16], ![false, false]⟩

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_1 : BitVec 32 := 0#32
  let v4 : BitVec 1 := Scalar.cmpi .ne v3 c0_i32_1
  v4

def k0_mult1 (i : grid0.Coords) : BitVec 32 :=
  let arg1 : BitVec 32 := BitVec.ofNat 32 (i 1).val
  let c15_i32 : BitVec 32 := 15#32
  let v44 : BitVec 32 := Scalar.minsi arg1 c15_i32
  let c64_i32 : BitVec 32 := 64#32
  let v45 : BitVec 32 := Scalar.muli v44 c64_i32
  v45
def k0_off1 (i : grid0.Coords) : Fin 2 → Nat :=
  let arg1 : BitVec 32 := BitVec.ofNat 32 (i 1).val
  let c15_i32 : BitVec 32 := 15#32
  let v44 : BitVec 32 := Scalar.minsi arg1 c15_i32
  let c64_i32 : BitVec 32 := 64#32
  let v45 : BitVec 32 := Scalar.muli v44 c64_i32
  let v46 : BitVec 32 := v45
  let v47 : Index := Scalar.indexCast v46
  let c0_20 : Index := 0#32
  ![v47.toNat, 0]
def k0_cond2 (i : grid0.Coords) : BitVec 1 :=
  let arg0 : BitVec 32 := BitVec.ofNat 32 (i 0).val
  let c0_i32_2 : BitVec 32 := 0#32
  let v5 : BitVec 1 := Scalar.cmpi .sgt arg0 c0_i32_2
  let c1_i32 : BitVec 32 := 1#32
  let v0 : BitVec 32 := Scalar.andi arg0 c1_i32
  let c1_i32_0 : BitVec 32 := 1#32
  let v1 : BitVec 1 := Scalar.cmpi .eq v0 c1_i32_0
  let v6 : BitVec 1 := Scalar.andi v5 v1
  let v7 : BitVec 32 := Scalar.extui v6
  let c0_i32_3 : BitVec 32 := 0#32
  let v8 : BitVec 1 := Scalar.cmpi .ne v7 c0_i32_3
  v8

def k0_mult2 (i : grid0.Coords) : BitVec 32 :=
  let arg1 : BitVec 32 := BitVec.ofNat 32 (i 1).val
  let c15_i32 : BitVec 32 := 15#32
  let v44 : BitVec 32 := Scalar.minsi arg1 c15_i32
  let c64_i32 : BitVec 32 := 64#32
  let v45 : BitVec 32 := Scalar.muli v44 c64_i32
  v45
def k0_off2 (i : grid0.Coords) : Fin 2 → Nat :=
  let arg1 : BitVec 32 := BitVec.ofNat 32 (i 1).val
  let c15_i32 : BitVec 32 := 15#32
  let v44 : BitVec 32 := Scalar.minsi arg1 c15_i32
  let c64_i32 : BitVec 32 := 64#32
  let v45 : BitVec 32 := Scalar.muli v44 c64_i32
  let v46 : BitVec 32 := v45
  let v47 : Index := Scalar.indexCast v46
  let c0_20 : Index := 0#32
  ![v47.toNat, 0]
def k0_cond3 (i : grid0.Coords) : BitVec 1 :=
  let arg0 : BitVec 32 := BitVec.ofNat 32 (i 0).val
  let c0_i32_4 : BitVec 32 := 0#32
  let v9 : BitVec 1 := Scalar.cmpi .sgt arg0 c0_i32_4
  let c1_i32 : BitVec 32 := 1#32
  let v0 : BitVec 32 := Scalar.andi arg0 c1_i32
  let c1_i32_0 : BitVec 32 := 1#32
  let v1 : BitVec 1 := Scalar.cmpi .eq v0 c1_i32_0
  let v_true : BitVec 1 := 1#1
  let v10 : BitVec 1 := Scalar.xori v1 v_true
  let v11 : BitVec 1 := Scalar.andi v9 v10
  let v12 : BitVec 32 := Scalar.extui v11
  let c0_i32_5 : BitVec 32 := 0#32
  let v13 : BitVec 1 := Scalar.cmpi .ne v12 c0_i32_5
  v13

def k0_mult3 (i : grid0.Coords) : BitVec 32 :=
  let arg1 : BitVec 32 := BitVec.ofNat 32 (i 1).val
  let c15_i32 : BitVec 32 := 15#32
  let v44 : BitVec 32 := Scalar.minsi arg1 c15_i32
  let c64_i32 : BitVec 32 := 64#32
  let v45 : BitVec 32 := Scalar.muli v44 c64_i32
  v45
def k0_off3 (i : grid0.Coords) : Fin 2 → Nat :=
  let arg1 : BitVec 32 := BitVec.ofNat 32 (i 1).val
  let c15_i32 : BitVec 32 := 15#32
  let v44 : BitVec 32 := Scalar.minsi arg1 c15_i32
  let c64_i32 : BitVec 32 := 64#32
  let v45 : BitVec 32 := Scalar.muli v44 c64_i32
  let v46 : BitVec 32 := v45
  let v47 : Index := Scalar.indexCast v46
  let c0_20 : Index := 0#32
  ![v47.toNat, 0]
def k0_cond4 (i : grid0.Coords) : BitVec 1 :=
  let arg0 : BitVec 32 := BitVec.ofNat 32 (i 0).val
  let c8_i32 : BitVec 32 := 8#32
  let v14 : BitVec 1 := Scalar.cmpi .eq arg0 c8_i32
  let v15 : BitVec 32 := Scalar.extui v14
  let c0_i32_6 : BitVec 32 := 0#32
  let v16 : BitVec 1 := Scalar.cmpi .ne v15 c0_i32_6
  v16

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .eq arg0 c8_i32
  let c16_i32 : BitVec 32 := 16#32
  let v1 : BitVec 32 := Scalar.muli arg0 c16_i32
  let c15_i32 : BitVec 32 := 15#32
  let v2 : BitVec 32 := Scalar.minsi arg1 c15_i32
  let v3 : BitVec 32 := Scalar.addi v1 v2
  let c127_i32 : BitVec 32 := 127#32
  let v4 : BitVec 32 := Scalar.select v0 c127_i32 v3
  let c0_i32 : BitVec 32 := 0#32
  let c0_i32_0 : BitVec 32 := 0#32
  ![v4.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c1024_i32 : BitVec 32 := 1024#32
  let v1 : BitVec 32 := Scalar.muli v0 c1024_i32
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c1024_i32 : BitVec 32 := 1024#32
  let v1 : BitVec 32 := Scalar.muli v0 c1024_i32
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  let c0_i32_6 : BitVec 32 := 0#32
  ![v18.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let v2 : BitVec 32 := Scalar.addi c0_i32_1 v1
  let c0_i32_2 : BitVec 32 := 0#32
  let c0_i32_3 : BitVec 32 := 0#32
  let c0_i32_4 : BitVec 32 := 0#32
  ![c0_i32_2.toNat, c0_i32_3.toNat, v2.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  ![v1.toNat, v3.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .eq arg0 c8_i32
  let c0_i32 : BitVec 32 := 0#32
  let v1 : BitVec 32 := Scalar.select v0 arg1 c0_i32
  let c0_i32_0 : BitVec 32 := 0#32
  let c0_i32_1 : BitVec 32 := 0#32
  ![c0_i32_0.toNat, v1.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S128x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x4096x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RefInIdeal.lean ====
abbrev S4x2048x4096 : Shape := ⟨3, ![4, 2048, 4096]⟩
abbrev S4096 : Shape := ⟨1, ![4096]⟩
abbrev S4x1x4096 : Shape := ⟨3, ![4, 1, 4096]⟩
abbrev S8x16x4096 : Shape := ⟨3, ![8, 16, 4096]⟩
abbrev S2x4096x8192 : Shape := ⟨3, ![2, 4096, 8192]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S1x4096x8192 : Shape := ⟨3, ![1, 4096, 8192]⟩
abbrev S4096x8192 : Shape := ⟨2, ![4096, 8192]⟩
abbrev S4x2048x8192 : Shape := ⟨3, ![4, 2048, 8192]⟩
abbrev S8192x8192 : Shape := ⟨2, ![8192, 8192]⟩
abbrev S8x16x8192 : Shape := ⟨3, ![8, 16, 8192]⟩
abbrev S128x8192 : Shape := ⟨2, ![128, 8192]⟩

abbrev nBuf : Space → Nat
  | .hbm => 73
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4x1x4096, .f32⟩
  | .hbm, ⟨3, _⟩ => ⟨S4x1x4096, .f32⟩
  | .hbm, ⟨4, _⟩ => ⟨S8x16x4096, .f32⟩
  | .hbm, ⟨5, _⟩ => ⟨S2x4096x8192, .f32⟩
  | .hbm, ⟨6, _⟩ => ⟨S4x2048x4096, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x4096, .f32⟩
  | .hbm, ⟨18, _⟩ => ⟨S4x2048x4096, .f32⟩
  | .hbm, ⟨19, _⟩ => ⟨S1x1x4096, .f32⟩
  | .hbm, ⟨20, _⟩ => ⟨S4x2048x4096, .f32⟩
  | .hbm, ⟨21, _⟩ => ⟨S4x2048x4096, .f32⟩
  | .hbm, ⟨22, _⟩ => ⟨S_, .f32⟩
  | .hbm, ⟨23, _⟩ => ⟨S4x1x4096, .f32⟩
  | .hbm, ⟨24, _⟩ => ⟨S4x1x4096, .f32⟩
  | .hbm, ⟨25, _⟩ => ⟨S4x2048x4096, .f32⟩
  | .hbm, ⟨26, _⟩ => ⟨S4x2048x4096, .f32⟩
  | .hbm, ⟨27, _⟩ => ⟨S4x2048x4096, .f32⟩
  | .hbm, ⟨28, _⟩ => ⟨S4x2048x4096, .f32⟩
  | .hbm, ⟨29, _⟩ => ⟨S1x4096x8192, .f32⟩
  | .hbm, ⟨30, _⟩ => ⟨S4096x8192, .f32⟩
  | .hbm, ⟨31, _⟩ => ⟨S4x2048x8192, .f32⟩
  | .hbm, ⟨32, _⟩ => ⟨S4x2048x8192, .f32⟩
  | .hbm, ⟨33, _⟩ => ⟨S4x2048x8192, .f32⟩
  | .hbm, ⟨34, _⟩ => ⟨S_, .f32⟩
  | .hbm, ⟨35, _⟩ => ⟨S4x2048x8192, .f32⟩
  | .hbm, ⟨36, _⟩ => ⟨S4x2048x8192, .f32⟩
  | .hbm, ⟨37, _⟩ => ⟨S4x2048x8192, .f32⟩
  | .hbm, ⟨38, _⟩ => ⟨S_, .f32⟩
  | .hbm, ⟨39, _⟩ => ⟨S4x2048x8192, .f32⟩
  | .hbm, ⟨40, _⟩ => ⟨S4x2048x8192, .f32⟩
  | .hbm, ⟨41, _⟩ => ⟨S4x2048x8192, .f32⟩
  | .hbm, ⟨42, _⟩ => ⟨S_, .f32⟩
  | .hbm, ⟨43, _⟩ => ⟨S4x2048x8192, .f32⟩
  | .hbm, ⟨44, _⟩ => ⟨S4x2048x8192, .f32⟩
  | .hbm, ⟨45, _⟩ => ⟨S_, .f32⟩
  | .hbm, ⟨46, _⟩ => ⟨S4x2048x8192, .f32⟩
  | .hbm, ⟨47, _⟩ => ⟨S4x2048x8192, .f32⟩
  | .hbm, ⟨48, _⟩ => ⟨S4x2048x8192, .f32⟩
  | .hbm, ⟨49, _⟩ => ⟨S4x2048x8192, .bf16⟩
  | .hbm, ⟨50, _⟩ => ⟨S8192x8192, .bf16⟩
  | .hbm, ⟨51, _⟩ => ⟨S1x4096x8192, .f32⟩
  | .hbm, ⟨52, _⟩ => ⟨S4096x8192, .f32⟩
  | .hbm, ⟨53, _⟩ => ⟨S8x16x8192, .f32⟩
  | .hbm, ⟨54, _⟩ => ⟨S8x16x8192, .f32⟩
  | .hbm, ⟨55, _⟩ => ⟨S8x16x8192, .f32⟩
  | .hbm, ⟨56, _⟩ => ⟨S_, .f32⟩
  | .hbm, ⟨57, _⟩ => ⟨S8x16x8192, .f32⟩
  | .hbm, ⟨58, _⟩ => ⟨S8x16x8192, .f32⟩
  | .hbm, ⟨59, _⟩ => ⟨S8x16x8192, .f32⟩
  | .hbm, ⟨60, _⟩ => ⟨S_, .f32⟩
  | .hbm, ⟨61, _⟩ => ⟨S8x16x8192, .f32⟩
  | .hbm, ⟨62, _⟩ => ⟨S8x16x8192, .f32⟩
  | .hbm, ⟨63, _⟩ => ⟨S8x16x8192, .f32⟩
  | .hbm, ⟨64, _⟩ => ⟨S_, .f32⟩
  | .hbm, ⟨65, _⟩ => ⟨S8x16x8192, .f32⟩
  | .hbm, ⟨66, _⟩ => ⟨S8x16x8192, .f32⟩
  | .hbm, ⟨67, _⟩ => ⟨S_, .f32⟩
  | .hbm, ⟨68, _⟩ => ⟨S8x16x8192, .f32⟩
  | .hbm, ⟨69, _⟩ => ⟨S8x16x8192, .f32⟩
  | .hbm, ⟨70, _⟩ => ⟨S8x16x8192, .f32⟩
  | .hbm, ⟨71, _⟩ => ⟨S8x16x8192, .bf16⟩
  | .hbm, ⟨72, _⟩ => ⟨S128x8192, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_9 : Ref sig .tc := ⟨.hbm, 64, rfl⟩
abbrev main_v48 : Ref sig .tc := ⟨.hbm, 65, rfl⟩
abbrev main_v49 : Ref sig .tc := ⟨.hbm, 66, rfl⟩
abbrev main_cst_10 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== Second.lean ====
abbrev S4x2048x4096 : Shape := ⟨3, ![4, 2048, 4096]⟩
abbrev S4x1x4096 : Shape := ⟨3, ![4, 1, 4096]⟩
abbrev S4096 : Shape := ⟨1, ![4096]⟩
abbrev S8x16x4096 : Shape := ⟨3, ![8, 16, 4096]⟩
abbrev S2x4096x8192 : Shape := ⟨3, ![2, 4096, 8192]⟩
abbrev S8192x4096 : Shape := ⟨2, ![8192, 4096]⟩
abbrev S128x4096 : Shape := ⟨2, ![128, 4096]⟩
abbrev S1x1x4096 : Shape := ⟨3, ![1, 1, 4096]⟩
abbrev S8192x8192 : Shape := ⟨2, ![8192, 8192]⟩
abbrev S128x8192 : Shape := ⟨2, ![128, 8192]⟩
abbrev S64x4096 : Shape := ⟨2, ![64, 4096]⟩
abbrev S1x4096x512 : Shape := ⟨3, ![1, 4096, 512]⟩
abbrev S1024x512 : Shape := ⟨2, ![1024, 512]⟩
abbrev S128x512 : Shape := ⟨2, ![128, 512]⟩
abbrev S1024x4096 : Shape := ⟨2, ![1024, 4096]⟩
abbrev S1x4096 : Shape := ⟨2, ![1, 4096]⟩
abbrev S64 : Shape := ⟨1, ![64]⟩
abbrev S64x1 : Shape := ⟨2, ![64, 1]⟩
abbrev S4096x512 : Shape := ⟨2, ![4096, 512]⟩
abbrev S512x4096 : Shape := ⟨2, ![512, 4096]⟩
abbrev S512x512 : Shape := ⟨2, ![512, 512]⟩

abbrev nBuf : Space → Nat
  | .hbm => 19
  | .vmem => 23
  | .smem => 0
  | _ => 0

abbrev bufTy : (tb : Table) → Fin (tcTables nBuf tb) → BufTy
  | .hbm, ⟨0, _⟩ => ⟨S4x2048x4096, .f32⟩
  | .hbm, ⟨1, _⟩ => ⟨S4x2048x4096, .f32⟩
  | .hbm, ⟨2, _⟩ => ⟨S4x1x4096, .f32⟩
  | .hbm, ⟨3, _⟩ => ⟨S4096, .f32⟩
  | .hbm, ⟨4, _⟩ => ⟨S4096, .f32⟩
  | .hbm, ⟨5, _⟩ => ⟨S4x1x4096, .f32⟩
  | .hbm, ⟨6, _⟩ => ⟨S4x1x4096, .f32⟩
  | .hbm, ⟨7, _⟩ => ⟨S8x16x4096, .f32⟩
  | .hbm, ⟨8, _⟩ => ⟨S2x4096x8192, .f32⟩
  | .hbm, ⟨9, _⟩ => ⟨S8192x4096, .f32⟩
  | .hbm, ⟨10, _⟩ => ⟨S8192x4096, .bf16⟩
  | .hbm, ⟨11, _⟩ => ⟨S128x4096, .f32⟩
  | .hbm, ⟨12, _⟩ => ⟨S128x4096, .bf16⟩
  | .hbm, ⟨13, _⟩ => ⟨S8192x4096, .f32⟩
  | .hbm, ⟨14, _⟩ => ⟨S1x1x4096, .f32⟩
  | .hbm, ⟨15, _⟩ => ⟨S1x1x4096, .f32⟩
  | .hbm, ⟨16, _⟩ => ⟨S8192x4096, .f32⟩
  | .hbm, ⟨17, _⟩ => ⟨S8192x8192, .bf16⟩
  | .hbm, ⟨18, _⟩ => ⟨S128x8192, .bf16⟩
  | .local _ .vmem, ⟨0, _⟩ => ⟨S64x4096, .f32⟩
  | .local _ .vmem, ⟨1, _⟩ => ⟨S64x4096, .f32⟩
  | .local _ .vmem, ⟨2, _⟩ => ⟨S64x4096, .bf16⟩
  | .local _ .vmem, ⟨3, _⟩ => ⟨S64x4096, .bf16⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x1x4096, .f32⟩
  | .local _ .vmem, ⟨8, _⟩ => ⟨S1x1x4096, .f32⟩
  | .local _ .vmem, ⟨9, _⟩ => ⟨S1x1x4096, .f32⟩
  | .local _ .vmem, ⟨10, _⟩ => ⟨S1x1x4096, .f32⟩
  | .local _ .vmem, ⟨11, _⟩ => ⟨S1x1x4096, .f32⟩
  | .local _ .vmem, ⟨12, _⟩ => ⟨S128x4096, .bf16⟩
  | .local _ .vmem, ⟨13, _⟩ => ⟨S1x4096x512, .f32⟩
  | .local _ .vmem, ⟨14, _⟩ => ⟨S1x4096x512, .f32⟩
  | .local _ .vmem, ⟨15, _⟩ => ⟨S64x4096, .f32⟩
  | .local _ .vmem, ⟨16, _⟩ => ⟨S64x4096, .f32⟩
  | .local _ .vmem, ⟨17, _⟩ => ⟨S1024x512, .bf16⟩
  | .local _ .vmem, ⟨18, _⟩ => ⟨S1024x512, .bf16⟩
  | .local _ .vmem, ⟨19, _⟩ => ⟨S128x512, .bf16⟩
  | .local _ .vmem, ⟨20, _⟩ => ⟨S128x512, .bf16⟩
  | .local _ .vmem, ⟨21, _⟩ => ⟨S1024x4096, .bf16⟩
  | .local _ .vmem, ⟨22, _⟩ => ⟨S1024x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![9, 16], ![false, false]⟩

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_1 : BitVec 32 := 0#32
  let v4 : BitVec 1 := Scalar.cmpi .ne v3 c0_i32_1
  v4

def k0_mult1 (i : grid0.Coords) : BitVec 32 :=
  let arg1 : BitVec 32 := BitVec.ofNat 32 (i 1).val
  let c15_i32 : BitVec 32 := 15#32
  let v67 : BitVec 32 := Scalar.minsi arg1 c15_i32
  let c64_i32 : BitVec 32 := 64#32
  let v68 : BitVec 32 := Scalar.muli v67 c64_i32
  v68
def k0_off1 (i : grid0.Coords) : Fin 2 → Nat :=
  let arg1 : BitVec 32 := BitVec.ofNat 32 (i 1).val
  let c15_i32 : BitVec 32 := 15#32
  let v67 : BitVec 32 := Scalar.minsi arg1 c15_i32
  let c64_i32 : BitVec 32 := 64#32
  let v68 : BitVec 32 := Scalar.muli v67 c64_i32
  let v69 : BitVec 32 := v68
  let v70 : Index := Scalar.indexCast v69
  let c0_33 : Index := 0#32
  ![v70.toNat, 0]
def k0_cond2 (i : grid0.Coords) : BitVec 1 :=
  let arg0 : BitVec 32 := BitVec.ofNat 32 (i 0).val
  let c0_i32_2 : BitVec 32 := 0#32
  let v5 : BitVec 1 := Scalar.cmpi .sgt arg0 c0_i32_2
  let c1_i32 : BitVec 32 := 1#32
  let v0 : BitVec 32 := Scalar.andi arg0 c1_i32
  let c1_i32_0 : BitVec 32 := 1#32
  let v1 : BitVec 1 := Scalar.cmpi .eq v0 c1_i32_0
  let v6 : BitVec 1 := Scalar.andi v5 v1
  let v7 : BitVec 32 := Scalar.extui v6
  let c0_i32_3 : BitVec 32 := 0#32
  let v8 : BitVec 1 := Scalar.cmpi .ne v7 c0_i32_3
  v8

def k0_mult2 (i : grid0.Coords) : BitVec 32 :=
  let arg1 : BitVec 32 := BitVec.ofNat 32 (i 1).val
  let c15_i32 : BitVec 32 := 15#32
  let v67 : BitVec 32 := Scalar.minsi arg1 c15_i32
  let c64_i32 : BitVec 32 := 64#32
  let v68 : BitVec 32 := Scalar.muli v67 c64_i32
  v68
def k0_off2 (i : grid0.Coords) : Fin 2 → Nat :=
  let arg1 : BitVec 32 := BitVec.ofNat 32 (i 1).val
  let c15_i32 : BitVec 32 := 15#32
  let v67 : BitVec 32 := Scalar.minsi arg1 c15_i32
  let c64_i32 : BitVec 32 := 64#32
  let v68 : BitVec 32 := Scalar.muli v67 c64_i32
  let v69 : BitVec 32 := v68
  let v70 : Index := Scalar.indexCast v69
  let c0_33 : Index := 0#32
  ![v70.toNat, 0]
def k0_cond3 (i : grid0.Coords) : BitVec 1 :=
  let arg0 : BitVec 32 := BitVec.ofNat 32 (i 0).val
  let c0_i32_4 : BitVec 32 := 0#32
  let v9 : BitVec 1 := Scalar.cmpi .sgt arg0 c0_i32_4
  let c1_i32 : BitVec 32 := 1#32
  let v0 : BitVec 32 := Scalar.andi arg0 c1_i32
  let c1_i32_0 : BitVec 32 := 1#32
  let v1 : BitVec 1 := Scalar.cmpi .eq v0 c1_i32_0
  let v_true : BitVec 1 := 1#1
  let v10 : BitVec 1 := Scalar.xori v1 v_true
  let v11 : BitVec 1 := Scalar.andi v9 v10
  let v12 : BitVec 32 := Scalar.extui v11
  let c0_i32_5 : BitVec 32 := 0#32
  let v13 : BitVec 1 := Scalar.cmpi .ne v12 c0_i32_5
  v13

def k0_mult3 (i : grid0.Coords) : BitVec 32 :=
  let arg1 : BitVec 32 := BitVec.ofNat 32 (i 1).val
  let c15_i32 : BitVec 32 := 15#32
  let v67 : BitVec 32 := Scalar.minsi arg1 c15_i32
  let c64_i32 : BitVec 32 := 64#32
  let v68 : BitVec 32 := Scalar.muli v67 c64_i32
  v68
def k0_off3 (i : grid0.Coords) : Fin 2 → Nat :=
  let arg1 : BitVec 32 := BitVec.ofNat 32 (i 1).val
  let c15_i32 : BitVec 32 := 15#32
  let v67 : BitVec 32 := Scalar.minsi arg1 c15_i32
  let c64_i32 : BitVec 32 := 64#32
  let v68 : BitVec 32 := Scalar.muli v67 c64_i32
  let v69 : BitVec 32 := v68
  let v70 : Index := Scalar.indexCast v69
  let c0_33 : Index := 0#32
  ![v70.toNat, 0]
def k0_cond4 (i : grid0.Coords) : BitVec 1 :=
  let arg0 : BitVec 32 := BitVec.ofNat 32 (i 0).val
  let c8_i32 : BitVec 32 := 8#32
  let v14 : BitVec 1 := Scalar.cmpi .eq arg0 c8_i32
  let v15 : BitVec 32 := Scalar.extui v14
  let c0_i32_6 : BitVec 32 := 0#32
  let v16 : BitVec 1 := Scalar.cmpi .ne v15 c0_i32_6
  v16

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .eq arg0 c8_i32
  let c16_i32 : BitVec 32 := 16#32
  let v1 : BitVec 32 := Scalar.muli arg0 c16_i32
  let c15_i32 : BitVec 32 := 15#32
  let v2 : BitVec 32 := Scalar.minsi arg1 c15_i32
  let v3 : BitVec 32 := Scalar.addi v1 v2
  let c127_i32 : BitVec 32 := 127#32
  let v4 : BitVec 32 := Scalar.select v0 c127_i32 v3
  let c0_i32 : BitVec 32 := 0#32
  let c0_i32_0 : BitVec 32 := 0#32
  ![v4.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .eq arg0 c8_i32
  let c16_i32 : BitVec 32 := 16#32
  let v1 : BitVec 32 := Scalar.muli arg0 c16_i32
  let c15_i32 : BitVec 32 := 15#32
  let v2 : BitVec 32 := Scalar.minsi arg1 c15_i32
  let v3 : BitVec 32 := Scalar.addi v1 v2
  let c127_i32 : BitVec 32 := 127#32
  let v4 : BitVec 32 := Scalar.select v0 c127_i32 v3
  let c0_i32 : BitVec 32 := 0#32
  let c0_i32_0 : BitVec 32 := 0#32
  ![v4.toNat, c0_i32.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c1024_i32 : BitVec 32 := 1024#32
  let v1 : BitVec 32 := Scalar.muli v0 c1024_i32
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c1024_i32 : BitVec 32 := 1024#32
  let v1 : BitVec 32 := Scalar.muli v0 c1024_i32
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  let c0_i32_6 : BitVec 32 := 0#32
  ![v18.toNat, c0_i32_4.toNat, c0_i32_5.toNat]

def cc0_transform_6 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c1024_i32 : BitVec 32 := 1024#32
  let v1 : BitVec 32 := Scalar.muli v0 c1024_i32
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  let c0_i32_6 : BitVec 32 := 0#32
  ![v18.toNat, c0_i32_4.toNat, c0_i32_5.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let v2 : BitVec 32 := Scalar.addi c0_i32_1 v1
  let c1_i32 : BitVec 32 := 1#32
  let c0_i32_2 : BitVec 32 := 0#32
  let c0_i32_3 : BitVec 32 := 0#32
  ![c1_i32.toNat, c0_i32_2.toNat, v2.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .eq arg0 c8_i32
  let c16_i32 : BitVec 32 := 16#32
  let v1 : BitVec 32 := Scalar.muli arg0 c16_i32
  let c15_i32 : BitVec 32 := 15#32
  let v2 : BitVec 32 := Scalar.minsi arg1 c15_i32
  let v3 : BitVec 32 := Scalar.addi v1 v2
  let c127_i32 : BitVec 32 := 127#32
  let v4 : BitVec 32 := Scalar.select v0 c127_i32 v3
  let c0_i32 : BitVec 32 := 0#32
  let c0_i32_0 : BitVec 32 := 0#32
  ![v4.toNat, c0_i32.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  ![v1.toNat, v3.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .eq arg0 c8_i32
  let c0_i32 : BitVec 32 := 0#32
  let v1 : BitVec 32 := Scalar.select v0 arg1 c0_i32
  let c0_i32_0 : BitVec 32 := 0#32
  let c0_i32_1 : BitVec 32 := 0#32
  ![c0_i32_0.toNat, v1.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S128x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x4096x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== RefSecondIdeal.lean ====
abbrev S4x2048x4096 : Shape := ⟨3, ![4, 2048, 4096]⟩
abbrev S4x1x4096 : Shape := ⟨3, ![4, 1, 4096]⟩
abbrev S4096 : Shape := ⟨1, ![4096]⟩
abbrev S8x16x4096 : Shape := ⟨3, ![8, 16, 4096]⟩
abbrev S2x4096x8192 : Shape := ⟨3, ![2, 4096, 8192]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S8192x4096 : Shape := ⟨2, ![8192, 4096]⟩
abbrev S1x4096x8192 : Shape := ⟨3, ![1, 4096, 8192]⟩
abbrev S4096x8192 : Shape := ⟨2, ![4096, 8192]⟩
abbrev S4x2048x8192 : Shape := ⟨3, ![4, 2048, 8192]⟩
abbrev S8192x8192 : Shape := ⟨2, ![8192, 8192]⟩
abbrev S8x16x8192 : Shape := ⟨3, ![8, 16, 8192]⟩
abbrev S128x8192 : Shape := ⟨2, ![128, 8192]⟩

abbrev nBuf : Space → Nat
  | .hbm => 96
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x2048x4096, .f32⟩
  | .hbm, ⟨2, _⟩ => ⟨S4x1x4096, .f32⟩
  | .hbm, ⟨3, _⟩ => ⟨S4096, .f32⟩
  | .hbm, ⟨4, _⟩ => ⟨S4096, .f32⟩
  | .hbm, ⟨5, _⟩ => ⟨S4x1x4096, .f32⟩
  | .hbm, ⟨6, _⟩ => ⟨S4x1x4096, .f32⟩
  | .hbm, ⟨7, _⟩ => ⟨S8x16x4096, .f32⟩
  | .hbm, ⟨8, _⟩ => ⟨S2x4096x8192, .f32⟩
  | .hbm, ⟨9, _⟩ => ⟨S4x2048x4096, .f32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x1, .f32⟩
  | .hbm, ⟨20, _⟩ => ⟨S4x2048x4096, .f32⟩
  | .hbm, ⟨21, _⟩ => ⟨S4x2048x4096, .f32⟩
  | .hbm, ⟨22, _⟩ => ⟨S1x1x4096, .f32⟩
  | .hbm, ⟨23, _⟩ => ⟨S4x2048x4096, .f32⟩
  | .hbm, ⟨24, _⟩ => ⟨S4x2048x4096, .f32⟩
  | .hbm, ⟨25, _⟩ => ⟨S4x2048x4096, .f32⟩
  | .hbm, ⟨26, _⟩ => ⟨S4x2048x4096, .f32⟩
  | .hbm, ⟨27, _⟩ => ⟨S4x2048x4096, .f32⟩
  | .hbm, ⟨28, _⟩ => ⟨S4x2048x4096, .f32⟩
  | .hbm, ⟨29, _⟩ => ⟨S_, .f32⟩
  | .hbm, ⟨30, _⟩ => ⟨S4x2048, .f32⟩
  | .hbm, ⟨31, _⟩ => ⟨S4x2048x1, .f32⟩
  | .hbm, ⟨32, _⟩ => ⟨S_, .f32⟩
  | .hbm, ⟨33, _⟩ => ⟨S4x2048x1, .f32⟩
  | .hbm, ⟨34, _⟩ => ⟨S4x2048x1, .f32⟩
  | .hbm, ⟨35, _⟩ => ⟨S_, .f32⟩
  | .hbm, ⟨36, _⟩ => ⟨S4x2048x1, .f32⟩
  | .hbm, ⟨37, _⟩ => ⟨S4x2048x1, .f32⟩
  | .hbm, ⟨38, _⟩ => ⟨S4x2048x1, .f32⟩
  | .hbm, ⟨39, _⟩ => ⟨S4x2048x4096, .f32⟩
  | .hbm, ⟨40, _⟩ => ⟨S4x2048x4096, .f32⟩
  | .hbm, ⟨41, _⟩ => ⟨S1x1x4096, .f32⟩
  | .hbm, ⟨42, _⟩ => ⟨S4x2048x4096, .f32⟩
  | .hbm, ⟨43, _⟩ => ⟨S4x2048x4096, .f32⟩
  | .hbm, ⟨44, _⟩ => ⟨S_, .f32⟩
  | .hbm, ⟨45, _⟩ => ⟨S4x1x4096, .f32⟩
  | .hbm, ⟨46, _⟩ => ⟨S4x1x4096, .f32⟩
  | .hbm, ⟨47, _⟩ => ⟨S4x2048x4096, .f32⟩
  | .hbm, ⟨48, _⟩ => ⟨S4x2048x4096, .f32⟩
  | .hbm, ⟨49, _⟩ => ⟨S4x2048x4096, .f32⟩
  | .hbm, ⟨50, _⟩ => ⟨S4x2048x4096, .f32⟩
  | .hbm, ⟨51, _⟩ => ⟨S8192x4096, .f32⟩
  | .hbm, ⟨52, _⟩ => ⟨S1x4096x8192, .f32⟩
  | .hbm, ⟨53, _⟩ => ⟨S4096x8192, .f32⟩
  | .hbm, ⟨54, _⟩ => ⟨S4x2048x8192, .f32⟩
  | .hbm, ⟨55, _⟩ => ⟨S4x2048x8192, .f32⟩
  | .hbm, ⟨56, _⟩ => ⟨S4x2048x8192, .f32⟩
  | .hbm, ⟨57, _⟩ => ⟨S_, .f32⟩
  | .hbm, ⟨58, _⟩ => ⟨S4x2048x8192, .f32⟩
  | .hbm, ⟨59, _⟩ => ⟨S4x2048x8192, .f32⟩
  | .hbm, ⟨60, _⟩ => ⟨S4x2048x8192, .f32⟩
  | .hbm, ⟨61, _⟩ => ⟨S_, .f32⟩
  | .hbm, ⟨62, _⟩ => ⟨S4x2048x8192, .f32⟩
  | .hbm, ⟨63, _⟩ => ⟨S4x2048x8192, .f32⟩
  | .hbm, ⟨64, _⟩ => ⟨S4x2048x8192, .f32⟩
  | .hbm, ⟨65, _⟩ => ⟨S_, .f32⟩
  | .hbm, ⟨66, _⟩ => ⟨S4x2048x8192, .f32⟩
  | .hbm, ⟨67, _⟩ => ⟨S4x2048x8192, .f32⟩
  | .hbm, ⟨68, _⟩ => ⟨S_, .f32⟩
  | .hbm, ⟨69, _⟩ => ⟨S4x2048x8192, .f32⟩
  | .hbm, ⟨70, _⟩ => ⟨S4x2048x8192, .f32⟩
  | .hbm, ⟨71, _⟩ => ⟨S4x2048x8192, .f32⟩
  | .hbm, ⟨72, _⟩ => ⟨S4x2048x8192, .bf16⟩
  | .hbm, ⟨73, _⟩ => ⟨S8192x8192, .bf16⟩
  | .hbm, ⟨74, _⟩ => ⟨S1x4096x8192, .f32⟩
  | .hbm, ⟨75, _⟩ => ⟨S4096x8192, .f32⟩
  | .hbm, ⟨76, _⟩ => ⟨S8x16x8192, .f32⟩
  | .hbm, ⟨77, _⟩ => ⟨S8x16x8192, .f32⟩
  | .hbm, ⟨78, _⟩ => ⟨S8x16x8192, .f32⟩
  | .hbm, ⟨79, _⟩ => ⟨S_, .f32⟩
  | .hbm, ⟨80, _⟩ => ⟨S8x16x8192, .f32⟩
  | .hbm, ⟨81, _⟩ => ⟨S8x16x8192, .f32⟩
  | .hbm, ⟨82, _⟩ => ⟨S8x16x8192, .f32⟩
  | .hbm, ⟨83, _⟩ => ⟨S_, .f32⟩
  | .hbm, ⟨84, _⟩ => ⟨S8x16x8192, .f32⟩
  | .hbm, ⟨85, _⟩ => ⟨S8x16x8192, .f32⟩
  | .hbm, ⟨86, _⟩ => ⟨S8x16x8192, .f32⟩
  | .hbm, ⟨87, _⟩ => ⟨S_, .f32⟩
  | .hbm, ⟨88, _⟩ => ⟨S8x16x8192, .f32⟩
  | .hbm, ⟨89, _⟩ => ⟨S8x16x8192, .f32⟩
  | .hbm, ⟨90, _⟩ => ⟨S_, .f32⟩
  | .hbm, ⟨91, _⟩ => ⟨S8x16x8192, .f32⟩
  | .hbm, ⟨92, _⟩ => ⟨S8x16x8192, .f32⟩
  | .hbm, ⟨93, _⟩ => ⟨S8x16x8192, .f32⟩
  | .hbm, ⟨94, _⟩ => ⟨S8x16x8192, .bf16⟩
  | .hbm, ⟨95, _⟩ => ⟨S128x8192, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_10 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_11 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_12 : Ref sig .tc := ⟨.hbm, 87, rfl⟩
abbrev main_v65 : Ref sig .tc := ⟨.hbm, 88, rfl⟩
abbrev main_v66 : Ref sig .tc := ⟨.hbm, 89, rfl⟩
abbrev main_cst_13 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩

abbrev nD : Nat := 1
abbrev τ : Topo := Topo.v7x

variable {F : FTy → Type} [FloatOps F]
-- ==== Proof.Att.Bits.lean ====
module

public import proofs.«01_k».proof.Proof.Gen.Kernel.Skeleton
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Att

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The bias is built at the first row block of the first row of a head group. -/
abbrev condFirst (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1

theorem condFirst_iff : ∀ t : Fin cfg0.N, condFirst (grid0.coords t) ↔ t.val % 32 = 0 :=
  (fun t => by
    have ht : t.val < 64 := Nat.lt_of_lt_of_eq t.isLt N_0
    have e0 : (grid0.coords t 0).val = t.val / 32 % 2 := Pipeline.Grid.coords_val t 0 (by decide) rfl
    have e1 : (grid0.coords t 1).val = t.val / 8 % 4 := Pipeline.Grid.coords_val t 1 (by decide) rfl
    have e2 : (grid0.coords t 2).val = t.val / 1 % 8 := Pipeline.Grid.coords_val t 2 (by decide) rfl
    simp only [condFirst, e0, e1, e2]
    word_cmp
   : ∀ t : Fin grid0.N, condFirst (grid0.coords t) ↔ t.val % 32 = 0)

/-- The plain band: all three key blocks of the point lie in the sequence. -/
theorem condFull_iff : ∀ t : Fin cfg0.N, k0_cond2 (grid0.coords t) = 1#1 ↔ 2 ≤ t.val % 8 :=
  (by decide +kernel : ∀ t : Fin grid0.N, k0_cond2 (grid0.coords t) = 1#1 ↔ 2 ≤ t.val % 8)

/-- The band that starts before the sequence: its missing columns are masked. -/
theorem condEdge_iff : ∀ t : Fin cfg0.N, k0_cond3 (grid0.coords t) = 1#1 ↔ t.val % 8 ≤ 1 :=
  (by decide +kernel : ∀ t : Fin grid0.N, k0_cond3 (grid0.coords t) = 1#1 ↔ t.val % 8 ≤ 1)

/-! ## The buffers a point is given -/

/-- A point leaves its operands as they were, and the result's block and the scratch at something. -/
abbrev Leaves (c : Dev nD) (i : grid0.Coords) : Prop :=
  ∀
    (arg3 : Memref sig .tc .vmem S1x256x2048 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S1x256x2048 .bf16) (harg7 : arg7.IsWhole) (arg8 : Memref sig .tc .vmem S1x256x2048 .bf16) (harg8 : arg8.IsWhole) (arg9 : Memref sig .tc .vmem S1x256x2048 .bf16) (harg9 : arg9.IsWhole) (arg10 : Memref sig .tc .vmem S16x2x64x256 .f32) (harg10 : arg10.IsWhole) (arg11 : Memref sig .tc .vmem S1x256x2048 .bf16) (harg11 : arg11.IsWhole) (arg12 : Memref sig .tc .vmem S16x256x768 .f32) (harg12 : arg12.IsWhole)
    (x0 : Vec F S1x256x2048 .bf16) (x1 : Vec F S1x256x2048 .bf16) (x2 : Vec F S1x256x2048 .bf16) (x3 : Vec F S1x256x2048 .bf16) (x4 : Vec F S1x256x2048 .bf16) (x5 : Vec F S1x256x2048 .bf16) (x6 : Vec F S1x256x2048 .bf16) (x7 : Vec F S16x2x64x256 .f32) (K : PUnit → sProp 𝕄),
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d)) -∗ K ⟨⟩))
      ⊢ wp frame (wpE (defs₀ (F := F)) Variants.none c none) Set.univ (cc0_attn_prompt i arg3 harg3 arg4 harg4 arg5 harg5 arg6 harg6 arg7 harg7 arg8 harg8 arg9 harg9 arg10 harg10 arg11 harg11 arg12 harg12) K

set_option maxHeartbeats 6000000 in
theorem run_kind (c : Dev nD) (i : grid0.Coords)
    (h : (condFirst i ∧ ¬k0_cond2 i = 1#1 ∧ k0_cond3 i = 1#1) ∨ (¬condFirst i ∧ ¬k0_cond2 i = 1#1 ∧ k0_cond3 i = 1#1) ∨ (¬condFirst i ∧ k0_cond2 i = 1#1 ∧ ¬k0_cond3 i = 1#1)) :
    Leaves (F := F) c i := by
  intro arg3 harg3 arg4 harg4 arg5 harg5 arg6 harg6 arg7 harg7 arg8 harg8 arg9 harg9 arg10 harg10 arg11 harg11 arg12 harg12 x0 x1 x2 x3 x4 x5 x6 x7 K
  simp only [cc0_attn_prompt_eq_skeleton]; unfold cc0_attn_prompt_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds, %fs, -, HS⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
  rcases h with ⟨hc0, hc1, hc2⟩ | ⟨hc0, hc1, hc2⟩ | ⟨hc0, hc1, hc2⟩
  all_goals
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _, _; isplitr; swap; · iexact H8
      ipureintro; rfl
    iexists _, _; isplitr; swap; · iexact HS
    ipureintro; rfl

/-! ## The frame -/

variable (m : (ℓ : Loc nD τ sig) → Buf (Elt F) ℓ) (ρ : Dev nD → PrngReg)

/-- Nothing is said of the result's array. -/
def forgets : Fin 9 → Bool := fun w => w.val == 8

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem leaves0 (c : Dev nD) (t : Fin cfg0.N) : (dats m 0 c).leavesExact 0 t = owns (c : Thread nD τ) (win0_0.stage (cfg0.slots t 0)) fullShare (iblk m c 0 t) := by
  unfold Dat.leavesExact; rw [show cfg0.idle 0 (cfg0.grid.coords t) = false from rfl, after0]
theorem leaves1 (c : Dev nD) (t : Fin cfg0.N) : (dats m 0 c).leavesExact 1 t = owns (c : Thread nD τ) (win0_1.stage (cfg0.slots t 1)) fullShare (iblk m c 1 t) := by
  unfold Dat.leavesExact; rw [show cfg0.idle 1 (cfg0.grid.coords t) = false from rfl, after1]
theorem leaves2 (c : Dev nD) (t : Fin cfg0.N) : (dats m 0 c).leavesExact 2 t = owns (c : Thread nD τ) (win0_2.stage (cfg0.slots t 2)) fullShare (iblk m c 2 t) := by
  unfold Dat.leavesExact; rw [show cfg0.idle 2 (cfg0.grid.coords t) = false from rfl, after2]
theorem leaves3 (c : Dev nD) (t : Fin cfg0.N) : (dats m 0 c).leavesExact 3 t = owns (c : Thread nD τ) (win0_3.stage (cfg0.slots t 3)) fullShare (iblk m c 3 t) := by
  unfold Dat.leavesExact; rw [show cfg0.idle 3 (cfg0.grid.coords t) = false from rfl, after3]
theorem leaves4 (c : Dev nD) (t : Fin cfg0.N) : (dats m 0 c).leavesExact 4 t = owns (c : Thread nD τ) (win0_4.stage (cfg0.slots t 4)) fullShare (iblk m c 4 t) := by
  unfold Dat.leavesExact; rw [show cfg0.idle 4 (cfg0.grid.coords t) = false from rfl, after4]
theorem leaves5 (c : Dev nD) (t : Fin cfg0.N) : (dats m 0 c).leavesExact 5 t = owns (c : Thread nD τ) (win0_5.stage (cfg0.slots t 5)) fullShare (iblk m c 5 t) := by
  unfold Dat.leavesExact; rw [show cfg0.idle 5 (cfg0.grid.coords t) = false from rfl, after5]
theorem leaves6 (c : Dev nD) (t : Fin cfg0.N) : (dats m 0 c).leavesExact 6 t = owns (c : Thread nD τ) (win0_6.stage (cfg0.slots t 6)) fullShare (iblk m c 6 t) := by
  unfold Dat.leavesExact; rw [show cfg0.idle 6 (cfg0.grid.coords t) = false from rfl, after6]
theorem leaves7 (c : Dev nD) (t : Fin cfg0.N) : (dats m 0 c).leavesExact 7 t = owns (c : Thread nD τ) (win0_7.stage (cfg0.slots t 7)) fullShare (iblk m c 7 t) := by
  unfold Dat.leavesExact; rw [show cfg0.idle 7 (cfg0.grid.coords t) = false from rfl, after7]

theorem scratch_whole (c : Dev nD) :
    (Pipeline.ΦA spec0 c : sProp 𝕄) = iprop(iprop((∃ d, owns (c : Thread nD τ) (Memref.whole cc0_scratch0) fullShare d)) ∗ (∃ r, prngReg c r)) := by
  unfold Pipeline.ΦA; rw [scopedRest0_eq]; simp only [owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare d))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (win0_8.stage (cfg0.slots t 8)) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, leaves0, leaves1, leaves2, leaves3, leaves4, leaves5, leaves6, leaves7]
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl, scratch_whole]
  have hN : t.val < 64 := lt_of_lt_of_eq t.isLt (show cfg0.N = 64 from N_0)
  have R := run_kind (F := F) c (grid0.coords t) (by
    simp only [condFirst_iff, condFull_iff, condEdge_iff]; omega)
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
  iapply (R _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  iintro ⟨H0, H1, H2, H3, H4, H5, H6, H7, H8, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets := fun t => by
  rw [bigSep_W0, bigSep_W0, body_row]
  exact triple_restated (sound_body m c t) rfl .rfl fun _ => .rfl

set_option backward.isDefEq.respectTransparency.types false in
theorem run_main : θ_run defs (onTc (τ := τ) (main (F := F))) (s₀ m ρ) (fun r => Pipeline.RDat.FramePost (cfgs 0) (fun c => (dats m 0 c).toRForget forgets) (V m) r ∧ r.2.sem = fun _ => 0) :=
  Pipeline.θ_run_frame_forget_shared (Q' := _) cfgs (dats m) (0 : Fin 1) launch₀0 defs₀ Variants.none forgets m ρ main
    (hbody := fun c => (body_obligation m c).loose) (hq := fun _ _ _ => rfl) (howed := fun _ _ => rfl) (V := V m) (hmain := hmain m Variants.none)
    (hA := A_eq m) (hΦ := fun _ _ => rfl)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main m ρ)

end Cert.Kernel.Att

end
-- ==== Proof.Att.Setup.lean ====
module

public import proofs.«01_k».proof.Proof.Gen.KernelIdeal.Frame
public import proofs.«01_k».proof.Proof.Gen.KernelIdeal.Skeleton
public import Idealize.ShloMosaic.Lib.Ring
public import Idealize.ShloMosaic.Lib.Tactic
public import Idealize.ShloMosaic.Lib.WordCmp

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Which branch a grid point takes -/

/-- The bias is built at the first row block of the first row of a head group. -/
abbrev condFirst (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1

theorem condFirst_iff : ∀ t : Fin cfg0.N, condFirst (grid0.coords t) ↔ t.val % 32 = 0 :=
  (fun t => by
    have ht : t.val < 64 := Nat.lt_of_lt_of_eq t.isLt N_0
    have e0 : (grid0.coords t 0).val = t.val / 32 % 2 := Pipeline.Grid.coords_val t 0 (by decide) rfl
    have e1 : (grid0.coords t 1).val = t.val / 8 % 4 := Pipeline.Grid.coords_val t 1 (by decide) rfl
    have e2 : (grid0.coords t 2).val = t.val / 1 % 8 := Pipeline.Grid.coords_val t 2 (by decide) rfl
    simp only [condFirst, e0, e1, e2]
    word_cmp
   : ∀ t : Fin grid0.N, condFirst (grid0.coords t) ↔ t.val % 32 = 0)

/-- The plain band: all three key blocks of the point lie in the sequence. -/
theorem condFull_iff : ∀ t : Fin cfg0.N, k0_cond2 (grid0.coords t) = 1#1 ↔ 2 ≤ t.val % 8 :=
  (by decide +kernel : ∀ t : Fin grid0.N, k0_cond2 (grid0.coords t) = 1#1 ↔ 2 ≤ t.val % 8)

/-- The band that starts before the sequence: its missing columns are masked. -/
theorem condEdge_iff : ∀ t : Fin cfg0.N, k0_cond3 (grid0.coords t) = 1#1 ↔ t.val % 8 ≤ 1 :=
  (by decide +kernel : ∀ t : Fin grid0.N, k0_cond3 (grid0.coords t) = 1#1 ↔ t.val % 8 ≤ 1)

/-! ## The buffers a point is given -/

abbrev st0 (t : Fin cfg0.N) : Memref sig .tc .vmem S1x256x2048 .bf16 := win0_0.stage (cfg0.slots t 0)
abbrev st1 (t : Fin cfg0.N) : Memref sig .tc .vmem S1x256x2048 .bf16 := win0_1.stage (cfg0.slots t 1)
abbrev st2 (t : Fin cfg0.N) : Memref sig .tc .vmem S1x256x2048 .bf16 := win0_2.stage (cfg0.slots t 2)
abbrev st3 (t : Fin cfg0.N) : Memref sig .tc .vmem S1x256x2048 .bf16 := win0_3.stage (cfg0.slots t 3)
abbrev st4 (t : Fin cfg0.N) : Memref sig .tc .vmem S1x256x2048 .bf16 := win0_4.stage (cfg0.slots t 4)
abbrev st5 (t : Fin cfg0.N) : Memref sig .tc .vmem S1x256x2048 .bf16 := win0_5.stage (cfg0.slots t 5)
abbrev st6 (t : Fin cfg0.N) : Memref sig .tc .vmem S1x256x2048 .bf16 := win0_6.stage (cfg0.slots t 6)
abbrev st7 (t : Fin cfg0.N) : Memref sig .tc .vmem S16x2x64x256 .f32 := win0_7.stage (cfg0.slots t 7)
abbrev st8 (t : Fin cfg0.N) : Memref sig .tc .vmem S1x256x2048 .bf16 := win0_8.stage (cfg0.slots t 8)
abbrev scr : Memref sig .tc .vmem S16x256x768 .f32 := Memref.whole cc0_scratch0

/-! ## What one point computes -/

/-- Three blocks of 256 rows as one of 768. -/
def stack3 (a b c : Vec F S1x256x128 .bf16) : FVec F S768x128 .bf16 :=
  concatenate S768x128 0 [⟨S256x128, shapeCast S256x128 a shapeCasts_S1x256x128_S256x128⟩, ⟨S256x128, shapeCast S256x128 b shapeCasts_S1x256x128_S256x128⟩, ⟨S256x128, shapeCast S256x128 c shapeCasts_S1x256x128_S256x128⟩] concatenates_S256x128_S256x128_S256x128_S768x128_d0

/-- The scores of 256 query rows against 768 key rows, with the bias. -/
def score (q : Vec F S1x256x128 .bf16) (k : FVec F S768x128 .bf16) (b : Vec F S1x256x768 .f32) : FVec F S256x768 .f32 :=
  addf (matmul dot_S256x128_S768x128_S256x768_1_1_0_0_n_n none (shapeCast S256x128 q shapeCasts_S1x256x128_S256x128) k (constant S256x768 .f32 0x00000000#32))
    (shapeCast S256x768 b shapeCasts_S1x256x768_S256x768)

/-- The columns before `n` masked. -/
def edgeMask (n : BitVec 32) (s : FVec F S256x768 .f32) : FVec F S256x768 .f32 :=
  select (cmpi .sge (iota .tc S256x768 32 [1] iota_S256x768_d1_w32) (broadcast S256x768 n)) s (broadcast S256x768 (Named.named κ "mask" 0xF149F2CA#32))

/-- `2 ^ (s - max s)`, row by row. -/
def weights (s : FVec F S256x768 .f32) : FVec F S256x768 .f32 :=
  exp2 (subf s (broadcastTo S256x768 (shapeCast S256x1 (multiReduction .maximumf [1] S256 s 0xFF800000#32 reduces_S256x768_S256 (.inl rfl) rfl) shapeCasts_S256_S256x1) broadcasts_S256x1_S256x768))

/-- The weighted rows over the weights' sum. -/
def average (p : FVec F S256x768 .f32) (v : FVec F S768x128 .bf16) : FVec F S1x256x128 .bf16 :=
  shapeCast S1x256x128 (truncf .bf16 (divf (matmul dot_S256x768_S768x128_S256x128_1_0_0_1_n_n none (truncf .bf16 p bitsLt_bf16_f32) v (constant S256x128 .f32 0x00000000#32))
    (broadcastTo S256x128 (shapeCast S256x1 (multiReduction .add [1] S256 p 0x00000000#32 reduces_S256x768_S256 (.inl rfl) rfl) shapeCasts_S256_S256x1) broadcasts_S256x1_S256x128)) bitsLt_bf16_f32) shapeCasts_S256x128_S1x256x128

/-- The columns of head `h` of a block of sixteen heads. -/
abbrev colsRect (h : Fin 16) : Rect S1x256x2048 :=
  Rect.unit (s := S1x256x2048) ![0, 0, 128 * h.val] S1x256x128.size (by intro a; have := h.isLt; fin_cases a <;> simp <;> omega)

/-- The plane of head `h` of the bias. -/
abbrev planeRect (h : Fin 16) : Rect S16x256x768 :=
  Rect.unit (s := S16x256x768) ![h.val, 0, 0] S1x256x768.size (by intro a; have := h.isLt; fin_cases a <;> simp <;> omega)

def cols (x : Vec F S1x256x2048 .bf16) (h : Fin 16) : Vec F S1x256x128 .bf16 := View.ld x (colsRect h)
def plane (b : Vec F S16x256x768 .f32) (h : Fin 16) : Vec F S1x256x768 .f32 := View.ld b (planeRect h)

/-- One head of one point. -/
def head (mask : FVec F S256x768 .f32 → FVec F S256x768 .f32) (q k₀ k₁ k₂ v₀ v₁ v₂ : Vec F S1x256x128 .bf16) (b : Vec F S1x256x768 .f32) : FVec F S1x256x128 .bf16 :=
  average (weights (mask (score q (stack3 k₀ k₁ k₂) b))) (stack3 v₀ v₁ v₂)

/-- Row `r`, column `c` of one head. -/
def at3 (r : Fin 256) (c : Fin 128) : S1x256x128.Idx := fun a => match a with
  | ⟨0, _⟩ => (0 : Fin 1)
  | ⟨1, _⟩ => r
  | ⟨2, _⟩ => c

/-- What one point leaves in its block of the result: head by head. -/
def block (mask : FVec F S256x768 .f32 → FVec F S256x768 .f32) (x0 x1 x2 x3 x4 x5 x6 : Vec F S1x256x2048 .bf16) (b : Vec F S16x256x768 .f32) : Vec F S1x256x2048 .bf16 :=
  fun y =>
    let h : Fin 16 := ⟨(y 2).val / 128, by have : (y 2).val < 2048 := (y 2).isLt; omega⟩
    head mask (cols x0 h) (cols x1 h) (cols x2 h) (cols x3 h) (cols x4 h) (cols x5 h) (cols x6 h) (plane b h)
      (at3 (y 1) ⟨(y 2).val % 128, Nat.mod_lt _ (by decide)⟩)

theorem ld_cols {sp : Space} {M : Memref sig .tc sp S1x256x2048 .bf16} (hM : M.IsWhole) (x : Vec F S1x256x2048 .bf16) (h : Fin 16) :
    View.readAt (Elt F) M.view (colsRect h) (hM.unread x) = cols x h := by
  rw [View.readAt_eq_ld, hM.read_unread]; rfl

theorem ld_plane {sp : Space} {M : Memref sig .tc sp S16x256x768 .f32} (hM : M.IsWhole) (x : Vec F S16x256x768 .f32) (h : Fin 16) :
    View.readAt (Elt F) M.view (planeRect h) (hM.unread x) = plane x h := by
  rw [View.readAt_eq_ld, hM.read_unread]; rfl

/-- A head read off the buffers, with its plane of the bias, is that head of the block. -/
theorem head_block_of {s0 s1 s2 s3 s4 s5 s6 : Space} {M0 : Memref sig .tc s0 S1x256x2048 .bf16} {M1 : Memref sig .tc s1 S1x256x2048 .bf16} {M2 : Memref sig .tc s2 S1x256x2048 .bf16}
    {M3 : Memref sig .tc s3 S1x256x2048 .bf16} {M4 : Memref sig .tc s4 S1x256x2048 .bf16} {M5 : Memref sig .tc s5 S1x256x2048 .bf16} {M6 : Memref sig .tc s6 S1x256x2048 .bf16}
    (h0 : M0.IsWhole) (h1 : M1.IsWhole) (h2 : M2.IsWhole) (h3 : M3.IsWhole) (h4 : M4.IsWhole) (h5 : M5.IsWhole) (h6 : M6.IsWhole)
    (mask : FVec F S256x768 .f32 → FVec F S256x768 .f32) (x0 x1 x2 x3 x4 x5 x6 : Vec F S1x256x2048 .bf16) (b : Vec F S16x256x768 .f32) (h : Fin 16)
    {P : Vec F S1x256x768 .f32} (hP : P = plane b h) (j : S1x256x128.Idx) :
    head mask (View.readAt (Elt F) M0.view (colsRect h) (h0.unread x0)) (View.readAt (Elt F) M1.view (colsRect h) (h1.unread x1))
      (View.readAt (Elt F) M2.view (colsRect h) (h2.unread x2)) (View.readAt (Elt F) M3.view (colsRect h) (h3.unread x3))
      (View.readAt (Elt F) M4.view (colsRect h) (h4.unread x4)) (View.readAt (Elt F) M5.view (colsRect h) (h5.unread x5))
      (View.readAt (Elt F) M6.view (colsRect h) (h6.unread x6)) P j
      = block mask x0 x1 x2 x3 x4 x5 x6 b ((colsRect h).emb j) := by
  subst hP
  simp only [ld_cols]
  have hj : (j 2).val < 128 := (j 2).isLt
  have e2 : ((colsRect h).emb j 2).val = 128 * h.val + (j 2).val := by show _ + 1 * _ = _; simp
  have e1 : ((colsRect h).emb j 1).val = (j 1).val := by show _ + 1 * _ = _; simp
  have hh : (⟨((colsRect h).emb j 2).val / 128, by have : ((colsRect h).emb j 2).val < 2048 := ((colsRect h).emb j 2).isLt; omega⟩ : Fin 16) = h := by
    apply Fin.ext; show ((colsRect h).emb j 2).val / 128 = _; omega
  have hi : at3 ((colsRect h).emb j 1) ⟨((colsRect h).emb j 2).val % 128, Nat.mod_lt _ (by decide)⟩ = j := by
    funext a; apply Fin.ext
    match a with
    | ⟨0, _⟩ => have : (j 0).val < 1 := (j 0).isLt; show 0 = (j 0).val; omega
    | ⟨1, _⟩ => exact e1
    | ⟨2, _⟩ => show ((colsRect h).emb j 2).val % 128 = (j 2).val; omega
  unfold block; simp only [hh, hi]

/-- The same with the plane read off its buffer. -/
theorem head_block {s0 s1 s2 s3 s4 s5 s6 s7 : Space} {M0 : Memref sig .tc s0 S1x256x2048 .bf16} {M1 : Memref sig .tc s1 S1x256x2048 .bf16} {M2 : Memref sig .tc s2 S1x256x2048 .bf16}
    {M3 : Memref sig .tc s3 S1x256x2048 .bf16} {M4 : Memref sig .tc s4 S1x256x2048 .bf16} {M5 : Memref sig .tc s5 S1x256x2048 .bf16} {M6 : Memref sig .tc s6 S1x256x2048 .bf16}
    {M7 : Memref sig .tc s7 S16x256x768 .f32}
    (h0 : M0.IsWhole) (h1 : M1.IsWhole) (h2 : M2.IsWhole) (h3 : M3.IsWhole) (h4 : M4.IsWhole) (h5 : M5.IsWhole) (h6 : M6.IsWhole) (h7 : M7.IsWhole)
    (mask : FVec F S256x768 .f32 → FVec F S256x768 .f32) (x0 x1 x2 x3 x4 x5 x6 : Vec F S1x256x2048 .bf16) (b : Vec F S16x256x768 .f32) (h : Fin 16) (j : S1x256x128.Idx) :
    head mask (View.readAt (Elt F) M0.view (colsRect h) (h0.unread x0)) (View.readAt (Elt F) M1.view (colsRect h) (h1.unread x1))
      (View.readAt (Elt F) M2.view (colsRect h) (h2.unread x2)) (View.readAt (Elt F) M3.view (colsRect h) (h3.unread x3))
      (View.readAt (Elt F) M4.view (colsRect h) (h4.unread x4)) (View.readAt (Elt F) M5.view (colsRect h) (h5.unread x5))
      (View.readAt (Elt F) M6.view (colsRect h) (h6.unread x6)) (View.readAt (Elt F) M7.view (planeRect h) (h7.unread b)) j
      = block mask x0 x1 x2 x3 x4 x5 x6 b ((colsRect h).emb j) :=
  head_block_of h0 h1 h2 h3 h4 h5 h6 mask x0 x1 x2 x3 x4 x5 x6 b h (ld_plane h7 b h) j

end Cert.KernelIdeal.Att

end
-- ==== Proof.Att.RunFull.lean ====
module

public import proofs.«01_k».proof.Proof.Att.Setup
public import Idealize.ShloMosaic.Lib.Ring
public import Idealize.ShloMosaic.Lib.Tactic
public import Idealize.ShloMosaic.Lib.WordCmp

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1068000 in
theorem run_full (c : Dev nD) (i : grid0.Coords) (arg3 : Memref sig .tc .vmem S1x256x2048 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S1x256x2048 .bf16) (harg7 : arg7.IsWhole) (arg8 : Memref sig .tc .vmem S1x256x2048 .bf16) (harg8 : arg8.IsWhole) (arg9 : Memref sig .tc .vmem S1x256x2048 .bf16) (harg9 : arg9.IsWhole) (arg10 : Memref sig .tc .vmem S16x2x64x256 .f32) (harg10 : arg10.IsWhole) (arg11 : Memref sig .tc .vmem S1x256x2048 .bf16) (harg11 : arg11.IsWhole) (arg12 : Memref sig .tc .vmem S16x256x768 .f32) (harg12 : arg12.IsWhole) (hc0 : ¬condFirst i) (hc1 : k0_cond2 i = 1#1) (hc2 : ¬k0_cond3 i = 1#1)
    (x0 : Vec F S1x256x2048 .bf16) (x1 : Vec F S1x256x2048 .bf16) (x2 : Vec F S1x256x2048 .bf16) (x3 : Vec F S1x256x2048 .bf16) (x4 : Vec F S1x256x2048 .bf16) (x5 : Vec F S1x256x2048 .bf16) (x6 : Vec F S1x256x2048 .bf16) (x7 : Vec F S16x2x64x256 .f32) (b : Vec F S16x256x768 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ owns (c : Thread nD τ) arg12 fullShare b
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare (block (fun s => s) x0 x1 x2 x3 x4 x5 x6 b) ∗ owns (c : Thread nD τ) arg12 fullShare b) -∗ K ⟨⟩))
          ⊢ wp frame (wpE (defs₀ (F := F)) Variants.none c none) E (cc0_attn_prompt i arg3 harg3 arg4 harg4 arg5 harg5 arg6 harg6 arg7 harg7 arg8 harg8 arg9 harg9 arg10 harg10 arg11 harg11 arg12 harg12) K := by
    intro E K
    simp only [cc0_attn_prompt_eq_skeleton]; unfold cc0_attn_prompt_skel
    simp only [k0_part44_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg12.eq_unread hfs
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; swap; · iexact H8
      ipureintro; funext y
      refine View.read_writes_apply_of_pieces _ _ _ _ ?_ _ (View.cover_of_tiledL (s := S1x256x2048) _ ![1, 256, 128] (by sl_kernel_rfl) y)
      clear y
      refine List.forall_mem_cons.2 ⟨fun x => head_block harg3 harg4 harg5 harg6 harg7 harg8 harg9 harg12 (fun s => s) x0 x1 x2 x3 x4 x5 x6 b 15 x, ?_⟩
      refine List.forall_mem_cons.2 ⟨fun x => head_block harg3 harg4 harg5 harg6 harg7 harg8 harg9 harg12 (fun s => s) x0 x1 x2 x3 x4 x5 x6 b 14 x, ?_⟩
      refine List.forall_mem_cons.2 ⟨fun x => head_block harg3 harg4 harg5 harg6 harg7 harg8 harg9 harg12 (fun s => s) x0 x1 x2 x3 x4 x5 x6 b 13 x, ?_⟩
      refine List.forall_mem_cons.2 ⟨fun x => head_block harg3 harg4 harg5 harg6 harg7 harg8 harg9 harg12 (fun s => s) x0 x1 x2 x3 x4 x5 x6 b 12 x, ?_⟩
      refine List.forall_mem_cons.2 ⟨fun x => head_block harg3 harg4 harg5 harg6 harg7 harg8 harg9 harg12 (fun s => s) x0 x1 x2 x3 x4 x5 x6 b 11 x, ?_⟩
      refine List.forall_mem_cons.2 ⟨fun x => head_block harg3 harg4 harg5 harg6 harg7 harg8 harg9 harg12 (fun s => s) x0 x1 x2 x3 x4 x5 x6 b 10 x, ?_⟩
      refine List.forall_mem_cons.2 ⟨fun x => head_block harg3 harg4 harg5 harg6 harg7 harg8 harg9 harg12 (fun s => s) x0 x1 x2 x3 x4 x5 x6 b 9 x, ?_⟩
      refine List.forall_mem_cons.2 ⟨fun x => head_block harg3 harg4 harg5 harg6 harg7 harg8 harg9 harg12 (fun s => s) x0 x1 x2 x3 x4 x5 x6 b 8 x, ?_⟩
      refine List.forall_mem_cons.2 ⟨fun x => head_block harg3 harg4 harg5 harg6 harg7 harg8 harg9 harg12 (fun s => s) x0 x1 x2 x3 x4 x5 x6 b 7 x, ?_⟩
      refine List.forall_mem_cons.2 ⟨fun x => head_block harg3 harg4 harg5 harg6 harg7 harg8 harg9 harg12 (fun s => s) x0 x1 x2 x3 x4 x5 x6 b 6 x, ?_⟩
      refine List.forall_mem_cons.2 ⟨fun x => head_block harg3 harg4 harg5 harg6 harg7 harg8 harg9 harg12 (fun s => s) x0 x1 x2 x3 x4 x5 x6 b 5 x, ?_⟩
      refine List.forall_mem_cons.2 ⟨fun x => head_block harg3 harg4 harg5 harg6 harg7 harg8 harg9 harg12 (fun s => s) x0 x1 x2 x3 x4 x5 x6 b 4 x, ?_⟩
      refine List.forall_mem_cons.2 ⟨fun x => head_block harg3 harg4 harg5 harg6 harg7 harg8 harg9 harg12 (fun s => s) x0 x1 x2 x3 x4 x5 x6 b 3 x, ?_⟩
      refine List.forall_mem_cons.2 ⟨fun x => head_block harg3 harg4 harg5 harg6 harg7 harg8 harg9 harg12 (fun s => s) x0 x1 x2 x3 x4 x5 x6 b 2 x, ?_⟩
      refine List.forall_mem_cons.2 ⟨fun x => head_block harg3 harg4 harg5 harg6 harg7 harg8 harg9 harg12 (fun s => s) x0 x1 x2 x3 x4 x5 x6 b 1 x, ?_⟩
      refine List.forall_mem_cons.2 ⟨fun x => head_block harg3 harg4 harg5 harg6 harg7 harg8 harg9 harg12 (fun s => s) x0 x1 x2 x3 x4 x5 x6 b 0 x, ?_⟩
      exact List.forall_mem_nil _
    iexists _; isplitr; swap; · iexact HS
    ipureintro; exact harg12.read_unread _

end Cert.KernelIdeal.Att

end
-- ==== Proof.Att.RunEdge.lean ====
module

public import proofs.«01_k».proof.Proof.Att.Setup
public import Idealize.ShloMosaic.Lib.Ring
public import Idealize.ShloMosaic.Lib.Tactic
public import Idealize.ShloMosaic.Lib.WordCmp

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1068000 in
theorem run_edge (c : Dev nD) (i : grid0.Coords) (arg3 : Memref sig .tc .vmem S1x256x2048 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S1x256x2048 .bf16) (harg7 : arg7.IsWhole) (arg8 : Memref sig .tc .vmem S1x256x2048 .bf16) (harg8 : arg8.IsWhole) (arg9 : Memref sig .tc .vmem S1x256x2048 .bf16) (harg9 : arg9.IsWhole) (arg10 : Memref sig .tc .vmem S16x2x64x256 .f32) (harg10 : arg10.IsWhole) (arg11 : Memref sig .tc .vmem S1x256x2048 .bf16) (harg11 : arg11.IsWhole) (arg12 : Memref sig .tc .vmem S16x256x768 .f32) (harg12 : arg12.IsWhole) (hc0 : ¬condFirst i) (hc1 : ¬k0_cond2 i = 1#1) (hc2 : k0_cond3 i = 1#1)
    (x0 : Vec F S1x256x2048 .bf16) (x1 : Vec F S1x256x2048 .bf16) (x2 : Vec F S1x256x2048 .bf16) (x3 : Vec F S1x256x2048 .bf16) (x4 : Vec F S1x256x2048 .bf16) (x5 : Vec F S1x256x2048 .bf16) (x6 : Vec F S1x256x2048 .bf16) (x7 : Vec F S16x2x64x256 .f32) (b : Vec F S16x256x768 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ owns (c : Thread nD τ) arg12 fullShare b
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare (block (edgeMask (Scalar.muli (Scalar.subi 2#32 (BitVec.ofNat 32 (i 2).val)) 256#32)) x0 x1 x2 x3 x4 x5 x6 b) ∗ owns (c : Thread nD τ) arg12 fullShare b) -∗ K ⟨⟩))
          ⊢ wp frame (wpE (defs₀ (F := F)) Variants.none c none) E (cc0_attn_prompt i arg3 harg3 arg4 harg4 arg5 harg5 arg6 harg6 arg7 harg7 arg8 harg8 arg9 harg9 arg10 harg10 arg11 harg11 arg12 harg12) K := by
    intro E K
    simp only [cc0_attn_prompt_eq_skeleton]; unfold cc0_attn_prompt_skel
    simp only [k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg12.eq_unread hfs
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; swap; · iexact H8
      ipureintro; funext y
      refine View.read_writes_apply_of_pieces _ _ _ _ ?_ _ (View.cover_of_tiledL (s := S1x256x2048) _ ![1, 256, 128] (by sl_kernel_rfl) y)
      clear y
      refine List.forall_mem_cons.2 ⟨fun x => head_block harg3 harg4 harg5 harg6 harg7 harg8 harg9 harg12 (edgeMask (Scalar.muli (Scalar.subi 2#32 (BitVec.ofNat 32 (i 2).val)) 256#32)) x0 x1 x2 x3 x4 x5 x6 b 15 x, ?_⟩
      refine List.forall_mem_cons.2 ⟨fun x => head_block harg3 harg4 harg5 harg6 harg7 harg8 harg9 harg12 (edgeMask (Scalar.muli (Scalar.subi 2#32 (BitVec.ofNat 32 (i 2).val)) 256#32)) x0 x1 x2 x3 x4 x5 x6 b 14 x, ?_⟩
      refine List.forall_mem_cons.2 ⟨fun x => head_block harg3 harg4 harg5 harg6 harg7 harg8 harg9 harg12 (edgeMask (Scalar.muli (Scalar.subi 2#32 (BitVec.ofNat 32 (i 2).val)) 256#32)) x0 x1 x2 x3 x4 x5 x6 b 13 x, ?_⟩
      refine List.forall_mem_cons.2 ⟨fun x => head_block harg3 harg4 harg5 harg6 harg7 harg8 harg9 harg12 (edgeMask (Scalar.muli (Scalar.subi 2#32 (BitVec.ofNat 32 (i 2).val)) 256#32)) x0 x1 x2 x3 x4 x5 x6 b 12 x, ?_⟩
      refine List.forall_mem_cons.2 ⟨fun x => head_block harg3 harg4 harg5 harg6 harg7 harg8 harg9 harg12 (edgeMask (Scalar.muli (Scalar.subi 2#32 (BitVec.ofNat 32 (i 2).val)) 256#32)) x0 x1 x2 x3 x4 x5 x6 b 11 x, ?_⟩
      refine List.forall_mem_cons.2 ⟨fun x => head_block harg3 harg4 harg5 harg6 harg7 harg8 harg9 harg12 (edgeMask (Scalar.muli (Scalar.subi 2#32 (BitVec.ofNat 32 (i 2).val)) 256#32)) x0 x1 x2 x3 x4 x5 x6 b 10 x, ?_⟩
      refine List.forall_mem_cons.2 ⟨fun x => head_block harg3 harg4 harg5 harg6 harg7 harg8 harg9 harg12 (edgeMask (Scalar.muli (Scalar.subi 2#32 (BitVec.ofNat 32 (i 2).val)) 256#32)) x0 x1 x2 x3 x4 x5 x6 b 9 x, ?_⟩
      refine List.forall_mem_cons.2 ⟨fun x => head_block harg3 harg4 harg5 harg6 harg7 harg8 harg9 harg12 (edgeMask (Scalar.muli (Scalar.subi 2#32 (BitVec.ofNat 32 (i 2).val)) 256#32)) x0 x1 x2 x3 x4 x5 x6 b 8 x, ?_⟩
      refine List.forall_mem_cons.2 ⟨fun x => head_block harg3 harg4 harg5 harg6 harg7 harg8 harg9 harg12 (edgeMask (Scalar.muli (Scalar.subi 2#32 (BitVec.ofNat 32 (i 2).val)) 256#32)) x0 x1 x2 x3 x4 x5 x6 b 7 x, ?_⟩
      refine List.forall_mem_cons.2 ⟨fun x => head_block harg3 harg4 harg5 harg6 harg7 harg8 harg9 harg12 (edgeMask (Scalar.muli (Scalar.subi 2#32 (BitVec.ofNat 32 (i 2).val)) 256#32)) x0 x1 x2 x3 x4 x5 x6 b 6 x, ?_⟩
      refine List.forall_mem_cons.2 ⟨fun x => head_block harg3 harg4 harg5 harg6 harg7 harg8 harg9 harg12 (edgeMask (Scalar.muli (Scalar.subi 2#32 (BitVec.ofNat 32 (i 2).val)) 256#32)) x0 x1 x2 x3 x4 x5 x6 b 5 x, ?_⟩
      refine List.forall_mem_cons.2 ⟨fun x => head_block harg3 harg4 harg5 harg6 harg7 harg8 harg9 harg12 (edgeMask (Scalar.muli (Scalar.subi 2#32 (BitVec.ofNat 32 (i 2).val)) 256#32)) x0 x1 x2 x3 x4 x5 x6 b 4 x, ?_⟩
      refine List.forall_mem_cons.2 ⟨fun x => head_block harg3 harg4 harg5 harg6 harg7 harg8 harg9 harg12 (edgeMask (Scalar.muli (Scalar.subi 2#32 (BitVec.ofNat 32 (i 2).val)) 256#32)) x0 x1 x2 x3 x4 x5 x6 b 3 x, ?_⟩
      refine List.forall_mem_cons.2 ⟨fun x => head_block harg3 harg4 harg5 harg6 harg7 harg8 harg9 harg12 (edgeMask (Scalar.muli (Scalar.subi 2#32 (BitVec.ofNat 32 (i 2).val)) 256#32)) x0 x1 x2 x3 x4 x5 x6 b 2 x, ?_⟩
      refine List.forall_mem_cons.2 ⟨fun x => head_block harg3 harg4 harg5 harg6 harg7 harg8 harg9 harg12 (edgeMask (Scalar.muli (Scalar.subi 2#32 (BitVec.ofNat 32 (i 2).val)) 256#32)) x0 x1 x2 x3 x4 x5 x6 b 1 x, ?_⟩
      refine List.forall_mem_cons.2 ⟨fun x => head_block harg3 harg4 harg5 harg6 harg7 harg8 harg9 harg12 (edgeMask (Scalar.muli (Scalar.subi 2#32 (BitVec.ofNat 32 (i 2).val)) 256#32)) x0 x1 x2 x3 x4 x5 x6 b 0 x, ?_⟩
      exact List.forall_mem_nil _
    iexists _; isplitr; swap; · iexact HS
    ipureintro; exact harg12.read_unread _

end Cert.KernelIdeal.Att

end
-- ==== Proof.Att.Bias.lean ====
module

public import proofs.«01_k».proof.Proof.Att.Setup
public import Idealize.ShloMosaic.Lib.Ring
public import Idealize.ShloMosaic.Lib.Tactic
public import Idealize.ShloMosaic.Lib.WritesUnit
public import Idealize.ShloMosaic.Lib.ValueIdxCore
public import Idealize.ShloMosaic.Lib.ValueLayout
public import Idealize.ShloMosaic.Lib.ValueLayoutCasts

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ (UR sig nD τ) ℕ

/-- The first column of the strip of chunk `c` (64 query rows). -/
def stripAt (r : Nat) : Nat := 384 + 128 * (r / 128)

/-- Which entry of the strips row `r`, column `j` of the bias of head `h` holds: inside the strip its own entry,
    outside it the far value. -/
def stripEntry (h : Fin 16) (r : Fin 256) (j : Fin 768) : S16x2x64x256.Idx :=
  if hj : stripAt r.val ≤ j.val ∧ j.val < stripAt r.val + 256 then
    ix4 h ⟨r.val / 64 % 2, Nat.mod_lt _ (by decide)⟩ ⟨r.val % 64, Nat.mod_lt _ (by decide)⟩ ⟨j.val - stripAt r.val, by omega⟩
  else ix4 h 1 0 0

/-- The bias of a head group, from its strips: the band's entries, scaled; `mask` outside the band. -/
def biasOf (x : Vec F S16x2x64x256 .f32) : Vec F S16x256x768 .f32 := fun y =>
  Scalar.select (k0_pay4 (iota .tc S256x768 32 [1] iota_S256x768_d1_w32) (ix2 (n0 := 256) (n1 := 768) (y 1) (y 2)))
    (FloatOps.mulf (x (stripEntry (y 0) (y 1) (y 2))) (Named.named κ "log2e" 0x3FB8AA3B#32))
    (Named.named κ "mask" 0xF149F2CA#32)

/-- The rectangle of one 64-row strip, and of a whole plane's source. -/
abbrev stripRect (h : Fin 16) (o c : Nat) (ho : o + 64 ≤ 256) (hc : c + 256 ≤ 768) : Rect S16x256x768 :=
  Rect.unit (s := S16x256x768) ![h.val, o, c] S1x64x256.size (by intro a; have := h.isLt; fin_cases a <;> simp <;> omega)
abbrev srcRect (h : Fin 16) (p : Fin 2) : Rect S16x2x64x256 :=
  Rect.unit (s := S16x2x64x256) ![h.val, p.val, 0, 0] S1x1x64x256.size (by intro a; have := h.isLt; have := p.isLt; fin_cases a <;> simp <;> omega)
abbrev farRect (h : Fin 16) : Rect S16x2x64x256 :=
  Rect.unit (s := S16x2x64x256) ![h.val, 1, 0, 0] S1x1x1x1.size (by intro a; have := h.isLt; fin_cases a <;> simp <;> omega)

/-- A strip's stored entries are the strip's, scaled. -/
theorem strip_apply (x : Vec F S16x2x64x256 .f32) (h : Fin 16) (p : Fin 2) (r : Fin 64) (c : Fin 256) :
    k0_pay6 (View.ld x (srcRect h p)) (ix3 (n0 := 1) 0 r c) = FloatOps.mulf (x (ix4 h p r c)) (Named.named κ "log2e" 0x3FB8AA3B#32) := by
  unfold k0_pay6
  rw [shapeCast_apply _ _ _ (ix2 r c) (by rw [Shape.rowMajor_val_two, Shape.rowMajor_val_three]; simp [ix2, ix3])]
  show FloatOps.mulf (shapeCast S64x256 _ _ (ix2 r c)) _ = _
  rw [shapeCast_apply _ _ _ (ix4 (n0 := 1) (n1 := 1) 0 0 r c) (by rw [Shape.rowMajor_val_two, Shape.rowMajor_val_four]; simp [ix2, ix4])]
  refine congrArg (fun z => FloatOps.mulf (x z) _) (funext fun a => Fin.ext ?_)
  match a with
  | ⟨0, _⟩ => show h.val + 1 * 0 = h.val; omega
  | ⟨1, _⟩ => show p.val + 1 * 0 = p.val; omega
  | ⟨2, _⟩ => show 0 + 1 * r.val = r.val; omega
  | ⟨3, _⟩ => show 0 + 1 * c.val = c.val; omega

/-- The far value's stored entries. -/
theorem far_apply (x : Vec F S16x2x64x256 .f32) (h : Fin 16) (j : S1x256x768.Idx) :
    k0_pay5 (View.ld x (farRect h)) j = FloatOps.mulf (x (ix4 h 1 0 0)) (Named.named κ "log2e" 0x3FB8AA3B#32) := by
  unfold k0_pay5
  rw [shapeCast_apply _ _ j (ix2 (n0 := 256) (n1 := 768) (j 1) (j 2)) (by
    have : (j 0).val < 1 := (j 0).isLt
    rw [Shape.rowMajor_val_two, Shape.rowMajor_val_three]; simp [ix2, ix3]; omega)]
  rw [broadcastTo_apply _ _ _ (ix2 (n0 := 1) (n1 := 1) 0 0) (by intro a; fin_cases a <;> rfl)]
  rw [shapeCast_apply _ _ _ (ix2 (n0 := 1) (n1 := 1) 0 0) rfl]
  show FloatOps.mulf (shapeCast S1x1 _ _ _) _ = _
  rw [shapeCast_apply _ _ _ (ix4 (n0 := 1) (n1 := 1) (n2 := 1) (n3 := 1) 0 0 0 0) (by rw [Shape.rowMajor_val_two, Shape.rowMajor_val_four]; rfl)]
  refine congrArg (fun z => FloatOps.mulf (x z) _) (funext fun a => Fin.ext ?_)
  match a with
  | ⟨0, _⟩ => show h.val + 1 * 0 = h.val; omega
  | ⟨1, _⟩ => rfl
  | ⟨2, _⟩ => rfl
  | ⟨3, _⟩ => rfl

/-- The four strips and the far value, written in the plane of head `h` over anything. -/
abbrev rawPieces (x : Vec F S16x2x64x256 .f32) (h : Fin 16) (L : List (View.Piece (Elt F) S16x256x768 .f32)) : List (View.Piece (Elt F) S16x256x768 .f32) :=
  ⟨stripRect h 192 512 (by decide) (by decide), k0_pay6 (View.ld x (srcRect h 1))⟩ ::
  ⟨stripRect h 128 512 (by decide) (by decide), k0_pay6 (View.ld x (srcRect h 0))⟩ ::
  ⟨stripRect h 64 384 (by decide) (by decide), k0_pay6 (View.ld x (srcRect h 1))⟩ ::
  ⟨stripRect h 0 384 (by decide) (by decide), k0_pay6 (View.ld x (srcRect h 0))⟩ ::
  ⟨planeRect h, k0_pay5 (View.ld x (farRect h))⟩ :: L

/-- One strip: inside it its entry, else what was there. -/
theorem read_strip {sp : Space} (v : View sig .tc sp S16x256x768 .f32) (f : v.ty.Contents (Elt F)) (x : Vec F S16x2x64x256 .f32)
    (h : Fin 16) (p : Fin 2) (o c : Nat) (ho : o + 64 ≤ 256) (hc : c + 256 ≤ 768) (L : List (View.Piece (Elt F) S16x256x768 .f32)) (r : Fin 256) (j : Fin 768) :
    v.read (Elt F) (v.writes (Elt F) f (⟨stripRect h o c ho hc, k0_pay6 (View.ld x (srcRect h p))⟩ :: L)) (ix3 h r j)
      = if hj : (o ≤ r.val ∧ r.val < o + 64) ∧ (c ≤ j.val ∧ j.val < c + 256) then
          FloatOps.mulf (x (ix4 h p ⟨r.val - o, by omega⟩ ⟨j.val - c, by omega⟩)) (Named.named κ "log2e" 0x3FB8AA3B#32)
        else v.read (Elt F) (v.writes (Elt F) f L) (ix3 h r j) := by
  split
  · rename_i hj
    rw [View.read_writes_cons_unit_of_mem v f (off := ![h.val, o, c]) (off' := ![h.val, o, c]) (size := S1x64x256.size) _ _ L (ix3 h r j) (ix3 (n0 := 1) (n1 := 64) (n2 := 256) 0 ⟨r.val - o, by omega⟩ ⟨j.val - c, by omega⟩) rfl (by
      intro a; match a with
      | ⟨0, _⟩ => show h.val = h.val + 0; omega
      | ⟨1, _⟩ => show r.val = o + (r.val - o); omega
      | ⟨2, _⟩ => show j.val = c + (j.val - c); omega)]
    exact strip_apply x h p _ _
  · rename_i hj
    by_cases h1 : o ≤ r.val ∧ r.val < o + 64
    · exact View.read_writes_cons_unit_of_not_mem v f (off := ![h.val, o, c]) (off' := ![h.val, o, c]) (size := S1x64x256.size) _ _ L (ix3 h r j) rfl 2 (by show j.val < c ∨ c + 256 ≤ j.val; omega)
    · exact View.read_writes_cons_unit_of_not_mem v f (off := ![h.val, o, c]) (off' := ![h.val, o, c]) (size := S1x64x256.size) _ _ L (ix3 h r j) rfl 1 (by show r.val < o ∨ o + 64 ≤ r.val; omega)

/-- What the plane of head `h` reads before the band is cut out. -/
theorem read_raw {sp : Space} (v : View sig .tc sp S16x256x768 .f32) (f : v.ty.Contents (Elt F)) (x : Vec F S16x2x64x256 .f32)
    (h : Fin 16) (L : List (View.Piece (Elt F) S16x256x768 .f32)) (r : Fin 256) (j : Fin 768) :
    v.read (Elt F) (v.writes (Elt F) f (rawPieces x h L)) (ix3 h r j)
      = FloatOps.mulf (x (stripEntry h r j)) (Named.named κ "log2e" 0x3FB8AA3B#32) := by
  have hr := r.isLt
  have hfar : v.read (Elt F) (v.writes (Elt F) f (⟨planeRect h, k0_pay5 (View.ld x (farRect h))⟩ :: L)) (ix3 h r j)
      = FloatOps.mulf (x (ix4 h 1 0 0)) (Named.named κ "log2e" 0x3FB8AA3B#32) := by
    rw [View.read_writes_cons_unit_of_mem v f (off := ![h.val, 0, 0]) (off' := ![h.val, 0, 0]) (size := S1x256x768.size) _ _ L (ix3 h r j) (ix3 (n0 := 1) (n1 := 256) (n2 := 768) 0 r j) rfl (by
      intro a; match a with
      | ⟨0, _⟩ => show h.val = h.val + 0; omega
      | ⟨1, _⟩ => show r.val = 0 + r.val; omega
      | ⟨2, _⟩ => show j.val = 0 + j.val; omega)]
    exact far_apply x h _
  rw [read_strip, read_strip, read_strip, read_strip, hfar]
  unfold stripEntry stripAt
  have key : ∀ (a b : S16x2x64x256.Idx), a = b → FloatOps.mulf (x a) (Named.named κ "log2e" 0x3FB8AA3B#32) = FloatOps.mulf (F := F) (x b) (Named.named κ "log2e" 0x3FB8AA3B#32) := fun a b e => by rw [e]
  have e4 : ∀ (p p' : Fin 2) (a a' : Fin 64) (c c' : Fin 256), p.val = p'.val → a.val = a'.val → c.val = c'.val → (ix4 h p a c : S16x2x64x256.Idx) = ix4 h p' a' c' := by
    intro p p' a a' c c' h1 h2 h3; rw [Fin.ext h1, Fin.ext h2, Fin.ext h3]
  split_ifs <;> first
    | rfl
    | (exfalso; omega)
    | (apply key; apply e4 <;> first | (show (1 : Nat) = r.val / 64 % 2; omega) | (show (0 : Nat) = r.val / 64 % 2; omega) | (dsimp only; omega))

/-- The stored plane of head `h` is the bias's. -/
theorem plane_piece {sp : Space} (v : View sig .tc sp S16x256x768 .f32) {sp' : Space} {M : Memref sig .tc sp' S16x2x64x256 .f32} (hM : M.IsWhole) (x : Vec F S16x2x64x256 .f32)
    (h : Fin 16) (L : List (View.Piece (Elt F) S16x256x768 .f32)) (j : S1x256x768.Idx) :
    k0_pay11 (k0_pay4 (iota .tc S256x768 32 [1] iota_S256x768_d1_w32))
      (v.readCov (⟨stripRect h 192 512 (by decide) (by decide), k0_pay6 (View.readAt (Elt F) M.view (srcRect h 1) (hM.unread x))⟩ ::
        ⟨stripRect h 128 512 (by decide) (by decide), k0_pay6 (View.readAt (Elt F) M.view (srcRect h 0) (hM.unread x))⟩ ::
        ⟨stripRect h 64 384 (by decide) (by decide), k0_pay6 (View.readAt (Elt F) M.view (srcRect h 1) (hM.unread x))⟩ ::
        ⟨stripRect h 0 384 (by decide) (by decide), k0_pay6 (View.readAt (Elt F) M.view (srcRect h 0) (hM.unread x))⟩ ::
        ⟨planeRect h, k0_pay5 (View.readAt (Elt F) M.view (farRect h) (hM.unread x))⟩ :: L) (planeRect h)) j
      = biasOf x ((planeRect h).emb j) := by
  simp only [View.readAt_eq_ld, hM.read_unread]
  have h0 : (j 0).val < 1 := (j 0).isLt
  have e : (planeRect h).emb j = ix3 h (j 1) (j 2) := by
    funext a; apply Fin.ext; match a with
    | ⟨0, _⟩ => show h.val + 1 * (j 0).val = h.val; omega
    | ⟨1, _⟩ => show 0 + 1 * (j 1).val = (j 1).val; omega
    | ⟨2, _⟩ => show 0 + 1 * (j 2).val = (j 2).val; omega
  rw [e]
  unfold k0_pay11
  rw [shapeCast_apply _ _ j (ix2 (n0 := 256) (n1 := 768) (j 1) (j 2)) (by
    rw [Shape.rowMajor_val_two, Shape.rowMajor_val_three]; simp [ix2]; omega)]
  show Scalar.select _ (shapeCast S256x768 _ _ _) _ = _
  rw [shapeCast_apply _ _ _ j (by
    rw [Shape.rowMajor_val_two, Shape.rowMajor_val_three]; simp [ix2]; omega)]
  have := read_raw v v.junk x h L (j 1) (j 2)
  unfold biasOf
  show Scalar.select _ (v.read (Elt F) (v.writes (Elt F) v.junk _) ((planeRect h).emb j)) _ = _
  rw [e]
  exact congrArg (fun z => Scalar.select _ z _) this

/-- `L` leaves the bias in the planes below `n`. -/
def Leaves {sp : Space} (v : View sig .tc sp S16x256x768 .f32) (x : Vec F S16x2x64x256 .f32) (f : v.ty.Contents (Elt F)) (n : Nat) (L : List (View.Piece (Elt F) S16x256x768 .f32)) : Prop :=
  ∀ y : S16x256x768.Idx, (y 0).val < n → v.read (Elt F) (v.writes (Elt F) f L) y = biasOf x y

theorem leaves_plane {sp : Space} (v : View sig .tc sp S16x256x768 .f32) (x : Vec F S16x2x64x256 .f32) (f : v.ty.Contents (Elt F)) (h : Fin 16)
    (w : S1x256x768.Idx → Elt F .f32) (hw : ∀ j, w j = biasOf x ((planeRect h).emb j)) (L : List (View.Piece (Elt F) S16x256x768 .f32)) (hL : Leaves v x f h.val L) :
    Leaves v x f (h.val + 1) (⟨planeRect h, w⟩ :: L) := by
  intro y hy
  by_cases e : (y 0).val = h.val
  · rw [View.read_writes_cons_unit_of_mem v f (off := ![h.val, 0, 0]) (off' := ![h.val, 0, 0]) (size := S1x256x768.size) _ _ L y (ix3 (n0 := 1) (n1 := 256) (n2 := 768) 0 (y 1) (y 2)) rfl (by
      intro a; match a with
      | ⟨0, _⟩ => show (y 0).val = h.val + 0; omega
      | ⟨1, _⟩ => show (y 1).val = 0 + (y 1).val; omega
      | ⟨2, _⟩ => show (y 2).val = 0 + (y 2).val; omega)]
    refine (hw _).trans (congrArg _ (funext fun a => Fin.ext ?_))
    match a with
    | ⟨0, _⟩ => show h.val + 1 * 0 = (y 0).val; omega
    | ⟨1, _⟩ => show 0 + 1 * (y 1).val = (y 1).val; omega
    | ⟨2, _⟩ => show 0 + 1 * (y 2).val = (y 2).val; omega
  · rw [View.read_writes_cons_unit_of_not_mem v f (off := ![h.val, 0, 0]) (off' := ![h.val, 0, 0]) (size := S1x256x768.size) _ _ L y rfl 0 (by show (y 0).val < h.val ∨ h.val + 1 ≤ (y 0).val; omega)]
    exact hL y (by omega)

theorem leaves_other {sp : Space} (v : View sig .tc sp S16x256x768 .f32) (x : Vec F S16x2x64x256 .f32) (f : v.ty.Contents (Elt F)) (h : Nat) {off size : Fin 3 → Nat}
    (inb : ∀ a, off a + size a ≤ S16x256x768.size a) (ho : off 0 = h)
    (w : (Rect.unit (s := S16x256x768) off size inb).shape.Idx → Elt F .f32) (L : List (View.Piece (Elt F) S16x256x768 .f32)) (hL : Leaves v x f h L) :
    Leaves v x f h (⟨Rect.unit (s := S16x256x768) off size inb, w⟩ :: L) := by
  intro y hy
  rw [View.read_writes_cons_unit_of_not_mem v f inb w L y rfl 0 (by left; rw [ho]; exact hy)]
  exact hL y hy

end Cert.KernelIdeal.Att

end
-- ==== Proof.Att.RunFirst.lean ====
module

public import proofs.«01_k».proof.Proof.Att.Bias
public import Idealize.ShloMosaic.Lib.Ring
public import Idealize.ShloMosaic.Lib.Tactic
public import Idealize.ShloMosaic.Lib.WordCmp

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4868000 in
theorem run_first (c : Dev nD) (i : grid0.Coords) (arg3 : Memref sig .tc .vmem S1x256x2048 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S1x256x2048 .bf16) (harg7 : arg7.IsWhole) (arg8 : Memref sig .tc .vmem S1x256x2048 .bf16) (harg8 : arg8.IsWhole) (arg9 : Memref sig .tc .vmem S1x256x2048 .bf16) (harg9 : arg9.IsWhole) (arg10 : Memref sig .tc .vmem S16x2x64x256 .f32) (harg10 : arg10.IsWhole) (arg11 : Memref sig .tc .vmem S1x256x2048 .bf16) (harg11 : arg11.IsWhole) (arg12 : Memref sig .tc .vmem S16x256x768 .f32) (harg12 : arg12.IsWhole) (hc0 : condFirst i) (hc1 : ¬k0_cond2 i = 1#1) (hc2 : k0_cond3 i = 1#1)
    (x0 : Vec F S1x256x2048 .bf16) (x1 : Vec F S1x256x2048 .bf16) (x2 : Vec F S1x256x2048 .bf16) (x3 : Vec F S1x256x2048 .bf16) (x4 : Vec F S1x256x2048 .bf16) (x5 : Vec F S1x256x2048 .bf16) (x6 : Vec F S1x256x2048 .bf16) (x7 : Vec F S16x2x64x256 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare (block (edgeMask (Scalar.muli (Scalar.subi 2#32 (BitVec.ofNat 32 (i 2).val)) 256#32)) x0 x1 x2 x3 x4 x5 x6 (biasOf x7)) ∗ owns (c : Thread nD τ) arg12 fullShare (biasOf x7)) -∗ K ⟨⟩))
          ⊢ wp frame (wpE (defs₀ (F := F)) Variants.none c none) E (cc0_attn_prompt i arg3 harg3 arg4 harg4 arg5 harg5 arg6 harg6 arg7 harg7 arg8 harg8 arg9 harg9 arg10 harg10 arg11 harg11 arg12 harg12) K := by
    intro E K
    simp only [cc0_attn_prompt_eq_skeleton]; unfold cc0_attn_prompt_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | sl_exact hc0 | sl_exact hc1 | sl_exact hc2)
    sl_step
    have hB : ∀ f, arg12.view.read (Elt F) (arg12.view.writes (Elt F) f (run_first.sl.HS_96 c arg10 harg10 arg12 x7)) = biasOf x7 := by
      intro f; funext y
      suffices hL : Leaves arg12.view x7 f 16 (run_first.sl.HS_96 c arg10 harg10 arg12 x7) from hL y (y 0).isLt
      refine leaves_plane arg12.view x7 f 15 _ (fun x => plane_piece arg12.view harg10 x7 15 _ x) _ ?_
      iterate 5 (first | refine leaves_other arg12.view x7 f 15 _ rfl _ _ ?_ | skip)
      refine leaves_plane arg12.view x7 f 14 _ (fun x => plane_piece arg12.view harg10 x7 14 _ x) _ ?_
      iterate 5 (first | refine leaves_other arg12.view x7 f 14 _ rfl _ _ ?_ | skip)
      refine leaves_plane arg12.view x7 f 13 _ (fun x => plane_piece arg12.view harg10 x7 13 _ x) _ ?_
      iterate 5 (first | refine leaves_other arg12.view x7 f 13 _ rfl _ _ ?_ | skip)
      refine leaves_plane arg12.view x7 f 12 _ (fun x => plane_piece arg12.view harg10 x7 12 _ x) _ ?_
      iterate 5 (first | refine leaves_other arg12.view x7 f 12 _ rfl _ _ ?_ | skip)
      refine leaves_plane arg12.view x7 f 11 _ (fun x => plane_piece arg12.view harg10 x7 11 _ x) _ ?_
      iterate 5 (first | refine leaves_other arg12.view x7 f 11 _ rfl _ _ ?_ | skip)
      refine leaves_plane arg12.view x7 f 10 _ (fun x => plane_piece arg12.view harg10 x7 10 _ x) _ ?_
      iterate 5 (first | refine leaves_other arg12.view x7 f 10 _ rfl _ _ ?_ | skip)
      refine leaves_plane arg12.view x7 f 9 _ (fun x => plane_piece arg12.view harg10 x7 9 _ x) _ ?_
      iterate 5 (first | refine leaves_other arg12.view x7 f 9 _ rfl _ _ ?_ | skip)
      refine leaves_plane arg12.view x7 f 8 _ (fun x => plane_piece arg12.view harg10 x7 8 _ x) _ ?_
      iterate 5 (first | refine leaves_other arg12.view x7 f 8 _ rfl _ _ ?_ | skip)
      refine leaves_plane arg12.view x7 f 7 _ (fun x => plane_piece arg12.view harg10 x7 7 _ x) _ ?_
      iterate 5 (first | refine leaves_other arg12.view x7 f 7 _ rfl _ _ ?_ | skip)
      refine leaves_plane arg12.view x7 f 6 _ (fun x => plane_piece arg12.view harg10 x7 6 _ x) _ ?_
      iterate 5 (first | refine leaves_other arg12.view x7 f 6 _ rfl _ _ ?_ | skip)
      refine leaves_plane arg12.view x7 f 5 _ (fun x => plane_piece arg12.view harg10 x7 5 _ x) _ ?_
      iterate 5 (first | refine leaves_other arg12.view x7 f 5 _ rfl _ _ ?_ | skip)
      refine leaves_plane arg12.view x7 f 4 _ (fun x => plane_piece arg12.view harg10 x7 4 _ x) _ ?_
      iterate 5 (first | refine leaves_other arg12.view x7 f 4 _ rfl _ _ ?_ | skip)
      refine leaves_plane arg12.view x7 f 3 _ (fun x => plane_piece arg12.view harg10 x7 3 _ x) _ ?_
      iterate 5 (first | refine leaves_other arg12.view x7 f 3 _ rfl _ _ ?_ | skip)
      refine leaves_plane arg12.view x7 f 2 _ (fun x => plane_piece arg12.view harg10 x7 2 _ x) _ ?_
      iterate 5 (first | refine leaves_other arg12.view x7 f 2 _ rfl _ _ ?_ | skip)
      refine leaves_plane arg12.view x7 f 1 _ (fun x => plane_piece arg12.view harg10 x7 1 _ x) _ ?_
      iterate 5 (first | refine leaves_other arg12.view x7 f 1 _ rfl _ _ ?_ | skip)
      refine leaves_plane arg12.view x7 f 0 _ (fun x => plane_piece arg12.view harg10 x7 0 _ x) _ ?_
      iterate 5 (first | refine leaves_other arg12.view x7 f 0 _ rfl _ _ ?_ | skip)
      intro y hy; exact absurd hy (Nat.not_lt_zero _)
    have hP : ∀ h : Fin 16, arg12.view.readCov (run_first.sl.HS_96 c arg10 harg10 arg12 x7) (planeRect h) = plane (biasOf x7) h := by
      intro h
      show View.readAt (Elt F) arg12.view (planeRect h) _ = _
      rw [View.readAt_eq_ld, hB]; rfl
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; swap; · iexact H8
      ipureintro; funext y
      refine View.read_writes_apply_of_pieces _ _ _ _ ?_ _ (View.cover_of_tiledL (s := S1x256x2048) _ ![1, 256, 128] (by sl_kernel_rfl) y)
      clear y
      refine List.forall_mem_cons.2 ⟨fun x => head_block_of harg3 harg4 harg5 harg6 harg7 harg8 harg9 (edgeMask (Scalar.muli (Scalar.subi 2#32 (BitVec.ofNat 32 (i 2).val)) 256#32)) x0 x1 x2 x3 x4 x5 x6 (biasOf x7) 15 (hP 15) x, ?_⟩
      refine List.forall_mem_cons.2 ⟨fun x => head_block_of harg3 harg4 harg5 harg6 harg7 harg8 harg9 (edgeMask (Scalar.muli (Scalar.subi 2#32 (BitVec.ofNat 32 (i 2).val)) 256#32)) x0 x1 x2 x3 x4 x5 x6 (biasOf x7) 14 (hP 14) x, ?_⟩
      refine List.forall_mem_cons.2 ⟨fun x => head_block_of harg3 harg4 harg5 harg6 harg7 harg8 harg9 (edgeMask (Scalar.muli (Scalar.subi 2#32 (BitVec.ofNat 32 (i 2).val)) 256#32)) x0 x1 x2 x3 x4 x5 x6 (biasOf x7) 13 (hP 13) x, ?_⟩
      refine List.forall_mem_cons.2 ⟨fun x => head_block_of harg3 harg4 harg5 harg6 harg7 harg8 harg9 (edgeMask (Scalar.muli (Scalar.subi 2#32 (BitVec.ofNat 32 (i 2).val)) 256#32)) x0 x1 x2 x3 x4 x5 x6 (biasOf x7) 12 (hP 12) x, ?_⟩
      refine List.forall_mem_cons.2 ⟨fun x => head_block_of harg3 harg4 harg5 harg6 harg7 harg8 harg9 (edgeMask (Scalar.muli (Scalar.subi 2#32 (BitVec.ofNat 32 (i 2).val)) 256#32)) x0 x1 x2 x3 x4 x5 x6 (biasOf x7) 11 (hP 11) x, ?_⟩
      refine List.forall_mem_cons.2 ⟨fun x => head_block_of harg3 harg4 harg5 harg6 harg7 harg8 harg9 (edgeMask (Scalar.muli (Scalar.subi 2#32 (BitVec.ofNat 32 (i 2).val)) 256#32)) x0 x1 x2 x3 x4 x5 x6 (biasOf x7) 10 (hP 10) x, ?_⟩
      refine List.forall_mem_cons.2 ⟨fun x => head_block_of harg3 harg4 harg5 harg6 harg7 harg8 harg9 (edgeMask (Scalar.muli (Scalar.subi 2#32 (BitVec.ofNat 32 (i 2).val)) 256#32)) x0 x1 x2 x3 x4 x5 x6 (biasOf x7) 9 (hP 9) x, ?_⟩
      refine List.forall_mem_cons.2 ⟨fun x => head_block_of harg3 harg4 harg5 harg6 harg7 harg8 harg9 (edgeMask (Scalar.muli (Scalar.subi 2#32 (BitVec.ofNat 32 (i 2).val)) 256#32)) x0 x1 x2 x3 x4 x5 x6 (biasOf x7) 8 (hP 8) x, ?_⟩
      refine List.forall_mem_cons.2 ⟨fun x => head_block_of harg3 harg4 harg5 harg6 harg7 harg8 harg9 (edgeMask (Scalar.muli (Scalar.subi 2#32 (BitVec.ofNat 32 (i 2).val)) 256#32)) x0 x1 x2 x3 x4 x5 x6 (biasOf x7) 7 (hP 7) x, ?_⟩
      refine List.forall_mem_cons.2 ⟨fun x => head_block_of harg3 harg4 harg5 harg6 harg7 harg8 harg9 (edgeMask (Scalar.muli (Scalar.subi 2#32 (BitVec.ofNat 32 (i 2).val)) 256#32)) x0 x1 x2 x3 x4 x5 x6 (biasOf x7) 6 (hP 6) x, ?_⟩
      refine List.forall_mem_cons.2 ⟨fun x => head_block_of harg3 harg4 harg5 harg6 harg7 harg8 harg9 (edgeMask (Scalar.muli (Scalar.subi 2#32 (BitVec.ofNat 32 (i 2).val)) 256#32)) x0 x1 x2 x3 x4 x5 x6 (biasOf x7) 5 (hP 5) x, ?_⟩
      refine List.forall_mem_cons.2 ⟨fun x => head_block_of harg3 harg4 harg5 harg6 harg7 harg8 harg9 (edgeMask (Scalar.muli (Scalar.subi 2#32 (BitVec.ofNat 32 (i 2).val)) 256#32)) x0 x1 x2 x3 x4 x5 x6 (biasOf x7) 4 (hP 4) x, ?_⟩
      refine List.forall_mem_cons.2 ⟨fun x => head_block_of harg3 harg4 harg5 harg6 harg7 harg8 harg9 (edgeMask (Scalar.muli (Scalar.subi 2#32 (BitVec.ofNat 32 (i 2).val)) 256#32)) x0 x1 x2 x3 x4 x5 x6 (biasOf x7) 3 (hP 3) x, ?_⟩
      refine List.forall_mem_cons.2 ⟨fun x => head_block_of harg3 harg4 harg5 harg6 harg7 harg8 harg9 (edgeMask (Scalar.muli (Scalar.subi 2#32 (BitVec.ofNat 32 (i 2).val)) 256#32)) x0 x1 x2 x3 x4 x5 x6 (biasOf x7) 2 (hP 2) x, ?_⟩
      refine List.forall_mem_cons.2 ⟨fun x => head_block_of harg3 harg4 harg5 harg6 harg7 harg8 harg9 (edgeMask (Scalar.muli (Scalar.subi 2#32 (BitVec.ofNat 32 (i 2).val)) 256#32)) x0 x1 x2 x3 x4 x5 x6 (biasOf x7) 1 (hP 1) x, ?_⟩
      refine List.forall_mem_cons.2 ⟨fun x => head_block_of harg3 harg4 harg5 harg6 harg7 harg8 harg9 (edgeMask (Scalar.muli (Scalar.subi 2#32 (BitVec.ofNat 32 (i 2).val)) 256#32)) x0 x1 x2 x3 x4 x5 x6 (biasOf x7) 0 (hP 0) x, ?_⟩
      exact List.forall_mem_nil _
    iexists _; isplitr; swap; · iexact HS
    ipureintro; exact hB _

end Cert.KernelIdeal.Att

end
-- ==== Proof.Att.Frame.lean ====
module

public import proofs.«01_k».proof.Proof.Att.RunFull
public import proofs.«01_k».proof.Proof.Att.RunEdge
public import proofs.«01_k».proof.Proof.Att.RunFirst
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The mask of the columns at point `t`: the first two row blocks of a sequence have columns before its start. -/
def maskAt (t : Fin cfg0.N) : FVec F S256x768 .f32 → FVec F S256x768 .f32 :=
  if t.val % 8 ≤ 1 then edgeMask (Scalar.muli (Scalar.subi 2#32 (BitVec.ofNat 32 (grid0.coords t 2).val)) 256#32) else fun s => s

/-- What point `t` leaves in its block of the result. -/
def outBlock (c : Dev nD) (t : Fin cfg0.N) : Vec F S1x256x2048 .bf16 :=
  block (maskAt t) (iblk m c 0 t) (iblk m c 1 t) (iblk m c 2 t) (iblk m c 3 t) (iblk m c 4 t) (iblk m c 5 t) (iblk m c 6 t) (biasOf (iblk m c 7 t))

/-- Between points the scratch holds the bias of the point before. -/
def carried (c : Dev nD) (k : Fin (cfg0.N + 1)) : sProp 𝕄 :=
  iprop((∃ d, ⌜∀ t : Fin cfg0.N, t.val + 1 = k.val → d = biasOf (iblk m c 7 t)⌝ ∗ owns (c : Thread nD τ) scr fullShare d) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlock m c t
  Φ k := carried m c k
  q w := Pipeline.shareOf spec0 w
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = outBlock m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem leaves0 (c : Dev nD) (t : Fin cfg0.N) : (dats m 0 c).leavesExact 0 t = owns (c : Thread nD τ) (st0 t) fullShare (iblk m c 0 t) := by
  unfold Dat.leavesExact; rw [show cfg0.idle 0 (cfg0.grid.coords t) = false from rfl, after0]
theorem leaves1 (c : Dev nD) (t : Fin cfg0.N) : (dats m 0 c).leavesExact 1 t = owns (c : Thread nD τ) (st1 t) fullShare (iblk m c 1 t) := by
  unfold Dat.leavesExact; rw [show cfg0.idle 1 (cfg0.grid.coords t) = false from rfl, after1]
theorem leaves2 (c : Dev nD) (t : Fin cfg0.N) : (dats m 0 c).leavesExact 2 t = owns (c : Thread nD τ) (st2 t) fullShare (iblk m c 2 t) := by
  unfold Dat.leavesExact; rw [show cfg0.idle 2 (cfg0.grid.coords t) = false from rfl, after2]
theorem leaves3 (c : Dev nD) (t : Fin cfg0.N) : (dats m 0 c).leavesExact 3 t = owns (c : Thread nD τ) (st3 t) fullShare (iblk m c 3 t) := by
  unfold Dat.leavesExact; rw [show cfg0.idle 3 (cfg0.grid.coords t) = false from rfl, after3]
theorem leaves4 (c : Dev nD) (t : Fin cfg0.N) : (dats m 0 c).leavesExact 4 t = owns (c : Thread nD τ) (st4 t) fullShare (iblk m c 4 t) := by
  unfold Dat.leavesExact; rw [show cfg0.idle 4 (cfg0.grid.coords t) = false from rfl, after4]
theorem leaves5 (c : Dev nD) (t : Fin cfg0.N) : (dats m 0 c).leavesExact 5 t = owns (c : Thread nD τ) (st5 t) fullShare (iblk m c 5 t) := by
  unfold Dat.leavesExact; rw [show cfg0.idle 5 (cfg0.grid.coords t) = false from rfl, after5]
theorem leaves6 (c : Dev nD) (t : Fin cfg0.N) : (dats m 0 c).leavesExact 6 t = owns (c : Thread nD τ) (st6 t) fullShare (iblk m c 6 t) := by
  unfold Dat.leavesExact; rw [show cfg0.idle 6 (cfg0.grid.coords t) = false from rfl, after6]
theorem leaves7 (c : Dev nD) (t : Fin cfg0.N) : (dats m 0 c).leavesExact 7 t = owns (c : Thread nD τ) (st7 t) fullShare (iblk m c 7 t) := by
  unfold Dat.leavesExact; rw [show cfg0.idle 7 (cfg0.grid.coords t) = false from rfl, after7]
/-- Every point writes its block of the result. -/
theorem live8 (t : Fin cfg0.N) : cfg0.idle 8 (cfg0.grid.coords t) = false := by
  by_cases h : t.val % 8 ≤ 1
  · have := (condEdge_iff t).2 h
    show (!(k0_cond2 (grid0.coords t) == 1#1) && !(k0_cond3 (grid0.coords t) == 1#1)) = false
    rw [this]; simp
  · have := (condFull_iff t).2 (by omega)
    show (!(k0_cond2 (grid0.coords t) == 1#1) && !(k0_cond3 (grid0.coords t) == 1#1)) = false
    rw [this]; simp
theorem leaves8 (c : Dev nD) (t : Fin cfg0.N) : (dats m 0 c).leavesExact 8 t = owns (c : Thread nD τ) (st8 t) fullShare (outBlock m c t) := by
  unfold Dat.leavesExact; rw [live8 t, after8]

/-- The strips of a head group serve all of its points. -/
theorem index7 : ∀ t : Fin cfg0.N, win0_7.index t = ![t.val / 32, 0, 0, 0] := by decide +kernel
theorem strips_entry (c : Dev nD) (t : Fin cfg0.N) (y : S16x2x64x256.Idx) :
    (iblk m c 7 t : Vec F S16x2x64x256 .f32) y = V m c main_v154 (ix4 (n0 := 32) (n1 := 2) (n2 := 64) (n3 := 256) ⟨16 * (t.val / 32) + (y 0).val, by
      have : (y 0).val < 16 := (y 0).isLt; have := lt_of_lt_of_eq t.isLt (show cfg0.N = 64 from N_0); omega⟩ (y 1) (y 2) (y 3)) := by
  unfold iblk
  refine congrArg (V m c main_v154) ?_
  funext a; apply Fin.ext
  refine (Pipeline.Window.rect_emb_val win0_7 t y a).trans ?_
  rw [index7 t]
  match a with
  | ⟨0, _⟩ => show t.val / 32 * 16 + (y 0).val = 16 * (t.val / 32) + (y 0).val; omega
  | ⟨1, _⟩ => show 0 * 2 + (y 1).val = (y 1).val; omega
  | ⟨2, _⟩ => show 0 * 64 + (y 2).val = (y 2).val; omega
  | ⟨3, _⟩ => show 0 * 256 + (y 3).val = (y 3).val; omega
theorem strips_step (c : Dev nD) (t s : Fin cfg0.N) (h : t.val / 32 = s.val / 32) :
    (iblk m c 7 t : Vec F S16x2x64x256 .f32) = iblk m c 7 s := by
  funext y; rw [strips_entry, strips_entry]; simp only [h]

/-! ## One point -/

def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- The run of a point, over the three kinds of points. -/
theorem run_point (c : Dev nD) (t : Fin cfg0.N) (b : Vec F S16x256x768 .f32) (hb : t.val % 32 ≠ 0 → b = biasOf (iblk m c 7 t)) (K : PUnit → sProp 𝕄) :
    iprop(owns (c : Thread nD τ) (st0 t) fullShare (iblk m c 0 t) ∗ owns (c : Thread nD τ) (st1 t) fullShare (iblk m c 1 t) ∗ owns (c : Thread nD τ) (st2 t) fullShare (iblk m c 2 t) ∗ owns (c : Thread nD τ) (st3 t) fullShare (iblk m c 3 t) ∗ owns (c : Thread nD τ) (st4 t) fullShare (iblk m c 4 t) ∗ owns (c : Thread nD τ) (st5 t) fullShare (iblk m c 5 t) ∗ owns (c : Thread nD τ) (st6 t) fullShare (iblk m c 6 t) ∗ owns (c : Thread nD τ) (st7 t) fullShare (iblk m c 7 t) ∗ (∃ d, owns (c : Thread nD τ) (st8 t) fullShare d) ∗ owns (c : Thread nD τ) scr fullShare b
        ∗ (iprop(owns (c : Thread nD τ) (st0 t) fullShare (iblk m c 0 t) ∗ owns (c : Thread nD τ) (st1 t) fullShare (iblk m c 1 t) ∗ owns (c : Thread nD τ) (st2 t) fullShare (iblk m c 2 t) ∗ owns (c : Thread nD τ) (st3 t) fullShare (iblk m c 3 t) ∗ owns (c : Thread nD τ) (st4 t) fullShare (iblk m c 4 t) ∗ owns (c : Thread nD τ) (st5 t) fullShare (iblk m c 5 t) ∗ owns (c : Thread nD τ) (st6 t) fullShare (iblk m c 6 t) ∗ owns (c : Thread nD τ) (st7 t) fullShare (iblk m c 7 t) ∗ owns (c : Thread nD τ) (st8 t) fullShare (outBlock m c t) ∗ owns (c : Thread nD τ) scr fullShare (biasOf (iblk m c 7 t))) -∗ K ⟨⟩))
      ⊢ wp frame (wpE (defs₀ (F := F)) Variants.none c none) Set.univ (bodyAt0 t) K := by
  unfold bodyAt0 outBlock
  by_cases h0 : t.val % 32 = 0
  · rw [show maskAt t = edgeMask (Scalar.muli (Scalar.subi 2#32 (BitVec.ofNat 32 (grid0.coords t 2).val)) 256#32) from if_pos (by omega)]
    have R := run_first c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) scr (Memref.isWhole_whole _)
      ((condFirst_iff t).2 h0) (fun h => by have := (condFull_iff t).1 h; omega) ((condEdge_iff t).2 (by omega))
      (iblk m c 0 t) (iblk m c 1 t) (iblk m c 2 t) (iblk m c 3 t) (iblk m c 4 t) (iblk m c 5 t) (iblk m c 6 t) (iblk m c 7 t) Set.univ K
    refine BIBase.Entails.trans ?_ R
    iintro ⟨H0, H1, H2, H3, H4, H5, H6, H7, H8, HS, Hk⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS]; · iexists _; iexact HS
    iexact Hk
  · obtain rfl := hb h0
    by_cases h1 : t.val % 8 ≤ 1
    · rw [show maskAt t = edgeMask (Scalar.muli (Scalar.subi 2#32 (BitVec.ofNat 32 (grid0.coords t 2).val)) 256#32) from if_pos h1]
      exact run_edge c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) scr (Memref.isWhole_whole _)
        (fun h => h0 ((condFirst_iff t).1 h)) (fun h => by have := (condFull_iff t).1 h; omega) ((condEdge_iff t).2 h1)
        (iblk m c 0 t) (iblk m c 1 t) (iblk m c 2 t) (iblk m c 3 t) (iblk m c 4 t) (iblk m c 5 t) (iblk m c 6 t) (iblk m c 7 t) _ Set.univ K
    · rw [show maskAt t = (fun s => s : FVec F S256x768 .f32 → FVec F S256x768 .f32) from if_neg h1]
      exact run_full c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) scr (Memref.isWhole_whole _)
        (fun h => h0 ((condFirst_iff t).1 h)) ((condFull_iff t).2 (by omega)) (fun h => h1 ((condEdge_iff t).1 h))
        (iblk m c 0 t) (iblk m c 1 t) (iblk m c 2 t) (iblk m c 3 t) (iblk m c 4 t) (iblk m c 5 t) (iblk m c 6 t) (iblk m c 7 t) _ Set.univ K

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3, before4, before5, before6, before7, leaves0, leaves1, leaves2, leaves3, leaves4, leaves5, leaves6, leaves7, leaves8]
  rw [show (dats m 0 c).owesAt () t.succ = (dats m 0 c).owesAt () t.castSucc from rfl,
    show (dats m 0 c).Φ t.castSucc = carried m c t.castSucc from rfl, show (dats m 0 c).Φ t.succ = carried m c t.succ from rfl]
  unfold carried
  have hN : t.val < 64 := lt_of_lt_of_eq t.isLt (show cfg0.N = 64 from N_0)
  iintro ⟨⟨⟨%b, %hb, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_point m c t b (fun h => by
    rw [hb ⟨t.val - 1, by have := t.isLt; omega⟩ (by show t.val - 1 + 1 = t.val; omega)]
    rw [strips_step m c ⟨t.val - 1, by have := t.isLt; omega⟩ t (by show (t.val - 1) / 32 = t.val / 32; omega)]) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS]; · iexact HS
  iintro ⟨H0, H1, H2, H3, H4, H5, H6, H7, H8, HS⟩
  isplitl [HS Hg]
  · isplitl [HS]
    · iexists _
      isplitr
      · ipureintro
        intro s hs
        rw [show s = t from Fin.ext (by have : s.val + 1 = t.val + 1 := hs; omega)]
      iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run -/

theorem scratch_whole (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

theorem carried_in (c : Dev nD) : Pipeline.ΦA spec0 c ⊢ (dats (F := F) m 0 c).Φ 0 := by
  rw [scratch_whole, show (dats (F := F) m 0 c).Φ 0 = carried m c 0 from rfl]
  unfold carried
  iintro ⟨⟨%d, HS⟩, Hg⟩
  isplitl [HS]
  · iexists d
    isplitr
    · ipureintro
      intro t ht
      exact absurd ht (Nat.succ_ne_zero _)
    iexact HS
  iexact Hg

theorem carried_out (c : Dev nD) : (dats (F := F) m 0 c).Φ (Fin.last cfg0.N) ⊢ Pipeline.ΦA spec0 c := by
  rw [scratch_whole, show (dats (F := F) m 0 c).Φ (Fin.last cfg0.N) = carried m c (Fin.last cfg0.N) from rfl]
  unfold carried
  iintro ⟨⟨%d, -, HS⟩, Hg⟩
  isplitl [HS]
  · iexists d; iexact HS
  iexact Hg

set_option backward.isDefEq.respectTransparency.types false in
/-- Every execution ends, with the arrays as the points leave them and every counter at zero. -/
theorem run_main : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl) (howed := fun _ _ => rfl) (V := V m) (hmain := hmain m Variants.none)
    (hA := A_eq m) (hin := carried_in m) (hout := carried_out m)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.KernelIdeal.Att

end
-- ==== Proof.Att.Head.lean ====
module

public import proofs.«01_k».proof.Proof.Att.Frame
public import Idealize.ShloMosaic.Lib.ValueIdxCore
public import Idealize.ShloMosaic.Lib.ValueLayout
public import Idealize.ShloMosaic.Lib.ValueLayoutCasts
public import Idealize.ShloMosaic.Lib.Pointwise
public import Idealize.ShloMosaic.Lib.Claim
public import Idealize.ShloMosaic.PureOps.Ideal
public import Idealize.ShloMosaic.PureOps.Ideal.Laws

@[expose] public section

set_option maxRecDepth 16384

noncomputable section

namespace Cert.KernelIdeal.Att

open Cert.KernelIdeal.Gen
open Idealize.ShloMosaic Idealize.ShloMosaic.TcCoe Idealize.ShloMosaic.Tactic
open Idealize.ShloMosaic.Pipeline (Dat Cfg Window)

/-! ## One head, entry by entry -/

/-- Three blocks of 256 rows, row by row. -/
def pick3 {α : Type} (a b c : Fin 256 → α) (j : Fin 768) : α :=
  if h : j.val < 256 then a ⟨j.val, h⟩ else if h' : j.val < 512 then b ⟨j.val - 256, by omega⟩ else c ⟨j.val - 512, by omega⟩

theorem stack3_apply (a b c : Vec Ideal S1x256x128 .bf16) (j : Fin 768) (d : Fin 128) :
    stack3 a b c (ix2 (n0 := 768) (n1 := 128) j d) = pick3 (fun r => a (ix3 0 r d)) (fun r => b (ix3 0 r d)) (fun r => c (ix3 0 r d)) j := by
  unfold stack3 pick3
  pointwise
  have hj := j.isLt
  by_cases h : j.val < 256
  · simp only [dif_pos h]
  · by_cases h' : j.val < 512
    · simp only [dif_neg h, dif_pos h', dif_pos (show j.val - 256 < 256 by omega)]
    · simp only [dif_neg h, dif_neg h', dif_neg (show ¬ j.val - 256 < 256 by omega)]
      exact congrArg (fun k : Fin 256 => c (ix3 0 k d)) (Fin.ext (by show j.val - 256 - 256 = j.val - 512; omega))

theorem score_apply (q : Vec Ideal S1x256x128 .bf16) (k : FVec Ideal S768x128 .bf16) (b : Vec Ideal S1x256x768 .f32) (r : Fin 256) (j : Fin 768) :
    score q k b (ix2 (n0 := 256) (n1 := 768) r j)
      = (∑ d : Fin 128, (q (ix3 0 r d) : EReal) * k (ix2 (n0 := 768) (n1 := 128) j d)) + b (ix3 0 r j) := by
  unfold score
  pointwise

theorem ofBits_bot : Ideal.ofBits .f32 0xFF800000#32 = ⊥ := by simp [Ideal.ofBits, Ideal.ieee]

theorem weights_apply (s : FVec Ideal S256x768 .f32) (r : Fin 256) (j : Fin 768) :
    weights s (ix2 (n0 := 256) (n1 := 768) r j)
      = Ideal.exp2 (s (ix2 (n0 := 256) (n1 := 768) r j) - (Finset.univ : Finset (Fin 768)).fold max ⊥ (fun k => s (ix2 (n0 := 256) (n1 := 768) r k))) := by
  unfold weights
  pointwise
  rw [ofBits_bot]; rfl

theorem average_apply (p : FVec Ideal S256x768 .f32) (v : FVec Ideal S768x128 .bf16) (r : Fin 256) (d : Fin 128) :
    average p v (at3 r d) = Ideal.div (∑ j : Fin 768, (p (ix2 (n0 := 256) (n1 := 768) r j) : EReal) * v (ix2 (n0 := 768) (n1 := 128) j d)) (∑ j : Fin 768, (p (ix2 (n0 := 256) (n1 := 768) r j) : EReal)) := by
  rw [show at3 r d = ix3 0 r d from by funext a; match a with | ⟨0, _⟩ => rfl | ⟨1, _⟩ => rfl | ⟨2, _⟩ => rfl]
  unfold average
  pointwise

/-! ## The mask -/

theorem mask_bot : (Named.named κ "mask" 0xF149F2CA#32 : Ideal .f32) = ⊥ := rfl
theorem log2e_val : (Named.named κ "log2e" 0x3FB8AA3B#32 : Ideal .f32) = (((Real.log 2)⁻¹ : ℝ) : EReal) := rfl

/-- The band of a row: the 64-row chunk it lies in and the eight before it. -/
theorem band_iff : ∀ (c : Fin 4) (j : Fin 768),
    Scalar.andi (Scalar.cmpi .sge (Scalar.subi (BitVec.ofNat 32 j.val) (BitVec.ofNat 32 (64 * c.val))) 0#32)
      (Scalar.cmpi .slt (Scalar.subi (BitVec.ofNat 32 j.val) (BitVec.ofNat 32 (64 * c.val))) 576#32)
      = if 64 * c.val ≤ j.val ∧ j.val < 64 * c.val + 576 then 1#1 else 0#1 := by decide +kernel
theorem chunk_word : ∀ r : Fin 256, Scalar.andi (BitVec.ofNat 32 r.val) 4294967232#32 = BitVec.ofNat 32 (64 * (r.val / 64)) := by decide +kernel

theorem band_apply (r : Fin 256) (j : Fin 768) :
    k0_pay4 (iota .tc S256x768 32 [1] iota_S256x768_d1_w32) (ix2 (n0 := 256) (n1 := 768) r j)
      = if 64 * (r.val / 64) ≤ j.val ∧ j.val < 64 * (r.val / 64) + 576 then 1#1 else 0#1 := by
  rw [← band_iff ⟨r.val / 64, by omega⟩ j, ← chunk_word r]
  unfold k0_pay4
  pointwise
  rfl

theorem edge_iff : ∀ (n : Fin 2) (j : Fin 768),
    Scalar.cmpi .sge (BitVec.ofNat 32 j.val) (Scalar.muli (Scalar.subi 2#32 (BitVec.ofNat 32 n.val)) 256#32) = if 512 ≤ 256 * n.val + j.val then 1#1 else 0#1 := by decide +kernel

theorem coord2 : ∀ t : Fin cfg0.N, (grid0.coords t 2).val = t.val % 8 := by decide +kernel

theorem maskAt_apply (t : Fin cfg0.N) (s : FVec Ideal S256x768 .f32) (r : Fin 256) (j : Fin 768) :
    maskAt t s (ix2 (n0 := 256) (n1 := 768) r j) = if 512 ≤ 256 * (t.val % 8) + j.val then s (ix2 (n0 := 256) (n1 := 768) r j) else (⊥ : EReal) := by
  unfold maskAt
  rw [coord2]
  by_cases h : t.val % 8 ≤ 1
  · rw [if_pos h]
    have e := edge_iff ⟨t.val % 8, by omega⟩ j
    unfold edgeMask
    pointwise
    refine (congrArg (fun w => Scalar.select w _ _) (e : IntOp.cmpi _ _ _ = _)).trans ?_
    by_cases h' : 512 ≤ 256 * (t.val % 8) + j.val
    · simp only [if_pos h']; rfl
    · simp only [if_neg h']; rfl
  · rw [if_neg h, if_pos (by omega)]

/-- Which columns a row of row block `i` sees: those of its band that lie in the sequence. -/
def OkCol (i : Nat) (r : Fin 256) (j : Fin 768) : Prop :=
  64 * (r.val / 64) ≤ j.val ∧ j.val < 64 * (r.val / 64) + 576 ∧ 512 ≤ 256 * i + j.val

instance (i : Nat) (r : Fin 256) (j : Fin 768) : Decidable (OkCol i r j) := by unfold OkCol; infer_instance

theorem biasOf_apply (x : Vec Ideal S16x2x64x256 .f32) (h : Fin 16) (r : Fin 256) (j : Fin 768) :
    biasOf x (ix3 h r j) = if 64 * (r.val / 64) ≤ j.val ∧ j.val < 64 * (r.val / 64) + 576 then (x (stripEntry h r j) : EReal) * (((Real.log 2)⁻¹ : ℝ) : EReal) else ⊥ := by
  unfold biasOf
  refine (congrArg (fun w => Scalar.select w _ _) (band_apply r j)).trans ?_
  by_cases h' : 64 * (r.val / 64) ≤ j.val ∧ j.val < 64 * (r.val / 64) + 576
  · simp only [if_pos h']; rfl
  · simp only [if_neg h']; rfl

theorem cols_apply (x : Vec Ideal S1x256x2048 .bf16) (h : Fin 16) (r : Fin 256) (d : Fin 128) :
    cols x h (ix3 0 r d) = x (ix3 (n0 := 1) (n1 := 256) (n2 := 2048) 0 r ⟨128 * h.val + d.val, by omega⟩) := by
  refine congrArg x ?_
  funext a; apply Fin.ext
  match a with
  | ⟨0, _⟩ => rfl
  | ⟨1, _⟩ => show 0 + 1 * r.val = r.val; omega
  | ⟨2, _⟩ => show 128 * h.val + 1 * d.val = _; simp

theorem plane_apply (b : Vec Ideal S16x256x768 .f32) (h : Fin 16) (r : Fin 256) (j : Fin 768) :
    plane b h (ix3 0 r j) = b (ix3 h r j) := by
  refine congrArg b ?_
  funext a; apply Fin.ext
  match a with
  | ⟨0, _⟩ => show h.val + 1 * 0 = h.val; omega
  | ⟨1, _⟩ => show 0 + 1 * r.val = r.val; omega
  | ⟨2, _⟩ => show 0 + 1 * j.val = j.val; omega

/-- The masked score of row `r`, column `j` of head `h`. -/
def scoreAt (i : Nat) (q k₀ k₁ k₂ : Vec Ideal S1x256x2048 .bf16) (x : Vec Ideal S16x2x64x256 .f32) (h : Fin 16) (r : Fin 256) (j : Fin 768) : EReal :=
  if OkCol i r j then
    (∑ d : Fin 128, (q (ix3 (n0 := 1) (n1 := 256) (n2 := 2048) 0 r ⟨128 * h.val + d.val, by omega⟩) : EReal)
      * pick3 (fun r => k₀ (ix3 (n0 := 1) (n1 := 256) (n2 := 2048) 0 r ⟨128 * h.val + d.val, by omega⟩))
          (fun r => k₁ (ix3 (n0 := 1) (n1 := 256) (n2 := 2048) 0 r ⟨128 * h.val + d.val, by omega⟩))
          (fun r => k₂ (ix3 (n0 := 1) (n1 := 256) (n2 := 2048) 0 r ⟨128 * h.val + d.val, by omega⟩)) j)
      + (x (stripEntry h r j) : EReal) * (((Real.log 2)⁻¹ : ℝ) : EReal)
  else ⊥

theorem masked_apply (t : Fin cfg0.N) (q k₀ k₁ k₂ : Vec Ideal S1x256x2048 .bf16) (x : Vec Ideal S16x2x64x256 .f32) (h : Fin 16) (r : Fin 256) (j : Fin 768) :
    maskAt t (score (cols q h) (stack3 (cols k₀ h) (cols k₁ h) (cols k₂ h)) (plane (biasOf x) h)) (ix2 (n0 := 256) (n1 := 768) r j)
      = scoreAt (t.val % 8) q k₀ k₁ k₂ x h r j := by
  rw [maskAt_apply, score_apply, plane_apply, biasOf_apply]
  simp only [cols_apply, stack3_apply]
  unfold scoreAt
  by_cases h1 : 512 ≤ 256 * (t.val % 8) + j.val
  · by_cases h2 : 64 * (r.val / 64) ≤ j.val ∧ j.val < 64 * (r.val / 64) + 576
    · rw [if_pos h1, if_pos h2, if_pos (show OkCol _ r j from ⟨h2.1, h2.2, h1⟩)]
    · rw [if_pos h1, if_neg h2, if_neg (fun w : OkCol _ r j => h2 ⟨w.1, w.2.1⟩), EReal.add_bot]
  · rw [if_neg h1, if_neg (fun w : OkCol _ r j => h1 w.2.2)]

/-- One entry of one head. -/
theorem head_apply (t : Fin cfg0.N) (q k₀ k₁ k₂ v₀ v₁ v₂ : Vec Ideal S1x256x2048 .bf16) (x : Vec Ideal S16x2x64x256 .f32) (h : Fin 16) (r : Fin 256) (d : Fin 128) :
    block (maskAt t) q k₀ k₁ k₂ v₀ v₁ v₂ (biasOf x) (ix3 (n0 := 1) (n1 := 256) (n2 := 2048) 0 r ⟨128 * h.val + d.val, by omega⟩)
      = let s := scoreAt (t.val % 8) q k₀ k₁ k₂ x h r
        let p := fun j => Ideal.exp2 (s j - (Finset.univ : Finset (Fin 768)).fold max ⊥ s)
        Ideal.div (∑ j, p j * pick3 (fun r => v₀ (ix3 (n0 := 1) (n1 := 256) (n2 := 2048) 0 r ⟨128 * h.val + d.val, by omega⟩))
          (fun r => v₁ (ix3 (n0 := 1) (n1 := 256) (n2 := 2048) 0 r ⟨128 * h.val + d.val, by omega⟩))
          (fun r => v₂ (ix3 (n0 := 1) (n1 := 256) (n2 := 2048) 0 r ⟨128 * h.val + d.val, by omega⟩)) j) (∑ j, p j) := by
  have e1 : (⟨(128 * h.val + d.val) / 128, by omega⟩ : Fin 16) = h := Fin.ext (by show (128 * h.val + d.val) / 128 = h.val; omega)
  have e2 : (⟨(128 * h.val + d.val) % 128, by omega⟩ : Fin 128) = d := Fin.ext (by show (128 * h.val + d.val) % 128 = d.val; omega)
  have e3 : block (maskAt t) q k₀ k₁ k₂ v₀ v₁ v₂ (biasOf x) (ix3 (n0 := 1) (n1 := 256) (n2 := 2048) 0 r ⟨128 * h.val + d.val, by omega⟩)
      = head (maskAt t) (cols q h) (cols k₀ h) (cols k₁ h) (cols k₂ h) (cols v₀ h) (cols v₁ h) (cols v₂ h) (plane (biasOf x) h) (at3 r d) := by
    have key : ∀ (h' : Fin 16) (d' : Fin 128), h' = h → d' = d →
        head (maskAt t) (cols q h') (cols k₀ h') (cols k₁ h') (cols k₂ h') (cols v₀ h') (cols v₁ h') (cols v₂ h') (plane (biasOf x) h') (at3 r d')
          = head (maskAt t) (cols q h) (cols k₀ h) (cols k₁ h) (cols k₂ h) (cols v₀ h) (cols v₁ h) (cols v₂ h) (plane (biasOf x) h) (at3 r d) := by
      rintro h' d' rfl rfl; rfl
    exact key _ _ e1 e2
  rw [e3]
  unfold head
  rw [average_apply]
  simp only [weights_apply, masked_apply, stack3_apply, cols_apply]

end Cert.KernelIdeal.Att

end
-- ==== Proof.Att.Host.lean ====
module

public import proofs.«01_k».proof.Proof.Att.Frame
public import Idealize.ShloMosaic.Lib.ValueIdxCore
public import Idealize.ShloMosaic.Lib.ValueLayout
public import Idealize.ShloMosaic.Lib.ValueLayoutCasts
public import Idealize.ShloMosaic.Lib.Pointwise
public import Idealize.ShloMosaic.Lib.Claim
public import Idealize.ShloMosaic.Lib.StableHlo.RunRead
public import Idealize.ShloMosaic.PureOps.Ideal
public import Idealize.ShloMosaic.PureOps.Ideal.Laws

@[expose] public section

set_option maxRecDepth 16384

noncomputable section

namespace Cert.KernelIdeal.Att

open Cert.KernelIdeal.Gen
open Idealize.ShloMosaic Idealize.ShloMosaic.TcCoe Idealize.ShloMosaic.Tactic
open Idealize.ShloMosaic.Pipeline (Dat Cfg Window)

/-- A host operation line before the call, as one list. -/
theorem v_eq (m : (ℓ : Loc nD τ sig) → Buf (Elt Ideal) ℓ) (c : Dev nD) (r : Ref sig .tc) :
    V (F := Ideal) m c r = StableHlo.after (hostOps0 ++ (hostOps0_1 ++ (hostOps0_2 ++ (hostOps0_3 ++ (hostOps0_4 ++ []))))) (fun b => m (c, b)) (Proc.devRef .tc r) := rfl

/-- The queries given to the program. -/
def argQ (m : (ℓ : Loc nD τ sig) → Buf (Elt Ideal) ℓ) (c : Dev nD) : FVec Ideal S4x2048x4096 .f32 := m ((c.tc : Thread nD τ).loc main_arg0)

/-- The keys and values given to the program. -/
def argKV (m : (ℓ : Loc nD τ sig) → Buf (Elt Ideal) ℓ) (c : Dev nD) : FVec Ideal S4x2048x8192 .f32 := m ((c.tc : Thread nD τ).loc main_arg1)

/-- The bias table given to the program. -/
def argB (m : (ℓ : Loc nD τ sig) → Buf (Elt Ideal) ℓ) (c : Dev nD) : FVec Ideal S32x257 .f32 := m ((c.tc : Thread nD τ).loc main_arg2)

/-- The bit pattern of 128. -/
theorem ofBits_128 : Ideal.ofBits .f32 0x43000000#32 = ((128 : ℝ) : EReal) := by
  simp [Ideal.ofBits, Ideal.ieee]; rw [← EReal.coe_mul]; norm_num

/-- The bit pattern of 2. -/
theorem ofBits_2 : Ideal.ofBits .f32 0x40000000#32 = ((2 : ℝ) : EReal) := by
  simp [Ideal.ofBits, Ideal.ieee]; rw [← EReal.coe_mul]; norm_num

/-- The scale the queries are multiplied by: one over `√128 * log 2`. -/
theorem scale_val : Ideal.div 1 (Ideal.sqrt (Ideal.ofBits .f32 0x43000000#32) * Ideal.log (Ideal.ofBits .f32 0x40000000#32))
    = (((Real.sqrt 128 * Real.log 2)⁻¹ : ℝ) : EReal) := by
  rw [ofBits_128, ofBits_2, Ideal.sqrt_coe, Ideal.log_coe, if_neg (by norm_num), if_neg (by norm_num), ← EReal.coe_mul,
    Ideal.div_coe (ne_of_gt (mul_pos (Real.sqrt_pos.mpr (by norm_num)) (Real.log_pos (by norm_num)))), one_mul, one_div]

/-- The queries the call takes: the given ones, scaled. -/
theorem q_entry (m : (ℓ : Loc nD τ sig) → Buf (Elt Ideal) ℓ) (c : Dev nD) (b : Fin 4) (s : Fin 2048) (d : Fin 4096) :
    (V (F := Ideal) m c main_v6 : FVec Ideal S4x2048x4096 .bf16) (ix3 b s d)
      = argQ m c (ix3 b s d) * (((Real.sqrt 128 * Real.log 2)⁻¹ : ℝ) : EReal) := by
  rw [← scale_val, v_eq]
  after_reads_simp
  pointwise
  rfl

/-- The keys and values the call takes: the given ones. -/
theorem kv_entry (m : (ℓ : Loc nD τ sig) → Buf (Elt Ideal) ℓ) (c : Dev nD) (b : Fin 4) (s : Fin 2048) (d : Fin 8192) :
    (V (F := Ideal) m c main_v7 : FVec Ideal S4x2048x8192 .bf16) (ix3 b s d)
      = argKV m c (ix3 b s d) := by
  rw [v_eq]
  after_reads_simp
  pointwise
  rfl

/-- The clipped offsets of the strip's 383 positions, shifted to start at zero. -/
def offs : IVec S383 32 :=
  addi (minsi (broadcastInDim S383 ![] bcast_S_S383 (id (constantI S_ 32 128#32)))
    (maxsi (broadcastInDim S383 ![] bcast_S_S383 (id (constantI S_ 32 4294967168#32)))
      (subi (broadcastInDim S383 ![] bcast_S_S383 (constantI S_ 32 192#32))
        (subi (iotaInDim S383 32 0) (broadcastInDim S383 ![] bcast_S_S383 (constantI S_ 32 63#32))))))
    (broadcastInDim S383 ![] bcast_S_S383 (constantI S_ 32 128#32))

/-- The offsets with a negative one wrapped round. -/
def offsW : IVec S383 32 :=
  select (cmpi .slt offs (broadcastInDim S383 ![] bcast_S_S383 (constantI S_ 32 0#32)))
    (addi offs (broadcastInDim S383 ![] bcast_S_S383 (constantI S_ 32 257#32))) offs

/-- The taken entries of the bias table. -/
def taken (x : FVec Ideal S32x257 .f32) : FVec Ideal S32x383 .f32 :=
  select (broadcastInDim S32x383 ![1] bcast_S383_S32x383_1
      (Host.reduce IntOp.andi
        (andi (cmpi .sge (broadcastInDim S383x1 ![0] bcast_S383_S383x1_0 offsW) (broadcastInDim S383x1 ![] bcast_S_S383x1 (constantI S_ 32 0#32)))
          (cmpi .sle (broadcastInDim S383x1 ![0] bcast_S383_S383x1_0 offsW)
            (broadcastInDim S383x1 ![0, 1] bcast_S1x1_S383x1_0_1 (broadcastInDim S1x1 ![1] bcast_S1_S1x1_1 (constantI S1 32 256#32)))))
        (constantI S_ 1 1#1) reducesTo_S383x1_S383_d1 h_S_))
    (Host.gather gather_S32x257_S383x1_S32x383_0_1_n_n_1_1_321 x (broadcastInDim S383x1 ![0] bcast_S383_S383x1_0 offsW))
    (broadcastInDim S32x383 ![] bcast_S_S32x383 (constant S_ .f32 0x7FC00000#32))

/-- The offset of position `t`: `clip (192 - (t - 63)) (-128) 128 + 128`, which is `128 + clip (255 - t)`. -/
def offOf (t : Nat) : Nat := 383 - max t 127

/-- The offsets as numbers. -/
theorem offs_apply (t : Fin 383) : offs (ix1 t) = BitVec.ofNat 32 (offOf t.val) := by
  unfold offs; pointwise
  revert t
  decide +kernel

/-- What the call's table of taken entries holds. -/
theorem e_eq (m : (ℓ : Loc nD τ sig) → Buf (Elt Ideal) ℓ) (c : Dev nD) :
    (V (F := Ideal) m c main_v16 : FVec Ideal S32x383 .f32) = taken (argB m c) := by
  rw [v_eq]
  after_reads_simp
  simp only [StableHlo.TRef.ofBuf_toBuf]
  rfl

/-- The table taken along its second axis, entry by entry. -/
theorem gather_apply {w : Nat} (x : FVec Ideal S32x257 .f32) (idx : IVec S383x1 w) (h : Fin 32) (t : Fin 383) :
    Host.gather gather_S32x257_S383x1_S32x383_0_1_n_n_1_1_321 x idx (ix2 h t)
      = x (ix2 h ⟨min (idx (ix2 t (0 : Fin 1))).toInt.toNat 256, by omega⟩) := by
  unfold Host.gather
  refine congrArg x ?_
  funext a
  refine Fin.ext ?_
  show GatherDims.start _ (ix2 h t) idx a + GatherDims.batchCoord _ (ix2 h t) a + GatherDims.offCoord _ (ix2 h t) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil]
    unfold GatherDims.start GatherDims.offCoord
    rw [dif_neg (by decide), dif_pos (by decide)]
    simp only [Nat.zero_add]
    rfl
  · rw [GatherDims.batchCoord_eq_zero _ _ _ List.not_mem_nil,
      GatherDims.offCoord_eq_zero _ _ _ (by decide)]
    simp only [Nat.add_zero]
    unfold GatherDims.start
    rw [dif_pos (by decide)]
    have hsi : ∀ hh, GatherDims.siIdx gather_S32x257_S383x1_S32x383_0_1_n_n_1_1_321 (ix2 h t) ⟨0, hh⟩ = ix2 t (0 : Fin 1) := by
      intro hh
      funext b; refine Fin.ext ?_
      match b with
      | ⟨0, _⟩ => rfl
      | ⟨1, _⟩ => rfl
    have := hsi (by decide)
    refine congrArg (fun z => min z 256) ?_
    exact congrArg (fun z => (idx z).toInt.toNat) this

/-- No offset is negative. -/
theorem offsW_apply (t : Fin 383) : offsW (ix1 t) = BitVec.ofNat 32 (offOf t.val) := by
  unfold offsW; pointwise [offs_apply]
  revert t
  decide +kernel

/-- A taken entry of the bias table: no offset is out of range, so none is filled. -/
theorem taken_apply (x : FVec Ideal S32x257 .f32) (h : Fin 32) (t : Fin 383) :
    taken x (ix2 h t) = x (ix2 h ⟨offOf t.val, by unfold offOf; omega⟩) := by
  have hone : IntOp.andi (IntOp.cmpi CmpIPredicate.sge (BitVec.ofNat 32 (offOf t.val)) 0#32)
      (IntOp.cmpi CmpIPredicate.sle (BitVec.ofNat 32 (offOf t.val)) 256#32) = 1#1 := by
    revert t; decide +kernel
  have hmin : min (BitVec.ofNat 32 (offOf t.val)).toInt.toNat 256 = offOf t.val := by
    revert t; decide +kernel
  have hfold : ∀ s : Finset (Fin 1), Finset.fold IntOp.andi (1#1) (fun _ => 1#1) s = 1#1 := by decide
  unfold taken
  pointwise [offsW_apply, gather_apply]
  simp only [hone, hmin]
  rw [hfold]
  rfl

/-- Rows 0 to 15 of the widened strip: each is the taken table shifted by its row. -/
theorem piece0_entry (σ : Valuation τ sig (Elt Ideal)) (h : Fin 32) (r : Fin 16) (j : Fin 320) :
    (StableHlo.upto (hostOps0_4 (F := Ideal)) σ 132 (Proc.devRef .tc main_v145) : FVec Ideal S32x16x320 .f32) (ix3 h r j)
      = (σ (Proc.devRef .tc main_v16) : FVec Ideal S32x383 .f32) (ix2 h ⟨63 - r.val + j.val, by omega⟩) := by
  after_reads_simp [Matrix.cons_val, Matrix.cons_val_zero, Matrix.cons_val_one]
  pointwise
  fin_vals r with hr
  all_goals simp only [hr]
  all_goals (first | done | pointwise)

/-- Rows 16 to 31 of the widened strip: each is the taken table shifted by its row. -/
theorem piece1_entry (σ : Valuation τ sig (Elt Ideal)) (h : Fin 32) (r : Fin 16) (j : Fin 320) :
    (StableHlo.upto (hostOps0_4 (F := Ideal)) σ 132 (Proc.devRef .tc main_v146) : FVec Ideal S32x16x320 .f32) (ix3 h r j)
      = (σ (Proc.devRef .tc main_v16) : FVec Ideal S32x383 .f32) (ix2 h ⟨47 - r.val + j.val, by omega⟩) := by
  after_reads_simp [Matrix.cons_val, Matrix.cons_val_zero, Matrix.cons_val_one]
  pointwise
  fin_vals r with hr
  all_goals simp only [hr]
  all_goals (first | done | pointwise)

/-- Rows 32 to 47 of the widened strip: each is the taken table shifted by its row. -/
theorem piece2_entry (σ : Valuation τ sig (Elt Ideal)) (h : Fin 32) (r : Fin 16) (j : Fin 320) :
    (StableHlo.upto (hostOps0_4 (F := Ideal)) σ 132 (Proc.devRef .tc main_v147) : FVec Ideal S32x16x320 .f32) (ix3 h r j)
      = (σ (Proc.devRef .tc main_v16) : FVec Ideal S32x383 .f32) (ix2 h ⟨31 - r.val + j.val, by omega⟩) := by
  after_reads_simp [Matrix.cons_val, Matrix.cons_val_zero, Matrix.cons_val_one]
  pointwise
  fin_vals r with hr
  all_goals simp only [hr]
  all_goals (first | done | pointwise)

/-- Rows 48 to 63 of the widened strip: each is the taken table shifted by its row. -/
theorem piece3_entry (σ : Valuation τ sig (Elt Ideal)) (h : Fin 32) (r : Fin 16) (j : Fin 320) :
    (StableHlo.upto (hostOps0_4 (F := Ideal)) σ 132 (Proc.devRef .tc main_v148) : FVec Ideal S32x16x320 .f32) (ix3 h r j)
      = (σ (Proc.devRef .tc main_v16) : FVec Ideal S32x383 .f32) (ix2 h ⟨15 - r.val + j.val, by omega⟩) := by
  after_reads_simp [Matrix.cons_val, Matrix.cons_val_zero, Matrix.cons_val_one]
  pointwise
  fin_vals r with hr
  all_goals simp only [hr]
  all_goals (first | done | pointwise)

/-- An entry of the two strips of a head, in the taken table. -/
theorem strip_entry (σ : Valuation τ sig (Elt Ideal)) (h : Fin 32) (p : Fin 2) (r : Fin 64) (j : Fin 256) :
    (StableHlo.after (hostOps0_4 (F := Ideal)) σ (Proc.devRef .tc main_v154) : FVec Ideal S32x2x64x256 .f32) (ix4 h p r j)
      = (σ (Proc.devRef .tc main_v16) : FVec Ideal S32x383 .f32) (ix2 h ⟨63 - r.val + j.val + (1 - p.val) * 64, by omega⟩) := by
  after_reads_simp [Matrix.cons_val, Matrix.cons_val_zero, Matrix.cons_val_one]
  pointwise
  split_ifs
  all_goals (first | rw [piece0_entry] | rw [piece1_entry] | rw [piece2_entry] | rw [piece3_entry])
  all_goals (refine congrArg (fun t : Fin 383 => (σ (Proc.devRef .tc main_v16) : FVec Ideal S32x383 .f32) (ix2 h t)) (Fin.ext ?_))
  all_goals (dsimp only; omega)

/-- An entry of the strips the call takes: with `p` the strip (0 or 1) and `dist` its distance from key to query, the
    table's entry at that distance clipped to 128 either way. -/
theorem strips_value (m : (ℓ : Loc nD τ sig) → Buf (Elt Ideal) ℓ) (c : Dev nD) (h : Fin 32) (p : Fin 2) (r : Fin 64) (j : Fin 256) :
    (V (F := Ideal) m c main_v154 : FVec Ideal S32x2x64x256 .f32) (ix4 h p r j)
      = argB m c
          (ix2 h ⟨offOf (63 - r.val + j.val + (1 - p.val) * 64), by unfold offOf; omega⟩) := by
  have h4 : V (F := Ideal) m c main_v154
      = StableHlo.after hostOps0_4 (StableHlo.after (hostOps0 ++ (hostOps0_1 ++ (hostOps0_2 ++ hostOps0_3))) (fun b => m (c, b))) (Proc.devRef .tc main_v154) := rfl
  have h5 : (StableHlo.after (hostOps0 ++ (hostOps0_1 ++ (hostOps0_2 ++ hostOps0_3))) (fun b => m (c, b)) (Proc.devRef .tc main_v16) : FVec Ideal S32x383 .f32)
      = taken (argB m c) := by
    rw [← e_eq, v_eq]
    after_reads_simp
  rw [h4, strip_entry, h5, taken_apply]

end Cert.KernelIdeal.Att
-- ==== Proof.Att.Softmax.lean ====
module

public import Idealize.ShloMosaic.PureOps.Ideal
public import Idealize.ShloMosaic.PureOps.Ideal.Laws

@[expose] public section

noncomputable section

namespace Cert.Att

open Idealize.ShloMosaic

/-- A sum over the columns that count is the sum over the keys that count, where columns and keys correspond. -/
theorem sum_transfer {κ ρ : Type} [Fintype κ] [Fintype ρ] (okK : κ → Prop) (okR : ρ → Prop) [DecidablePred okK] [DecidablePred okR]
    (e : κ → ρ) (he : ∀ j, okK j → okR (e j)) (hinj : ∀ j j', okK j → okK j' → e j = e j' → j = j')
    (hsurj : ∀ p, okR p → ∃ j, okK j ∧ e j = p) (f : ρ → ℝ) :
    (∑ j, if okK j then f (e j) else 0) = ∑ p, if okR p then f p else 0 := by
  rw [← Finset.sum_filter, ← Finset.sum_filter]
  refine Finset.sum_bij (fun j _ => e j) (fun j hj => ?_) (fun j hj j' hj' h => ?_) (fun p hp => ?_) (fun _ _ => rfl)
  · exact Finset.mem_filter.2 ⟨Finset.mem_univ _, he j (Finset.mem_filter.1 hj).2⟩
  · exact hinj j j' (Finset.mem_filter.1 hj).2 (Finset.mem_filter.1 hj').2 h
  · obtain ⟨j, hj, e⟩ := hsurj p (Finset.mem_filter.1 hp).2
    exact ⟨j, Finset.mem_filter.2 ⟨Finset.mem_univ _, hj⟩, e⟩

theorem fold_max_eq {κ : Type} [Fintype κ] (ok : κ → Prop) [DecidablePred ok] (A : κ → ℝ) (k₀ : κ) (h₀ : ok k₀) (hmax : ∀ k, ok k → A k ≤ A k₀) :
    (Finset.univ : Finset κ).fold max ⊥ (fun k => if ok k then (A k : EReal) else ⊥) = (A k₀ : EReal) := by
  refine le_antisymm ((Finset.fold_max_le _).2 ⟨bot_le, fun k _ => ?_⟩) ((Finset.le_fold_max _).2 (Or.inr ⟨k₀, Finset.mem_univ _, by rw [if_pos h₀]⟩))
  by_cases hk : ok k
  · rw [if_pos hk]; exact EReal.coe_le_coe_iff.2 (hmax k hk)
  · rw [if_neg hk]; exact bot_le

theorem exp2_scaled (x : ℝ) : Ideal.exp2 ((x * (Real.log 2)⁻¹ : ℝ) : EReal) = (Real.exp x : EReal) := by
  have h2 : Real.log 2 ≠ 0 := (Real.log_pos (by norm_num)).ne'
  rw [Ideal.exp2_coe]
  congr 1
  show (2 : ℝ) ^ (x * (Real.log 2)⁻¹) = _
  rw [Real.rpow_def_of_pos (by norm_num)]
  congr 1
  field_simp

theorem coe_sum {κ : Type} [Fintype κ] (f : κ → ℝ) : ((∑ k, f k : ℝ) : EReal) = ∑ k, (f k : EReal) := by
  classical
  induction (Finset.univ : Finset κ) using Finset.induction_on with
  | empty => simp
  | insert a s ha ih => rw [Finset.sum_insert ha, Finset.sum_insert ha, EReal.coe_add, ih]

/-- A row of attention over the columns of a band, its exponentials taken to base two and the weighted sum divided at the
    end, is the softmax over all keys: columns and keys that count correspond, and their scores differ by the factor. -/
theorem band_eq_softmax {κ ρ : Type} [Fintype κ] [Fintype ρ] (okK : κ → Prop) (okR : ρ → Prop) [DecidablePred okK] [DecidablePred okR]
    (e : κ → ρ) (he : ∀ j, okK j → okR (e j)) (hinj : ∀ j j', okK j → okK j' → e j = e j' → j = j')
    (hsurj : ∀ p, okR p → ∃ j, okK j ∧ e j = p) (hne : ∃ p, okR p) (A v : ρ → ℝ)
    (sK vK : κ → EReal) (hK : ∀ j, sK j = if okK j then ((A (e j) * (Real.log 2)⁻¹ : ℝ) : EReal) else ⊥) (hv : ∀ j, okK j → vK j = (v (e j) : EReal))
    (sR : ρ → EReal) (hR : ∀ p, sR p = if okR p then (A p : EReal) else ⊥) :
    Ideal.div (∑ j, Ideal.exp2 (sK j - (Finset.univ : Finset κ).fold max ⊥ sK) * vK j) (∑ j, Ideal.exp2 (sK j - (Finset.univ : Finset κ).fold max ⊥ sK))
      = ∑ p, (v p : EReal) * Ideal.div (Ideal.exp (sR p - (Finset.univ : Finset ρ).fold max ⊥ sR)) (∑ p, Ideal.exp (sR p - (Finset.univ : Finset ρ).fold max ⊥ sR)) := by
  obtain ⟨p₁, hp₁⟩ := hne
  obtain ⟨p₀, hp₀, hmax⟩ := Finset.exists_max_image (Finset.univ.filter okR) A ⟨p₁, Finset.mem_filter.2 ⟨Finset.mem_univ _, hp₁⟩⟩
  have h₀ : okR p₀ := (Finset.mem_filter.1 hp₀).2
  have hmax' : ∀ p, okR p → A p ≤ A p₀ := fun p hp => hmax p (Finset.mem_filter.2 ⟨Finset.mem_univ _, hp⟩)
  obtain ⟨j₀, hj₀, ej₀⟩ := hsurj p₀ h₀
  have hc : (0 : ℝ) < (Real.log 2)⁻¹ := inv_pos.2 (Real.log_pos (by norm_num))
  have mR : (Finset.univ : Finset ρ).fold max ⊥ sR = (A p₀ : EReal) := by
    rw [show sR = _ from funext hR]; exact fold_max_eq okR A p₀ h₀ hmax'
  have mK : (Finset.univ : Finset κ).fold max ⊥ sK = ((A p₀ * (Real.log 2)⁻¹ : ℝ) : EReal) := by
    rw [show sK = _ from funext hK, ← ej₀]
    exact fold_max_eq okK (fun j => A (e j) * (Real.log 2)⁻¹) j₀ hj₀ fun j hj => by
      rw [ej₀]; exact mul_le_mul_of_nonneg_right (hmax' _ (he j hj)) hc.le
  let g : ρ → ℝ := fun p => Real.exp (A p - A p₀)
  have wR : ∀ p, Ideal.exp (sR p - (Finset.univ : Finset ρ).fold max ⊥ sR) = ((if okR p then g p else 0 : ℝ) : EReal) := fun p => by
    rw [mR, hR]
    by_cases hp : okR p
    · rw [if_pos hp, if_pos hp, ← EReal.coe_sub, Ideal.exp_coe]
    · rw [if_neg hp, if_neg hp, EReal.bot_sub, Ideal.exp_bot, EReal.coe_zero]
  have wK : ∀ j, Ideal.exp2 (sK j - (Finset.univ : Finset κ).fold max ⊥ sK) = ((if okK j then g (e j) else 0 : ℝ) : EReal) := fun j => by
    rw [mK, hK]
    by_cases hj : okK j
    · rw [if_pos hj, if_pos hj, ← EReal.coe_sub, ← sub_mul, exp2_scaled]
    · rw [if_neg hj, if_neg hj, EReal.bot_sub, Ideal.exp2_bot, EReal.coe_zero]
  have wv : ∀ j, ((if okK j then g (e j) else 0 : ℝ) : EReal) * vK j = ((if okK j then g (e j) * v (e j) else 0 : ℝ) : EReal) := fun j => by
    by_cases hj : okK j
    · rw [if_pos hj, if_pos hj, hv j hj, ← EReal.coe_mul]
    · rw [if_neg hj, if_neg hj, EReal.coe_zero, zero_mul]
  simp only [wR, wK, wv, ← coe_sum]
  rw [sum_transfer okK okR e he hinj hsurj g, sum_transfer okK okR e he hinj hsurj (fun p => g p * v p)]
  have hL : (∑ p, if okR p then g p else 0 : ℝ) ≠ 0 := by
    refine (Finset.sum_pos' (fun p _ => ?_) ⟨p₀, Finset.mem_univ _, ?_⟩).ne'
    · by_cases hp : okR p
      · rw [if_pos hp]; exact (Real.exp_pos _).le
      · rw [if_neg hp]
    · rw [if_pos h₀]; exact Real.exp_pos _
  simp only [Ideal.div_coe hL, ← EReal.coe_mul, ← coe_sum]
  congr 1
  rw [Finset.sum_mul]
  refine Finset.sum_congr rfl fun p _ => ?_
  by_cases hp : okR p
  · simp only [if_pos hp]; ring
  · simp only [if_neg hp]; ring

end Cert.Att

end
-- ==== Proof.Att.Spec.lean ====
module

public import proofs.«01_k».proof.Proof.Att.Softmax

@[expose] public section

noncomputable section

namespace Cert.Att

open Idealize.ShloMosaic

/-- Feature `d` of head `h` among the queries and the keys. -/
def feat (h : Fin 32) (d : Fin 128) : Fin 4096 := ⟨128 * h.val + d.val, by omega⟩

/-- Feature `d` of head `h` among the keys, which come first, and among the values, which come after. -/
def kFeat (h : Fin 32) (d : Fin 128) : Fin 8192 := ⟨128 * h.val + d.val, by omega⟩
def vFeat (h : Fin 32) (d : Fin 128) : Fin 8192 := ⟨4096 + (128 * h.val + d.val), by omega⟩

/-- The bias table's column for query `s` and key `p`: their distance, clipped to 128 either way and counted from zero. -/
def relCol (s p : Fin 2048) : Fin 257 := ⟨min 256 (s.val + 128 - p.val), by omega⟩

/-- Query `s` attends key `p`: `p` lies in the 64-frame chunk of `s` or in one of the eight chunks before it. -/
def Attends (s p : Fin 2048) : Prop := p.val / 64 ≤ s.val / 64 ∧ s.val / 64 ≤ p.val / 64 + 8

instance (s p : Fin 2048) : Decidable (Attends s p) := by unfold Attends; infer_instance

variable (Q : Fin 4 → Fin 2048 → Fin 4096 → ℝ) (KV : Fin 4 → Fin 2048 → Fin 8192 → ℝ) (B : Fin 32 → Fin 257 → ℝ)

/-- The score of query `s` and key `p`. -/
def logit (b : Fin 4) (h : Fin 32) (s p : Fin 2048) : ℝ :=
  (∑ d : Fin 128, Q b s (feat h d) * KV b p (kFeat h d)) / Real.sqrt 128 + B h (relCol s p)

/-- The score, or `-∞` where the key is out of reach. -/
def masked (b : Fin 4) (h : Fin 32) (s p : Fin 2048) : EReal :=
  if Attends s p then (logit Q KV B b h s p : EReal) else ⊥

/-- Attention: the values averaged with the softmax of the scores. -/
def attn (b : Fin 4) (h : Fin 32) (s : Fin 2048) (d : Fin 128) : EReal :=
  ∑ p : Fin 2048, (KV b p (vFeat h d) : EReal)
    * Ideal.div (Ideal.exp (masked Q KV B b h s p - (Finset.univ : Finset (Fin 2048)).fold max ⊥ (masked Q KV B b h s)))
        (∑ p : Fin 2048, Ideal.exp (masked Q KV B b h s p - (Finset.univ : Finset (Fin 2048)).fold max ⊥ (masked Q KV B b h s)))

end Cert.Att

end
-- ==== Proof.Att.Blocks.lean ====
module

public import proofs.«01_k».proof.Proof.Att.Head
public import proofs.«01_k».proof.Proof.Att.Host
public import proofs.«01_k».proof.Proof.Att.Spec
public import Idealize.ShloMosaic.Lib.ValueIdxCore
public import Idealize.ShloMosaic.Lib.ValueLayout
public import Idealize.ShloMosaic.Lib.ValueLayoutCasts
public import Idealize.ShloMosaic.Lib.Pointwise
public import Idealize.ShloMosaic.Lib.Claim
public import Idealize.ShloMosaic.PureOps.Ideal
public import Idealize.ShloMosaic.PureOps.Ideal.Laws

@[expose] public section

set_option maxRecDepth 16384

noncomputable section

namespace Cert.KernelIdeal.Att

open Cert.KernelIdeal.Gen
open Idealize.ShloMosaic Idealize.ShloMosaic.TcCoe Idealize.ShloMosaic.Tactic
open Idealize.ShloMosaic.Pipeline (Dat Cfg Window)

open Cert.Att

theorem index0 : ∀ t : Fin cfg0.N, win0_0.index t = ![t.val / 8 % 4, t.val % 8, t.val / 32] := by decide +kernel
theorem block0_entry (m : (ℓ : Loc nD τ sig) → Buf (Elt Ideal) ℓ) (c : Dev nD) (t : Fin cfg0.N) (r : Fin 256) (f : Fin 2048) :
    (iblk m c 0 t : Vec Ideal S1x256x2048 .bf16) (ix3 (n0 := 1) (n1 := 256) (n2 := 2048) 0 r f)
      = (V m c main_v6 : FVec Ideal S4x2048x4096 .bf16) (ix3 (n0 := 4) (n1 := 2048) (n2 := 4096) ⟨t.val / 8 % 4, by omega⟩ ⟨256 * (t.val % 8) + r.val, by omega⟩
        ⟨2048 * (t.val / 32) + f.val, by have := lt_of_lt_of_eq t.isLt (show cfg0.N = 64 from N_0); omega⟩) := by
  unfold iblk
  refine congrArg (V m c main_v6) ?_
  funext a; apply Fin.ext
  refine (Pipeline.Window.rect_emb_val win0_0 t (ix3 (n0 := 1) (n1 := 256) (n2 := 2048) 0 r f) a).trans ?_
  rw [index0 t]
  match a with
  | ⟨0, _⟩ => show t.val / 8 % 4 * 1 + 0 = t.val / 8 % 4; omega
  | ⟨1, _⟩ => show (t.val % 8) * 256 + r.val = 256 * (t.val % 8) + r.val; omega
  | ⟨2, _⟩ => show (t.val / 32) * 2048 + f.val = 2048 * (t.val / 32) + f.val; omega

theorem index1 : ∀ t : Fin cfg0.N, win0_1.index t = ![t.val / 8 % 4, t.val % 8 - 2, t.val / 32] := by decide +kernel
theorem block1_entry (m : (ℓ : Loc nD τ sig) → Buf (Elt Ideal) ℓ) (c : Dev nD) (t : Fin cfg0.N) (r : Fin 256) (f : Fin 2048) :
    (iblk m c 1 t : Vec Ideal S1x256x2048 .bf16) (ix3 (n0 := 1) (n1 := 256) (n2 := 2048) 0 r f)
      = (V m c main_v7 : FVec Ideal S4x2048x8192 .bf16) (ix3 (n0 := 4) (n1 := 2048) (n2 := 8192) ⟨t.val / 8 % 4, by omega⟩ ⟨256 * (t.val % 8 - 2) + r.val, by omega⟩
        ⟨2048 * (t.val / 32) + f.val, by have := lt_of_lt_of_eq t.isLt (show cfg0.N = 64 from N_0); omega⟩) := by
  unfold iblk
  refine congrArg (V m c main_v7) ?_
  funext a; apply Fin.ext
  refine (Pipeline.Window.rect_emb_val win0_1 t (ix3 (n0 := 1) (n1 := 256) (n2 := 2048) 0 r f) a).trans ?_
  rw [index1 t]
  match a with
  | ⟨0, _⟩ => show t.val / 8 % 4 * 1 + 0 = t.val / 8 % 4; omega
  | ⟨1, _⟩ => show (t.val % 8 - 2) * 256 + r.val = 256 * (t.val % 8 - 2) + r.val; omega
  | ⟨2, _⟩ => show (t.val / 32) * 2048 + f.val = 2048 * (t.val / 32) + f.val; omega

theorem index2 : ∀ t : Fin cfg0.N, win0_2.index t = ![t.val / 8 % 4, t.val % 8 - 1, t.val / 32] := by decide +kernel
theorem block2_entry (m : (ℓ : Loc nD τ sig) → Buf (Elt Ideal) ℓ) (c : Dev nD) (t : Fin cfg0.N) (r : Fin 256) (f : Fin 2048) :
    (iblk m c 2 t : Vec Ideal S1x256x2048 .bf16) (ix3 (n0 := 1) (n1 := 256) (n2 := 2048) 0 r f)
      = (V m c main_v7 : FVec Ideal S4x2048x8192 .bf16) (ix3 (n0 := 4) (n1 := 2048) (n2 := 8192) ⟨t.val / 8 % 4, by omega⟩ ⟨256 * (t.val % 8 - 1) + r.val, by omega⟩
        ⟨2048 * (t.val / 32) + f.val, by have := lt_of_lt_of_eq t.isLt (show cfg0.N = 64 from N_0); omega⟩) := by
  unfold iblk
  refine congrArg (V m c main_v7) ?_
  funext a; apply Fin.ext
  refine (Pipeline.Window.rect_emb_val win0_2 t (ix3 (n0 := 1) (n1 := 256) (n2 := 2048) 0 r f) a).trans ?_
  rw [index2 t]
  match a with
  | ⟨0, _⟩ => show t.val / 8 % 4 * 1 + 0 = t.val / 8 % 4; omega
  | ⟨1, _⟩ => show (t.val % 8 - 1) * 256 + r.val = 256 * (t.val % 8 - 1) + r.val; omega
  | ⟨2, _⟩ => show (t.val / 32) * 2048 + f.val = 2048 * (t.val / 32) + f.val; omega

theorem index3 : ∀ t : Fin cfg0.N, win0_3.index t = ![t.val / 8 % 4, t.val % 8, t.val / 32] := by decide +kernel
theorem block3_entry (m : (ℓ : Loc nD τ sig) → Buf (Elt Ideal) ℓ) (c : Dev nD) (t : Fin cfg0.N) (r : Fin 256) (f : Fin 2048) :
    (iblk m c 3 t : Vec Ideal S1x256x2048 .bf16) (ix3 (n0 := 1) (n1 := 256) (n2 := 2048) 0 r f)
      = (V m c main_v7 : FVec Ideal S4x2048x8192 .bf16) (ix3 (n0 := 4) (n1 := 2048) (n2 := 8192) ⟨t.val / 8 % 4, by omega⟩ ⟨256 * (t.val % 8) + r.val, by omega⟩
        ⟨2048 * (t.val / 32) + f.val, by have := lt_of_lt_of_eq t.isLt (show cfg0.N = 64 from N_0); omega⟩) := by
  unfold iblk
  refine congrArg (V m c main_v7) ?_
  funext a; apply Fin.ext
  refine (Pipeline.Window.rect_emb_val win0_3 t (ix3 (n0 := 1) (n1 := 256) (n2 := 2048) 0 r f) a).trans ?_
  rw [index3 t]
  match a with
  | ⟨0, _⟩ => show t.val / 8 % 4 * 1 + 0 = t.val / 8 % 4; omega
  | ⟨1, _⟩ => show (t.val % 8) * 256 + r.val = 256 * (t.val % 8) + r.val; omega
  | ⟨2, _⟩ => show (t.val / 32) * 2048 + f.val = 2048 * (t.val / 32) + f.val; omega

theorem index4 : ∀ t : Fin cfg0.N, win0_4.index t = ![t.val / 8 % 4, t.val % 8 - 2, 2 + t.val / 32] := by decide +kernel
theorem block4_entry (m : (ℓ : Loc nD τ sig) → Buf (Elt Ideal) ℓ) (c : Dev nD) (t : Fin cfg0.N) (r : Fin 256) (f : Fin 2048) :
    (iblk m c 4 t : Vec Ideal S1x256x2048 .bf16) (ix3 (n0 := 1) (n1 := 256) (n2 := 2048) 0 r f)
      = (V m c main_v7 : FVec Ideal S4x2048x8192 .bf16) (ix3 (n0 := 4) (n1 := 2048) (n2 := 8192) ⟨t.val / 8 % 4, by omega⟩ ⟨256 * (t.val % 8 - 2) + r.val, by omega⟩
        ⟨2048 * (2 + t.val / 32) + f.val, by have := lt_of_lt_of_eq t.isLt (show cfg0.N = 64 from N_0); omega⟩) := by
  unfold iblk
  refine congrArg (V m c main_v7) ?_
  funext a; apply Fin.ext
  refine (Pipeline.Window.rect_emb_val win0_4 t (ix3 (n0 := 1) (n1 := 256) (n2 := 2048) 0 r f) a).trans ?_
  rw [index4 t]
  match a with
  | ⟨0, _⟩ => show t.val / 8 % 4 * 1 + 0 = t.val / 8 % 4; omega
  | ⟨1, _⟩ => show (t.val % 8 - 2) * 256 + r.val = 256 * (t.val % 8 - 2) + r.val; omega
  | ⟨2, _⟩ => show (2 + t.val / 32) * 2048 + f.val = 2048 * (2 + t.val / 32) + f.val; omega

theorem index5 : ∀ t : Fin cfg0.N, win0_5.index t = ![t.val / 8 % 4, t.val % 8 - 1, 2 + t.val / 32] := by decide +kernel
theorem block5_entry (m : (ℓ : Loc nD τ sig) → Buf (Elt Ideal) ℓ) (c : Dev nD) (t : Fin cfg0.N) (r : Fin 256) (f : Fin 2048) :
    (iblk m c 5 t : Vec Ideal S1x256x2048 .bf16) (ix3 (n0 := 1) (n1 := 256) (n2 := 2048) 0 r f)
      = (V m c main_v7 : FVec Ideal S4x2048x8192 .bf16) (ix3 (n0 := 4) (n1 := 2048) (n2 := 8192) ⟨t.val / 8 % 4, by omega⟩ ⟨256 * (t.val % 8 - 1) + r.val, by omega⟩
        ⟨2048 * (2 + t.val / 32) + f.val, by have := lt_of_lt_of_eq t.isLt (show cfg0.N = 64 from N_0); omega⟩) := by
  unfold iblk
  refine congrArg (V m c main_v7) ?_
  funext a; apply Fin.ext
  refine (Pipeline.Window.rect_emb_val win0_5 t (ix3 (n0 := 1) (n1 := 256) (n2 := 2048) 0 r f) a).trans ?_
  rw [index5 t]
  match a with
  | ⟨0, _⟩ => show t.val / 8 % 4 * 1 + 0 = t.val / 8 % 4; omega
  | ⟨1, _⟩ => show (t.val % 8 - 1) * 256 + r.val = 256 * (t.val % 8 - 1) + r.val; omega
  | ⟨2, _⟩ => show (2 + t.val / 32) * 2048 + f.val = 2048 * (2 + t.val / 32) + f.val; omega

theorem index6 : ∀ t : Fin cfg0.N, win0_6.index t = ![t.val / 8 % 4, t.val % 8, 2 + t.val / 32] := by decide +kernel
theorem block6_entry (m : (ℓ : Loc nD τ sig) → Buf (Elt Ideal) ℓ) (c : Dev nD) (t : Fin cfg0.N) (r : Fin 256) (f : Fin 2048) :
    (iblk m c 6 t : Vec Ideal S1x256x2048 .bf16) (ix3 (n0 := 1) (n1 := 256) (n2 := 2048) 0 r f)
      = (V m c main_v7 : FVec Ideal S4x2048x8192 .bf16) (ix3 (n0 := 4) (n1 := 2048) (n2 := 8192) ⟨t.val / 8 % 4, by omega⟩ ⟨256 * (t.val % 8) + r.val, by omega⟩
        ⟨2048 * (2 + t.val / 32) + f.val, by have := lt_of_lt_of_eq t.isLt (show cfg0.N = 64 from N_0); omega⟩) := by
  unfold iblk
  refine congrArg (V m c main_v7) ?_
  funext a; apply Fin.ext
  refine (Pipeline.Window.rect_emb_val win0_6 t (ix3 (n0 := 1) (n1 := 256) (n2 := 2048) 0 r f) a).trans ?_
  rw [index6 t]
  match a with
  | ⟨0, _⟩ => show t.val / 8 % 4 * 1 + 0 = t.val / 8 % 4; omega
  | ⟨1, _⟩ => show (t.val % 8) * 256 + r.val = 256 * (t.val % 8) + r.val; omega
  | ⟨2, _⟩ => show (2 + t.val / 32) * 2048 + f.val = 2048 * (2 + t.val / 32) + f.val; omega

/-- Column `j` of the band of point `t` is this key. -/
def keyOf (t : Fin cfg0.N) (j : Fin 768) : Fin 2048 := ⟨256 * (t.val % 8) + j.val - 512, by omega⟩
/-- Row `r` of point `t` is this query. -/
def rowOf (t : Fin cfg0.N) (r : Fin 256) : Fin 2048 := ⟨256 * (t.val % 8) + r.val, by omega⟩
/-- The sequence point `t` works on, and its head `h`. -/
def seqOf (t : Fin cfg0.N) : Fin 4 := ⟨t.val / 8 % 4, by omega⟩
def headOf (t : Fin cfg0.N) (h : Fin 16) : Fin 32 := ⟨16 * (t.val / 32) + h.val, by have := lt_of_lt_of_eq t.isLt (show cfg0.N = 64 from N_0); omega⟩

/-- Three blocks side by side, each a piece of one column of keys, are that column. -/
theorem pick3_eq {α : Type} (t : Fin cfg0.N) (r : Fin 256) (j : Fin 768) (hj : OkCol (t.val % 8) r j) (x : Fin 2048 → α) (a b c : Fin 256 → α)
    (ha : ∀ r : Fin 256, a r = x ⟨256 * (t.val % 8 - 2) + r.val, by omega⟩) (hb : ∀ r : Fin 256, b r = x ⟨256 * (t.val % 8 - 1) + r.val, by omega⟩)
    (hc : ∀ r : Fin 256, c r = x ⟨256 * (t.val % 8) + r.val, by omega⟩) : pick3 a b c j = x (keyOf t j) := by
  unfold OkCol at hj
  unfold pick3 keyOf
  split_ifs with h1 h2
  · rw [ha]; refine congrArg x (Fin.ext ?_); dsimp only; omega
  · rw [hb]; refine congrArg x (Fin.ext ?_); dsimp only; omega
  · rw [hc]; refine congrArg x (Fin.ext ?_); dsimp only; omega

/-- The strip's entry for a column of the band is the bias table's entry of the clipped distance. -/
theorem strip_value (m : (ℓ : Loc nD τ sig) → Buf (Elt Ideal) ℓ) (c : Dev nD) (t : Fin cfg0.N) (h : Fin 16) (r : Fin 256) (j : Fin 768)
    (hj : OkCol (t.val % 8) r j) :
    (iblk m c 7 t : Vec Ideal S16x2x64x256 .f32) (stripEntry h r j) = argB m c (ix2 (headOf t h) (relCol (rowOf t r) (keyOf t j))) := by
  have key : ∀ (p : Fin 2) (a : Fin 64) (k : Fin 256), offOf (63 - a.val + k.val + (1 - p.val) * 64) = (relCol (rowOf t r) (keyOf t j)).val →
      (iblk m c 7 t : Vec Ideal S16x2x64x256 .f32) (ix4 h p a k) = argB m c (ix2 (headOf t h) (relCol (rowOf t r) (keyOf t j))) := by
    intro p a k e
    rw [strips_entry]
    refine (strips_value m c (headOf t h) p a k).trans ?_
    exact congrArg (fun z => argB m c (ix2 (headOf t h) z)) (Fin.ext e)
  unfold OkCol at hj
  have hr := r.isLt
  have hjj := j.isLt
  unfold stripEntry
  split_ifs with hs
  · refine key _ _ _ ?_
    unfold stripAt at hs
    unfold offOf relCol rowOf keyOf stripAt
    dsimp only
    omega
  · refine key _ _ _ ?_
    unfold stripAt at hs
    unfold offOf relCol rowOf keyOf
    show 383 - max (63 - 0 + 0 + (1 - 1) * 64) 127 = _
    dsimp only
    omega

section
variable (m : (ℓ : Loc nD τ sig) → Buf (Elt Ideal) ℓ) (c : Dev nD)
variable (Q : Fin 4 → Fin 2048 → Fin 4096 → ℝ) (KV : Fin 4 → Fin 2048 → Fin 8192 → ℝ) (B : Fin 32 → Fin 257 → ℝ)
variable (hQ : ∀ b s d, argQ m c (ix3 b s d) = (Q b s d : EReal)) (hKV : ∀ b s d, argKV m c (ix3 b s d) = (KV b s d : EReal))
variable (hB : ∀ h i, argB m c (ix2 h i) = (B h i : EReal))

include hQ in
theorem query_entry (t : Fin cfg0.N) (h : Fin 16) (r : Fin 256) (d : Fin 128) :
    (iblk m c 0 t : Vec Ideal S1x256x2048 .bf16) (ix3 (n0 := 1) (n1 := 256) (n2 := 2048) 0 r ⟨128 * h.val + d.val, by omega⟩)
      = ((Q (seqOf t) (rowOf t r) (feat (headOf t h) d) * (Real.sqrt 128 * Real.log 2)⁻¹ : ℝ) : EReal) := by
  rw [block0_entry]
  refine (q_entry m c _ _ _).trans ?_
  rw [hQ, ← EReal.coe_mul]
  refine congrArg (fun z => ((Q (seqOf t) (rowOf t r) z * (Real.sqrt 128 * Real.log 2)⁻¹ : ℝ) : EReal)) (Fin.ext ?_)
  show 2048 * (t.val / 32) + (128 * h.val + d.val) = 128 * (16 * (t.val / 32) + h.val) + d.val
  omega

include hKV in
theorem key_entry (t : Fin cfg0.N) (h : Fin 16) (r : Fin 256) (j : Fin 768) (hj : OkCol (t.val % 8) r j) (d : Fin 128) :
    pick3 (fun r => (iblk m c 1 t : Vec Ideal S1x256x2048 .bf16) (ix3 (n0 := 1) (n1 := 256) (n2 := 2048) 0 r ⟨128 * h.val + d.val, by omega⟩))
      (fun r => (iblk m c 2 t : Vec Ideal S1x256x2048 .bf16) (ix3 (n0 := 1) (n1 := 256) (n2 := 2048) 0 r ⟨128 * h.val + d.val, by omega⟩))
      (fun r => (iblk m c 3 t : Vec Ideal S1x256x2048 .bf16) (ix3 (n0 := 1) (n1 := 256) (n2 := 2048) 0 r ⟨128 * h.val + d.val, by omega⟩)) j
      = (KV (seqOf t) (keyOf t j) (kFeat (headOf t h) d) : EReal) := by
  have e : ∀ (b : Fin 4) (s : Fin 2048) (f f' : Fin 8192), f.val = f'.val → (V m c main_v7 : FVec Ideal S4x2048x8192 .bf16) (ix3 b s f) = (KV b s f' : EReal) := by
    intro b s f f' hf; rw [Fin.ext hf]; exact (kv_entry m c b s f').trans (hKV b s f')
  refine pick3_eq t r j hj (fun p => (KV (seqOf t) p (kFeat (headOf t h) d) : EReal)) _ _ _ ?_ ?_ ?_
  · intro r; refine (block1_entry m c t r _).trans (e _ _ _ _ ?_); show 2048 * (t.val / 32) + (128 * h.val + d.val) = 128 * (16 * (t.val / 32) + h.val) + d.val; omega
  · intro r; refine (block2_entry m c t r _).trans (e _ _ _ _ ?_); show 2048 * (t.val / 32) + (128 * h.val + d.val) = 128 * (16 * (t.val / 32) + h.val) + d.val; omega
  · intro r; refine (block3_entry m c t r _).trans (e _ _ _ _ ?_); show 2048 * (t.val / 32) + (128 * h.val + d.val) = 128 * (16 * (t.val / 32) + h.val) + d.val; omega

include hKV in
theorem value_entry (t : Fin cfg0.N) (h : Fin 16) (r : Fin 256) (j : Fin 768) (hj : OkCol (t.val % 8) r j) (d : Fin 128) :
    pick3 (fun r => (iblk m c 4 t : Vec Ideal S1x256x2048 .bf16) (ix3 (n0 := 1) (n1 := 256) (n2 := 2048) 0 r ⟨128 * h.val + d.val, by omega⟩))
      (fun r => (iblk m c 5 t : Vec Ideal S1x256x2048 .bf16) (ix3 (n0 := 1) (n1 := 256) (n2 := 2048) 0 r ⟨128 * h.val + d.val, by omega⟩))
      (fun r => (iblk m c 6 t : Vec Ideal S1x256x2048 .bf16) (ix3 (n0 := 1) (n1 := 256) (n2 := 2048) 0 r ⟨128 * h.val + d.val, by omega⟩)) j
      = (KV (seqOf t) (keyOf t j) (vFeat (headOf t h) d) : EReal) := by
  have e : ∀ (b : Fin 4) (s : Fin 2048) (f f' : Fin 8192), f.val = f'.val → (V m c main_v7 : FVec Ideal S4x2048x8192 .bf16) (ix3 b s f) = (KV b s f' : EReal) := by
    intro b s f f' hf; rw [Fin.ext hf]; exact (kv_entry m c b s f').trans (hKV b s f')
  refine pick3_eq t r j hj (fun p => (KV (seqOf t) p (vFeat (headOf t h) d) : EReal)) _ _ _ ?_ ?_ ?_
  · intro r; refine (block4_entry m c t r _).trans (e _ _ _ _ ?_); show 2048 * (2 + t.val / 32) + (128 * h.val + d.val) = 4096 + (128 * (16 * (t.val / 32) + h.val) + d.val); omega
  · intro r; refine (block5_entry m c t r _).trans (e _ _ _ _ ?_); show 2048 * (2 + t.val / 32) + (128 * h.val + d.val) = 4096 + (128 * (16 * (t.val / 32) + h.val) + d.val); omega
  · intro r; refine (block6_entry m c t r _).trans (e _ _ _ _ ?_); show 2048 * (2 + t.val / 32) + (128 * h.val + d.val) = 4096 + (128 * (16 * (t.val / 32) + h.val) + d.val); omega

include hQ hKV hB in
/-- A column's score is the reference's, to base two. -/
theorem score_entry (t : Fin cfg0.N) (h : Fin 16) (r : Fin 256) (j : Fin 768) :
    scoreAt (t.val % 8) (iblk m c 0 t) (iblk m c 1 t) (iblk m c 2 t) (iblk m c 3 t) (iblk m c 7 t) h r j
      = if OkCol (t.val % 8) r j then ((logit Q KV B (seqOf t) (headOf t h) (rowOf t r) (keyOf t j) * (Real.log 2)⁻¹ : ℝ) : EReal) else ⊥ := by
  unfold scoreAt
  by_cases hj : OkCol (t.val % 8) r j
  · rw [if_pos hj, if_pos hj, strip_value m c t h r j hj, hB, ← EReal.coe_mul]
    simp only [query_entry m c Q hQ, key_entry m c KV hKV t h r j hj]
    simp only [← EReal.coe_mul]
    rw [← coe_sum, ← EReal.coe_add]
    refine congrArg _ ?_
    unfold logit
    rw [add_mul, Finset.sum_div, Finset.sum_mul]
    congr 1
    refine Finset.sum_congr rfl fun d _ => ?_
    rw [mul_inv]
    ring
  · rw [if_neg hj, if_neg hj]

include hQ hKV hB in
/-- What a point leaves in its block of the result is the attention of its rows. -/
theorem out_entry (t : Fin cfg0.N) (h : Fin 16) (r : Fin 256) (d : Fin 128) :
    outBlock m c t (ix3 (n0 := 1) (n1 := 256) (n2 := 2048) 0 r ⟨128 * h.val + d.val, by omega⟩)
      = attn Q KV B (seqOf t) (headOf t h) (rowOf t r) d := by
  unfold outBlock
  refine (head_apply t _ _ _ _ _ _ _ _ h r d).trans ?_
  refine band_eq_softmax (OkCol (t.val % 8) r) (Attends (rowOf t r)) (keyOf t) ?_ ?_ ?_ ⟨rowOf t r, ?_⟩
    (logit Q KV B (seqOf t) (headOf t h) (rowOf t r)) (fun p => KV (seqOf t) p (vFeat (headOf t h) d))
    _ _ (fun j => score_entry m c Q KV B hQ hKV hB t h r j) (fun j hj => value_entry m c KV hKV t h r j hj d)
    (masked Q KV B (seqOf t) (headOf t h) (rowOf t r)) (fun p => rfl)
  · intro j hj
    unfold OkCol at hj
    unfold Attends rowOf keyOf
    dsimp only
    omega
  · intro j j' hj hj' e
    unfold OkCol at hj hj'
    have e' : 256 * (t.val % 8) + j.val - 512 = 256 * (t.val % 8) + j'.val - 512 := congrArg Fin.val e
    exact Fin.ext (by omega)
  · intro p hp
    unfold Attends rowOf at hp
    dsimp only at hp
    have hr := r.isLt
    refine ⟨⟨p.val + 512 - 256 * (t.val % 8), by omega⟩, ?_, ?_⟩
    · unfold OkCol; dsimp only; omega
    · unfold keyOf; apply Fin.ext; dsimp only; omega
  · unfold Attends; omega
end

end Cert.KernelIdeal.Att

end
-- ==== Proof.Att.Out.lean ====
module

public import proofs.«01_k».proof.Proof.Att.Blocks
public import Idealize.ShloMosaic.Lib.ValueIdxCore
public import Idealize.ShloMosaic.Lib.ValueLayout
public import Idealize.ShloMosaic.Lib.ValueLayoutCasts
public import Idealize.ShloMosaic.Lib.Pointwise
public import Idealize.ShloMosaic.Lib.Claim
public import Idealize.ShloMosaic.Lib.Pipeline.ValueKit.Geometry
public import Idealize.ShloMosaic.PureOps.Ideal
public import Idealize.ShloMosaic.PureOps.Ideal.Laws

@[expose] public section

set_option maxRecDepth 16384

noncomputable section

namespace Cert.KernelIdeal.Att

open Cert.KernelIdeal.Gen
open Idealize.ShloMosaic Idealize.ShloMosaic.TcCoe Idealize.ShloMosaic.Tactic
open Idealize.ShloMosaic.Pipeline (Dat Cfg Window)

open Cert.Att
open Idealize.SL.Sem

variable (m : (ℓ : Loc nD τ sig) → Buf (Elt Ideal) ℓ) (ρ : Dev nD → PrngReg) (c : Dev nD)

theorem index8 : ∀ t : Fin cfg0.N, win0_8.index t = ![t.val / 8 % 4, t.val % 8, t.val / 32] := by decide +kernel

variable (Q : Fin 4 → Fin 2048 → Fin 4096 → ℝ) (KV : Fin 4 → Fin 2048 → Fin 8192 → ℝ) (B : Fin 32 → Fin 257 → ℝ)
  (hQ : ∀ b s d, argQ m c (ix3 b s d) = (Q b s d : EReal)) (hKV : ∀ b s d, argKV m c (ix3 b s d) = (KV b s d : EReal))
  (hB : ∀ h i, argB m c (ix2 h i) = (B h i : EReal))

/-- The whole result: every frame's attention, head by head. -/
def whole (y : S4x2048x4096.Idx) : EReal :=
  attn Q KV B ⟨(y 0).val, (y 0).isLt⟩ ⟨(y 2).val / 128, by have h : (y 2).val < 4096 := (y 2).isLt; omega⟩ ⟨(y 1).val, (y 1).isLt⟩
    ⟨(y 2).val % 128, Nat.mod_lt _ (by decide)⟩

theorem whole_at (y : S4x2048x4096.Idx) (b : Fin 4) (h : Fin 32) (s : Fin 2048) (d : Fin 128)
    (e0 : (y 0).val = b.val) (e1 : (y 1).val = s.val) (e2 : (y 2).val = 128 * h.val + d.val) : whole Q KV B y = attn Q KV B b h s d := by
  have hd := d.isLt
  unfold whole
  congr 1
  · exact Fin.ext e0
  · exact Fin.ext (by dsimp only; omega)
  · exact Fin.ext e1
  · exact Fin.ext (by dsimp only; omega)

include hQ hKV hB in
theorem point_entry (t : Fin cfg0.N) (h : Fin 16) (r : Fin 256) (d : Fin 128) :
    outBlock m c t (ix3 (n0 := 1) (n1 := 256) (n2 := 2048) 0 r ⟨128 * h.val + d.val, by omega⟩)
      = whole Q KV B ((win0_8.blk t).view.emb (ix3 (n0 := 1) (n1 := 256) (n2 := 2048) 0 r ⟨128 * h.val + d.val, by omega⟩)) := by
  refine (out_entry m c Q KV B hQ hKV hB t h r d).trans (whole_at Q KV B _ _ _ _ _ ?_ ?_ ?_).symm
  · refine (Pipeline.Window.rect_emb_val win0_8 t (ix3 (n0 := 1) (n1 := 256) (n2 := 2048) 0 r _) 0).trans ?_
    rw [index8 t]
    show t.val / 8 % 4 * 1 + 0 = t.val / 8 % 4
    omega
  · refine (Pipeline.Window.rect_emb_val win0_8 t (ix3 (n0 := 1) (n1 := 256) (n2 := 2048) 0 r _) 1).trans ?_
    rw [index8 t]
    show t.val % 8 * 256 + r.val = 256 * (t.val % 8) + r.val
    omega
  · refine (Pipeline.Window.rect_emb_val win0_8 t (ix3 (n0 := 1) (n1 := 256) (n2 := 2048) 0 r _) 2).trans ?_
    rw [index8 t]
    show t.val / 32 * 2048 + (128 * h.val + d.val) = 128 * (16 * (t.val / 32) + h.val) + d.val
    omega

theorem split_block (P : S1x256x2048.Idx → Prop)
    (hP : ∀ (h : Fin 16) (r : Fin 256) (d : Fin 128), P (ix3 (n0 := 1) (n1 := 256) (n2 := 2048) 0 r ⟨128 * h.val + d.val, by omega⟩))
    (y : S1x256x2048.Idx) : P y := by
  have h0 : (y 0).val < 1 := (y 0).isLt
  have h1 : (y 1).val < 256 := (y 1).isLt
  have h2 : (y 2).val < 2048 := (y 2).isLt
  have e : y = ix3 (n0 := 1) (n1 := 256) (n2 := 2048) 0 ⟨(y 1).val, h1⟩ ⟨128 * ((y 2).val / 128) + (y 2).val % 128, by omega⟩ := by
    funext a
    match a with
    | ⟨0, _⟩ => exact Fin.ext (Nat.lt_one_iff.1 h0)
    | ⟨1, _⟩ => rfl
    | ⟨2, _⟩ => exact Fin.ext (Nat.div_add_mod (y 2).val 128).symm
  rw [e]
  exact hP ⟨(y 2).val / 128, by omega⟩ ⟨(y 1).val, h1⟩ ⟨(y 2).val % 128, Nat.mod_lt _ (by decide)⟩

include hQ hKV hB in
theorem arr_out : (dats m 0 c).arrAt 8 cfg0.N = whole Q KV B := by
  refine (dats m 0 c).arrAt_eq_of_covers 8 _ (by decide +kernel) fun t hf y => ?_
  rw [after8]
  exact split_block (fun y => outBlock m c t y = whole Q KV B ((win0_8.blk t).view.emb y)) (point_entry m c Q KV B hQ hKV hB t) y

end Cert.KernelIdeal.Att

end
-- ==== Proof.Att.RowMax.lean ====
module

public import proofs.«01_k».proof.Proof.Gen.ReferenceIdeal
public import Idealize.ShloMosaic.Lib.ValueIdxCore
public import Idealize.ShloMosaic.Lib.ValueLayout
public import Idealize.ShloMosaic.Lib.Pointwise
public import Idealize.ShloMosaic.PureOps.Ideal
public import Idealize.ShloMosaic.PureOps.Ideal.Laws

@[expose] public section

set_option maxRecDepth 16384

noncomputable section

namespace Cert.Att

open Idealize.ShloMosaic Idealize.ShloMosaic.Tactic

/-- The largest entry along one axis, from a given start. -/
theorem reduceMax_single {s t u : Shape} {a : Fin s.rank} (x : FVec Ideal s .f32) (init : FVec Ideal u .f32) (h' : s.ReducesTo [a] t) (h : s.Reduces [a] t)
    (hu : 0 < u.numel) (j : t.Idx) :
    Host.reduce FloatOps.maximumf x init h' hu j
      = (Finset.univ : Finset (Fin (s.size a))).fold (max : EReal → EReal → EReal) (init (Shape.Idx.first hu)) (x ∘ h.lift j) :=
  Host.reduce_eq_fold_single (max : EReal → EReal → EReal) x init h' h hu j

theorem lift_entry {n0 n1 n2 n3 : Nat} (x : FVec Ideal (⟨4, ![n0, n1, n2, n3]⟩ : Shape) .f32)
    (h : (⟨4, ![n0, n1, n2, n3]⟩ : Shape).Reduces [3] (⟨3, ![n0, n1, n2]⟩ : Shape)) (i : Fin n0) (j : Fin n1) (k : Fin n2) :
    x ∘ h.lift (ix3 i j k) = fun l : Fin n3 => x (ix4 i j k l) := by
  funext l
  refine congrArg x ?_
  funext a
  match a with
  | ⟨0, _⟩ => rfl
  | ⟨1, _⟩ => rfl
  | ⟨2, _⟩ => rfl
  | ⟨3, _⟩ => rfl

/-- The largest entry along the last of four axes. -/
theorem reduceMax_last {n0 n1 n2 n3 : Nat} {u : Shape} (x : FVec Ideal (⟨4, ![n0, n1, n2, n3]⟩ : Shape) .f32) (init : FVec Ideal u .f32)
    (h' : (⟨4, ![n0, n1, n2, n3]⟩ : Shape).ReducesTo [3] (⟨3, ![n0, n1, n2]⟩ : Shape))
    (h : (⟨4, ![n0, n1, n2, n3]⟩ : Shape).Reduces [3] (⟨3, ![n0, n1, n2]⟩ : Shape)) (hu : 0 < u.numel) (i : Fin n0) (j : Fin n1) (k : Fin n2) :
    Host.reduce FloatOps.maximumf x init h' hu (ix3 i j k)
      = (Finset.univ : Finset (Fin n3)).fold (max : EReal → EReal → EReal) (init (Shape.Idx.first hu)) (fun l => x (ix4 i j k l)) :=
  (reduceMax_single x init h' h hu _).trans (congrArg (fun f : Fin n3 → EReal => (Finset.univ : Finset (Fin n3)).fold (max : EReal → EReal → EReal) (init (Shape.Idx.first hu)) f) (lift_entry x h i j k))

/-- The larger of `-∞` and an entry is the entry. -/
theorem maximumf_bot {s : Shape} (x y : FVec Ideal s .f32) (j : s.Idx) (v : EReal) (hx : (x j : EReal) = ⊥) (hy : (y j : EReal) = v) : maximumf x y j = v := by
  show max (x j : EReal) (y j : EReal) = v
  rw [hx, hy]
  exact max_eq_right bot_le

open Cert.ReferenceIdeal Cert.ReferenceIdeal.Gen

theorem drops_last : S4x32x2048x2048.Reduces [3] S4x32x2048 := by decide

/-- A row's largest score. -/
theorem reduceMax_row (x : FVec Ideal S4x32x2048x2048 .f32) (init : FVec Ideal S_ .f32) (hi : ∀ k, init k = (⊥ : EReal)) (i : Fin 4) (h : Fin 32) (s : Fin 2048) :
    Host.reduce FloatOps.maximumf x init reducesTo_S4x32x2048x2048_S4x32x2048_d3 h_S_ (ix3 i h s)
      = (Finset.univ : Finset (Fin 2048)).fold max (⊥ : EReal) (fun p => x (ix4 i h s p)) := by
  rw [← hi (Shape.Idx.first h_S_)]
  exact reduceMax_last (n0 := 4) (n1 := 32) (n2 := 2048) (n3 := 2048) x init _ drops_last h_S_ i h s

end Cert.Att

end
-- ==== Proof.Att.Ref.lean ====
module

public import proofs.«01_k».proof.Proof.Gen.ReferenceIdeal
public import proofs.«01_k».proof.Proof.Gen.ReferenceIdeal.Run
public import proofs.«01_k».proof.Proof.Att.Spec
public import proofs.«01_k».proof.Proof.Att.Softmax
public import proofs.«01_k».proof.Proof.Att.RowMax
public import Idealize.ShloMosaic.Lib.ValueIdxCore
public import Idealize.ShloMosaic.Lib.ValueLayout
public import Idealize.ShloMosaic.Lib.ValueLayoutCasts
public import Idealize.ShloMosaic.Lib.Pointwise
public import Idealize.ShloMosaic.Lib.Claim
public import Idealize.ShloMosaic.PureOps.Ideal
public import Idealize.ShloMosaic.PureOps.Ideal.Laws

@[expose] public section

set_option maxRecDepth 16384

noncomputable section

namespace Cert.ReferenceIdeal.Att

open Cert.ReferenceIdeal Cert.ReferenceIdeal.Gen
open Idealize.ShloMosaic Idealize.ShloMosaic.TcCoe Idealize.ShloMosaic.Tactic
open Cert.Att

/-- The chunk of every frame. -/
def chunkOf : IVec S2048 32 :=
  select (andi (cmpi .ne (signi (iotaInDim S2048 32 0)) (broadcastInDim S2048 ![] bcast_S_S2048 (signi (id (constantI S_ 32 64#32))))) (cmpi .ne (Host.remsi (iotaInDim S2048 32 0) (broadcastInDim S2048 ![] bcast_S_S2048 (id (constantI S_ 32 64#32)))) (broadcastInDim S2048 ![] bcast_S_S2048 (constantI S_ 32 0#32)))) (subi (Host.divsi (iotaInDim S2048 32 0) (broadcastInDim S2048 ![] bcast_S_S2048 (id (constantI S_ 32 64#32)))) (broadcastInDim S2048 ![] bcast_S_S2048 (constantI S_ 32 1#32))) (Host.divsi (iotaInDim S2048 32 0) (broadcastInDim S2048 ![] bcast_S_S2048 (id (constantI S_ 32 64#32))))

/-- Which key is in reach of which query. -/
def reach : IVec S2048x2048 1 :=
  andi (andi (broadcastInDim S2048x2048 ![0, 1] bcast_S1x2048_S2048x2048_0_1 (cmpi .sge (broadcastInDim S1x2048 ![1] bcast_S2048_S1x2048_1 (iotaInDim S2048 32 0)) (broadcastInDim S1x2048 ![] bcast_S_S1x2048 (constantI S_ 32 0#32)))) (cmpi .sle (broadcastInDim S2048x2048 ![0, 1] bcast_S1x2048_S2048x2048_0_1 (broadcastInDim S1x2048 ![1] bcast_S2048_S1x2048_1 chunkOf)) (broadcastInDim S2048x2048 ![0, 1] bcast_S2048x1_S2048x2048_0_1 (broadcastInDim S2048x1 ![0] bcast_S2048_S2048x1_0 chunkOf)))) (cmpi .sge (broadcastInDim S2048x2048 ![0, 1] bcast_S1x2048_S2048x2048_0_1 (broadcastInDim S1x2048 ![1] bcast_S2048_S1x2048_1 chunkOf)) (broadcastInDim S2048x2048 ![0, 1] bcast_S2048x1_S2048x2048_0_1 (subi (broadcastInDim S2048x1 ![0] bcast_S2048_S2048x1_0 chunkOf) (broadcastInDim S2048x1 ![] bcast_S_S2048x1 (constantI S_ 32 8#32)))))

/-- The clipped distances, shifted to start at zero. -/
def clipped : IVec S2048x2048 32 :=
  addi (minsi (broadcastInDim S2048x2048 ![] bcast_S_S2048x2048 (id (constantI S_ 32 128#32))) (maxsi (broadcastInDim S2048x2048 ![] bcast_S_S2048x2048 (id (constantI S_ 32 4294967168#32))) (subi (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0)))))) (broadcastInDim S2048x2048 ![] bcast_S_S2048x2048 (constantI S_ 32 128#32))

/-- The columns of the bias table: no distance is negative any more. -/
def columns : IVec S2048x2048 32 :=
  select (cmpi .slt clipped (broadcastInDim S2048x2048 ![] bcast_S_S2048x2048 (constantI S_ 32 0#32))) (addi clipped (broadcastInDim S2048x2048 ![] bcast_S_S2048x2048 (constantI S_ 32 257#32))) clipped

variable (q : FVec Ideal S4x2048x4096 .f32) (kv : FVec Ideal S4x2048x8192 .f32) (b : FVec Ideal S32x257 .f32)

/-- The scores, `-∞` out of reach. -/
def scores : FVec Ideal S4x32x2048x2048 .f32 :=
  select (broadcastInDim S4x32x2048x2048 ![2, 3] bcast_S2048x2048_S4x32x2048x2048_2_3 reach) (addf (Host.divf (Host.dotGeneral dot_S4x2048x32x128_S4x2048x32x128_S4x32x2048x2048_3_3_1_1_02_02 none (shapeCast _ q shapeCasts_S4x2048x4096_S4x2048x32x128) (extractStridedSlice S4x2048x32x128 ![0, 0, 0, 0] (shapeCast _ kv shapeCasts_S4x2048x8192_S4x2048x64x128) slices_S4x2048x64x128_S4x2048x32x128_0_0_0_0)) (broadcastInDim S4x32x2048x2048 ![] bcast_S_S4x32x2048x2048 (Host.sqrt (constant S_ .f32 0x43000000#32)))) (broadcastInDim S4x32x2048x2048 ![0, 1, 2, 3] bcast_S1x32x2048x2048_S4x32x2048x2048_0_1_2_3 (broadcastInDim S1x32x2048x2048 ![1, 2, 3] bcast_S32x2048x2048_S1x32x2048x2048_1_2_3 (Host.gather gather_S32x257_S2048x2048x1_S32x2048x2048_0_1_n_n_1_2_321 b (broadcastInDim S2048x2048x1 ![0, 1] bcast_S2048x2048_S2048x2048x1_0_1 columns))))) (broadcastInDim S4x32x2048x2048 ![] bcast_S_S4x32x2048x2048 (id (constant S_ .f32 0xFF800000#32)))

/-- The largest score of every query. -/
def rowMax : FVec Ideal S4x32x2048 .f32 :=
  maximumf (broadcastInDim S4x32x2048 ![] bcast_S_S4x32x2048 (constant S_ .f32 0xFF800000#32)) (Host.reduce FloatOps.maximumf (scores q kv b) (constant S_ .f32 0xFF800000#32) reducesTo_S4x32x2048x2048_S4x32x2048_d3 h_S_)

/-- The exponentials of the scores, each less its query's largest. -/
def weights : FVec Ideal S4x32x2048x2048 .f32 :=
  Host.exp (subf (scores q kv b) (broadcastInDim S4x32x2048x2048 ![0, 1, 2, 3] bcast_S4x32x2048x1_S4x32x2048x2048_0_1_2_3 (broadcastInDim S4x32x2048x1 ![0, 1, 2] bcast_S4x32x2048_S4x32x2048x1_0_1_2 (rowMax q kv b))))

/-- Their sum. -/
def total : FVec Ideal S4x32x2048 .f32 :=
  Host.reduceAdd (weights q kv b) (constant S_ .f32 0x00000000#32) reducesTo_S4x32x2048x2048_S4x32x2048_d3 h_S_

/-- The softmax. -/
def probs : FVec Ideal S4x32x2048x2048 .f32 :=
  Host.divf (weights q kv b) (broadcastInDim S4x32x2048x2048 ![0, 1, 2, 3] bcast_S4x32x2048x1_S4x32x2048x2048_0_1_2_3 (broadcastInDim S4x32x2048x1 ![0, 1, 2] bcast_S4x32x2048_S4x32x2048x1_0_1_2 (total q kv b)))

/-- The values, averaged. -/
def mixed : FVec Ideal S4x32x128x2048 .f32 :=
  Host.dotGeneral dot_S4x2048x32x128_S4x32x2048x2048_S4x32x128x2048_1_3_3_2_02_01 none (extractStridedSlice S4x2048x32x128 ![0, 0, 32, 0] (shapeCast _ kv shapeCasts_S4x2048x8192_S4x2048x64x128) slices_S4x2048x64x128_S4x2048x32x128_0_0_32_0) (probs q kv b)

/-- The reference's result. -/
def result : FVec Ideal S4x2048x4096 .bf16 :=
  truncf .bf16 (shapeCast _ (transpose S4x2048x32x128 [0, 3, 1, 2] (mixed q kv b) transposes_S4x32x128x2048_S4x2048x32x128_0_3_1_2) shapeCasts_S4x2048x32x128_S4x2048x4096) bitsLt_bf16_f32

theorem result_eq (m : (ℓ : Loc nD τ sig) → Buf (Elt Ideal) ℓ) (c : Dev nD) :
    Value.res_main_v62 (F := Ideal) m c = result (m ((c.tc : Thread nD τ).loc main_arg0)) (m ((c.tc : Thread nD τ).loc main_arg1)) (m ((c.tc : Thread nD τ).loc main_arg2)) := rfl

theorem chunkOf_apply (s : Fin 2048) : chunkOf (ix1 s) = BitVec.ofNat 32 (s.val / 64) := by
  unfold chunkOf
  pointwise
  revert s
  decide +kernel

theorem reach_apply (s p : Fin 2048) : reach (ix2 s p) = if Attends s p then 1#1 else 0#1 := by
  have h0 : IntOp.cmpi .sge (BitVec.ofNat 32 p.val) 0#32 = 1#1 := by revert p; decide +kernel
  have h1 : ∀ a b : Fin 32, IntOp.andi (IntOp.andi 1#1 (IntOp.cmpi .sle (BitVec.ofNat 32 a.val) (BitVec.ofNat 32 b.val)))
      (IntOp.cmpi .sge (BitVec.ofNat 32 a.val) (IntOp.subi (BitVec.ofNat 32 b.val) 8#32)) = if a.val ≤ b.val ∧ b.val ≤ a.val + 8 then 1#1 else 0#1 := by
    decide +kernel
  unfold reach
  pointwise [chunkOf_apply]
  rw [h0]
  exact h1 ⟨p.val / 64, by omega⟩ ⟨s.val / 64, by omega⟩

/-- A distance as a word. -/
theorem dist_word (s p : Fin 2048) : IntOp.subi (BitVec.ofNat 32 s.val) (BitVec.ofNat 32 p.val)
    = IntOp.subi (BitVec.ofNat 32 (s.val + 2048 - p.val)) 2048#32 := by
  show BitVec.ofNat 32 s.val - BitVec.ofNat 32 p.val = BitVec.ofNat 32 (s.val + 2048 - p.val) - 2048#32
  apply BitVec.eq_of_toNat_eq
  simp only [BitVec.toNat_sub, BitVec.toNat_ofNat]
  omega

theorem clip_word : ∀ e : Fin 4096, IntOp.addi (IntOp.minsi 128#32 (IntOp.maxsi 4294967168#32 (IntOp.subi (BitVec.ofNat 32 e.val) 2048#32))) 128#32
    = BitVec.ofNat 32 (min 256 (e.val - 1920)) := by decide +kernel

theorem clipped_apply (s p : Fin 2048) : clipped (ix2 s p) = BitVec.ofNat 32 (relCol s p).val := by
  unfold clipped
  pointwise
  show IntOp.addi (IntOp.minsi 128#32 (IntOp.maxsi 4294967168#32 (IntOp.subi (BitVec.ofNat 32 s.val) (BitVec.ofNat 32 p.val)))) 128#32 = _
  rw [dist_word]
  refine (clip_word ⟨s.val + 2048 - p.val, by omega⟩).trans ?_
  refine congrArg (BitVec.ofNat 32) ?_
  show min 256 (s.val + 2048 - p.val - 1920) = min 256 (s.val + 128 - p.val)
  omega

theorem kept_word : ∀ k : Fin 257, Scalar.select (IntOp.cmpi .slt (BitVec.ofNat 32 k.val) 0#32) (IntOp.addi (BitVec.ofNat 32 k.val) 257#32) (BitVec.ofNat 32 k.val)
    = BitVec.ofNat 32 k.val := by decide +kernel

theorem columns_apply (s p : Fin 2048) : columns (ix2 s p) = BitVec.ofNat 32 (relCol s p).val := by
  unfold columns
  pointwise [clipped_apply]
  exact kept_word (relCol s p)

/-- The table read along its second axis, entry by entry. -/
theorem gather_apply (x : FVec Ideal S32x257 .f32) (idx : IVec S2048x2048x1 32) (h : Fin 32) (s p : Fin 2048) :
    Host.gather gather_S32x257_S2048x2048x1_S32x2048x2048_0_1_n_n_1_2_321 x idx (ix3 h s p)
      = x (ix2 h ⟨min (idx (ix3 s p (0 : Fin 1))).toInt.toNat 256, by omega⟩) := by
  unfold Host.gather
  refine congrArg x ?_
  funext a
  refine Fin.ext ?_
  show GatherDims.start _ (ix3 h s p) idx a + GatherDims.batchCoord _ (ix3 h s p) a + GatherDims.offCoord _ (ix3 h s p) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil]
    unfold GatherDims.start GatherDims.offCoord
    rw [dif_neg (by decide), dif_pos (by decide)]
    simp only [Nat.zero_add]
    rfl
  · rw [GatherDims.batchCoord_eq_zero _ _ _ List.not_mem_nil,
      GatherDims.offCoord_eq_zero _ _ _ (by decide)]
    simp only [Nat.add_zero]
    unfold GatherDims.start
    rw [dif_pos (by decide)]
    have hsi : ∀ hh, GatherDims.siIdx gather_S32x257_S2048x2048x1_S32x2048x2048_0_1_n_n_1_2_321 (ix3 h s p) ⟨0, hh⟩ = ix3 s p (0 : Fin 1) := by
      intro hh
      funext b; refine Fin.ext ?_
      match b with
      | ⟨0, _⟩ => rfl
      | ⟨1, _⟩ => rfl
      | ⟨2, _⟩ => rfl
    have := hsi (by decide)
    refine congrArg (fun z => min z 256) ?_
    exact congrArg (fun z => (idx z).toInt.toNat) this

theorem col_word : ∀ k : Fin 257, min (BitVec.ofNat 32 k.val).toInt.toNat 256 = k.val := by decide +kernel

theorem taken_apply (x : FVec Ideal S32x257 .f32) (h : Fin 32) (s p : Fin 2048) :
    Host.gather gather_S32x257_S2048x2048x1_S32x2048x2048_0_1_n_n_1_2_321 x
      (broadcastInDim S2048x2048x1 ![0, 1] bcast_S2048x2048_S2048x2048x1_0_1 columns) (ix3 h s p) = x (ix2 h (relCol s p)) := by
  rw [gather_apply]
  refine congrArg x ?_
  refine congrArg (ix2 h) (Fin.ext ?_)
  have e : broadcastInDim S2048x2048x1 ![0, 1] bcast_S2048x2048_S2048x2048x1_0_1 columns (ix3 s p (0 : Fin 1)) = BitVec.ofNat 32 (relCol s p).val := by
    pointwise [columns_apply]
  show min (broadcastInDim S2048x2048x1 ![0, 1] bcast_S2048x2048_S2048x2048x1_0_1 columns (ix3 s p (0 : Fin 1))).toInt.toNat 256 = _
  rw [e]
  exact col_word _

theorem ofBits_bot : Ideal.ofBits .f32 0xFF800000#32 = ⊥ := by simp [Ideal.ofBits, Ideal.ieee]

theorem ofBits_128 : Ideal.ofBits .f32 0x43000000#32 = ((128 : ℝ) : EReal) := by
  simp [Ideal.ofBits, Ideal.ieee]; rw [← EReal.coe_mul]; norm_num

theorem scores_apply (i : Fin 4) (h : Fin 32) (s p : Fin 2048) : scores q kv b (ix4 i h s p)
    = if Attends s p then Ideal.div (∑ x : Fin 128, q (ix3 i s (feat h x)) * kv (ix3 i p (kFeat h x))) (Ideal.sqrt (Ideal.ofBits .f32 0x43000000#32))
        + b (ix2 h (relCol s p)) else ⊥ := by
  have e : ∀ x : Fin 128, (⟨h.val * 128 + x.val, by omega⟩ : Fin 4096) = feat h x := fun x => Fin.ext (by unfold feat; dsimp only; omega)
  have e' : ∀ x : Fin 128, (⟨h.val * 128 + x.val, by omega⟩ : Fin 8192) = kFeat h x := fun x => Fin.ext (by unfold kFeat; dsimp only; omega)
  have hb : (id (constant (F := Ideal) S_ .f32 0xFF800000#32) ix0 : EReal) = ⊥ := ofBits_bot
  unfold scores
  pointwise [reach_apply]
  rw [taken_apply, hb]
  simp only [e, e']
  by_cases ha : Attends s p
  · rw [if_pos ha, if_pos ha]; rfl
  · rw [if_neg ha, if_neg ha]; rfl

/-- A row's largest entry. -/
theorem reduceMax_apply (x : FVec Ideal S4x32x2048x2048 .f32) (i : Fin 4) (h : Fin 32) (s : Fin 2048) :
    Host.reduce FloatOps.maximumf x (constant S_ .f32 0xFF800000#32) reducesTo_S4x32x2048x2048_S4x32x2048_d3 h_S_ (ix3 i h s)
      = (Finset.univ : Finset (Fin 2048)).fold max (⊥ : EReal) (fun p => x (ix4 i h s p)) := by
  exact reduceMax_row x _ (fun _ => ofBits_bot) i h s

theorem rowMax_apply (i : Fin 4) (h : Fin 32) (s : Fin 2048) : rowMax q kv b (ix3 i h s)
    = (Finset.univ : Finset (Fin 2048)).fold max (⊥ : EReal) (fun p => scores q kv b (ix4 i h s p)) := by
  have hb : (broadcastInDim S4x32x2048 ![] bcast_S_S4x32x2048 (constant (F := Ideal) S_ .f32 0xFF800000#32) (ix3 i h s) : EReal) = ⊥ := ofBits_bot
  unfold rowMax
  exact maximumf_bot _ _ _ _ hb (reduceMax_apply (scores q kv b) i h s)

theorem weights_apply (i : Fin 4) (h : Fin 32) (s p : Fin 2048) : weights q kv b (ix4 i h s p)
    = Ideal.exp (scores q kv b (ix4 i h s p) - rowMax q kv b (ix3 i h s)) := by
  unfold weights
  pointwise

theorem total_apply (i : Fin 4) (h : Fin 32) (s : Fin 2048) : total q kv b (ix3 i h s) = ∑ p : Fin 2048, weights q kv b (ix4 i h s p) := by
  unfold total
  pointwise

theorem probs_apply (i : Fin 4) (h : Fin 32) (s p : Fin 2048) : probs q kv b (ix4 i h s p)
    = Ideal.div (weights q kv b (ix4 i h s p)) (total q kv b (ix3 i h s)) := by
  unfold probs
  pointwise

theorem mixed_apply (i : Fin 4) (h : Fin 32) (d : Fin 128) (s : Fin 2048) : mixed q kv b (ix4 i h d s)
    = ∑ p : Fin 2048, kv (ix3 i p (vFeat h d)) * probs q kv b (ix4 i h s p) := by
  have e : (⟨(32 + h.val) * 128 + d.val, by omega⟩ : Fin 8192) = vFeat h d := Fin.ext (by unfold vFeat; dsimp only; omega)
  unfold mixed
  pointwise
  simp only [e]

theorem result_apply (i : Fin 4) (s : Fin 2048) (f : Fin 4096) : result q kv b (ix3 i s f)
    = mixed q kv b (ix4 i (⟨f.val / 128, by omega⟩ : Fin 32) (⟨f.val % 128, by omega⟩ : Fin 128) s) := by
  unfold result
  pointwise

variable (Q : Fin 4 → Fin 2048 → Fin 4096 → ℝ) (KV : Fin 4 → Fin 2048 → Fin 8192 → ℝ) (B : Fin 32 → Fin 257 → ℝ)
  (hQ : ∀ i s d, q (ix3 i s d) = (Q i s d : EReal)) (hKV : ∀ i s d, kv (ix3 i s d) = (KV i s d : EReal))
  (hB : ∀ h i, b (ix2 h i) = (B h i : EReal))

include hQ hKV hB

theorem scores_real (i : Fin 4) (h : Fin 32) (s p : Fin 2048) : scores q kv b (ix4 i h s p) = masked Q KV B i h s p := by
  rw [scores_apply]
  unfold masked
  refine if_congr Iff.rfl ?_ rfl
  rw [ofBits_128, Ideal.sqrt_coe, if_neg (by norm_num), hB]
  simp only [hQ, hKV, ← EReal.coe_mul]
  rw [← coe_sum, Ideal.div_coe (ne_of_gt (Real.sqrt_pos.mpr (by norm_num))), ← EReal.coe_mul, ← EReal.coe_add]
  refine congrArg _ ?_
  unfold logit
  rw [mul_one_div]

theorem weights_real (i : Fin 4) (h : Fin 32) (s p : Fin 2048) : weights q kv b (ix4 i h s p)
    = Ideal.exp (masked Q KV B i h s p - (Finset.univ : Finset (Fin 2048)).fold max ⊥ (masked Q KV B i h s)) := by
  rw [weights_apply, rowMax_apply]
  simp only [scores_real q kv b Q KV B hQ hKV hB]

theorem result_real (i : Fin 4) (s : Fin 2048) (f : Fin 4096) : result q kv b (ix3 i s f)
    = attn Q KV B i ⟨f.val / 128, by omega⟩ s ⟨f.val % 128, by omega⟩ := by
  rw [result_apply, mixed_apply]
  unfold attn
  refine Finset.sum_congr rfl fun p _ => ?_
  rw [hKV, probs_apply, total_apply]
  simp only [weights_real q kv b Q KV B hQ hKV hB]

end Cert.ReferenceIdeal.Att

end
-- ==== Proof.Att.Finite.lean ====
module

public import proofs.«01_k».proof.Pre_finite
public import Idealize.ShloMosaic.Lib.ReduceAll
public import Idealize.ShloMosaic.Lib.ValueIdxCore
public import Idealize.ShloMosaic.Lib.Pointwise
public import Idealize.ShloMosaic.PureOps.Ideal
public import Idealize.ShloMosaic.PureOps.Ideal.Laws

@[expose] public section

noncomputable section

namespace Cert.Pre_finite

open Idealize.ShloMosaic Idealize.ShloMosaic.Tactic

/-- The side conditions the precondition's operations take. -/
instance facts : Facts where
  bcast_S_S4x2048x4096 := by decide
  reducesTo_S4x2048x4096_S_d0_1_2 := by decide
  h_S_ := by decide
  bcast_S_S4x2048x8192 := by decide
  reducesTo_S4x2048x8192_S_d0_1_2 := by decide
  bcast_S_S32x257 := by decide
  reducesTo_S32x257_S_d0_1 := by decide

theorem ofBits_top : Ideal.ofBits .f32 0x7F800000#32 = ⊤ := by simp [Ideal.ofBits, Ideal.ieee]

/-- Below `∞` in absolute value: a real. -/
theorem real_of_abs_lt (x : EReal) (h : Ideal.cmp .olt (max x (-x)) (⊤ : EReal) = 1#1) : x = ((x.toReal : ℝ) : EReal) := by
  have hlt : max x (-x) < ⊤ := by
    by_contra hn
    simp [Ideal.cmp, hn] at h
  refine (EReal.coe_toReal ?_ ?_).symm
  · rintro rfl; simp at hlt
  · rintro rfl; simp at hlt

instance : Subsingleton S_.Idx := ⟨fun a b => funext fun k => k.elim0⟩

theorem entries_real {s : Shape} {axes : List (Fin s.rank)} (x : FVec Ideal s .f32) (hb : S_.BroadcastsInDim s (![] : Fin 0 → Fin s.rank)) (hr : s.ReducesTo axes S_) (hu : 0 < S_.numel) (j : S_.Idx)
    (h : Host.reduce IntOp.andi (cmpf .olt (Host.absf x) (broadcastInDim s ![] hb (constant S_ .f32 0x7F800000#32))) (constantI S_ 1 1#1) hr hu j = 1#1) (i : s.Idx) :
    x i = (((x i : EReal).toReal : ℝ) : EReal) := by
  have h1 := Host.reduce_andi_all _ _ hr hu j h i
  refine real_of_abs_lt (x i) ?_
  rw [← ofBits_top]
  exact h1

/-- Where the precondition holds, every argument is real. -/
theorem all_real (q : FVec Ideal S4x2048x4096 .f32) (kv : FVec Ideal S4x2048x8192 .f32) (b : FVec Ideal S32x257 .f32) (h : fn (F := Ideal) q kv b = fun _ => 1#1) :
    (∀ i, q i = (((q i : EReal).toReal : ℝ) : EReal)) ∧ (∀ i, kv i = (((kv i : EReal).toReal : ℝ) : EReal)) ∧ ∀ i, b i = (((b i : EReal).toReal : ℝ) : EReal) := by
  have hj := congrFun h ix0
  obtain ⟨h12, h3⟩ := IntOp.andi_eq_one.1 hj
  obtain ⟨h1, h2⟩ := IntOp.andi_eq_one.1 h12
  exact ⟨entries_real q _ _ _ _ h1, entries_real kv _ _ _ _ h2, entries_real b _ _ _ _ h3⟩

end Cert.Pre_finite

end
-- ==== Proof.DownIdeal.Setup.lean ====
module

public import proofs.«01_k».proof.Proof.Gen.DownIdeal.Frame
public import Idealize.ShloMosaic.Lib.Ring
public import Idealize.ShloMosaic.Lib.Tactic
public import Idealize.ShloMosaic.Lib.WordCmp

@[expose] public section

set_option maxRecDepth 16384

noncomputable section

namespace Cert.DownIdeal.Acc

open Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which branch a grid point takes -/

/-- The first slab of a block of results. -/
abbrev condFirst (i : grid0.Coords) : Prop := (Scalar.cmpi .ne (Scalar.extui (Scalar.cmpi .eq (BitVec.ofNat 32 (i 2).val) 0#32)) 0#32) = 1#1

theorem condFirst_iff : ∀ t : Fin cfg0.N, condFirst (grid0.coords t) ↔ t.val % 22 = 0 :=
  (by decide +kernel : ∀ t : Fin grid0.N, condFirst (grid0.coords t) ↔ t.val % 22 = 0)

/-- The last slab: the block of the prompt's results is written. -/
theorem condLast_iff : ∀ t : Fin cfg0.N, k0_cond2 (grid0.coords t) = 1#1 ↔ t.val % 22 = 21 :=
  (by decide +kernel : ∀ t : Fin grid0.N, k0_cond2 (grid0.coords t) = 1#1 ↔ t.val % 22 = 21)

/-- The last row of blocks: the sample's rows are multiplied too. -/
theorem condSample_iff : ∀ t : Fin cfg0.N, k0_cond3 (grid0.coords t) = 1#1 ↔ 132 ≤ t.val :=
  (by decide +kernel : ∀ t : Fin grid0.N, k0_cond3 (grid0.coords t) = 1#1 ↔ 132 ≤ t.val)

theorem condLast_eq (i : grid0.Coords) : k0_cond5 i = k0_cond2 i := rfl

/-! ## The buffers a point is given -/

abbrev st0 (t : Fin cfg0.N) : Memref sig .tc .vmem S2048x256 .bf16 := win0_0.stage (cfg0.slots t 0)
abbrev st1 (t : Fin cfg0.N) : Memref sig .tc .vmem S2048x256 .bf16 := win0_1.stage (cfg0.slots t 1)
abbrev st2 (t : Fin cfg0.N) : Memref sig .tc .vmem S128x256 .bf16 := win0_2.stage (cfg0.slots t 2)
abbrev st3 (t : Fin cfg0.N) : Memref sig .tc .vmem S128x256 .bf16 := win0_3.stage (cfg0.slots t 3)
abbrev st4 (t : Fin cfg0.N) : Memref sig .tc .vmem S1x256x2048 .f32 := win0_4.stage (cfg0.slots t 4)
abbrev st5 (t : Fin cfg0.N) : Memref sig .tc .vmem S1x256x2048 .f32 := win0_5.stage (cfg0.slots t 5)
abbrev st6 (t : Fin cfg0.N) : Memref sig .tc .vmem S2048x2048 .bf16 := win0_6.stage (cfg0.slots t 6)
abbrev st7 (t : Fin cfg0.N) : Memref sig .tc .vmem S128x2048 .bf16 := win0_7.stage (cfg0.slots t 7)
abbrev scrP : Memref sig .tc .vmem S2048x2048 .f32 := Memref.whole cc0_scratch0
abbrev scrS : Memref sig .tc .vmem S128x2048 .f32 := Memref.whole cc0_scratch1

/-! ## What one point computes -/

/-- The two blocks of weights of a point, the second one zero at the last slab. -/
def slab (i : grid0.Coords) (x4 x5 : Vec F S1x256x2048 .f32) : FVec F S512x2048 .bf16 :=
  concatenate S512x2048 0 [⟨S256x2048, truncf .bf16 (shapeCast S256x2048 x4 shapeCasts_S1x256x2048_S256x2048 : FVec F S256x2048 .f32) bitsLt_bf16_f32⟩, ⟨S256x2048, truncf .bf16 (Scalar.select (Scalar.cmpi .slt (BitVec.ofNat 32 (i 2).val) 21#32) (shapeCast S256x2048 x5 shapeCasts_S1x256x2048_S256x2048 : FVec F S256x2048 .f32) (broadcast S256x2048 (Scalar.ofBits .f32 0x00000000#32 : F .f32))) bitsLt_bf16_f32⟩] concatenates_S256x2048_S256x2048_S512x2048_d0

/-- One slab's product added to the prompt's sums. -/
def stepP (i : grid0.Coords) (x0 x1 : Vec F S2048x256 .bf16) (x4 x5 : Vec F S1x256x2048 .f32) (a : Vec F S2048x2048 .f32) : Vec F S2048x2048 .f32 :=
  shapeCast S2048x2048 (addf a (matmul dot_S2048x512_S512x2048_S2048x2048_1_0_0_1_n_n none (concatenate S2048x512 1 [⟨S2048x256, (shapeCast S2048x256 x0 shapeCasts_S2048x256_S2048x256 : FVec F S2048x256 .bf16)⟩, ⟨S2048x256, (shapeCast S2048x256 x1 shapeCasts_S2048x256_S2048x256 : FVec F S2048x256 .bf16)⟩] concatenates_S2048x256_S2048x256_S2048x512_d1) (slab i x4 x5) (constant S2048x2048 .f32 0x00000000#32))) shapeCasts_S2048x2048_S2048x2048

/-- One slab's product added to the sample's sums. -/
def stepS (i : grid0.Coords) (x2 x3 : Vec F S128x256 .bf16) (x4 x5 : Vec F S1x256x2048 .f32) (a : Vec F S128x2048 .f32) : Vec F S128x2048 .f32 :=
  shapeCast S128x2048 (addf a (matmul dot_S128x512_S512x2048_S128x2048_1_0_0_1_n_n none (concatenate S128x512 1 [⟨S128x256, (shapeCast S128x256 x2 shapeCasts_S128x256_S128x256 : FVec F S128x256 .bf16)⟩, ⟨S128x256, (shapeCast S128x256 x3 shapeCasts_S128x256_S128x256 : FVec F S128x256 .bf16)⟩] concatenates_S128x256_S128x256_S128x512_d1) (slab i x4 x5) (constant S128x2048 .f32 0x00000000#32))) shapeCasts_S128x2048_S128x2048

def zeroP : Vec F S2048x2048 .f32 := shapeCast S2048x2048 (broadcast S2048x2048 (Scalar.ofBits .f32 0x00000000#32 : F .f32)) shapeCasts_S2048x2048_S2048x2048
def zeroS : Vec F S128x2048 .f32 := shapeCast S128x2048 (broadcast S128x2048 (Scalar.ofBits .f32 0x00000000#32 : F .f32)) shapeCasts_S128x2048_S128x2048

/-- The sums as they are written. -/
def outP (a : Vec F S2048x2048 .f32) : Vec F S2048x2048 .bf16 := truncf .bf16 (a : FVec F S2048x2048 .f32) bitsLt_bf16_f32
def outS (a : Vec F S128x2048 .f32) : Vec F S128x2048 .bf16 := truncf .bf16 (a : FVec F S128x2048 .f32) bitsLt_bf16_f32

theorem ld_whole {κ' : Kind} {sp : Space} {s : Shape} {e : EltTy} {M : Memref sig κ' sp s e} (hM : M.IsWhole) (x : s.Idx → Elt F e)
    {off : Fin s.rank → ℕ} (inb : ∀ a, off a + s.size a ≤ s.size a) :
    View.readAt (Elt F) M.view (Rect.unit (s := s) off s.size inb).toLoadRect (hM.unread x) = x := by
  rw [View.readAt_eq_ld, hM.read_unread]
  funext y
  refine congrArg x ?_
  funext a; apply Fin.ext
  have := inb a
  show off a + 1 * (y a).val = (y a).val
  omega

theorem stepP_of (i : grid0.Coords) {M0 M1 : Memref sig .tc .vmem S2048x256 .bf16} {M4 M5 : Memref sig .tc .vmem S1x256x2048 .f32}
    (h0 : M0.IsWhole) (h1 : M1.IsWhole) (h4 : M4.IsWhole) (h5 : M5.IsWhole) (x0 x1 : Vec F S2048x256 .bf16) (x4 x5 : Vec F S1x256x2048 .f32) {a' a : Vec F S2048x2048 .f32} (ha : a' = a) :
    stepP i (View.readAt (Elt F) M0.view (Rect.unit (s := S2048x256) ![0, 0] S2048x256.size inb_S2048x256_S2048x256_0_0).toLoadRect (h0.unread x0))
      (View.readAt (Elt F) M1.view (Rect.unit (s := S2048x256) ![0, 0] S2048x256.size inb_S2048x256_S2048x256_0_0).toLoadRect (h1.unread x1))
      (View.readAt (Elt F) M4.view (Rect.unit (s := S1x256x2048) ![0, 0, 0] S1x256x2048.size inb_S1x256x2048_S1x256x2048_0_0_0).toLoadRect (h4.unread x4))
      (View.readAt (Elt F) M5.view (Rect.unit (s := S1x256x2048) ![0, 0, 0] S1x256x2048.size inb_S1x256x2048_S1x256x2048_0_0_0).toLoadRect (h5.unread x5)) a'
    = stepP i x0 x1 x4 x5 a := by
  subst ha; rw [ld_whole h0, ld_whole h1, ld_whole h4, ld_whole h5]

theorem stepS_of (i : grid0.Coords) {M0 M1 : Memref sig .tc .vmem S128x256 .bf16} {M4 M5 : Memref sig .tc .vmem S1x256x2048 .f32}
    (h0 : M0.IsWhole) (h1 : M1.IsWhole) (h4 : M4.IsWhole) (h5 : M5.IsWhole) (x0 x1 : Vec F S128x256 .bf16) (x4 x5 : Vec F S1x256x2048 .f32) {a' a : Vec F S128x2048 .f32} (ha : a' = a) :
    stepS i (View.readAt (Elt F) M0.view (Rect.unit (s := S128x256) ![0, 0] S128x256.size inb_S128x256_S128x256_0_0).toLoadRect (h0.unread x0))
      (View.readAt (Elt F) M1.view (Rect.unit (s := S128x256) ![0, 0] S128x256.size inb_S128x256_S128x256_0_0).toLoadRect (h1.unread x1))
      (View.readAt (Elt F) M4.view (Rect.unit (s := S1x256x2048) ![0, 0, 0] S1x256x2048.size inb_S1x256x2048_S1x256x2048_0_0_0).toLoadRect (h4.unread x4))
      (View.readAt (Elt F) M5.view (Rect.unit (s := S1x256x2048) ![0, 0, 0] S1x256x2048.size inb_S1x256x2048_S1x256x2048_0_0_0).toLoadRect (h5.unread x5)) a'
    = stepS i x0 x1 x4 x5 a := by
  subst ha; rw [ld_whole h0, ld_whole h1, ld_whole h4, ld_whole h5]

end Cert.DownIdeal.Acc

end
-- ==== Proof.DownIdeal.Run.lean ====
module

public import proofs.«01_k».proof.Proof.DownIdeal.Setup
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.DownIdeal.Acc

open Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem run_first (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S1x256x2048 .f32) (harg7 : arg7.IsWhole) (arg8 : Memref sig .tc .vmem S1x256x2048 .f32) (harg8 : arg8.IsWhole) (arg9 : Memref sig .tc .vmem S2048x2048 .bf16) (harg9 : arg9.IsWhole) (arg10 : Memref sig .tc .vmem S128x2048 .bf16) (harg10 : arg10.IsWhole) (arg11 : Memref sig .tc .vmem S2048x2048 .f32) (harg11 : arg11.IsWhole) (arg12 : Memref sig .tc .vmem S128x2048 .f32) (harg12 : arg12.IsWhole) (hc0 : condFirst i) (hc1 : ¬k0_cond2 i = 1#1) (hc2 : ¬k0_cond3 i = 1#1) (hc3 : ¬k0_cond5 i = 1#1)
    (x0 x1 : Vec F S2048x256 .bf16) (x2 x3 : Vec F S128x256 .bf16) (x4 x5 : Vec F S1x256x2048 .f32) (d : Vec F S2048x2048 .bf16) (e : Vec F S128x2048 .bf16) (a : Vec F S2048x2048 .f32) (b : Vec F S128x2048 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare d ∗ owns (c : Thread nD τ) arg10 fullShare e ∗ owns (c : Thread nD τ) arg11 fullShare a ∗ owns (c : Thread nD τ) arg12 fullShare b
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare d ∗ owns (c : Thread nD τ) arg10 fullShare e ∗ owns (c : Thread nD τ) arg11 fullShare (stepP i x0 x1 x4 x5 zeroP) ∗ owns (c : Thread nD τ) arg12 fullShare b) -∗ K ⟨⟩))
          ⊢ wp frame (wpE (defs₀ (F := F)) Variants.none c none) E (cc0_mm_kacc i arg3 harg3 arg4 harg4 arg5 harg5 arg6 harg6 arg7 harg7 arg8 harg8 arg9 harg9 arg10 harg10 arg11 harg11 arg12 harg12) K := by
    intro E K
    unfold cc0_mm_kacc k0_part1
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, HP⟩, ⟨%f9, %hf9, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [HP]
    · iexists _; isplitr; swap; · iexact HP
      ipureintro
      exact (View.read_writes_full _ _ _ _ _).trans (stepP_of i harg3 harg4 harg7 harg8 x0 x1 x4 x5 (View.readCov_full _ _ _ _ _))
    iexists _; isplitr; · ipureintro; exact harg12.read_unread _
    iexact HS

set_option maxHeartbeats 1000000 in
theorem run_first_sample (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S1x256x2048 .f32) (harg7 : arg7.IsWhole) (arg8 : Memref sig .tc .vmem S1x256x2048 .f32) (harg8 : arg8.IsWhole) (arg9 : Memref sig .tc .vmem S2048x2048 .bf16) (harg9 : arg9.IsWhole) (arg10 : Memref sig .tc .vmem S128x2048 .bf16) (harg10 : arg10.IsWhole) (arg11 : Memref sig .tc .vmem S2048x2048 .f32) (harg11 : arg11.IsWhole) (arg12 : Memref sig .tc .vmem S128x2048 .f32) (harg12 : arg12.IsWhole) (hc0 : condFirst i) (hc1 : ¬k0_cond2 i = 1#1) (hc2 : k0_cond3 i = 1#1) (hc3 : ¬k0_cond5 i = 1#1)
    (x0 x1 : Vec F S2048x256 .bf16) (x2 x3 : Vec F S128x256 .bf16) (x4 x5 : Vec F S1x256x2048 .f32) (d : Vec F S2048x2048 .bf16) (e : Vec F S128x2048 .bf16) (a : Vec F S2048x2048 .f32) (b : Vec F S128x2048 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare d ∗ owns (c : Thread nD τ) arg10 fullShare e ∗ owns (c : Thread nD τ) arg11 fullShare a ∗ owns (c : Thread nD τ) arg12 fullShare b
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare d ∗ owns (c : Thread nD τ) arg10 fullShare e ∗ owns (c : Thread nD τ) arg11 fullShare (stepP i x0 x1 x4 x5 zeroP) ∗ owns (c : Thread nD τ) arg12 fullShare (stepS i x2 x3 x4 x5 zeroS)) -∗ K ⟨⟩))
          ⊢ wp frame (wpE (defs₀ (F := F)) Variants.none c none) E (cc0_mm_kacc i arg3 harg3 arg4 harg4 arg5 harg5 arg6 harg6 arg7 harg7 arg8 harg8 arg9 harg9 arg10 harg10 arg11 harg11 arg12 harg12) K := by
    intro E K
    unfold cc0_mm_kacc k0_part1
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, HP⟩, ⟨%f9, %hf9, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [HP]
    · iexists _; isplitr; swap; · iexact HP
      ipureintro
      exact (View.read_writes_full _ _ _ _ _).trans (stepP_of i harg3 harg4 harg7 harg8 x0 x1 x4 x5 (View.readCov_full _ _ _ _ _))
    iexists _; isplitr; swap; · iexact HS
    ipureintro
    exact (View.read_writes_full _ _ _ _ _).trans (stepS_of i harg5 harg6 harg7 harg8 x2 x3 x4 x5 (View.readCov_full _ _ _ _ _))

set_option maxHeartbeats 1000000 in
theorem run_mid (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S1x256x2048 .f32) (harg7 : arg7.IsWhole) (arg8 : Memref sig .tc .vmem S1x256x2048 .f32) (harg8 : arg8.IsWhole) (arg9 : Memref sig .tc .vmem S2048x2048 .bf16) (harg9 : arg9.IsWhole) (arg10 : Memref sig .tc .vmem S128x2048 .bf16) (harg10 : arg10.IsWhole) (arg11 : Memref sig .tc .vmem S2048x2048 .f32) (harg11 : arg11.IsWhole) (arg12 : Memref sig .tc .vmem S128x2048 .f32) (harg12 : arg12.IsWhole) (hc0 : ¬condFirst i) (hc1 : ¬k0_cond2 i = 1#1) (hc2 : ¬k0_cond3 i = 1#1) (hc3 : ¬k0_cond5 i = 1#1)
    (x0 x1 : Vec F S2048x256 .bf16) (x2 x3 : Vec F S128x256 .bf16) (x4 x5 : Vec F S1x256x2048 .f32) (d : Vec F S2048x2048 .bf16) (e : Vec F S128x2048 .bf16) (a : Vec F S2048x2048 .f32) (b : Vec F S128x2048 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare d ∗ owns (c : Thread nD τ) arg10 fullShare e ∗ owns (c : Thread nD τ) arg11 fullShare a ∗ owns (c : Thread nD τ) arg12 fullShare b
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare d ∗ owns (c : Thread nD τ) arg10 fullShare e ∗ owns (c : Thread nD τ) arg11 fullShare (stepP i x0 x1 x4 x5 a) ∗ owns (c : Thread nD τ) arg12 fullShare b) -∗ K ⟨⟩))
          ⊢ wp frame (wpE (defs₀ (F := F)) Variants.none c none) E (cc0_mm_kacc i arg3 harg3 arg4 harg4 arg5 harg5 arg6 harg6 arg7 harg7 arg8 harg8 arg9 harg9 arg10 harg10 arg11 harg11 arg12 harg12) K := by
    intro E K
    unfold cc0_mm_kacc k0_part1
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, HP⟩, ⟨%f9, %hf9, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [HP]
    · iexists _; isplitr; swap; · iexact HP
      ipureintro
      exact (View.read_writes_full _ _ _ _ _).trans (stepP_of i harg3 harg4 harg7 harg8 x0 x1 x4 x5 (ld_whole harg11 a _))
    iexists _; isplitr; · ipureintro; exact harg12.read_unread _
    iexact HS

set_option maxHeartbeats 1000000 in
theorem run_mid_sample (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S1x256x2048 .f32) (harg7 : arg7.IsWhole) (arg8 : Memref sig .tc .vmem S1x256x2048 .f32) (harg8 : arg8.IsWhole) (arg9 : Memref sig .tc .vmem S2048x2048 .bf16) (harg9 : arg9.IsWhole) (arg10 : Memref sig .tc .vmem S128x2048 .bf16) (harg10 : arg10.IsWhole) (arg11 : Memref sig .tc .vmem S2048x2048 .f32) (harg11 : arg11.IsWhole) (arg12 : Memref sig .tc .vmem S128x2048 .f32) (harg12 : arg12.IsWhole) (hc0 : ¬condFirst i) (hc1 : ¬k0_cond2 i = 1#1) (hc2 : k0_cond3 i = 1#1) (hc3 : ¬k0_cond5 i = 1#1)
    (x0 x1 : Vec F S2048x256 .bf16) (x2 x3 : Vec F S128x256 .bf16) (x4 x5 : Vec F S1x256x2048 .f32) (d : Vec F S2048x2048 .bf16) (e : Vec F S128x2048 .bf16) (a : Vec F S2048x2048 .f32) (b : Vec F S128x2048 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare d ∗ owns (c : Thread nD τ) arg10 fullShare e ∗ owns (c : Thread nD τ) arg11 fullShare a ∗ owns (c : Thread nD τ) arg12 fullShare b
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare d ∗ owns (c : Thread nD τ) arg10 fullShare e ∗ owns (c : Thread nD τ) arg11 fullShare (stepP i x0 x1 x4 x5 a) ∗ owns (c : Thread nD τ) arg12 fullShare (stepS i x2 x3 x4 x5 b)) -∗ K ⟨⟩))
          ⊢ wp frame (wpE (defs₀ (F := F)) Variants.none c none) E (cc0_mm_kacc i arg3 harg3 arg4 harg4 arg5 harg5 arg6 harg6 arg7 harg7 arg8 harg8 arg9 harg9 arg10 harg10 arg11 harg11 arg12 harg12) K := by
    intro E K
    unfold cc0_mm_kacc k0_part1
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, HP⟩, ⟨%f9, %hf9, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [HP]
    · iexists _; isplitr; swap; · iexact HP
      ipureintro
      exact (View.read_writes_full _ _ _ _ _).trans (stepP_of i harg3 harg4 harg7 harg8 x0 x1 x4 x5 (ld_whole harg11 a _))
    iexists _; isplitr; swap; · iexact HS
    ipureintro
    exact (View.read_writes_full _ _ _ _ _).trans (stepS_of i harg5 harg6 harg7 harg8 x2 x3 x4 x5 (ld_whole harg12 b _))

set_option maxHeartbeats 1000000 in
theorem run_last (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S1x256x2048 .f32) (harg7 : arg7.IsWhole) (arg8 : Memref sig .tc .vmem S1x256x2048 .f32) (harg8 : arg8.IsWhole) (arg9 : Memref sig .tc .vmem S2048x2048 .bf16) (harg9 : arg9.IsWhole) (arg10 : Memref sig .tc .vmem S128x2048 .bf16) (harg10 : arg10.IsWhole) (arg11 : Memref sig .tc .vmem S2048x2048 .f32) (harg11 : arg11.IsWhole) (arg12 : Memref sig .tc .vmem S128x2048 .f32) (harg12 : arg12.IsWhole) (hc0 : ¬condFirst i) (hc1 : k0_cond2 i = 1#1) (hc2 : ¬k0_cond3 i = 1#1) (hc3 : k0_cond5 i = 1#1)
    (x0 x1 : Vec F S2048x256 .bf16) (x2 x3 : Vec F S128x256 .bf16) (x4 x5 : Vec F S1x256x2048 .f32) (d : Vec F S2048x2048 .bf16) (e : Vec F S128x2048 .bf16) (a : Vec F S2048x2048 .f32) (b : Vec F S128x2048 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare d ∗ owns (c : Thread nD τ) arg10 fullShare e ∗ owns (c : Thread nD τ) arg11 fullShare a ∗ owns (c : Thread nD τ) arg12 fullShare b
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (outP (stepP i x0 x1 x4 x5 a)) ∗ owns (c : Thread nD τ) arg10 fullShare e ∗ owns (c : Thread nD τ) arg11 fullShare (stepP i x0 x1 x4 x5 a) ∗ owns (c : Thread nD τ) arg12 fullShare b) -∗ K ⟨⟩))
          ⊢ wp frame (wpE (defs₀ (F := F)) Variants.none c none) E (cc0_mm_kacc i arg3 harg3 arg4 harg4 arg5 harg5 arg6 harg6 arg7 harg7 arg8 harg8 arg9 harg9 arg10 harg10 arg11 harg11 arg12 harg12) K := by
    intro E K
    unfold cc0_mm_kacc k0_part1
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, HP⟩, ⟨%f9, %hf9, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; swap; · iexact H6
      ipureintro
      exact (View.read_writes_full _ _ _ _ _).trans (congrArg outP ((View.readCov_full _ _ _ _ _).trans (stepP_of i harg3 harg4 harg7 harg8 x0 x1 x4 x5 (ld_whole harg11 a _))))
    isplitl [H7]
    · iexists _; isplitr; · ipureintro; exact harg10.read_unread _
      iexact H7
    isplitl [HP]
    · iexists _; isplitr; swap; · iexact HP
      ipureintro
      exact (View.read_writes_full _ _ _ _ _).trans (stepP_of i harg3 harg4 harg7 harg8 x0 x1 x4 x5 (ld_whole harg11 a _))
    iexists _; isplitr; · ipureintro; exact harg12.read_unread _
    iexact HS

set_option maxHeartbeats 1000000 in
theorem run_last_sample (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S1x256x2048 .f32) (harg7 : arg7.IsWhole) (arg8 : Memref sig .tc .vmem S1x256x2048 .f32) (harg8 : arg8.IsWhole) (arg9 : Memref sig .tc .vmem S2048x2048 .bf16) (harg9 : arg9.IsWhole) (arg10 : Memref sig .tc .vmem S128x2048 .bf16) (harg10 : arg10.IsWhole) (arg11 : Memref sig .tc .vmem S2048x2048 .f32) (harg11 : arg11.IsWhole) (arg12 : Memref sig .tc .vmem S128x2048 .f32) (harg12 : arg12.IsWhole) (hc0 : ¬condFirst i) (hc1 : k0_cond2 i = 1#1) (hc2 : k0_cond3 i = 1#1) (hc3 : k0_cond5 i = 1#1)
    (x0 x1 : Vec F S2048x256 .bf16) (x2 x3 : Vec F S128x256 .bf16) (x4 x5 : Vec F S1x256x2048 .f32) (d : Vec F S2048x2048 .bf16) (e : Vec F S128x2048 .bf16) (a : Vec F S2048x2048 .f32) (b : Vec F S128x2048 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare d ∗ owns (c : Thread nD τ) arg10 fullShare e ∗ owns (c : Thread nD τ) arg11 fullShare a ∗ owns (c : Thread nD τ) arg12 fullShare b
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (outP (stepP i x0 x1 x4 x5 a)) ∗ owns (c : Thread nD τ) arg10 fullShare (outS (stepS i x2 x3 x4 x5 b)) ∗ owns (c : Thread nD τ) arg11 fullShare (stepP i x0 x1 x4 x5 a) ∗ owns (c : Thread nD τ) arg12 fullShare (stepS i x2 x3 x4 x5 b)) -∗ K ⟨⟩))
          ⊢ wp frame (wpE (defs₀ (F := F)) Variants.none c none) E (cc0_mm_kacc i arg3 harg3 arg4 harg4 arg5 harg5 arg6 harg6 arg7 harg7 arg8 harg8 arg9 harg9 arg10 harg10 arg11 harg11 arg12 harg12) K := by
    intro E K
    unfold cc0_mm_kacc k0_part1
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, HP⟩, ⟨%f9, %hf9, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; swap; · iexact H6
      ipureintro
      exact (View.read_writes_full _ _ _ _ _).trans (congrArg outP ((View.readCov_full _ _ _ _ _).trans (stepP_of i harg3 harg4 harg7 harg8 x0 x1 x4 x5 (ld_whole harg11 a _))))
    isplitl [H7]
    · iexists _; isplitr; swap; · iexact H7
      ipureintro
      exact (View.read_writes_full _ _ _ _ _).trans (congrArg outS ((View.readCov_full _ _ _ _ _).trans (stepS_of i harg5 harg6 harg7 harg8 x2 x3 x4 x5 (ld_whole harg12 b _))))
    isplitl [HP]
    · iexists _; isplitr; swap; · iexact HP
      ipureintro
      exact (View.read_writes_full _ _ _ _ _).trans (stepP_of i harg3 harg4 harg7 harg8 x0 x1 x4 x5 (ld_whole harg11 a _))
    iexists _; isplitr; swap; · iexact HS
    ipureintro
    exact (View.read_writes_full _ _ _ _ _).trans (stepS_of i harg5 harg6 harg7 harg8 x2 x3 x4 x5 (ld_whole harg12 b _))

end Cert.DownIdeal.Acc

end
-- ==== Proof.DownIdeal.Frame.lean ====
module

public import proofs.«01_k».proof.Proof.DownIdeal.Run
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.DownIdeal.Acc

open Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Grid point `n`. -/
def pt (n : ℕ) : Fin cfg0.N := ⟨n % 176, by rw [show cfg0.N = 176 from N_0]; exact Nat.mod_lt _ (by decide)⟩

theorem pt_val (t : Fin cfg0.N) : pt t.val = t := Fin.ext (Nat.mod_eq_of_lt (lt_of_lt_of_eq t.isLt (show cfg0.N = 176 from N_0)))

/-- Point `t`'s product added to the prompt's sums `a`. -/
def addP (c : Dev nD) (t : Fin cfg0.N) (a : Vec F S2048x2048 .f32) : Vec F S2048x2048 .f32 :=
  stepP (grid0.coords t) (iblk m c 0 t) (iblk m c 1 t) (iblk m c 4 t) (iblk m c 5 t) a

/-- Point `t`'s product added to the sample's sums `a`. -/
def addS (c : Dev nD) (t : Fin cfg0.N) (a : Vec F S128x2048 .f32) : Vec F S128x2048 .f32 :=
  stepS (grid0.coords t) (iblk m c 2 t) (iblk m c 3 t) (iblk m c 4 t) (iblk m c 5 t) a

/-- The prompt's sums of block `q` after its slabs `0 … k`. -/
def sumP (c : Dev nD) (q : ℕ) : ℕ → Vec F S2048x2048 .f32
  | 0 => addP m c (pt (22 * q)) zeroP
  | k + 1 => addP m c (pt (22 * q + (k + 1))) (sumP c q k)

/-- The sample's sums of block `q` after its slabs `0 … k`. -/
def sumS (c : Dev nD) (q : ℕ) : ℕ → Vec F S128x2048 .f32
  | 0 => addS m c (pt (22 * q)) zeroS
  | k + 1 => addS m c (pt (22 * q + (k + 1))) (sumS c q k)

/-- The sums after point `n`. -/
def atP (c : Dev nD) (n : ℕ) : Vec F S2048x2048 .f32 := sumP m c (n / 22) (n % 22)
def atS (c : Dev nD) (n : ℕ) : Vec F S128x2048 .f32 := sumS m c (n / 22) (n % 22)

theorem atP_first (c : Dev nD) (t : Fin cfg0.N) (h : t.val % 22 = 0) : atP m c t.val = addP m c t zeroP := by
  unfold atP; rw [h]; show addP m c (pt (22 * (t.val / 22))) zeroP = _
  rw [show 22 * (t.val / 22) = t.val by omega, pt_val]
theorem atS_first (c : Dev nD) (t : Fin cfg0.N) (h : t.val % 22 = 0) : atS m c t.val = addS m c t zeroS := by
  unfold atS; rw [h]; show addS m c (pt (22 * (t.val / 22))) zeroS = _
  rw [show 22 * (t.val / 22) = t.val by omega, pt_val]
theorem atP_next (c : Dev nD) (t : Fin cfg0.N) (h : t.val % 22 ≠ 0) : atP m c t.val = addP m c t (atP m c (t.val - 1)) := by
  unfold atP
  obtain ⟨k, hk⟩ : ∃ k, t.val % 22 = k + 1 := ⟨t.val % 22 - 1, by omega⟩
  rw [hk, show (t.val - 1) / 22 = t.val / 22 by omega, show (t.val - 1) % 22 = k by omega]
  show addP m c (pt (22 * (t.val / 22) + (k + 1))) _ = _
  rw [show 22 * (t.val / 22) + (k + 1) = t.val by omega, pt_val]
theorem atS_next (c : Dev nD) (t : Fin cfg0.N) (h : t.val % 22 ≠ 0) : atS m c t.val = addS m c t (atS m c (t.val - 1)) := by
  unfold atS
  obtain ⟨k, hk⟩ : ∃ k, t.val % 22 = k + 1 := ⟨t.val % 22 - 1, by omega⟩
  rw [hk, show (t.val - 1) / 22 = t.val / 22 by omega, show (t.val - 1) % 22 = k by omega]
  show addS m c (pt (22 * (t.val / 22) + (k + 1))) _ = _
  rw [show 22 * (t.val / 22) + (k + 1) = t.val by omega, pt_val]

/-- Between points the two scratches hold the sums after the point before: the sample's from the last row of blocks on. -/
def carried (c : Dev nD) (k : Fin (cfg0.N + 1)) : sProp 𝕄 :=
  iprop(((∃ d, ⌜∀ t : Fin cfg0.N, t.val + 1 = k.val → d = atP m c t.val⌝ ∗ owns (c : Thread nD τ) scrP fullShare d)
    ∗ (∃ d, ⌜∀ t : Fin cfg0.N, t.val + 1 = k.val → 132 ≤ t.val → d = atS m c t.val⌝ ∗ owns (c : Thread nD τ) scrS fullShare d)) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outP (atP m c t.val)
    | ⟨7, _⟩ => outS (atS m c t.val)
  Φ k := carried m c k
  q w := Pipeline.shareOf spec0 w
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem leaves0 (c : Dev nD) (t : Fin cfg0.N) : (dats m 0 c).leavesExact 0 t = owns (c : Thread nD τ) (st0 t) fullShare (iblk m c 0 t) := by
  unfold Dat.leavesExact; rw [show cfg0.idle 0 (cfg0.grid.coords t) = false from rfl, after0]
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem leaves1 (c : Dev nD) (t : Fin cfg0.N) : (dats m 0 c).leavesExact 1 t = owns (c : Thread nD τ) (st1 t) fullShare (iblk m c 1 t) := by
  unfold Dat.leavesExact; rw [show cfg0.idle 1 (cfg0.grid.coords t) = false from rfl, after1]
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem leaves2 (c : Dev nD) (t : Fin cfg0.N) : (dats m 0 c).leavesExact 2 t = owns (c : Thread nD τ) (st2 t) fullShare (iblk m c 2 t) := by
  unfold Dat.leavesExact; rw [show cfg0.idle 2 (cfg0.grid.coords t) = false from rfl, after2]
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem leaves3 (c : Dev nD) (t : Fin cfg0.N) : (dats m 0 c).leavesExact 3 t = owns (c : Thread nD τ) (st3 t) fullShare (iblk m c 3 t) := by
  unfold Dat.leavesExact; rw [show cfg0.idle 3 (cfg0.grid.coords t) = false from rfl, after3]
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d
theorem leaves4 (c : Dev nD) (t : Fin cfg0.N) : (dats m 0 c).leavesExact 4 t = owns (c : Thread nD τ) (st4 t) fullShare (iblk m c 4 t) := by
  unfold Dat.leavesExact; rw [show cfg0.idle 4 (cfg0.grid.coords t) = false from rfl, after4]
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (A_eq m c 5) (after5 m c) t d
theorem leaves5 (c : Dev nD) (t : Fin cfg0.N) : (dats m 0 c).leavesExact 5 t = owns (c : Thread nD τ) (st5 t) fullShare (iblk m c 5 t) := by
  unfold Dat.leavesExact; rw [show cfg0.idle 5 (cfg0.grid.coords t) = false from rfl, after5]
theorem after6 (c : Dev nD) (t : Fin cfg0.N) : (dats m 0 c).after 6 t = outP (atP m c t.val) := by dsimp only [dats]
theorem after7 (c : Dev nD) (t : Fin cfg0.N) : (dats m 0 c).after 7 t = outS (atS m c t.val) := by dsimp only [dats]

theorem flush7 : ∀ t : Fin cfg0.N, (cfg0.win 7).flush t = true → 132 ≤ t.val ∧ t.val % 22 = 21 :=
  (by decide +kernel : ∀ t : Fin grid0.N, win0_7.flush t = true → 132 ≤ t.val ∧ t.val % 22 = 21)

theorem leaves6_out (c : Dev nD) (t : Fin cfg0.N) (h : t.val % 22 = 21) : (dats m 0 c).leavesExact 6 t = owns (c : Thread nD τ) (st6 t) fullShare (outP (atP m c t.val)) := by
  have e : cfg0.idle 6 (cfg0.grid.coords t) = false := by
    show (!(k0_cond2 (grid0.coords t) == 1#1)) = false
    rw [(condLast_iff t).2 h]; rfl
  unfold Dat.leavesExact; rw [e, after6]
theorem leaves6_idle (c : Dev nD) (t : Fin cfg0.N) (h : t.val % 22 ≠ 21) : (dats m 0 c).leavesExact 6 t = iprop(∃ d, owns (c : Thread nD τ) (st6 t) fullShare ((dats m 0 c).before 6 t d)) :=
  (dats m 0 c).leavesExact_idle 6 t (by
    show (!(k0_cond2 (grid0.coords t) == 1#1)) = true
    rw [beq_eq_false_iff_ne.2 (fun e => h ((condLast_iff t).1 e))]; rfl) (Bool.eq_false_iff.2 fun e => h ((flush0_6 t).1 e))
theorem leaves7_out (c : Dev nD) (t : Fin cfg0.N) (h : t.val % 22 = 21) (hs : 132 ≤ t.val) : (dats m 0 c).leavesExact 7 t = owns (c : Thread nD τ) (st7 t) fullShare (outS (atS m c t.val)) := by
  have e : cfg0.idle 7 (cfg0.grid.coords t) = false := by
    show (!(k0_cond3 (grid0.coords t) == 1#1 && k0_cond5 (grid0.coords t) == 1#1)) = false
    rw [condLast_eq, (condLast_iff t).2 h, (condSample_iff t).2 hs]; rfl
  unfold Dat.leavesExact; rw [e, after7]
theorem leaves7_idle (c : Dev nD) (t : Fin cfg0.N) (h : ¬(132 ≤ t.val ∧ t.val % 22 = 21)) : (dats m 0 c).leavesExact 7 t = iprop(∃ d, owns (c : Thread nD τ) (st7 t) fullShare ((dats m 0 c).before 7 t d)) :=
  (dats m 0 c).leavesExact_idle 7 t (by
    show (!(k0_cond3 (grid0.coords t) == 1#1 && k0_cond5 (grid0.coords t) == 1#1)) = true
    by_cases hs : 132 ≤ t.val
    · rw [condLast_eq, beq_eq_false_iff_ne.2 (fun e => h ⟨hs, (condLast_iff t).1 e⟩)]; simp
    · rw [beq_eq_false_iff_ne.2 (fun e => hs ((condSample_iff t).1 e))]; rfl) (Bool.eq_false_iff.2 fun e => h (flush7 t e))

/-! ## One point -/

def bodyPre (c : Dev nD) (t : Fin cfg0.N) : sProp 𝕄 :=
  iprop((dats m 0 c).Φ t.castSucc
    ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d)))

def bodyPost (c : Dev nD) (t : Fin cfg0.N) : sProp 𝕄 :=
  iprop((dats m 0 c).Φ t.succ
    ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- The run of a point, over the six kinds of points. -/
theorem run_point (c : Dev nD) (t : Fin cfg0.N) (d : Vec F S2048x2048 .bf16) (e : Vec F S128x2048 .bf16) (a : Vec F S2048x2048 .f32) (b : Vec F S128x2048 .f32)
    (ha : t.val % 22 ≠ 0 → a = atP m c (t.val - 1)) (hb : 132 ≤ t.val → t.val % 22 ≠ 0 → b = atS m c (t.val - 1)) (K : PUnit → sProp 𝕄) :
    iprop(owns (c : Thread nD τ) (st0 t) fullShare (iblk m c 0 t) ∗ owns (c : Thread nD τ) (st1 t) fullShare (iblk m c 1 t) ∗ owns (c : Thread nD τ) (st2 t) fullShare (iblk m c 2 t) ∗ owns (c : Thread nD τ) (st3 t) fullShare (iblk m c 3 t) ∗ owns (c : Thread nD τ) (st4 t) fullShare (iblk m c 4 t) ∗ owns (c : Thread nD τ) (st5 t) fullShare (iblk m c 5 t) ∗ owns (c : Thread nD τ) (st6 t) fullShare d ∗ owns (c : Thread nD τ) (st7 t) fullShare e ∗ owns (c : Thread nD τ) scrP fullShare a ∗ owns (c : Thread nD τ) scrS fullShare b
        ∗ (iprop(owns (c : Thread nD τ) (st0 t) fullShare (iblk m c 0 t) ∗ owns (c : Thread nD τ) (st1 t) fullShare (iblk m c 1 t) ∗ owns (c : Thread nD τ) (st2 t) fullShare (iblk m c 2 t) ∗ owns (c : Thread nD τ) (st3 t) fullShare (iblk m c 3 t) ∗ owns (c : Thread nD τ) (st4 t) fullShare (iblk m c 4 t) ∗ owns (c : Thread nD τ) (st5 t) fullShare (iblk m c 5 t) ∗ owns (c : Thread nD τ) (st6 t) fullShare (if t.val % 22 = 21 then outP (atP m c t.val) else d) ∗ owns (c : Thread nD τ) (st7 t) fullShare (if 132 ≤ t.val ∧ t.val % 22 = 21 then outS (atS m c t.val) else e) ∗ owns (c : Thread nD τ) scrP fullShare (atP m c t.val) ∗ owns (c : Thread nD τ) scrS fullShare (if 132 ≤ t.val then atS m c t.val else b)) -∗ K ⟨⟩))
      ⊢ wp frame (wpE (defs₀ (F := F)) Variants.none c none) Set.univ (bodyAt0 t) K := by
  unfold bodyAt0
  by_cases hs : 132 ≤ t.val
  · by_cases h0 : t.val % 22 = 0
    · have h1 : ¬t.val % 22 = 21 := by omega
      rw [if_neg h1, if_neg (show ¬(132 ≤ t.val ∧ t.val % 22 = 21) from fun h => h1 h.2), if_pos hs, atP_first m c t h0, atS_first m c t h0]
      exact run_first_sample c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) scrP (Memref.isWhole_whole _) scrS (Memref.isWhole_whole _)
            ((condFirst_iff t).2 h0) (fun h => h1 ((condLast_iff t).1 h)) ((condSample_iff t).2 hs) (fun h => h1 ((condLast_iff t).1 h))
            (iblk m c 0 t) (iblk m c 1 t) (iblk m c 2 t) (iblk m c 3 t) (iblk m c 4 t) (iblk m c 5 t) d e a b Set.univ K
    · rw [atP_next m c t h0, atS_next m c t h0, ← ha h0, ← hb hs h0]
      by_cases h1 : t.val % 22 = 21
      · rw [if_pos h1, if_pos ⟨hs, h1⟩, if_pos hs]
        exact run_last_sample c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) scrP (Memref.isWhole_whole _) scrS (Memref.isWhole_whole _)
            (fun h => h0 ((condFirst_iff t).1 h)) ((condLast_iff t).2 h1) ((condSample_iff t).2 hs) ((condLast_iff t).2 h1)
            (iblk m c 0 t) (iblk m c 1 t) (iblk m c 2 t) (iblk m c 3 t) (iblk m c 4 t) (iblk m c 5 t) d e a b Set.univ K
      · rw [if_neg h1, if_neg (show ¬(132 ≤ t.val ∧ t.val % 22 = 21) from fun h => h1 h.2), if_pos hs]
        exact run_mid_sample c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) scrP (Memref.isWhole_whole _) scrS (Memref.isWhole_whole _)
            (fun h => h0 ((condFirst_iff t).1 h)) (fun h => h1 ((condLast_iff t).1 h)) ((condSample_iff t).2 hs) (fun h => h1 ((condLast_iff t).1 h))
            (iblk m c 0 t) (iblk m c 1 t) (iblk m c 2 t) (iblk m c 3 t) (iblk m c 4 t) (iblk m c 5 t) d e a b Set.univ K
  · rw [if_neg hs, if_neg (show ¬(132 ≤ t.val ∧ t.val % 22 = 21) from fun h => hs h.1)]
    by_cases h0 : t.val % 22 = 0
    · have h1 : ¬t.val % 22 = 21 := by omega
      rw [if_neg h1, atP_first m c t h0]
      exact run_first c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) scrP (Memref.isWhole_whole _) scrS (Memref.isWhole_whole _)
            ((condFirst_iff t).2 h0) (fun h => h1 ((condLast_iff t).1 h)) (fun h => hs ((condSample_iff t).1 h)) (fun h => h1 ((condLast_iff t).1 h))
            (iblk m c 0 t) (iblk m c 1 t) (iblk m c 2 t) (iblk m c 3 t) (iblk m c 4 t) (iblk m c 5 t) d e a b Set.univ K
    · rw [atP_next m c t h0, ← ha h0]
      by_cases h1 : t.val % 22 = 21
      · rw [if_pos h1]
        exact run_last c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) scrP (Memref.isWhole_whole _) scrS (Memref.isWhole_whole _)
            (fun h => h0 ((condFirst_iff t).1 h)) ((condLast_iff t).2 h1) (fun h => hs ((condSample_iff t).1 h)) ((condLast_iff t).2 h1)
            (iblk m c 0 t) (iblk m c 1 t) (iblk m c 2 t) (iblk m c 3 t) (iblk m c 4 t) (iblk m c 5 t) d e a b Set.univ K
      · rw [if_neg h1]
        exact run_mid c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) scrP (Memref.isWhole_whole _) scrS (Memref.isWhole_whole _)
            (fun h => h0 ((condFirst_iff t).1 h)) (fun h => h1 ((condLast_iff t).1 h)) (fun h => hs ((condSample_iff t).1 h)) (fun h => h1 ((condLast_iff t).1 h))
            (iblk m c 0 t) (iblk m c 1 t) (iblk m c 2 t) (iblk m c 3 t) (iblk m c 4 t) (iblk m c 5 t) d e a b Set.univ K

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3, before4, before5, leaves0, leaves1, leaves2, leaves3, leaves4, leaves5]
  rw [show (dats m 0 c).owesAt () t.succ = (dats m 0 c).owesAt () t.castSucc from rfl,
    show (dats m 0 c).Φ t.castSucc = carried m c t.castSucc from rfl, show (dats m 0 c).Φ t.succ = carried m c t.succ from rfl]
  unfold carried
  have hN : t.val < 176 := lt_of_lt_of_eq t.isLt (show cfg0.N = 176 from N_0)
  iintro ⟨⟨⟨⟨%a, %ha, HP⟩, ⟨%b, %hb, HS⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_point m c t _ _ a b
    (fun h => ha ⟨t.val - 1, by have := t.isLt; omega⟩ (by show t.val - 1 + 1 = t.val; omega))
    (fun hs h => hb ⟨t.val - 1, by have := t.isLt; omega⟩ (by show t.val - 1 + 1 = t.val; omega) (by show 132 ≤ t.val - 1; omega)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HP]; · iexact HP
  isplitl [HS]; · iexact HS
  iintro ⟨H0, H1, H2, H3, H4, H5, H6, H7, HP, HS⟩
  isplitl [HP HS Hg]
  · isplitl [HP HS]
    · isplitl [HP]
      · iexists _
        isplitr
        · ipureintro
          intro s hs
          rw [show s = t from Fin.ext (by have : s.val + 1 = t.val + 1 := hs; omega)]
        iexact HP
      iexists (if 132 ≤ t.val then atS m c t.val else b)
      isplitr
      · ipureintro
        intro s hs h
        rw [show s = t from Fin.ext (by have : s.val + 1 = t.val + 1 := hs; omega)] at h ⊢
        exact if_pos h
      iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · by_cases h1 : t.val % 22 = 21
    · rw [leaves6_out m c t h1, if_pos h1]; iexact H6
    · rw [leaves6_idle m c t h1, if_neg h1]; iexists d6; iexact H6
  by_cases h1 : 132 ≤ t.val ∧ t.val % 22 = 21
  · rw [leaves7_out m c t h1.2 h1.1, if_pos h1]; iexact H7
  · rw [leaves7_idle m c t h1, if_neg h1]; iexists d7; iexact H7

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run -/

theorem scratch_whole (c : Dev nD) :
    (Pipeline.ΦA spec0 c : sProp 𝕄) = iprop(iprop((∃ d, owns (c : Thread nD τ) scrP fullShare d) ∗ (∃ d, owns (c : Thread nD τ) scrS fullShare d)) ∗ (∃ r, prngReg c r)) := by
  unfold Pipeline.ΦA; rw [scopedRest0_eq]; simp only [scrP, scrS, owns_whole]; try rfl

theorem carried_in (c : Dev nD) : Pipeline.ΦA spec0 c ⊢ (dats (F := F) m 0 c).Φ 0 := by
  rw [scratch_whole, show (dats (F := F) m 0 c).Φ 0 = carried m c 0 from rfl]
  unfold carried
  iintro ⟨⟨⟨%d, HP⟩, ⟨%e, HS⟩⟩, Hg⟩
  isplitl [HP HS]
  · isplitl [HP]
    · iexists d
      isplitr
      · ipureintro
        intro t ht
        exact absurd ht (Nat.succ_ne_zero _)
      iexact HP
    iexists e
    isplitr
    · ipureintro
      intro t ht
      exact absurd ht (Nat.succ_ne_zero _)
    iexact HS
  iexact Hg

theorem carried_out (c : Dev nD) : (dats (F := F) m 0 c).Φ (Fin.last cfg0.N) ⊢ Pipeline.ΦA spec0 c := by
  rw [scratch_whole, show (dats (F := F) m 0 c).Φ (Fin.last cfg0.N) = carried m c (Fin.last cfg0.N) from rfl]
  unfold carried
  iintro ⟨⟨⟨%d, -, HP⟩, ⟨%e, -, HS⟩⟩, Hg⟩
  isplitl [HP HS]
  · isplitl [HP]
    · iexists d; iexact HP
    iexists e; iexact HS
  iexact Hg

set_option backward.isDefEq.respectTransparency.types false in
/-- Every execution ends, with the arrays as the points leave them and every counter at zero. -/
theorem run_main : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl) (howed := fun _ _ => rfl) (V := V m) (hmain := hmain m Variants.none)
    (hA := A_eq m) (hin := carried_in m) (hout := carried_out m)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.DownIdeal.Acc

end
-- ==== Proof.DownIdeal.Blocks.lean ====
module

public import proofs.«01_k».proof.Proof.DownIdeal.Frame
public import Idealize.ShloMosaic.Lib.ValueIdxCore
public import Idealize.ShloMosaic.Lib.ValueLayout
public import Idealize.ShloMosaic.Lib.ValueLayoutCasts
public import Idealize.ShloMosaic.Lib.Pointwise
public import Idealize.ShloMosaic.Lib.Claim
public import Idealize.ShloMosaic.Lib.StableHlo.RunRead
public import Idealize.ShloMosaic.Lib.Pipeline.ValueKit.Geometry
public import Idealize.ShloMosaic.PureOps.Ideal
public import Idealize.ShloMosaic.PureOps.Ideal.Laws

@[expose] public section

set_option maxRecDepth 16384

noncomputable section

namespace Cert.DownIdeal.Acc

open Cert.DownIdeal.Gen
open Idealize.ShloMosaic Idealize.ShloMosaic.TcCoe Idealize.ShloMosaic.Tactic
open Idealize.ShloMosaic.Pipeline (Dat Cfg Window)
open Idealize.SL.Sem

variable (m : (ℓ : Loc nD τ sig) → Buf (Elt Ideal) ℓ) (c : Dev nD)

/-- A host operation line before the call, as one list. -/
theorem v_eq (r : Ref sig .tc) : V (F := Ideal) m c r = StableHlo.after hostOps0 (fun b => m (c, b)) (Proc.devRef .tc r) := rfl

/-- The prompt's activations, the sample's, and the weights, as given to the program. -/
def argP : FVec Ideal S4x2048x11008 .f32 := m ((c.tc : Thread nD τ).loc main_arg0)
def argS : FVec Ideal S8x16x11008 .f32 := m ((c.tc : Thread nD τ).loc main_arg1)
def argW : FVec Ideal S4x11008x4096 .f32 := m ((c.tc : Thread nD τ).loc main_arg2)

/-- The rows the call takes. -/
theorem p_entry (r : Fin 8192) (n : Fin 11008) :
    (V (F := Ideal) m c main_v1 : FVec Ideal S8192x11008 .bf16) (ix2 r n) = argP m c (ix3 (n0 := 4) (n1 := 2048) (n2 := 11008) ⟨r.val / 2048, by omega⟩ ⟨r.val % 2048, by omega⟩ n) := by
  rw [v_eq]
  after_reads_simp
  pointwise
  rfl

theorem s_entry (r : Fin 128) (n : Fin 11008) :
    (V (F := Ideal) m c main_v3 : FVec Ideal S128x11008 .bf16) (ix2 r n) = argS m c (ix3 (n0 := 8) (n1 := 16) (n2 := 11008) ⟨r.val / 16, by omega⟩ ⟨r.val % 16, by omega⟩ n) := by
  rw [v_eq]
  after_reads_simp
  pointwise
  rfl

theorem w_entry (l : Fin 4) (n : Fin 11008) (k : Fin 4096) :
    (V (F := Ideal) m c main_arg2 : FVec Ideal S4x11008x4096 .f32) (ix3 l n k) = argW m c (ix3 l n k) := by
  rw [V_main_arg2]; rfl

theorem index0 : ∀ t : Fin cfg0.N, win0_0.index t = ![t.val / 44, 2 * (t.val % 22)] := by decide +kernel
theorem block0_entry (t : Fin cfg0.N) (r : Fin 2048) (f : Fin 256) :
    (iblk m c 0 t : Vec Ideal S2048x256 .bf16) (ix2 r f) = (V m c main_v1 : FVec Ideal S8192x11008 .bf16) (ix2 (n0 := 8192) (n1 := 11008) ⟨2048 * (t.val / 44) + r.val, by have hN := lt_of_lt_of_eq t.isLt (show cfg0.N = 176 from N_0); omega⟩ ⟨256 * (2 * (t.val % 22)) + f.val, by omega⟩) := by
  unfold iblk
  refine congrArg (V m c main_v1) ?_
  funext a; apply Fin.ext
  refine (Pipeline.Window.rect_emb_val win0_0 t (ix2 (n0 := 2048) (n1 := 256) r f) a).trans ?_
  rw [index0 t]
  match a with
  | ⟨0, _⟩ => show (t.val / 44) * 2048 + r.val = 2048 * (t.val / 44) + r.val; omega
  | ⟨1, _⟩ => show (2 * (t.val % 22)) * 256 + f.val = 256 * (2 * (t.val % 22)) + f.val; omega

theorem index1 : ∀ t : Fin cfg0.N, win0_1.index t = ![t.val / 44, min (2 * (t.val % 22) + 1) 42] := by decide +kernel
theorem block1_entry (t : Fin cfg0.N) (r : Fin 2048) (f : Fin 256) :
    (iblk m c 1 t : Vec Ideal S2048x256 .bf16) (ix2 r f) = (V m c main_v1 : FVec Ideal S8192x11008 .bf16) (ix2 (n0 := 8192) (n1 := 11008) ⟨2048 * (t.val / 44) + r.val, by have hN := lt_of_lt_of_eq t.isLt (show cfg0.N = 176 from N_0); omega⟩ ⟨256 * (min (2 * (t.val % 22) + 1) 42) + f.val, by omega⟩) := by
  unfold iblk
  refine congrArg (V m c main_v1) ?_
  funext a; apply Fin.ext
  refine (Pipeline.Window.rect_emb_val win0_1 t (ix2 (n0 := 2048) (n1 := 256) r f) a).trans ?_
  rw [index1 t]
  match a with
  | ⟨0, _⟩ => show (t.val / 44) * 2048 + r.val = 2048 * (t.val / 44) + r.val; omega
  | ⟨1, _⟩ => show (min (2 * (t.val % 22) + 1) 42) * 256 + f.val = 256 * (min (2 * (t.val % 22) + 1) 42) + f.val; omega

theorem index2 : ∀ t : Fin cfg0.N, win0_2.index t = ![0, 2 * (t.val % 22)] := by decide +kernel
theorem block2_entry (t : Fin cfg0.N) (r : Fin 128) (f : Fin 256) :
    (iblk m c 2 t : Vec Ideal S128x256 .bf16) (ix2 r f) = (V m c main_v3 : FVec Ideal S128x11008 .bf16) (ix2 (n0 := 128) (n1 := 11008) ⟨r.val, by have hN := lt_of_lt_of_eq t.isLt (show cfg0.N = 176 from N_0); omega⟩ ⟨256 * (2 * (t.val % 22)) + f.val, by omega⟩) := by
  unfold iblk
  refine congrArg (V m c main_v3) ?_
  funext a; apply Fin.ext
  refine (Pipeline.Window.rect_emb_val win0_2 t (ix2 (n0 := 128) (n1 := 256) r f) a).trans ?_
  rw [index2 t]
  match a with
  | ⟨0, _⟩ => show (0) * 128 + r.val = r.val; omega
  | ⟨1, _⟩ => show (2 * (t.val % 22)) * 256 + f.val = 256 * (2 * (t.val % 22)) + f.val; omega

theorem index3 : ∀ t : Fin cfg0.N, win0_3.index t = ![0, min (2 * (t.val % 22) + 1) 42] := by decide +kernel
theorem block3_entry (t : Fin cfg0.N) (r : Fin 128) (f : Fin 256) :
    (iblk m c 3 t : Vec Ideal S128x256 .bf16) (ix2 r f) = (V m c main_v3 : FVec Ideal S128x11008 .bf16) (ix2 (n0 := 128) (n1 := 11008) ⟨r.val, by have hN := lt_of_lt_of_eq t.isLt (show cfg0.N = 176 from N_0); omega⟩ ⟨256 * (min (2 * (t.val % 22) + 1) 42) + f.val, by omega⟩) := by
  unfold iblk
  refine congrArg (V m c main_v3) ?_
  funext a; apply Fin.ext
  refine (Pipeline.Window.rect_emb_val win0_3 t (ix2 (n0 := 128) (n1 := 256) r f) a).trans ?_
  rw [index3 t]
  match a with
  | ⟨0, _⟩ => show (0) * 128 + r.val = r.val; omega
  | ⟨1, _⟩ => show (min (2 * (t.val % 22) + 1) 42) * 256 + f.val = 256 * (min (2 * (t.val % 22) + 1) 42) + f.val; omega

theorem index4 : ∀ t : Fin cfg0.N, win0_4.index t = ![3, 2 * (t.val % 22), t.val / 22 % 2] := by decide +kernel
theorem block4_entry (t : Fin cfg0.N) (f : Fin 256) (k : Fin 2048) :
    (iblk m c 4 t : Vec Ideal S1x256x2048 .f32) (ix3 0 f k) = argW m c (ix3 (n0 := 4) (n1 := 11008) (n2 := 4096) 3 ⟨256 * (2 * (t.val % 22)) + f.val, by omega⟩ ⟨2048 * (t.val / 22 % 2) + k.val, by omega⟩) := by
  rw [← w_entry]
  unfold iblk
  refine congrArg (V m c main_arg2) ?_
  funext a; apply Fin.ext
  refine (Pipeline.Window.rect_emb_val win0_4 t (ix3 (n0 := 1) (n1 := 256) (n2 := 2048) 0 f k) a).trans ?_
  rw [index4 t]
  match a with
  | ⟨0, _⟩ => show 3 * 1 + 0 = 3; omega
  | ⟨1, _⟩ => show (2 * (t.val % 22)) * 256 + f.val = 256 * (2 * (t.val % 22)) + f.val; omega
  | ⟨2, _⟩ => show (t.val / 22 % 2) * 2048 + k.val = 2048 * (t.val / 22 % 2) + k.val; omega

theorem index5 : ∀ t : Fin cfg0.N, win0_5.index t = ![3, min (2 * (t.val % 22) + 1) 42, t.val / 22 % 2] := by decide +kernel
theorem block5_entry (t : Fin cfg0.N) (f : Fin 256) (k : Fin 2048) :
    (iblk m c 5 t : Vec Ideal S1x256x2048 .f32) (ix3 0 f k) = argW m c (ix3 (n0 := 4) (n1 := 11008) (n2 := 4096) 3 ⟨256 * (min (2 * (t.val % 22) + 1) 42) + f.val, by omega⟩ ⟨2048 * (t.val / 22 % 2) + k.val, by omega⟩) := by
  rw [← w_entry]
  unfold iblk
  refine congrArg (V m c main_arg2) ?_
  funext a; apply Fin.ext
  refine (Pipeline.Window.rect_emb_val win0_5 t (ix3 (n0 := 1) (n1 := 256) (n2 := 2048) 0 f k) a).trans ?_
  rw [index5 t]
  match a with
  | ⟨0, _⟩ => show 3 * 1 + 0 = 3; omega
  | ⟨1, _⟩ => show (min (2 * (t.val % 22) + 1) 42) * 256 + f.val = 256 * (min (2 * (t.val % 22) + 1) 42) + f.val; omega
  | ⟨2, _⟩ => show (t.val / 22 % 2) * 2048 + k.val = 2048 * (t.val / 22 % 2) + k.val; omega

end Cert.DownIdeal.Acc

end
-- ==== Proof.DownIdeal.Step.lean ====
module

public import proofs.«01_k».proof.Proof.DownIdeal.Setup
public import Idealize.ShloMosaic.Lib.ValueIdxCore
public import Idealize.ShloMosaic.Lib.ValueLayout
public import Idealize.ShloMosaic.Lib.ValueLayoutCasts
public import Idealize.ShloMosaic.Lib.Pointwise
public import Idealize.ShloMosaic.Lib.Claim
public import Idealize.ShloMosaic.Lib.StableHlo.RunRead
public import Idealize.ShloMosaic.Lib.Pipeline.ValueKit.Geometry
public import Idealize.ShloMosaic.PureOps.Ideal
public import Idealize.ShloMosaic.PureOps.Ideal.Laws

@[expose] public section

set_option maxRecDepth 16384

noncomputable section

namespace Cert.DownIdeal.Acc

open Cert.DownIdeal.Gen
open Idealize.ShloMosaic Idealize.ShloMosaic.TcCoe Idealize.ShloMosaic.Tactic
open Idealize.ShloMosaic.Pipeline (Dat Cfg Window)
open Idealize.SL.Sem

/-- The word of a slab's number against that of the last. -/
theorem notLast_word : ∀ k : Fin 22, Scalar.cmpi .slt (BitVec.ofNat 32 k.val) 21#32 = if k.val < 21 then 1#1 else 0#1 := by decide +kernel

/-- One slab's weights, entry by entry. -/
theorem slab_entry (i : grid0.Coords) (x4 x5 : Vec Ideal S1x256x2048 .f32) (x : Fin 512) (k : Fin 2048) :
    slab (F := Ideal) i x4 x5 (ix2 x k) = if h : x.val < 256 then x4 (ix3 (n0 := 1) (n1 := 256) (n2 := 2048) 0 ⟨x.val, h⟩ k)
      else if (i 2).val < 21 then x5 (ix3 (n0 := 1) (n1 := 256) (n2 := 2048) 0 ⟨x.val - 256, by omega⟩ k) else (0 : EReal) := by
  unfold slab
  rw [show Scalar.cmpi .slt (BitVec.ofNat 32 (i 2).val) 21#32 = if (i 2).val < 21 then 1#1 else 0#1 from notLast_word (i 2)]
  pointwise
  by_cases hx : x.val < 256
  · rw [dif_pos hx, dif_pos hx]
  · rw [dif_neg hx, dif_neg hx]
    by_cases hi : (i 2).val < 21
    · rw [if_pos hi, if_pos hi]; rfl
    · rw [if_neg hi, if_neg hi]; rfl

theorem stepP_entry (i : grid0.Coords) (x0 x1 : Vec Ideal S2048x256 .bf16) (x4 x5 : Vec Ideal S1x256x2048 .f32) (a : Vec Ideal S2048x2048 .f32) (r : Fin 2048) (k : Fin 2048) :
    stepP (F := Ideal) i x0 x1 x4 x5 a (ix2 r k) = (a (ix2 r k) : EReal) + (∑ x : Fin 256, x0 (ix2 r x) * x4 (ix3 (n0 := 1) (n1 := 256) (n2 := 2048) 0 x k)
      + ∑ x : Fin 256, if (i 2).val < 21 then x1 (ix2 r x) * x5 (ix3 (n0 := 1) (n1 := 256) (n2 := 2048) 0 x k) else 0) := by
  unfold stepP
  pointwise
  refine congrArg (a (ix2 r k) + ·) (congrArg₂ (· + ·) (Finset.sum_congr rfl fun x _ => ?_) (Finset.sum_congr rfl fun x _ => ?_))
  · rw [slab_entry, dif_pos x.isLt]
  · rw [slab_entry, dif_neg (show ¬(256 + x.val < 256) by omega)]
    by_cases hi : (i 2).val < 21
    · rw [if_pos hi, if_pos hi]
      congr 3
      exact Fin.ext (Nat.add_sub_cancel_left 256 x.val)
    · rw [if_neg hi, if_neg hi]; exact mul_zero _

theorem stepS_entry (i : grid0.Coords) (x2 x3 : Vec Ideal S128x256 .bf16) (x4 x5 : Vec Ideal S1x256x2048 .f32) (a : Vec Ideal S128x2048 .f32) (r : Fin 128) (k : Fin 2048) :
    stepS (F := Ideal) i x2 x3 x4 x5 a (ix2 r k) = (a (ix2 r k) : EReal) + (∑ x : Fin 256, x2 (ix2 r x) * x4 (ix3 (n0 := 1) (n1 := 256) (n2 := 2048) 0 x k)
      + ∑ x : Fin 256, if (i 2).val < 21 then x3 (ix2 r x) * x5 (ix3 (n0 := 1) (n1 := 256) (n2 := 2048) 0 x k) else 0) := by
  unfold stepS
  pointwise
  refine congrArg (a (ix2 r k) + ·) (congrArg₂ (· + ·) (Finset.sum_congr rfl fun x _ => ?_) (Finset.sum_congr rfl fun x _ => ?_))
  · rw [slab_entry, dif_pos x.isLt]
  · rw [slab_entry, dif_neg (show ¬(256 + x.val < 256) by omega)]
    by_cases hi : (i 2).val < 21
    · rw [if_pos hi, if_pos hi]
      congr 3
      exact Fin.ext (Nat.add_sub_cancel_left 256 x.val)
    · rw [if_neg hi, if_neg hi]; exact mul_zero _

theorem zeroP_entry (r k : Fin 2048) : zeroP (F := Ideal) (ix2 r k) = (0 : EReal) := by
  unfold zeroP; pointwise
theorem zeroS_entry (r : Fin 128) (k : Fin 2048) : zeroS (F := Ideal) (ix2 r k) = (0 : EReal) := by
  unfold zeroS; pointwise
theorem outP_entry (a : Vec Ideal S2048x2048 .f32) (r k : Fin 2048) : outP (F := Ideal) a (ix2 r k) = a (ix2 r k) := by
  unfold outP; pointwise
theorem outS_entry (a : Vec Ideal S128x2048 .f32) (r : Fin 128) (k : Fin 2048) : outS (F := Ideal) a (ix2 r k) = a (ix2 r k) := by
  unfold outS; pointwise

/-! ## The sum over the slabs -/

variable (row wt : Fin 11008 → EReal)

/-- One product of the long sum, zero past its end. -/
def term (n : ℕ) : EReal := if h : n < 11008 then row ⟨n, h⟩ * wt ⟨n, h⟩ else 0

theorem slab_sum (k : ℕ) (hk : k < 22) :
    (∑ x : Fin 256, row ⟨256 * (2 * k) + x.val, by omega⟩ * wt ⟨256 * (2 * k) + x.val, by omega⟩)
      + (∑ x : Fin 256, if k < 21 then row ⟨256 * min (2 * k + 1) 42 + x.val, by omega⟩ * wt ⟨256 * min (2 * k + 1) 42 + x.val, by omega⟩ else 0)
    = ∑ x ∈ Finset.range 512, term row wt (512 * k + x) := by
  rw [show 512 = 256 + 256 from rfl, Finset.sum_range_add, Finset.sum_range, Finset.sum_range]
  refine congrArg₂ (· + ·) (Finset.sum_congr rfl fun x _ => ?_) (Finset.sum_congr rfl fun x _ => ?_)
  · have h := x.isLt
    have e : (256 + 256) * k + x.val = 256 * (2 * k) + x.val := by omega
    unfold term
    rw [e, dif_pos (by omega)]
  · have h := x.isLt
    unfold term
    by_cases hk' : k < 21
    · have e : (256 + 256) * k + (256 + x.val) = 256 * min (2 * k + 1) 42 + x.val := by omega
      rw [e, dif_pos (by omega), if_pos hk']
    · rw [dif_neg (by omega), if_neg hk']

theorem whole_sum : ∑ n ∈ Finset.range (512 * 22), term row wt n = ∑ n : Fin 11008, row n * wt n := by
  rw [show 512 * 22 = 11008 + 256 from rfl, Finset.sum_range_add, Finset.sum_range]
  rw [Finset.sum_eq_zero (s := Finset.range 256) (fun x _ => by unfold term; rw [dif_neg (by omega)]), add_zero]
  refine Finset.sum_congr rfl fun x _ => ?_
  unfold term
  rw [dif_pos x.isLt]

end Cert.DownIdeal.Acc

end
-- ==== Proof.DownIdeal.Out.lean ====
module

public import proofs.«01_k».proof.Proof.DownIdeal.Blocks
public import proofs.«01_k».proof.Proof.DownIdeal.Step
public import Idealize.ShloMosaic.Lib.ValueIdxCore
public import Idealize.ShloMosaic.Lib.ValueLayout
public import Idealize.ShloMosaic.Lib.ValueLayoutCasts
public import Idealize.ShloMosaic.Lib.Pointwise
public import Idealize.ShloMosaic.Lib.Claim
public import Idealize.ShloMosaic.Lib.StableHlo.RunRead
public import Idealize.ShloMosaic.Lib.Pipeline.ValueKit.Geometry
public import Idealize.ShloMosaic.PureOps.Ideal
public import Idealize.ShloMosaic.PureOps.Ideal.Laws

@[expose] public section

set_option maxRecDepth 16384

noncomputable section

namespace Cert.DownIdeal.Acc

open Cert.DownIdeal.Gen
open Idealize.ShloMosaic Idealize.ShloMosaic.TcCoe Idealize.ShloMosaic.Tactic
open Idealize.ShloMosaic.Pipeline (Dat Cfg Window)
open Idealize.SL.Sem

variable (m : (ℓ : Loc nD τ sig) → Buf (Elt Ideal) ℓ) (ρ : Dev nD → PrngReg) (c : Dev nD)

theorem coord2 : ∀ t : Fin cfg0.N, ((grid0.coords t) 2).val = t.val % 22 :=
  (by decide +kernel : ∀ t : Fin grid0.N, ((grid0.coords t) 2).val = t.val % 22)

theorem pt_block (q k : ℕ) (hq : q < 8) (hk : k < 22) : (pt (22 * q + k)).val = 22 * q + k := Nat.mod_eq_of_lt (by omega)

/-- A row of the activations and a column of the weights. -/
def rowP (r : Fin 8192) (n : Fin 11008) : EReal := argP m c (ix3 (n0 := 4) (n1 := 2048) (n2 := 11008) ⟨r.val / 2048, by omega⟩ ⟨r.val % 2048, by omega⟩ n)
def rowS (r : Fin 128) (n : Fin 11008) : EReal := argS m c (ix3 (n0 := 8) (n1 := 16) (n2 := 11008) ⟨r.val / 16, by omega⟩ ⟨r.val % 16, by omega⟩ n)
def col (k : Fin 4096) (n : Fin 11008) : EReal := argW m c (ix3 (n0 := 4) (n1 := 11008) (n2 := 4096) 3 n k)

/-- The two results. -/
def wholeP (y : S8192x4096.Idx) : EReal := ∑ n, rowP m c ⟨(y 0).val, (y 0).isLt⟩ n * col m c ⟨(y 1).val, (y 1).isLt⟩ n
def wholeS (y : S128x4096.Idx) : EReal := ∑ n, rowS m c ⟨(y 0).val, (y 0).isLt⟩ n * col m c ⟨(y 1).val, (y 1).isLt⟩ n

theorem addP_entry (q k : ℕ) (hq : q < 8) (hk : k < 22) (a : Vec Ideal S2048x2048 .f32) (r : Fin 2048) (j : Fin 2048) :
    addP (F := Ideal) m c (pt (22 * q + k)) a (ix2 r j) = (a (ix2 r j) : EReal)
      + ∑ x ∈ Finset.range 512, term (rowP m c ⟨2048 * (q / 2) + r.val, by omega⟩) (col m c ⟨2048 * (q % 2) + j.val, by omega⟩) (512 * k + x) := by
  have ht := pt_block q k hq hk
  unfold addP
  rw [stepP_entry, coord2, ← slab_sum _ _ k hk]
  refine congrArg (a (ix2 r j) + ·) (congrArg₂ (· + ·) (Finset.sum_congr rfl fun x _ => ?_) (Finset.sum_congr rfl fun x _ => ?_))
  · rw [block0_entry, block4_entry, p_entry]
    unfold rowP col
    congr 3
    all_goals (try (apply Fin.ext)); try (dsimp only; omega)
  · by_cases hk' : k < 21
    · rw [if_pos (show (pt (22 * q + k)).val % 22 < 21 by omega), if_pos hk', block1_entry, block5_entry, p_entry]
      unfold rowP col
      congr 3
      all_goals (try (apply Fin.ext)); try (dsimp only; omega)
    · rw [if_neg (show ¬(pt (22 * q + k)).val % 22 < 21 by omega), if_neg hk']

theorem sumP_entry (q : ℕ) (hq : q < 8) (r : Fin 2048) (j : Fin 2048) : ∀ k : ℕ, k < 22 →
    sumP (F := Ideal) m c q k (ix2 r j) = ∑ x ∈ Finset.range (512 * (k + 1)), term (rowP m c ⟨2048 * (q / 2) + r.val, by omega⟩) (col m c ⟨2048 * (q % 2) + j.val, by omega⟩) x
  | 0, hk => by
    show addP (F := Ideal) m c (pt (22 * q + 0)) zeroP (ix2 r j) = _
    rw [addP_entry m c q 0 hq hk, zeroP_entry, zero_add]
    exact Finset.sum_congr rfl fun x _ => by rw [Nat.mul_zero, Nat.zero_add]
  | k + 1, hk => by
    show addP (F := Ideal) m c (pt (22 * q + (k + 1))) (sumP m c q k) (ix2 r j) = _
    rw [addP_entry m c q (k + 1) hq hk, sumP_entry q hq r j k (by omega), show 512 * (k + 1 + 1) = 512 * (k + 1) + 512 from rfl, Finset.sum_range_add]

theorem addS_entry (q k : ℕ) (hq : q < 8) (hk : k < 22) (a : Vec Ideal S128x2048 .f32) (r : Fin 128) (j : Fin 2048) :
    addS (F := Ideal) m c (pt (22 * q + k)) a (ix2 r j) = (a (ix2 r j) : EReal)
      + ∑ x ∈ Finset.range 512, term (rowS m c ⟨r.val, by omega⟩) (col m c ⟨2048 * (q % 2) + j.val, by omega⟩) (512 * k + x) := by
  have ht := pt_block q k hq hk
  unfold addS
  rw [stepS_entry, coord2, ← slab_sum _ _ k hk]
  refine congrArg (a (ix2 r j) + ·) (congrArg₂ (· + ·) (Finset.sum_congr rfl fun x _ => ?_) (Finset.sum_congr rfl fun x _ => ?_))
  · rw [block2_entry, block4_entry, s_entry]
    unfold rowS col
    congr 3
    all_goals (try (apply Fin.ext)); try (dsimp only; omega)
  · by_cases hk' : k < 21
    · rw [if_pos (show (pt (22 * q + k)).val % 22 < 21 by omega), if_pos hk', block3_entry, block5_entry, s_entry]
      unfold rowS col
      congr 3
      all_goals (try (apply Fin.ext)); try (dsimp only; omega)
    · rw [if_neg (show ¬(pt (22 * q + k)).val % 22 < 21 by omega), if_neg hk']

theorem sumS_entry (q : ℕ) (hq : q < 8) (r : Fin 128) (j : Fin 2048) : ∀ k : ℕ, k < 22 →
    sumS (F := Ideal) m c q k (ix2 r j) = ∑ x ∈ Finset.range (512 * (k + 1)), term (rowS m c ⟨r.val, by omega⟩) (col m c ⟨2048 * (q % 2) + j.val, by omega⟩) x
  | 0, hk => by
    show addS (F := Ideal) m c (pt (22 * q + 0)) zeroS (ix2 r j) = _
    rw [addS_entry m c q 0 hq hk, zeroS_entry, zero_add]
    exact Finset.sum_congr rfl fun x _ => by rw [Nat.mul_zero, Nat.zero_add]
  | k + 1, hk => by
    show addS (F := Ideal) m c (pt (22 * q + (k + 1))) (sumS m c q k) (ix2 r j) = _
    rw [addS_entry m c q (k + 1) hq hk, sumS_entry q hq r j k (by omega), show 512 * (k + 1 + 1) = 512 * (k + 1) + 512 from rfl, Finset.sum_range_add]

theorem index6 : ∀ t : Fin cfg0.N, win0_6.index t = ![t.val / 44, t.val / 22 % 2] := by decide +kernel
theorem index7 : ∀ t : Fin cfg0.N, 132 ≤ t.val → win0_7.index t = ![0, t.val / 22 % 2] := by decide +kernel

theorem point6 (t : Fin cfg0.N) (h : t.val % 22 = 21) (r j : Fin 2048) :
    outP (F := Ideal) (atP m c t.val) (ix2 r j) = wholeP m c ((win0_6.blk t).view.emb (ix2 (n0 := 2048) (n1 := 2048) r j)) := by
  have hN := lt_of_lt_of_eq t.isLt (show cfg0.N = 176 from N_0)
  rw [outP_entry]
  unfold atP
  rw [h, sumP_entry m c (t.val / 22) (by omega) r j 21 (by omega), whole_sum]
  unfold wholeP
  refine Finset.sum_congr rfl fun n _ => congrArg₂ (· * ·) (congrArg (rowP m c · n) (Fin.ext ?_)) (congrArg (col m c · n) (Fin.ext ?_))
  · refine Eq.trans ?_ (Pipeline.Window.rect_emb_val win0_6 t (ix2 (n0 := 2048) (n1 := 2048) r j) 0).symm
    rw [index6 t]
    show 2048 * (t.val / 22 / 2) + r.val = t.val / 44 * 2048 + r.val
    omega
  · refine Eq.trans ?_ (Pipeline.Window.rect_emb_val win0_6 t (ix2 (n0 := 2048) (n1 := 2048) r j) 1).symm
    rw [index6 t]
    show 2048 * (t.val / 22 % 2) + j.val = t.val / 22 % 2 * 2048 + j.val
    omega

theorem point7 (t : Fin cfg0.N) (h : t.val % 22 = 21) (hs : 132 ≤ t.val) (r : Fin 128) (j : Fin 2048) :
    outS (F := Ideal) (atS m c t.val) (ix2 r j) = wholeS m c ((win0_7.blk t).view.emb (ix2 (n0 := 128) (n1 := 2048) r j)) := by
  have hN := lt_of_lt_of_eq t.isLt (show cfg0.N = 176 from N_0)
  rw [outS_entry]
  unfold atS
  rw [h, sumS_entry m c (t.val / 22) (by omega) r j 21 (by omega), whole_sum]
  unfold wholeS
  refine Finset.sum_congr rfl fun n _ => congrArg₂ (· * ·) (congrArg (rowS m c · n) (Fin.ext ?_)) (congrArg (col m c · n) (Fin.ext ?_))
  · refine Eq.trans ?_ (Pipeline.Window.rect_emb_val win0_7 t (ix2 (n0 := 128) (n1 := 2048) r j) 0).symm
    rw [index7 t hs]
    show r.val = 0 * 128 + r.val
    omega
  · refine Eq.trans ?_ (Pipeline.Window.rect_emb_val win0_7 t (ix2 (n0 := 128) (n1 := 2048) r j) 1).symm
    rw [index7 t hs]
    show 2048 * (t.val / 22 % 2) + j.val = t.val / 22 % 2 * 2048 + j.val
    omega

theorem arr6 : (dats m 0 c).arrAt 6 cfg0.N = wholeP m c := by
  refine (dats m 0 c).arrAt_eq_of_covers 6 _ (by decide +kernel) fun t hf y => ?_
  rw [after6]
  have e : y = ix2 (n0 := 2048) (n1 := 2048) ⟨(y 0).val, (y 0).isLt⟩ ⟨(y 1).val, (y 1).isLt⟩ := eq_ix2 y
  rw [e]
  exact point6 m c t ((flush0_6 t).1 hf) _ _

theorem arr7 : (dats m 0 c).arrAt 7 cfg0.N = wholeS m c := by
  refine (dats m 0 c).arrAt_eq_of_covers 7 _ (by decide +kernel) fun t hf y => ?_
  rw [after7]
  have e : y = ix2 (n0 := 128) (n1 := 2048) ⟨(y 0).val, (y 0).isLt⟩ ⟨(y 1).val, (y 1).isLt⟩ := eq_ix2 y
  rw [e]
  exact point7 m c t (flush7 t hf).2 (flush7 t hf).1 _ _

end Cert.DownIdeal.Acc

end
-- ==== Proof.DownIdeal.Ref.lean ====
module

public import proofs.«01_k».proof.Proof.Gen.RefDownIdeal
public import proofs.«01_k».proof.Proof.Gen.RefDownIdeal.Run
public import Idealize.ShloMosaic.Lib.ValueIdxCore
public import Idealize.ShloMosaic.Lib.ValueLayout
public import Idealize.ShloMosaic.Lib.ValueLayoutCasts
public import Idealize.ShloMosaic.Lib.Pointwise
public import Idealize.ShloMosaic.Lib.Claim
public import Idealize.ShloMosaic.PureOps.Ideal
public import Idealize.ShloMosaic.PureOps.Ideal.Laws

@[expose] public section

set_option maxRecDepth 16384

noncomputable section

namespace Cert.RefDownIdeal.Acc

open Cert.RefDownIdeal Cert.RefDownIdeal.Gen
open Idealize.ShloMosaic Idealize.ShloMosaic.TcCoe Idealize.ShloMosaic.Tactic

variable (p : FVec Ideal S4x2048x11008 .f32) (s : FVec Ideal S8x16x11008 .f32) (w : FVec Ideal S4x11008x4096 .f32)

/-- The last layer's weights. -/
def weights : FVec Ideal S11008x4096 .f32 :=
  shapeCast _ (extractStridedSlice S1x11008x4096 ![3, 0, 0] w slices_S4x11008x4096_S1x11008x4096_3_0_0) shapeCasts_S1x11008x4096_S11008x4096

/-- The reference's two results. -/
def resultP : FVec Ideal S8192x4096 .bf16 :=
  shapeCast _ (truncf .bf16 (Host.dotGeneral dot_S4x2048x11008_S11008x4096_S4x2048x4096_2_0_01_1_n_n none p (weights w)) bitsLt_bf16_f32) shapeCasts_S4x2048x4096_S8192x4096
def resultS : FVec Ideal S128x4096 .bf16 :=
  shapeCast _ (truncf .bf16 (Host.dotGeneral dot_S8x16x11008_S11008x4096_S8x16x4096_2_0_01_1_n_n none s (weights w)) bitsLt_bf16_f32) shapeCasts_S8x16x4096_S128x4096

theorem weights_entry (n : Fin 11008) (k : Fin 4096) : weights w (ix2 n k) = w (ix3 (n0 := 4) (n1 := 11008) (n2 := 4096) 3 n k) := by
  unfold weights
  pointwise

theorem resultP_entry (r : Fin 8192) (k : Fin 4096) :
    resultP p w (ix2 r k) = ∑ n : Fin 11008, p (ix3 (n0 := 4) (n1 := 2048) (n2 := 11008) ⟨r.val / 2048, by omega⟩ ⟨r.val % 2048, by omega⟩ n) * w (ix3 (n0 := 4) (n1 := 11008) (n2 := 4096) 3 n k) := by
  unfold resultP
  pointwise [weights_entry]

theorem resultS_entry (r : Fin 128) (k : Fin 4096) :
    resultS s w (ix2 r k) = ∑ n : Fin 11008, s (ix3 (n0 := 8) (n1 := 16) (n2 := 11008) ⟨r.val / 16, by omega⟩ ⟨r.val % 16, by omega⟩ n) * w (ix3 (n0 := 4) (n1 := 11008) (n2 := 4096) 3 n k) := by
  unfold resultS
  pointwise [weights_entry]

end Cert.RefDownIdeal.Acc

end
-- ==== Proof.DownIdeal.Values.lean ====
/- The claims about the down projection. -/
module

public import proofs.«01_k».proof.Defs
public import proofs.«01_k».proof.Proof.Gen.Down
public import proofs.«01_k».proof.Proof.Gen.DownIdeal
public import proofs.«01_k».proof.Proof.Gen.RefDownIdeal
public import proofs.«01_k».proof.Proof.Gen.RefDownIdeal.Run
public import proofs.«01_k».proof.Proof.DownIdeal.Out
public import proofs.«01_k».proof.Proof.DownIdeal.Ref
public import Idealize.ShloMosaic.Adequacy
public import Idealize.ShloMosaic.Init

@[expose] public section

noncomputable section

namespace Cert.DownIdeal.Acc

open Idealize.ShloMosaic Idealize.SL.Sem

/-- The two programs have the same text, so the same body table at the same float values. -/
theorem bodies_eq : @Cert.Down.defs₀ Bits _ _ = @Cert.DownIdeal.defs₀ Bits _ _ := by
  unfold Cert.Down.defs₀ Cert.DownIdeal.defs₀
  refine congrArg Defs.onTc ?_
  funext l x
  match l, x with
  | 0, (t, s) => rfl
  | ⟨_ + 1, h⟩, _ => exact absurd h (Nat.not_lt.2 (Nat.le_add_left _ _))

theorem defs_eq : @Cert.Down.defs Bits _ _ = @Cert.DownIdeal.defs Bits _ _ := congrArg (Pipeline.defs _) bodies_eq

theorem frame_kernel : Cert.quiescent_Down (hDown := Cert.Down.Gen.facts) := fun m g _ => by
  have h := Cert.DownIdeal.Acc.frame (F := Bits) m g
  rw [← defs_eq] at h
  exact h

/-- The down projection's reference has no semaphore. -/
theorem reference_sem (f : GSem Cert.RefDownIdeal.nD Cert.RefDownIdeal.τ Cert.RefDownIdeal.sig → Int) : f = fun _ => 0 := by
  funext g
  obtain ⟨t, s⟩ := g
  cases s with
  | reg s => exact absurd s.isLt (Nat.not_lt_zero _)
  | dma s => exact absurd s.isLt (Nat.not_lt_zero _)

theorem frame_reference : Cert.quiescent_RefDownIdeal (hRefDownIdeal := Cert.RefDownIdeal.Gen.facts) := fun m g _ =>
  (θ_run _ _ _).mono (fun r h => ⟨fun c => (h c).2.2, reference_sem _⟩) (Cert.RefDownIdeal.Value.run (F := Ideal) m g)

/-- The kernel and the reference leave the same two arrays. -/
theorem values : Cert.algebraic_DownIdeal_RefDownIdeal (hDownIdeal := Cert.DownIdeal.Gen.facts) (hRefDownIdeal := Cert.RefDownIdeal.Gen.facts) := by
  intro m g m' g' _ hagree
  refine ⟨fun c => Cert.DownIdeal.Acc.wholeP m c, fun c => Cert.DownIdeal.Acc.wholeS m c, ?_, ?_⟩
  · refine (θ_run _ _ _).mono (fun r h c => ?_) (θ_run_and (Cert.DownIdeal.Acc.run_main (F := Ideal) m g) (Cert.DownIdeal.Acc.frame (F := Ideal) m g))
    exact ⟨((h.1.1 c).1 6).trans (Cert.DownIdeal.Acc.arr6 m c), ((h.1.1 c).1 7).trans (Cert.DownIdeal.Acc.arr7 m c), h.2.1 c⟩
  · refine (θ_run _ _ _).mono (fun r h c => ⟨(h c).1.trans ?_, (h c).2.1.trans ?_, (h c).2.2⟩) (Cert.RefDownIdeal.Value.run (F := Ideal) m' g')
    · rw [(hagree c).1, (hagree c).2.2]
      funext y
      rw [eq_ix2 y]
      exact Cert.RefDownIdeal.Acc.resultP_entry (Cert.DownIdeal.Acc.argP m c) (Cert.DownIdeal.Acc.argW m c) (y 0) (y 1)
    · rw [(hagree c).2.1, (hagree c).2.2]
      funext y
      rw [eq_ix2 y]
      exact Cert.RefDownIdeal.Acc.resultS_entry (Cert.DownIdeal.Acc.argS m c) (Cert.DownIdeal.Acc.argW m c) (y 0) (y 1)

end Cert.DownIdeal.Acc

end
-- ==== Proof.GateIdeal.Step.lean ====
module

public import proofs.«01_k».proof.Proof.Gen.GateIdeal.Value
public import Idealize.ShloMosaic.Lib.ValueIdxCore
public import Idealize.ShloMosaic.Lib.ValueLayout
public import Idealize.ShloMosaic.Lib.ValueLayoutCasts
public import Idealize.ShloMosaic.Lib.Pointwise
public import Idealize.ShloMosaic.Lib.Claim
public import Idealize.ShloMosaic.Lib.StableHlo.RunRead
public import Idealize.ShloMosaic.Lib.Pipeline.ValueKit.Geometry
public import Idealize.ShloMosaic.Lib.VecWindow
public import Idealize.ShloMosaic.PureOps.Ideal
public import Idealize.ShloMosaic.PureOps.Ideal.Laws

@[expose] public section

set_option maxRecDepth 16384

noncomputable section

namespace Cert.GateIdeal.Val

open Cert.GateIdeal Cert.GateIdeal.Gen
open Idealize.ShloMosaic Idealize.ShloMosaic.TcCoe Idealize.ShloMosaic.Tactic
open Idealize.ShloMosaic.Pipeline (Dat Cfg Window)
open Idealize.SL.Sem

/-- A gate's value, times what it gates. -/
def swiglu (g u : EReal) : EReal := g * Ideal.logistic g * u

/-- The gated products of a block of the prompt's rows, and of the sample's, with a block of the gate's columns and one of the columns it gates. -/
def prodP (x1 : Vec Ideal S2048x4096 .bf16) (x2 x3 : Vec Ideal S1x4096x256 .f32) : Vec Ideal S2048x256 .bf16 := fun y =>
  swiglu (∑ n : Fin 4096, x1 (ix2 (n0 := 2048) (n1 := 4096) (y 0) n) * x2 (ix3 (n0 := 1) (n1 := 4096) (n2 := 256) 0 n (y 1)))
    (∑ n : Fin 4096, x1 (ix2 (n0 := 2048) (n1 := 4096) (y 0) n) * x3 (ix3 (n0 := 1) (n1 := 4096) (n2 := 256) 0 n (y 1)))
def prodS (x0 : Vec Ideal S128x4096 .bf16) (x2 x3 : Vec Ideal S1x4096x256 .f32) : Vec Ideal S128x256 .bf16 := fun y =>
  swiglu (∑ n : Fin 4096, x0 (ix2 (n0 := 128) (n1 := 4096) (y 0) n) * x2 (ix3 (n0 := 1) (n1 := 4096) (n2 := 256) 0 n (y 1)))
    (∑ n : Fin 4096, x0 (ix2 (n0 := 128) (n1 := 4096) (y 0) n) * x3 (ix3 (n0 := 1) (n1 := 4096) (n2 := 256) 0 n (y 1)))

/-- The two blocks of columns side by side, read in the first and in the second. -/
theorem cat_entry (x2 x3 : Vec Ideal S1x4096x256 .f32) (n : Fin 4096) (k : Fin 512) :
    k0_pay3 (F := Ideal) x2 x3 (ix2 n k) = if h : k.val < 256 then x2 (ix3 (n0 := 1) (n1 := 4096) (n2 := 256) 0 n ⟨k.val, h⟩) else x3 (ix3 (n0 := 1) (n1 := 4096) (n2 := 256) 0 n ⟨k.val - 256, by omega⟩) := by
  unfold k0_pay3
  pointwise

theorem cat_fst (x2 x3 : Vec Ideal S1x4096x256 .f32) (n : Fin 4096) (k : Fin 256) (h : k.val < 512) :
    k0_pay3 (F := Ideal) x2 x3 (ix2 (n0 := 4096) (n1 := 512) n ⟨k.val, h⟩) = x2 (ix3 (n0 := 1) (n1 := 4096) (n2 := 256) 0 n k) := by
  rw [cat_entry, dif_pos k.isLt]

theorem cat_snd (x2 x3 : Vec Ideal S1x4096x256 .f32) (n : Fin 4096) (k : Fin 256) (h : 256 + k.val < 512) :
    k0_pay3 (F := Ideal) x2 x3 (ix2 (n0 := 4096) (n1 := 512) n ⟨256 + k.val, h⟩) = x3 (ix3 (n0 := 1) (n1 := 4096) (n2 := 256) 0 n k) := by
  rw [cat_entry, dif_neg (show ¬(256 + k.val < 256) by omega)]
  congr 3
  exact Nat.add_sub_cancel_left 256 k.val

theorem pay4_entry (x2 x3 : Vec Ideal S1x4096x256 .f32) (v : Vec Ideal S512x4096 .bf16) (r : Fin 512) (k : Fin 256) :
    k0_pay4 (F := Ideal) x2 x3 v (ix2 r k) = swiglu (∑ n : Fin 4096, v (ix2 (n0 := 512) (n1 := 4096) r n) * x2 (ix3 (n0 := 1) (n1 := 4096) (n2 := 256) 0 n k))
      (∑ n : Fin 4096, v (ix2 (n0 := 512) (n1 := 4096) r n) * x3 (ix3 (n0 := 1) (n1 := 4096) (n2 := 256) 0 n k)) := by
  unfold k0_pay4
  pointwise [cat_fst, cat_snd]
  rfl

theorem pay2_entry (x2 x3 : Vec Ideal S1x4096x256 .f32) (v : Vec Ideal S128x4096 .bf16) (r : Fin 128) (k : Fin 256) :
    k0_pay2 (F := Ideal) (k0_pay3 (F := Ideal) x2 x3) v (ix2 r k) = swiglu (∑ n : Fin 4096, v (ix2 (n0 := 128) (n1 := 4096) r n) * x2 (ix3 (n0 := 1) (n1 := 4096) (n2 := 256) 0 n k))
      (∑ n : Fin 4096, v (ix2 (n0 := 128) (n1 := 4096) r n) * x3 (ix3 (n0 := 1) (n1 := 4096) (n2 := 256) 0 n k)) := by
  unfold k0_pay2
  pointwise [cat_fst, cat_snd]
  rfl

theorem whole {S : Shape} {e : EltTy} {m : Memref sig .tc .vmem S e} (hm : m.IsWhole) (x : Vec Ideal S e) (off : Fin S.rank → ℕ) (h0 : off = fun _ => 0)
    (h : ∀ a, off a + S.size a ≤ S.size a) : View.readAt (Elt Ideal) m.view (Rect.unit (s := S) off S.size h).toLoadRect (hm.unread x) = x := by
  rw [View.readAt_eq_ld, hm.read_unread]
  exact View.ld_unit_zero h0 h x

theorem zero2 : (![0, 0] : Fin 2 → ℕ) = fun _ => 0 := by funext a; fin_cases a <;> rfl
theorem zero3 : (![0, 0, 0] : Fin 3 → ℕ) = fun _ => 0 := by funext a; fin_cases a <;> rfl

/-- What one chunk of rows is stored at. -/
theorem chunk {m3 : Memref sig .tc .vmem S2048x4096 .bf16} (h3 : m3.IsWhole) {m4 m5 : Memref sig .tc .vmem S1x4096x256 .f32} (h4 : m4.IsWhole) (h5 : m5.IsWhole)
    (x1 : Vec Ideal S2048x4096 .bf16) (x2 x3 : Vec Ideal S1x4096x256 .f32) (o : ℕ) (ho : o + 512 ≤ 2048)
    (hw : ∀ a, (![0, 0, 0] : Fin 3 → ℕ) a + S1x4096x256.size a ≤ S1x4096x256.size a) (hr : ∀ a, (![o, 0] : Fin 2 → ℕ) a + S512x4096.size a ≤ S2048x4096.size a)
    (hs : ∀ a, (![o, 0] : Fin 2 → ℕ) a + S512x256.size a ≤ S2048x256.size a) (x : S512x256.Idx) :
    k0_pay4 (F := Ideal) (View.readAt (Elt Ideal) m4.view (Rect.unit (s := S1x4096x256) ![0, 0, 0] S1x4096x256.size hw).toLoadRect (h4.unread x2))
        (View.readAt (Elt Ideal) m5.view (Rect.unit (s := S1x4096x256) ![0, 0, 0] S1x4096x256.size hw).toLoadRect (h5.unread x3))
        (View.readAt (Elt Ideal) m3.view (Rect.unit (s := S2048x4096) ![o, 0] S512x4096.size hr).toLoadRect (h3.unread x1)) x
      = prodP x1 x2 x3 ((Rect.unit (s := S2048x256) ![o, 0] S512x256.size hs).emb x) := by
  rw [whole h4 x2 _ zero3, whole h5 x3 _ zero3, View.readAt_eq_ld, h3.read_unread]
  have e : x = ix2 (n0 := 512) (n1 := 256) (x 0) (x 1) := eq_ix2 x
  rw [e]
  refine (pay4_entry x2 x3 _ (x 0) (x 1)).trans ?_
  unfold prodP
  have hrow : ∀ n : Fin 4096, (Rect.unit (s := S2048x4096) ![o, 0] S512x4096.size hr).emb (ix2 (n0 := 512) (n1 := 4096) (x 0) n)
      = ix2 (n0 := 2048) (n1 := 4096) ((Rect.unit (s := S2048x256) ![o, 0] S512x256.size hs).emb (ix2 (n0 := 512) (n1 := 256) (x 0) (x 1)) 0) n := fun n => by
    funext a; apply Fin.ext
    match a with
    | ⟨0, _⟩ => rfl
    | ⟨1, _⟩ => show 0 + 1 * n.val = n.val; omega
  have hcol : ∀ n : Fin 4096, ix3 (n0 := 1) (n1 := 4096) (n2 := 256) 0 n (x 1)
      = ix3 (n0 := 1) (n1 := 4096) (n2 := 256) 0 n ((Rect.unit (s := S2048x256) ![o, 0] S512x256.size hs).emb (ix2 (n0 := 512) (n1 := 256) (x 0) (x 1)) 1) := fun n => by
    funext a; apply Fin.ext
    match a with
    | ⟨0, _⟩ => rfl
    | ⟨1, _⟩ => rfl
    | ⟨2, _⟩ => show (x 1).val = 0 + 1 * (x 1).val; omega
  refine congrArg₂ swiglu (Finset.sum_congr rfl fun n _ => congrArg₂ (· * ·) (congrArg x1 (hrow n)) (congrArg x2 (hcol n)))
    (Finset.sum_congr rfl fun n _ => congrArg₂ (· * ·) (congrArg x1 (hrow n)) (congrArg x3 (hcol n)))

section
variable (c : Dev nD) (i : grid0.Coords) (arg2 : Memref sig .tc .vmem S128x4096 .bf16) (harg2 : arg2.IsWhole) (arg3 : Memref sig .tc .vmem S2048x4096 .bf16) (harg3 : arg3.IsWhole) (arg4 : Memref sig .tc .vmem S1x4096x256 .f32) (harg4 : arg4.IsWhole) (arg5 : Memref sig .tc .vmem S1x4096x256 .f32) (harg5 : arg5.IsWhole) (arg6 : Memref sig .tc .vmem S2048x256 .bf16) (harg6 : arg6.IsWhole) (arg7 : Memref sig .tc .vmem S128x256 .bf16) (harg7 : arg7.IsWhole)
  (x0 : Vec Ideal S128x4096 .bf16) (x1 : Vec Ideal S2048x4096 .bf16) (x2 x3 : Vec Ideal S1x4096x256 .f32)

theorem outA (hc : ¬cond0_0 i) : out0_A_4 (F := Ideal) c i arg2 harg2 arg3 harg3 arg4 harg4 arg5 harg5 arg6 harg6 arg7 harg7 hc x0 x1 x2 x3 = prodP x1 x2 x3 := by
  unfold out0_A_4
  funext y
  refine View.read_writes_apply_of_pieces _ _ (prodP x1 x2 x3) _ ?_ y (cover0_A_4 c i arg2 harg2 arg3 harg3 arg4 harg4 arg5 harg5 arg6 harg6 arg7 harg7 hc x0 x1 x2 x3 y)
  exact List.forall_mem_cons.2 ⟨fun x => chunk harg3 harg4 harg5 x1 x2 x3 1536 (by omega) _ _ inb_S2048x256_S512x256_1536_0 x, List.forall_mem_cons.2 ⟨fun x => chunk harg3 harg4 harg5 x1 x2 x3 1024 (by omega) _ _ inb_S2048x256_S512x256_1024_0 x,
    List.forall_mem_cons.2 ⟨fun x => chunk harg3 harg4 harg5 x1 x2 x3 512 (by omega) _ _ inb_S2048x256_S512x256_512_0 x, List.forall_mem_cons.2 ⟨fun x => chunk harg3 harg4 harg5 x1 x2 x3 0 (by omega) _ _ inb_S2048x256_S512x256_0_0 x, List.forall_mem_nil _⟩⟩⟩⟩

theorem outB (hc : cond0_0 i) : out0_B_4 (F := Ideal) c i arg2 harg2 arg3 harg3 arg4 harg4 arg5 harg5 arg6 harg6 arg7 harg7 hc x0 x1 x2 x3 = prodP x1 x2 x3 := by
  unfold out0_B_4
  funext y
  refine View.read_writes_apply_of_pieces _ _ (prodP x1 x2 x3) _ ?_ y (cover0_B_4 c i arg2 harg2 arg3 harg3 arg4 harg4 arg5 harg5 arg6 harg6 arg7 harg7 hc x0 x1 x2 x3 y)
  exact List.forall_mem_cons.2 ⟨fun x => chunk harg3 harg4 harg5 x1 x2 x3 1536 (by omega) _ _ inb_S2048x256_S512x256_1536_0 x, List.forall_mem_cons.2 ⟨fun x => chunk harg3 harg4 harg5 x1 x2 x3 1024 (by omega) _ _ inb_S2048x256_S512x256_1024_0 x,
    List.forall_mem_cons.2 ⟨fun x => chunk harg3 harg4 harg5 x1 x2 x3 512 (by omega) _ _ inb_S2048x256_S512x256_512_0 x, List.forall_mem_cons.2 ⟨fun x => chunk harg3 harg4 harg5 x1 x2 x3 0 (by omega) _ _ inb_S2048x256_S512x256_0_0 x, List.forall_mem_nil _⟩⟩⟩⟩

theorem outB_sample (hc : cond0_0 i) : out0_B_5 (F := Ideal) c i arg2 harg2 arg3 harg3 arg4 harg4 arg5 harg5 arg6 harg6 arg7 harg7 hc x0 x1 x2 x3 = prodS x0 x2 x3 := by
  unfold out0_B_5
  refine (View.read_writes_full _ _ _ _ _).trans ?_
  show k0_pay2 (F := Ideal) (k0_pay3 (F := Ideal) (View.readAt (Elt Ideal) arg4.view (Rect.unit (s := S1x4096x256) ![0, 0, 0] S1x4096x256.size _).toLoadRect (harg4.unread x2))
      (View.readAt (Elt Ideal) arg5.view (Rect.unit (s := S1x4096x256) ![0, 0, 0] S1x4096x256.size _).toLoadRect (harg5.unread x3)))
    (View.readAt (Elt Ideal) arg2.view (Rect.unit (s := S128x4096) ![0, 0] S128x4096.size _).toLoadRect (harg2.unread x0)) = _
  rw [whole harg4 x2 _ zero3, whole harg5 x3 _ zero3, whole harg2 x0 _ zero2]
  funext y
  have e : y = ix2 (n0 := 128) (n1 := 256) (y 0) (y 1) := eq_ix2 y
  rw [e]
  exact pay2_entry x2 x3 x0 (y 0) (y 1)
end

end Cert.GateIdeal.Val

end
-- ==== Proof.GateIdeal.Out.lean ====
module

public import proofs.«01_k».proof.Proof.GateIdeal.Step
public import Idealize.ShloMosaic.Lib.ValueIdxCore
public import Idealize.ShloMosaic.Lib.ValueLayout
public import Idealize.ShloMosaic.Lib.ValueLayoutCasts
public import Idealize.ShloMosaic.Lib.Pointwise
public import Idealize.ShloMosaic.Lib.Claim
public import Idealize.ShloMosaic.Lib.StableHlo.RunRead
public import Idealize.ShloMosaic.Lib.Pipeline.ValueKit.Geometry
public import Idealize.ShloMosaic.Lib.VecWindow
public import Idealize.ShloMosaic.PureOps.Ideal
public import Idealize.ShloMosaic.PureOps.Ideal.Laws

@[expose] public section

set_option maxRecDepth 16384

noncomputable section

namespace Cert.GateIdeal.Val

open Cert.GateIdeal Cert.GateIdeal.Gen
open Idealize.ShloMosaic Idealize.ShloMosaic.TcCoe Idealize.ShloMosaic.Tactic
open Idealize.ShloMosaic.Pipeline (Dat Cfg Window)
open Idealize.SL.Sem

variable (m : (ℓ : Loc nD τ sig) → Buf (Elt Ideal) ℓ) (c : Dev nD)

/-- A host operation line before the call, as one list. -/
theorem v_eq (r : Ref sig .tc) : V (F := Ideal) m c r = StableHlo.after hostOps0 (fun b => m (c, b)) (Proc.devRef .tc r) := rfl

/-- The prompt's rows, the sample's, and the weights, as given to the program. -/
def argP : FVec Ideal S4x2048x4096 .f32 := m ((c.tc : Thread nD τ).loc main_arg0)
def argS : FVec Ideal S8x16x4096 .f32 := m ((c.tc : Thread nD τ).loc main_arg1)
def argW : FVec Ideal S4x4096x22016 .f32 := m ((c.tc : Thread nD τ).loc main_arg2)

/-- The rows the call takes, and its weights. -/
theorem p_entry (r : Fin 8192) (n : Fin 4096) :
    (V (F := Ideal) m c main_v1 : FVec Ideal S8192x4096 .bf16) (ix2 r n) = argP m c (ix3 (n0 := 4) (n1 := 2048) (n2 := 4096) ⟨r.val / 2048, by omega⟩ ⟨r.val % 2048, by omega⟩ n) := by
  rw [v_eq]
  after_reads_simp
  pointwise
  rfl

theorem s_entry (r : Fin 128) (n : Fin 4096) :
    (V (F := Ideal) m c main_v3 : FVec Ideal S128x4096 .bf16) (ix2 r n) = argS m c (ix3 (n0 := 8) (n1 := 16) (n2 := 4096) ⟨r.val / 16, by omega⟩ ⟨r.val % 16, by omega⟩ n) := by
  rw [v_eq]
  after_reads_simp
  pointwise
  rfl

theorem w_entry (l : Fin 4) (n : Fin 4096) (k : Fin 22016) :
    (V (F := Ideal) m c main_arg2 : FVec Ideal S4x4096x22016 .f32) (ix3 l n k) = argW m c (ix3 l n k) := by
  rw [V_main_arg2]; rfl

theorem index0 : ∀ t : Fin cfg0.N, win0_0.index t = ![0, 0] := by decide +kernel
theorem block0_entry (t : Fin cfg0.N) (r : Fin 128) (n : Fin 4096) :
    (iblk m c 0 t : Vec Ideal S128x4096 .bf16) (ix2 r n) = argS m c (ix3 (n0 := 8) (n1 := 16) (n2 := 4096) ⟨r.val / 16, by omega⟩ ⟨r.val % 16, by omega⟩ n) := by
  rw [← s_entry]
  unfold iblk
  refine congrArg (V m c main_v3) ?_
  funext a; apply Fin.ext
  refine (Pipeline.Window.rect_emb_val win0_0 t (ix2 (n0 := 128) (n1 := 4096) r n) a).trans ?_
  rw [index0 t]
  match a with
  | ⟨0, _⟩ => show 0 * 128 + r.val = r.val; omega
  | ⟨1, _⟩ => show 0 * 4096 + n.val = n.val; omega

theorem index1 : ∀ t : Fin cfg0.N, win0_1.index t = ![t.val / 43, 0] := by decide +kernel
theorem block1_entry (t : Fin cfg0.N) (r : Fin 2048) (n : Fin 4096) :
    (iblk m c 1 t : Vec Ideal S2048x4096 .bf16) (ix2 r n) = (V (F := Ideal) m c main_v1 : FVec Ideal S8192x4096 .bf16) (ix2 (n0 := 8192) (n1 := 4096) ⟨2048 * (t.val / 43) + r.val, by have hN := lt_of_lt_of_eq t.isLt (show cfg0.N = 172 from N_0); omega⟩ n) := by
  unfold iblk
  refine congrArg (V m c main_v1) ?_
  funext a; apply Fin.ext
  refine (Pipeline.Window.rect_emb_val win0_1 t (ix2 (n0 := 2048) (n1 := 4096) r n) a).trans ?_
  rw [index1 t]
  match a with
  | ⟨0, _⟩ => show (t.val / 43) * 2048 + r.val = 2048 * (t.val / 43) + r.val; omega
  | ⟨1, _⟩ => show 0 * 4096 + n.val = n.val; omega

theorem index2 : ∀ t : Fin cfg0.N, win0_2.index t = ![3, 0, t.val % 43] := by decide +kernel
theorem block2_entry (t : Fin cfg0.N) (n : Fin 4096) (k : Fin 256) :
    (iblk m c 2 t : Vec Ideal S1x4096x256 .f32) (ix3 0 n k) = argW m c (ix3 (n0 := 4) (n1 := 4096) (n2 := 22016) 3 n ⟨256 * (t.val % 43) + k.val, by omega⟩) := by
  rw [← w_entry]
  unfold iblk
  refine congrArg (V m c main_arg2) ?_
  funext a; apply Fin.ext
  refine (Pipeline.Window.rect_emb_val win0_2 t (ix3 (n0 := 1) (n1 := 4096) (n2 := 256) 0 n k) a).trans ?_
  rw [index2 t]
  match a with
  | ⟨0, _⟩ => show 3 * 1 + 0 = 3; omega
  | ⟨1, _⟩ => show 0 * 4096 + n.val = n.val; omega
  | ⟨2, _⟩ => show (t.val % 43) * 256 + k.val = 256 * (t.val % 43) + k.val; omega

theorem index3 : ∀ t : Fin cfg0.N, win0_3.index t = ![3, 0, 43 + t.val % 43] := by decide +kernel
theorem block3_entry (t : Fin cfg0.N) (n : Fin 4096) (k : Fin 256) :
    (iblk m c 3 t : Vec Ideal S1x4096x256 .f32) (ix3 0 n k) = argW m c (ix3 (n0 := 4) (n1 := 4096) (n2 := 22016) 3 n ⟨11008 + 256 * (t.val % 43) + k.val, by omega⟩) := by
  rw [← w_entry]
  unfold iblk
  refine congrArg (V m c main_arg2) ?_
  funext a; apply Fin.ext
  refine (Pipeline.Window.rect_emb_val win0_3 t (ix3 (n0 := 1) (n1 := 4096) (n2 := 256) 0 n k) a).trans ?_
  rw [index3 t]
  match a with
  | ⟨0, _⟩ => show 3 * 1 + 0 = 3; omega
  | ⟨1, _⟩ => show 0 * 4096 + n.val = n.val; omega
  | ⟨2, _⟩ => show (43 + t.val % 43) * 256 + k.val = 11008 + 256 * (t.val % 43) + k.val; omega

/-- The two results. -/
def sumP (r : Fin 8192) (k : Fin 22016) : EReal :=
  ∑ n : Fin 4096, argP m c (ix3 (n0 := 4) (n1 := 2048) (n2 := 4096) ⟨r.val / 2048, by omega⟩ ⟨r.val % 2048, by omega⟩ n) * argW m c (ix3 (n0 := 4) (n1 := 4096) (n2 := 22016) 3 n k)
def sumS (r : Fin 128) (k : Fin 22016) : EReal :=
  ∑ n : Fin 4096, argS m c (ix3 (n0 := 8) (n1 := 16) (n2 := 4096) ⟨r.val / 16, by omega⟩ ⟨r.val % 16, by omega⟩ n) * argW m c (ix3 (n0 := 4) (n1 := 4096) (n2 := 22016) 3 n k)
def atP (r : Fin 8192) (k : Fin 11008) : EReal := swiglu (sumP m c r ⟨k.val, by omega⟩) (sumP m c r ⟨11008 + k.val, by omega⟩)
def atS (r : Fin 128) (k : Fin 11008) : EReal := swiglu (sumS m c r ⟨k.val, by omega⟩) (sumS m c r ⟨11008 + k.val, by omega⟩)
def wholeP (y : S8192x11008.Idx) : EReal := atP m c (y 0) (y 1)
def wholeS (y : S128x11008.Idx) : EReal := atS m c (y 0) (y 1)

theorem index4 : ∀ t : Fin cfg0.N, win0_4.index t = ![t.val / 43, t.val % 43] := by decide +kernel
theorem index5 : ∀ t : Fin cfg0.N, 129 ≤ t.val → win0_5.index t = ![0, t.val % 43] := by decide +kernel
theorem late5 : ∀ t : Fin cfg0.N, (cfg0.win 5).flush t = true → 129 ≤ t.val := by decide +kernel

theorem pointP (t : Fin cfg0.N) (r : Fin 2048) (k : Fin 256) :
    prodP (iblk m c 1 t) (iblk m c 2 t) (iblk m c 3 t) (ix2 r k) = wholeP m c ((win0_4.blk t).view.emb (ix2 (n0 := 2048) (n1 := 256) r k)) := by
  have hN := lt_of_lt_of_eq t.isLt (show cfg0.N = 172 from N_0)
  have e : (win0_4.blk t).view.emb (ix2 (n0 := 2048) (n1 := 256) r k) = ix2 (n0 := 8192) (n1 := 11008) ⟨2048 * (t.val / 43) + r.val, by omega⟩ ⟨256 * (t.val % 43) + k.val, by omega⟩ := by
    funext a; apply Fin.ext
    refine (Pipeline.Window.rect_emb_val win0_4 t (ix2 (n0 := 2048) (n1 := 256) r k) a).trans ?_
    rw [index4 t]
    match a with
    | ⟨0, _⟩ => show (t.val / 43) * 2048 + r.val = 2048 * (t.val / 43) + r.val; omega
    | ⟨1, _⟩ => show (t.val % 43) * 256 + k.val = 256 * (t.val % 43) + k.val; omega
  rw [e]
  unfold prodP wholeP atP sumP
  refine congrArg₂ swiglu (Finset.sum_congr rfl fun n _ => congrArg₂ (fun a b : EReal => a * b) ((block1_entry m c t r n).trans (p_entry m c _ n)) ?_)
    (Finset.sum_congr rfl fun n _ => congrArg₂ (fun a b : EReal => a * b) ((block1_entry m c t r n).trans (p_entry m c _ n)) ?_)
  · exact block2_entry m c t n k
  · refine (block3_entry m c t n k).trans (congrArg (argW m c) ?_)
    congr 1
    exact Fin.ext (Nat.add_assoc ..)

theorem pointS (t : Fin cfg0.N) (ht : 129 ≤ t.val) (r : Fin 128) (k : Fin 256) :
    prodS (iblk m c 0 t) (iblk m c 2 t) (iblk m c 3 t) (ix2 r k) = wholeS m c ((win0_5.blk t).view.emb (ix2 (n0 := 128) (n1 := 256) r k)) := by
  have e : (win0_5.blk t).view.emb (ix2 (n0 := 128) (n1 := 256) r k) = ix2 (n0 := 128) (n1 := 11008) r ⟨256 * (t.val % 43) + k.val, by omega⟩ := by
    funext a; apply Fin.ext
    refine (Pipeline.Window.rect_emb_val win0_5 t (ix2 (n0 := 128) (n1 := 256) r k) a).trans ?_
    rw [index5 t ht]
    match a with
    | ⟨0, _⟩ => show 0 * 128 + r.val = r.val; omega
    | ⟨1, _⟩ => show (t.val % 43) * 256 + k.val = 256 * (t.val % 43) + k.val; omega
  rw [e]
  unfold prodS wholeS atS sumS
  refine congrArg₂ swiglu (Finset.sum_congr rfl fun n _ => congrArg₂ (fun a b : EReal => a * b) (block0_entry m c t r n) ?_)
    (Finset.sum_congr rfl fun n _ => congrArg₂ (fun a b : EReal => a * b) (block0_entry m c t r n) ?_)
  · exact block2_entry m c t n k
  · refine (block3_entry m c t n k).trans (congrArg (argW m c) ?_)
    congr 1
    exact Fin.ext (Nat.add_assoc ..)

theorem arrP : (dats m 0 c).arrAt 4 cfg0.N = wholeP m c := by
  refine (dats m 0 c).arrAt_eq_of_covers 4 _ (by decide +kernel) fun t hf y => ?_
  have hp : (outsAt0 m c t.val t.isLt).1 = prodP (iblk m c 1 t) (iblk m c 2 t) (iblk m c 3 t) := by
    by_cases h : 129 ≤ t.val
    · rw [outsAt0_B m c t h]; dsimp only; rw [outB]
    · rw [outsAt0_A m c t h]; dsimp only; rw [outA]
  have e : y = ix2 (n0 := 2048) (n1 := 256) ⟨(y 0).val, (y 0).isLt⟩ ⟨(y 1).val, (y 1).isLt⟩ := eq_ix2 y
  rw [after0_4, hp, e]
  exact pointP m c t _ _

theorem arrS : (dats m 0 c).arrAt 5 cfg0.N = wholeS m c := by
  refine (dats m 0 c).arrAt_eq_of_covers 5 _ (by decide +kernel) fun t hf y => ?_
  have h := late5 t hf
  have hp : (outsAt0 m c t.val t.isLt).2 = prodS (iblk m c 0 t) (iblk m c 2 t) (iblk m c 3 t) := by
    rw [outsAt0_B m c t h]; dsimp only; rw [outB_sample]
  have e : y = ix2 (n0 := 128) (n1 := 256) ⟨(y 0).val, (y 0).isLt⟩ ⟨(y 1).val, (y 1).isLt⟩ := eq_ix2 y
  rw [after0_5, hp, e]
  exact pointS m c t h _ _

end Cert.GateIdeal.Val

end
-- ==== Proof.RefGateIdeal.Ref.lean ====
module

public import proofs.«01_k».proof.Proof.Gen.RefGateIdeal
public import proofs.«01_k».proof.Proof.Gen.RefGateIdeal.Run
public import Idealize.ShloMosaic.Lib.ValueIdxCore
public import Idealize.ShloMosaic.Lib.ValueLayout
public import Idealize.ShloMosaic.Lib.ValueLayoutCasts
public import Idealize.ShloMosaic.Lib.Pointwise
public import Idealize.ShloMosaic.Lib.Claim
public import Idealize.ShloMosaic.PureOps.Ideal
public import Idealize.ShloMosaic.PureOps.Ideal.Laws

@[expose] public section

set_option maxRecDepth 16384

noncomputable section

namespace Cert.RefGateIdeal.Val

open Cert.RefGateIdeal Cert.RefGateIdeal.Gen
open Idealize.ShloMosaic Idealize.ShloMosaic.TcCoe Idealize.ShloMosaic.Tactic

variable (p : FVec Ideal S4x2048x4096 .f32) (s : FVec Ideal S8x16x4096 .f32) (w : FVec Ideal S4x4096x22016 .f32)

/-- The last layer's weights, and their products with the prompt's rows and with the sample's. -/
def weights : FVec Ideal S4096x22016 .f32 :=
  shapeCast _ (extractStridedSlice S1x4096x22016 ![3, 0, 0] w slices_S4x4096x22016_S1x4096x22016_3_0_0) shapeCasts_S1x4096x22016_S4096x22016
def prodP : FVec Ideal S4x2048x22016 .f32 := Host.dotGeneral dot_S4x2048x4096_S4096x22016_S4x2048x22016_2_0_01_1_n_n none p (weights w)
def prodS : FVec Ideal S8x16x22016 .f32 := Host.dotGeneral dot_S8x16x4096_S4096x22016_S8x16x22016_2_0_01_1_n_n none s (weights w)

/-- The reference's two results. -/
def resultP : FVec Ideal S8192x11008 .bf16 :=
  shapeCast _ (truncf .bf16 (mulf (mulf (extractStridedSlice S4x2048x11008 ![0, 0, 0] (prodP p w) slices_S4x2048x22016_S4x2048x11008_0_0_0)
    (Host.divf (broadcastInDim S4x2048x11008 ![] bcast_S_S4x2048x11008 (constant S_ .f32 0x3F800000#32)) (addf (broadcastInDim S4x2048x11008 ![] bcast_S_S4x2048x11008 (constant S_ .f32 0x3F800000#32))
      (Host.exp (Host.negf (extractStridedSlice S4x2048x11008 ![0, 0, 0] (prodP p w) slices_S4x2048x22016_S4x2048x11008_0_0_0))))))
    (extractStridedSlice S4x2048x11008 ![0, 0, 11008] (prodP p w) slices_S4x2048x22016_S4x2048x11008_0_0_11008)) bitsLt_bf16_f32) shapeCasts_S4x2048x11008_S8192x11008
def resultS : FVec Ideal S128x11008 .bf16 :=
  shapeCast _ (truncf .bf16 (mulf (mulf (extractStridedSlice S8x16x11008 ![0, 0, 0] (prodS s w) slices_S8x16x22016_S8x16x11008_0_0_0)
    (Host.divf (broadcastInDim S8x16x11008 ![] bcast_S_S8x16x11008 (constant S_ .f32 0x3F800000#32)) (addf (broadcastInDim S8x16x11008 ![] bcast_S_S8x16x11008 (constant S_ .f32 0x3F800000#32))
      (Host.exp (Host.negf (extractStridedSlice S8x16x11008 ![0, 0, 0] (prodS s w) slices_S8x16x22016_S8x16x11008_0_0_0))))))
    (extractStridedSlice S8x16x11008 ![0, 0, 11008] (prodS s w) slices_S8x16x22016_S8x16x11008_0_0_11008)) bitsLt_bf16_f32) shapeCasts_S8x16x11008_S128x11008

theorem weights_entry (n : Fin 4096) (k : Fin 22016) : weights w (ix2 n k) = w (ix3 (n0 := 4) (n1 := 4096) (n2 := 22016) 3 n k) := by
  unfold weights
  pointwise

theorem prodP_entry (b : Fin 4) (r : Fin 2048) (k : Fin 22016) :
    prodP p w (ix3 b r k) = ∑ n : Fin 4096, p (ix3 (n0 := 4) (n1 := 2048) (n2 := 4096) b r n) * w (ix3 (n0 := 4) (n1 := 4096) (n2 := 22016) 3 n k) := by
  unfold prodP
  pointwise [weights_entry]

theorem prodS_entry (b : Fin 8) (r : Fin 16) (k : Fin 22016) :
    prodS s w (ix3 b r k) = ∑ n : Fin 4096, s (ix3 (n0 := 8) (n1 := 16) (n2 := 4096) b r n) * w (ix3 (n0 := 4) (n1 := 4096) (n2 := 22016) 3 n k) := by
  unfold prodS
  pointwise [weights_entry]

/-- One divided by one more than the exponential of the negative is the logistic function. -/
theorem gate_eq (g : EReal) : Ideal.div 1 (1 + Ideal.exp (-g)) = Ideal.logistic g := rfl

theorem resultP_entry (r : Fin 8192) (k : Fin 11008) :
    resultP p w (ix2 r k) = (∑ n : Fin 4096, p (ix3 (n0 := 4) (n1 := 2048) (n2 := 4096) ⟨r.val / 2048, by omega⟩ ⟨r.val % 2048, by omega⟩ n) * w (ix3 (n0 := 4) (n1 := 4096) (n2 := 22016) 3 n ⟨k.val, by omega⟩) : EReal)
      * Ideal.logistic (∑ n : Fin 4096, p (ix3 (n0 := 4) (n1 := 2048) (n2 := 4096) ⟨r.val / 2048, by omega⟩ ⟨r.val % 2048, by omega⟩ n) * w (ix3 (n0 := 4) (n1 := 4096) (n2 := 22016) 3 n ⟨k.val, by omega⟩))
      * (∑ n : Fin 4096, p (ix3 (n0 := 4) (n1 := 2048) (n2 := 4096) ⟨r.val / 2048, by omega⟩ ⟨r.val % 2048, by omega⟩ n) * w (ix3 (n0 := 4) (n1 := 4096) (n2 := 22016) 3 n ⟨11008 + k.val, by omega⟩)) := by
  rw [← gate_eq]
  unfold resultP
  pointwise [prodP_entry]

theorem resultS_entry (r : Fin 128) (k : Fin 11008) :
    resultS s w (ix2 r k) = (∑ n : Fin 4096, s (ix3 (n0 := 8) (n1 := 16) (n2 := 4096) ⟨r.val / 16, by omega⟩ ⟨r.val % 16, by omega⟩ n) * w (ix3 (n0 := 4) (n1 := 4096) (n2 := 22016) 3 n ⟨k.val, by omega⟩) : EReal)
      * Ideal.logistic (∑ n : Fin 4096, s (ix3 (n0 := 8) (n1 := 16) (n2 := 4096) ⟨r.val / 16, by omega⟩ ⟨r.val % 16, by omega⟩ n) * w (ix3 (n0 := 4) (n1 := 4096) (n2 := 22016) 3 n ⟨k.val, by omega⟩))
      * (∑ n : Fin 4096, s (ix3 (n0 := 8) (n1 := 16) (n2 := 4096) ⟨r.val / 16, by omega⟩ ⟨r.val % 16, by omega⟩ n) * w (ix3 (n0 := 4) (n1 := 4096) (n2 := 22016) 3 n ⟨11008 + k.val, by omega⟩)) := by
  rw [← gate_eq]
  unfold resultS
  pointwise [prodS_entry]

/-- The reference has no semaphore. -/
theorem no_sem (f : GSem nD τ sig → Int) : f = fun _ => 0 := by
  funext g
  obtain ⟨t, s⟩ := g
  cases s with
  | reg s => exact absurd s.isLt (Nat.not_lt_zero _)
  | dma s => exact absurd s.isLt (Nat.not_lt_zero _)

end Cert.RefGateIdeal.Val

end
-- ==== Proof.GateIdeal.Values.lean ====
/- The claims about the gated half of the feed-forward part. -/
module

public import proofs.«01_k».proof.Defs
public import proofs.«01_k».proof.Proof.Gen.Gate
public import proofs.«01_k».proof.Proof.Gen.GateIdeal
public import proofs.«01_k».proof.Proof.Gen.RefGateIdeal
public import proofs.«01_k».proof.Proof.GateIdeal.Out
public import proofs.«01_k».proof.Proof.RefGateIdeal.Ref
public import Idealize.ShloMosaic.Adequacy
public import Idealize.ShloMosaic.Init

@[expose] public section

noncomputable section

namespace Cert.GateIdeal.Val

open Idealize.ShloMosaic Idealize.SL.Sem

/-- The two programs have the same text, so the same body table at the same float values. -/
theorem bodies_eq : @Cert.Gate.defs₀ Bits _ _ = @Cert.GateIdeal.defs₀ Bits _ _ := by
  unfold Cert.Gate.defs₀ Cert.GateIdeal.defs₀
  refine congrArg Defs.onTc ?_
  funext l x
  match l, x with
  | 0, (t, s) => rfl
  | ⟨_ + 1, h⟩, _ => exact absurd h (Nat.not_lt.2 (Nat.le_add_left _ _))

theorem defs_eq : @Cert.Gate.defs Bits _ _ = @Cert.GateIdeal.defs Bits _ _ := congrArg (Pipeline.defs _) bodies_eq

theorem frame_kernel : Cert.quiescent_Gate (hGate := Cert.Gate.Gen.facts) := fun m g _ => by
  have h := Cert.GateIdeal.Gen.frame (F := Bits) m g
  rw [← defs_eq] at h
  exact h

theorem frame_reference : Cert.quiescent_RefGateIdeal (hRefGateIdeal := Cert.RefGateIdeal.Gen.facts) := fun m g _ =>
  (θ_run _ _ _).mono (fun r h => ⟨fun c => (h c).2.2, Cert.RefGateIdeal.Val.no_sem _⟩) (Cert.RefGateIdeal.Value.run (F := Ideal) m g)

/-- The kernel and the reference leave the same two arrays. -/
theorem values : Cert.algebraic_GateIdeal_RefGateIdeal (hGateIdeal := Cert.GateIdeal.Gen.facts) (hRefGateIdeal := Cert.RefGateIdeal.Gen.facts) := by
  intro m g m' g' _ hagree
  refine ⟨fun c => wholeP m c, fun c => wholeS m c, ?_, ?_⟩
  · exact (θ_run _ _ _).mono (fun r h c => ⟨(h c).1.trans (arrP m c), (h c).2.1.trans (arrS m c), (h c).2.2⟩) (Cert.GateIdeal.Value.run_blocks (F := Ideal) m g)
  · refine (θ_run _ _ _).mono (fun r h c => ⟨(h c).1.trans ?_, (h c).2.1.trans ?_, (h c).2.2⟩) (Cert.RefGateIdeal.Value.run (F := Ideal) m' g')
    · rw [(hagree c).1, (hagree c).2.2]
      funext y
      rw [eq_ix2 y]
      exact Cert.RefGateIdeal.Val.resultP_entry (argP m c) (argW m c) (y 0) (y 1)
    · rw [(hagree c).2.1, (hagree c).2.2]
      funext y
      rw [eq_ix2 y]
      exact Cert.RefGateIdeal.Val.resultS_entry (argS m c) (argW m c) (y 0) (y 1)

end Cert.GateIdeal.Val

end
-- ==== Proof.OutIdeal.Step.lean ====
module

public import proofs.«01_k».proof.Proof.Gen.OutIdeal.Value
public import Idealize.ShloMosaic.Lib.ValueIdxCore
public import Idealize.ShloMosaic.Lib.ValueLayout
public import Idealize.ShloMosaic.Lib.ValueLayoutCasts
public import Idealize.ShloMosaic.Lib.Pointwise
public import Idealize.ShloMosaic.Lib.Claim
public import Idealize.ShloMosaic.Lib.StableHlo.RunRead
public import Idealize.ShloMosaic.Lib.Pipeline.ValueKit.Geometry
public import Idealize.ShloMosaic.Lib.VecWindow
public import Idealize.ShloMosaic.PureOps.Ideal
public import Idealize.ShloMosaic.PureOps.Ideal.Laws

@[expose] public section

set_option maxRecDepth 16384

noncomputable section

namespace Cert.OutIdeal.Val

open Cert.OutIdeal Cert.OutIdeal.Gen
open Idealize.ShloMosaic Idealize.ShloMosaic.TcCoe Idealize.ShloMosaic.Tactic
open Idealize.ShloMosaic.Pipeline (Dat Cfg Window)
open Idealize.SL.Sem

/-- The product of a block of the prompt's rows, and of the sample's, with a block of the weights' columns. -/
def prodP (x1 : Vec Ideal S2048x4096 .bf16) (x2 : Vec Ideal S1x4096x512 .f32) : Vec Ideal S2048x512 .bf16 := fun y =>
  (∑ n : Fin 4096, x1 (ix2 (n0 := 2048) (n1 := 4096) (y 0) n) * x2 (ix3 (n0 := 1) (n1 := 4096) (n2 := 512) 0 n (y 1)) : EReal)
def prodS (x0 : Vec Ideal S128x4096 .bf16) (x2 : Vec Ideal S1x4096x512 .f32) : Vec Ideal S128x512 .bf16 := fun y =>
  (∑ n : Fin 4096, x0 (ix2 (n0 := 128) (n1 := 4096) (y 0) n) * x2 (ix3 (n0 := 1) (n1 := 4096) (n2 := 512) 0 n (y 1)) : EReal)

theorem pay2_entry (x2 : Vec Ideal S1x4096x512 .f32) (v : Vec Ideal S512x4096 .bf16) (r : Fin 512) (k : Fin 512) :
    k0_pay2 (F := Ideal) x2 v (ix2 r k) = (∑ n : Fin 4096, v (ix2 (n0 := 512) (n1 := 4096) r n) * x2 (ix3 (n0 := 1) (n1 := 4096) (n2 := 512) 0 n k) : EReal) := by
  unfold k0_pay2 k0_pay1
  pointwise

theorem pay6_entry (x2 : Vec Ideal S1x4096x512 .f32) (v : Vec Ideal S128x4096 .bf16) (r : Fin 128) (k : Fin 512) :
    k0_pay6 (F := Ideal) x2 v (ix2 r k) = (∑ n : Fin 4096, v (ix2 (n0 := 128) (n1 := 4096) r n) * x2 (ix3 (n0 := 1) (n1 := 4096) (n2 := 512) 0 n k) : EReal) := by
  unfold k0_pay6 k0_pay1
  pointwise

theorem whole {S : Shape} {e : EltTy} {m : Memref sig .tc .vmem S e} (hm : m.IsWhole) (x : Vec Ideal S e) (off : Fin S.rank → ℕ) (h0 : off = fun _ => 0)
    (h : ∀ a, off a + S.size a ≤ S.size a) : View.readAt (Elt Ideal) m.view (Rect.unit (s := S) off S.size h).toLoadRect (hm.unread x) = x := by
  rw [View.readAt_eq_ld, hm.read_unread]
  exact View.ld_unit_zero h0 h x

theorem zero2 : (![0, 0] : Fin 2 → ℕ) = fun _ => 0 := by funext a; fin_cases a <;> rfl
theorem zero3 : (![0, 0, 0] : Fin 3 → ℕ) = fun _ => 0 := by funext a; fin_cases a <;> rfl

/-- What one chunk of rows is stored at. -/
theorem chunk {m3 : Memref sig .tc .vmem S2048x4096 .bf16} (h3 : m3.IsWhole) {m4 : Memref sig .tc .vmem S1x4096x512 .f32} (h4 : m4.IsWhole)
    (x1 : Vec Ideal S2048x4096 .bf16) (x2 : Vec Ideal S1x4096x512 .f32) (o : ℕ) (ho : o + 512 ≤ 2048)
    (hw : ∀ a, (![0, 0, 0] : Fin 3 → ℕ) a + S1x4096x512.size a ≤ S1x4096x512.size a) (hr : ∀ a, (![o, 0] : Fin 2 → ℕ) a + S512x4096.size a ≤ S2048x4096.size a)
    (hs : ∀ a, (![o, 0] : Fin 2 → ℕ) a + S512x512.size a ≤ S2048x512.size a) (x : S512x512.Idx) :
    k0_pay2 (F := Ideal) (View.readAt (Elt Ideal) m4.view (Rect.unit (s := S1x4096x512) ![0, 0, 0] S1x4096x512.size hw).toLoadRect (h4.unread x2))
        (View.readAt (Elt Ideal) m3.view (Rect.unit (s := S2048x4096) ![o, 0] S512x4096.size hr).toLoadRect (h3.unread x1)) x
      = prodP x1 x2 ((Rect.unit (s := S2048x512) ![o, 0] S512x512.size hs).emb x) := by
  rw [whole h4 x2 _ zero3, View.readAt_eq_ld, h3.read_unread]
  have e : x = ix2 (n0 := 512) (n1 := 512) (x 0) (x 1) := eq_ix2 x
  rw [e]
  refine (pay2_entry x2 _ (x 0) (x 1)).trans ?_
  unfold prodP
  refine Finset.sum_congr rfl fun n _ => congrArg₂ (· * ·) (congrArg x1 ?_) (congrArg x2 ?_)
  · funext a; apply Fin.ext
    match a with
    | ⟨0, _⟩ => rfl
    | ⟨1, _⟩ => show 0 + 1 * n.val = n.val; omega
  · funext a; apply Fin.ext
    match a with
    | ⟨0, _⟩ => rfl
    | ⟨1, _⟩ => rfl
    | ⟨2, _⟩ => show (x 1).val = 0 + 1 * (x 1).val; omega

section
variable (c : Dev nD) (i : grid0.Coords) (arg2 : Memref sig .tc .vmem S128x4096 .bf16) (harg2 : arg2.IsWhole) (arg3 : Memref sig .tc .vmem S2048x4096 .bf16) (harg3 : arg3.IsWhole) (arg4 : Memref sig .tc .vmem S1x4096x512 .f32) (harg4 : arg4.IsWhole) (arg5 : Memref sig .tc .vmem S2048x512 .bf16) (harg5 : arg5.IsWhole) (arg6 : Memref sig .tc .vmem S128x512 .bf16) (harg6 : arg6.IsWhole)
  (x0 : Vec Ideal S128x4096 .bf16) (x1 : Vec Ideal S2048x4096 .bf16) (x2 : Vec Ideal S1x4096x512 .f32)

theorem outA (hc : ¬cond0_0 i) : out0_A_3 (F := Ideal) c i arg2 harg2 arg3 harg3 arg4 harg4 arg5 harg5 arg6 harg6 hc x0 x1 x2 = prodP x1 x2 := by
  unfold out0_A_3
  funext y
  refine View.read_writes_apply_of_pieces _ _ (prodP x1 x2) _ ?_ y (cover0_A_3 c i arg2 harg2 arg3 harg3 arg4 harg4 arg5 harg5 arg6 harg6 hc x0 x1 x2 y)
  exact List.forall_mem_cons.2 ⟨fun x => chunk harg3 harg4 x1 x2 1536 (by omega) _ _ inb_S2048x512_S512x512_1536_0 x, List.forall_mem_cons.2 ⟨fun x => chunk harg3 harg4 x1 x2 1024 (by omega) _ _ inb_S2048x512_S512x512_1024_0 x,
    List.forall_mem_cons.2 ⟨fun x => chunk harg3 harg4 x1 x2 512 (by omega) _ _ inb_S2048x512_S512x512_512_0 x, List.forall_mem_cons.2 ⟨fun x => chunk harg3 harg4 x1 x2 0 (by omega) _ _ inb_S2048x512_S512x512_0_0 x, List.forall_mem_nil _⟩⟩⟩⟩

theorem outB (hc : cond0_0 i) : out0_B_3 (F := Ideal) c i arg2 harg2 arg3 harg3 arg4 harg4 arg5 harg5 arg6 harg6 hc x0 x1 x2 = prodP x1 x2 := by
  unfold out0_B_3
  funext y
  refine View.read_writes_apply_of_pieces _ _ (prodP x1 x2) _ ?_ y (cover0_B_3 c i arg2 harg2 arg3 harg3 arg4 harg4 arg5 harg5 arg6 harg6 hc x0 x1 x2 y)
  exact List.forall_mem_cons.2 ⟨fun x => chunk harg3 harg4 x1 x2 1536 (by omega) _ _ inb_S2048x512_S512x512_1536_0 x, List.forall_mem_cons.2 ⟨fun x => chunk harg3 harg4 x1 x2 1024 (by omega) _ _ inb_S2048x512_S512x512_1024_0 x,
    List.forall_mem_cons.2 ⟨fun x => chunk harg3 harg4 x1 x2 512 (by omega) _ _ inb_S2048x512_S512x512_512_0 x, List.forall_mem_cons.2 ⟨fun x => chunk harg3 harg4 x1 x2 0 (by omega) _ _ inb_S2048x512_S512x512_0_0 x, List.forall_mem_nil _⟩⟩⟩⟩

theorem outB_sample (hc : cond0_0 i) : out0_B_4 (F := Ideal) c i arg2 harg2 arg3 harg3 arg4 harg4 arg5 harg5 arg6 harg6 hc x0 x1 x2 = prodS x0 x2 := by
  unfold out0_B_4
  refine (View.read_writes_full _ _ _ _ _).trans ?_
  show k0_pay6 (F := Ideal) (View.readAt (Elt Ideal) arg4.view (Rect.unit (s := S1x4096x512) ![0, 0, 0] S1x4096x512.size _).toLoadRect (harg4.unread x2))
    (View.readAt (Elt Ideal) arg2.view (Rect.unit (s := S128x4096) ![0, 0] S128x4096.size _).toLoadRect (harg2.unread x0)) = _
  rw [whole harg4 x2 _ zero3, whole harg2 x0 _ zero2]
  funext y
  have e : y = ix2 (n0 := 128) (n1 := 512) (y 0) (y 1) := eq_ix2 y
  rw [e]
  exact pay6_entry x2 x0 (y 0) (y 1)
end

end Cert.OutIdeal.Val

end
-- ==== Proof.OutIdeal.Out.lean ====
module

public import proofs.«01_k».proof.Proof.OutIdeal.Step
public import Idealize.ShloMosaic.Lib.ValueIdxCore
public import Idealize.ShloMosaic.Lib.ValueLayout
public import Idealize.ShloMosaic.Lib.ValueLayoutCasts
public import Idealize.ShloMosaic.Lib.Pointwise
public import Idealize.ShloMosaic.Lib.Claim
public import Idealize.ShloMosaic.Lib.StableHlo.RunRead
public import Idealize.ShloMosaic.Lib.Pipeline.ValueKit.Geometry
public import Idealize.ShloMosaic.Lib.VecWindow
public import Idealize.ShloMosaic.PureOps.Ideal
public import Idealize.ShloMosaic.PureOps.Ideal.Laws

@[expose] public section

set_option maxRecDepth 16384

noncomputable section

namespace Cert.OutIdeal.Val

open Cert.OutIdeal Cert.OutIdeal.Gen
open Idealize.ShloMosaic Idealize.ShloMosaic.TcCoe Idealize.ShloMosaic.Tactic
open Idealize.ShloMosaic.Pipeline (Dat Cfg Window)
open Idealize.SL.Sem

variable (m : (ℓ : Loc nD τ sig) → Buf (Elt Ideal) ℓ) (c : Dev nD)

/-- A host operation line before the call, as one list. -/
theorem v_eq (r : Ref sig .tc) : V (F := Ideal) m c r = StableHlo.after hostOps0 (fun b => m (c, b)) (Proc.devRef .tc r) := rfl

/-- The prompt's mixer output, the sample's, and the weights, as given to the program. -/
def argP : FVec Ideal S4x2048x4096 .f32 := m ((c.tc : Thread nD τ).loc main_arg0)
def argS : FVec Ideal S8x16x4096 .f32 := m ((c.tc : Thread nD τ).loc main_arg1)
def argW : FVec Ideal S2x4096x4096 .f32 := m ((c.tc : Thread nD τ).loc main_arg2)

/-- The rows the call takes, and its weights. -/
theorem p_entry (r : Fin 8192) (n : Fin 4096) :
    (V (F := Ideal) m c main_v1 : FVec Ideal S8192x4096 .bf16) (ix2 r n) = argP m c (ix3 (n0 := 4) (n1 := 2048) (n2 := 4096) ⟨r.val / 2048, by omega⟩ ⟨r.val % 2048, by omega⟩ n) := by
  rw [v_eq]
  after_reads_simp
  pointwise
  rfl

theorem s_entry (r : Fin 128) (n : Fin 4096) :
    (V (F := Ideal) m c main_v3 : FVec Ideal S128x4096 .bf16) (ix2 r n) = argS m c (ix3 (n0 := 8) (n1 := 16) (n2 := 4096) ⟨r.val / 16, by omega⟩ ⟨r.val % 16, by omega⟩ n) := by
  rw [v_eq]
  after_reads_simp
  pointwise
  rfl

theorem w_entry (l : Fin 2) (n : Fin 4096) (k : Fin 4096) :
    (V (F := Ideal) m c main_arg2 : FVec Ideal S2x4096x4096 .f32) (ix3 l n k) = argW m c (ix3 l n k) := by
  rw [V_main_arg2]; rfl

theorem index0 : ∀ t : Fin cfg0.N, win0_0.index t = ![0, 0] := by decide +kernel
theorem block0_entry (t : Fin cfg0.N) (r : Fin 128) (n : Fin 4096) :
    (iblk m c 0 t : Vec Ideal S128x4096 .bf16) (ix2 r n) = argS m c (ix3 (n0 := 8) (n1 := 16) (n2 := 4096) ⟨r.val / 16, by omega⟩ ⟨r.val % 16, by omega⟩ n) := by
  rw [← s_entry]
  unfold iblk
  refine congrArg (V m c main_v3) ?_
  funext a; apply Fin.ext
  refine (Pipeline.Window.rect_emb_val win0_0 t (ix2 (n0 := 128) (n1 := 4096) r n) a).trans ?_
  rw [index0 t]
  match a with
  | ⟨0, _⟩ => show 0 * 128 + r.val = r.val; omega
  | ⟨1, _⟩ => show 0 * 4096 + n.val = n.val; omega

theorem index1 : ∀ t : Fin cfg0.N, win0_1.index t = ![t.val / 8, 0] := by decide +kernel
theorem block1_entry (t : Fin cfg0.N) (r : Fin 2048) (n : Fin 4096) :
    (iblk m c 1 t : Vec Ideal S2048x4096 .bf16) (ix2 r n) = (V (F := Ideal) m c main_v1 : FVec Ideal S8192x4096 .bf16) (ix2 (n0 := 8192) (n1 := 4096) ⟨2048 * (t.val / 8) + r.val, by have hN := lt_of_lt_of_eq t.isLt (show cfg0.N = 32 from N_0); omega⟩ n) := by
  unfold iblk
  refine congrArg (V m c main_v1) ?_
  funext a; apply Fin.ext
  refine (Pipeline.Window.rect_emb_val win0_1 t (ix2 (n0 := 2048) (n1 := 4096) r n) a).trans ?_
  rw [index1 t]
  match a with
  | ⟨0, _⟩ => show (t.val / 8) * 2048 + r.val = 2048 * (t.val / 8) + r.val; omega
  | ⟨1, _⟩ => show 0 * 4096 + n.val = n.val; omega

theorem index2 : ∀ t : Fin cfg0.N, win0_2.index t = ![1, 0, t.val % 8] := by decide +kernel
theorem block2_entry (t : Fin cfg0.N) (n : Fin 4096) (k : Fin 512) :
    (iblk m c 2 t : Vec Ideal S1x4096x512 .f32) (ix3 0 n k) = argW m c (ix3 (n0 := 2) (n1 := 4096) (n2 := 4096) 1 n ⟨512 * (t.val % 8) + k.val, by omega⟩) := by
  rw [← w_entry]
  unfold iblk
  refine congrArg (V m c main_arg2) ?_
  funext a; apply Fin.ext
  refine (Pipeline.Window.rect_emb_val win0_2 t (ix3 (n0 := 1) (n1 := 4096) (n2 := 512) 0 n k) a).trans ?_
  rw [index2 t]
  match a with
  | ⟨0, _⟩ => show 1 * 1 + 0 = 1; omega
  | ⟨1, _⟩ => show 0 * 4096 + n.val = n.val; omega
  | ⟨2, _⟩ => show (t.val % 8) * 512 + k.val = 512 * (t.val % 8) + k.val; omega

/-- The two results. -/
def atP (r : Fin 8192) (k : Fin 4096) : EReal :=
  ∑ n : Fin 4096, argP m c (ix3 (n0 := 4) (n1 := 2048) (n2 := 4096) ⟨r.val / 2048, by omega⟩ ⟨r.val % 2048, by omega⟩ n) * argW m c (ix3 (n0 := 2) (n1 := 4096) (n2 := 4096) 1 n k)
def atS (r : Fin 128) (k : Fin 4096) : EReal :=
  ∑ n : Fin 4096, argS m c (ix3 (n0 := 8) (n1 := 16) (n2 := 4096) ⟨r.val / 16, by omega⟩ ⟨r.val % 16, by omega⟩ n) * argW m c (ix3 (n0 := 2) (n1 := 4096) (n2 := 4096) 1 n k)
def wholeP (y : S8192x4096.Idx) : EReal := atP m c (y 0) (y 1)
def wholeS (y : S128x4096.Idx) : EReal := atS m c (y 0) (y 1)

theorem index3 : ∀ t : Fin cfg0.N, win0_3.index t = ![t.val / 8, t.val % 8] := by decide +kernel
theorem index4 : ∀ t : Fin cfg0.N, 24 ≤ t.val → win0_4.index t = ![0, t.val % 8] := by decide +kernel
theorem late4 : ∀ t : Fin cfg0.N, (cfg0.win 4).flush t = true → 24 ≤ t.val := by decide +kernel

theorem pointP (t : Fin cfg0.N) (r : Fin 2048) (k : Fin 512) :
    prodP (iblk m c 1 t) (iblk m c 2 t) (ix2 r k) = wholeP m c ((win0_3.blk t).view.emb (ix2 (n0 := 2048) (n1 := 512) r k)) := by
  have hN := lt_of_lt_of_eq t.isLt (show cfg0.N = 32 from N_0)
  have e : (win0_3.blk t).view.emb (ix2 (n0 := 2048) (n1 := 512) r k) = ix2 (n0 := 8192) (n1 := 4096) ⟨2048 * (t.val / 8) + r.val, by omega⟩ ⟨512 * (t.val % 8) + k.val, by omega⟩ := by
    funext a; apply Fin.ext
    refine (Pipeline.Window.rect_emb_val win0_3 t (ix2 (n0 := 2048) (n1 := 512) r k) a).trans ?_
    rw [index3 t]
    match a with
    | ⟨0, _⟩ => show (t.val / 8) * 2048 + r.val = 2048 * (t.val / 8) + r.val; omega
    | ⟨1, _⟩ => show (t.val % 8) * 512 + k.val = 512 * (t.val % 8) + k.val; omega
  rw [e]
  unfold prodP wholeP atP
  refine Finset.sum_congr rfl fun n _ => congrArg₂ (fun a b : EReal => a * b) ?_ ?_
  · exact (block1_entry m c t r n).trans (p_entry m c _ n)
  · exact block2_entry m c t n k

theorem pointS (t : Fin cfg0.N) (ht : 24 ≤ t.val) (r : Fin 128) (k : Fin 512) :
    prodS (iblk m c 0 t) (iblk m c 2 t) (ix2 r k) = wholeS m c ((win0_4.blk t).view.emb (ix2 (n0 := 128) (n1 := 512) r k)) := by
  have e : (win0_4.blk t).view.emb (ix2 (n0 := 128) (n1 := 512) r k) = ix2 (n0 := 128) (n1 := 4096) r ⟨512 * (t.val % 8) + k.val, by omega⟩ := by
    funext a; apply Fin.ext
    refine (Pipeline.Window.rect_emb_val win0_4 t (ix2 (n0 := 128) (n1 := 512) r k) a).trans ?_
    rw [index4 t ht]
    match a with
    | ⟨0, _⟩ => show 0 * 128 + r.val = r.val; omega
    | ⟨1, _⟩ => show (t.val % 8) * 512 + k.val = 512 * (t.val % 8) + k.val; omega
  rw [e]
  unfold prodS wholeS atS
  refine Finset.sum_congr rfl fun n _ => congrArg₂ (fun a b : EReal => a * b) ?_ ?_
  · exact block0_entry m c t r n
  · exact block2_entry m c t n k

theorem arrP : (dats m 0 c).arrAt 3 cfg0.N = wholeP m c := by
  refine (dats m 0 c).arrAt_eq_of_covers 3 _ (by decide +kernel) fun t hf y => ?_
  have hp : (outsAt0 m c t.val t.isLt).1 = prodP (iblk m c 1 t) (iblk m c 2 t) := by
    by_cases h : 24 ≤ t.val
    · rw [outsAt0_B m c t h]; dsimp only; rw [outB]
    · rw [outsAt0_A m c t h]; dsimp only; rw [outA]
  have e : y = ix2 (n0 := 2048) (n1 := 512) ⟨(y 0).val, (y 0).isLt⟩ ⟨(y 1).val, (y 1).isLt⟩ := eq_ix2 y
  rw [after0_3, hp, e]
  exact pointP m c t _ _

theorem arrS : (dats m 0 c).arrAt 4 cfg0.N = wholeS m c := by
  refine (dats m 0 c).arrAt_eq_of_covers 4 _ (by decide +kernel) fun t hf y => ?_
  have h := late4 t hf
  have hp : (outsAt0 m c t.val t.isLt).2 = prodS (iblk m c 0 t) (iblk m c 2 t) := by
    rw [outsAt0_B m c t h]; dsimp only; rw [outB_sample]
  have e : y = ix2 (n0 := 128) (n1 := 512) ⟨(y 0).val, (y 0).isLt⟩ ⟨(y 1).val, (y 1).isLt⟩ := eq_ix2 y
  rw [after0_4, hp, e]
  exact pointS m c t h _ _

end Cert.OutIdeal.Val

end
-- ==== Proof.RefOutIdeal.Ref.lean ====
module

public import proofs.«01_k».proof.Proof.Gen.RefOutIdeal
public import proofs.«01_k».proof.Proof.Gen.RefOutIdeal.Run
public import Idealize.ShloMosaic.Lib.ValueIdxCore
public import Idealize.ShloMosaic.Lib.ValueLayout
public import Idealize.ShloMosaic.Lib.ValueLayoutCasts
public import Idealize.ShloMosaic.Lib.Pointwise
public import Idealize.ShloMosaic.Lib.Claim
public import Idealize.ShloMosaic.PureOps.Ideal
public import Idealize.ShloMosaic.PureOps.Ideal.Laws

@[expose] public section

set_option maxRecDepth 16384

noncomputable section

namespace Cert.RefOutIdeal.Val

open Cert.RefOutIdeal Cert.RefOutIdeal.Gen
open Idealize.ShloMosaic Idealize.ShloMosaic.TcCoe Idealize.ShloMosaic.Tactic

variable (p : FVec Ideal S4x2048x4096 .f32) (s : FVec Ideal S8x16x4096 .f32) (w : FVec Ideal S2x4096x4096 .f32)

/-- The last layer's weights. -/
def weights : FVec Ideal S4096x4096 .f32 :=
  shapeCast _ (extractStridedSlice S1x4096x4096 ![1, 0, 0] w slices_S2x4096x4096_S1x4096x4096_1_0_0) shapeCasts_S1x4096x4096_S4096x4096

/-- The reference's two results. -/
def resultP : FVec Ideal S8192x4096 .bf16 :=
  shapeCast _ (truncf .bf16 (Host.dotGeneral dot_S4x2048x4096_S4096x4096_S4x2048x4096_2_0_01_1_n_n none p (weights w)) bitsLt_bf16_f32) shapeCasts_S4x2048x4096_S8192x4096
def resultS : FVec Ideal S128x4096 .bf16 :=
  shapeCast _ (truncf .bf16 (Host.dotGeneral dot_S8x16x4096_S4096x4096_S8x16x4096_2_0_01_1_n_n none s (weights w)) bitsLt_bf16_f32) shapeCasts_S8x16x4096_S128x4096

theorem weights_entry (n : Fin 4096) (k : Fin 4096) : weights w (ix2 n k) = w (ix3 (n0 := 2) (n1 := 4096) (n2 := 4096) 1 n k) := by
  unfold weights
  pointwise

theorem resultP_entry (r : Fin 8192) (k : Fin 4096) :
    resultP p w (ix2 r k) = ∑ n : Fin 4096, p (ix3 (n0 := 4) (n1 := 2048) (n2 := 4096) ⟨r.val / 2048, by omega⟩ ⟨r.val % 2048, by omega⟩ n) * w (ix3 (n0 := 2) (n1 := 4096) (n2 := 4096) 1 n k) := by
  unfold resultP
  pointwise [weights_entry]

theorem resultS_entry (r : Fin 128) (k : Fin 4096) :
    resultS s w (ix2 r k) = ∑ n : Fin 4096, s (ix3 (n0 := 8) (n1 := 16) (n2 := 4096) ⟨r.val / 16, by omega⟩ ⟨r.val % 16, by omega⟩ n) * w (ix3 (n0 := 2) (n1 := 4096) (n2 := 4096) 1 n k) := by
  unfold resultS
  pointwise [weights_entry]

/-- The reference has no semaphore. -/
theorem no_sem (f : GSem nD τ sig → Int) : f = fun _ => 0 := by
  funext g
  obtain ⟨t, s⟩ := g
  cases s with
  | reg s => exact absurd s.isLt (Nat.not_lt_zero _)
  | dma s => exact absurd s.isLt (Nat.not_lt_zero _)

end Cert.RefOutIdeal.Val

end
-- ==== Proof.OutIdeal.Values.lean ====
/- The claims about the mixer's output projection. -/
module

public import proofs.«01_k».proof.Defs
public import proofs.«01_k».proof.Proof.Gen.Out
public import proofs.«01_k».proof.Proof.Gen.OutIdeal
public import proofs.«01_k».proof.Proof.Gen.RefOutIdeal
public import proofs.«01_k».proof.Proof.OutIdeal.Out
public import proofs.«01_k».proof.Proof.RefOutIdeal.Ref
public import Idealize.ShloMosaic.Adequacy
public import Idealize.ShloMosaic.Init

@[expose] public section

noncomputable section

namespace Cert.OutIdeal.Val

open Idealize.ShloMosaic Idealize.SL.Sem

/-- The two programs have the same text, so the same body table at the same float values. -/
theorem bodies_eq : @Cert.Out.defs₀ Bits _ _ = @Cert.OutIdeal.defs₀ Bits _ _ := by
  unfold Cert.Out.defs₀ Cert.OutIdeal.defs₀
  refine congrArg Defs.onTc ?_
  funext l x
  match l, x with
  | 0, (t, s) => rfl
  | ⟨_ + 1, h⟩, _ => exact absurd h (Nat.not_lt.2 (Nat.le_add_left _ _))

theorem defs_eq : @Cert.Out.defs Bits _ _ = @Cert.OutIdeal.defs Bits _ _ := congrArg (Pipeline.defs _) bodies_eq

theorem frame_kernel : Cert.quiescent_Out (hOut := Cert.Out.Gen.facts) := fun m g _ => by
  have h := Cert.OutIdeal.Gen.frame (F := Bits) m g
  rw [← defs_eq] at h
  exact h

theorem frame_reference : Cert.quiescent_RefOutIdeal (hRefOutIdeal := Cert.RefOutIdeal.Gen.facts) := fun m g _ =>
  (θ_run _ _ _).mono (fun r h => ⟨fun c => (h c).2.2, Cert.RefOutIdeal.Val.no_sem _⟩) (Cert.RefOutIdeal.Value.run (F := Ideal) m g)

/-- The kernel and the reference leave the same two arrays. -/
theorem values : Cert.algebraic_OutIdeal_RefOutIdeal (hOutIdeal := Cert.OutIdeal.Gen.facts) (hRefOutIdeal := Cert.RefOutIdeal.Gen.facts) := by
  intro m g m' g' _ hagree
  refine ⟨fun c => wholeP m c, fun c => wholeS m c, ?_, ?_⟩
  · exact (θ_run _ _ _).mono (fun r h c => ⟨(h c).1.trans (arrP m c), (h c).2.1.trans (arrS m c), (h c).2.2⟩) (Cert.OutIdeal.Value.run_blocks (F := Ideal) m g)
  · refine (θ_run _ _ _).mono (fun r h c => ⟨(h c).1.trans ?_, (h c).2.1.trans ?_, (h c).2.2⟩) (Cert.RefOutIdeal.Value.run (F := Ideal) m' g')
    · rw [(hagree c).1, (hagree c).2.2]
      funext y
      rw [eq_ix2 y]
      exact Cert.RefOutIdeal.Val.resultP_entry (argP m c) (argW m c) (y 0) (y 1)
    · rw [(hagree c).2.1, (hagree c).2.2]
      funext y
      rw [eq_ix2 y]
      exact Cert.RefOutIdeal.Val.resultS_entry (argS m c) (argW m c) (y 0) (y 1)

end Cert.OutIdeal.Val

end
-- ==== Proof.KvIdeal.Setup.lean ====
module

public import proofs.«01_k».proof.Proof.Gen.KvIdeal.Frame
public import Idealize.ShloMosaic.Lib.VecWindow
public import Idealize.ShloMosaic.Lib.Pointwise
public import Idealize.ShloMosaic.Lib.Ring
public import Idealize.ShloMosaic.Lib.Tactic
public import Idealize.ShloMosaic.Lib.WordCmp

@[expose] public section

set_option maxRecDepth 16384

noncomputable section

namespace Cert.KvIdeal.Acc

open Cert.KvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which branch a grid point takes -/

/-- The first eight blocks of columns are keys, the others values. -/
theorem condKey_iff : ∀ t : Fin cfg0.N, k0_cond1 (grid0.coords t) = 1#1 ↔ t.val % 16 < 8 :=
  (by decide +kernel : ∀ t : Fin grid0.N, k0_cond1 (grid0.coords t) = 1#1 ↔ t.val % 16 < 8)
theorem condValue_iff : ∀ t : Fin cfg0.N, k0_cond2 (grid0.coords t) = 1#1 ↔ 8 ≤ t.val % 16 :=
  (by decide +kernel : ∀ t : Fin grid0.N, k0_cond2 (grid0.coords t) = 1#1 ↔ 8 ≤ t.val % 16)

/-- The last block of rows: the sample's rows are multiplied too. -/
theorem condSample_iff : ∀ t : Fin cfg0.N, k0_cond3 (grid0.coords t) = 1#1 ↔ 48 ≤ t.val :=
  (by decide +kernel : ∀ t : Fin grid0.N, k0_cond3 (grid0.coords t) = 1#1 ↔ 48 ≤ t.val)

theorem condKey_eq (i : grid0.Coords) : k0_cond4 i = k0_cond1 i := rfl
theorem condValue_eq (i : grid0.Coords) : k0_cond5 i = k0_cond2 i := rfl

/-! ## The buffers a point is given -/

abbrev st0 (t : Fin cfg0.N) : Memref sig .tc .vmem S128x4096 .bf16 := win0_0.stage (cfg0.slots t 0)
abbrev st1 (t : Fin cfg0.N) : Memref sig .tc .vmem S2048x4096 .bf16 := win0_1.stage (cfg0.slots t 1)
abbrev st2 (t : Fin cfg0.N) : Memref sig .tc .vmem S1x4096x512 .f32 := win0_2.stage (cfg0.slots t 2)
abbrev st3 (t : Fin cfg0.N) : Memref sig .tc .vmem S2048x512 .bf16 := win0_3.stage (cfg0.slots t 3)
abbrev st4 (t : Fin cfg0.N) : Memref sig .tc .vmem S128x512 .bf16 := win0_4.stage (cfg0.slots t 4)
abbrev st5 (t : Fin cfg0.N) : Memref sig .tc .vmem S512x512 .f32 := win0_5.stage (cfg0.slots t 5)
abbrev st6 (t : Fin cfg0.N) : Memref sig .tc .vmem S512x512 .f32 := win0_6.stage (cfg0.slots t 6)
abbrev st7 (t : Fin cfg0.N) : Memref sig .tc .vmem S128x512 .f32 := win0_7.stage (cfg0.slots t 7)
abbrev st8 (t : Fin cfg0.N) : Memref sig .tc .vmem S128x512 .f32 := win0_8.stage (cfg0.slots t 8)

/-! ## What one point computes -/

/-- A block of the weights' columns. -/
def wts (x2 : Vec F S1x4096x512 .f32) : FVec F S4096x512 .bf16 :=
  truncf .bf16 (shapeCast S4096x512 x2 shapeCasts_S1x4096x512_S4096x512 : FVec F S4096x512 .f32) bitsLt_bf16_f32

/-- 512 of the prompt's rows times a block of the weights' columns. -/
def rows (x2 : Vec F S1x4096x512 .f32) (v : Vec F S512x4096 .bf16) : FVec F S512x512 .f32 :=
  matmul dot_S512x4096_S4096x512_S512x512_1_0_0_1_n_n none (shapeCast S512x4096 v shapeCasts_S512x4096_S512x4096 : FVec F S512x4096 .bf16) (wts x2) (constant S512x512 .f32 0x00000000#32)

/-- Rows `o … o + 511` of a block of rows. -/
def part (x1 : Vec F S2048x4096 .bf16) (o : ℕ) : Vec F S512x4096 .bf16 :=
  fun z => x1 (ix2 (n0 := 2048) (n1 := 4096) ⟨(o + (z 0).val) % 2048, Nat.mod_lt _ (by decide)⟩ ⟨(z 1).val, (z 1).isLt⟩)

/-- The prompt's block as it is written. -/
def blockP (x1 : Vec F S2048x4096 .bf16) (x2 : Vec F S1x4096x512 .f32) : Vec F S2048x512 .bf16 :=
  fun y => truncf .bf16 (rows x2 (part x1 (512 * ((y 0).val / 512)))) bitsLt_bf16_f32 (ix2 (n0 := 512) (n1 := 512) ⟨(y 0).val % 512, Nat.mod_lt _ (by decide)⟩ ⟨(y 1).val, (y 1).isLt⟩)

/-- The newest rows of the prompt's block, kept at full width. -/
def newest (x1 : Vec F S2048x4096 .bf16) (x2 : Vec F S1x4096x512 .f32) : Vec F S512x512 .f32 := rows x2 (part x1 1536)

/-- The sample's block at full width, and as it is written. -/
def samp (x0 : Vec F S128x4096 .bf16) (x2 : Vec F S1x4096x512 .f32) : Vec F S128x512 .f32 :=
  matmul dot_S128x4096_S4096x512_S128x512_1_0_0_1_n_n none (shapeCast S128x4096 x0 shapeCasts_S128x4096_S128x4096 : FVec F S128x4096 .bf16) (wts x2) (constant S128x512 .f32 0x00000000#32)
def blockS (x0 : Vec F S128x4096 .bf16) (x2 : Vec F S1x4096x512 .f32) : Vec F S128x512 .bf16 :=
  truncf .bf16 (samp x0 x2 : FVec F S128x512 .f32) bitsLt_bf16_f32

/-! ## What the loads read -/

theorem ld_whole {κ' : Kind} {sp : Space} {s : Shape} {e : EltTy} {M : Memref sig κ' sp s e} (hM : M.IsWhole) (x : s.Idx → Elt F e)
    {off : Fin s.rank → ℕ} (inb : ∀ a, off a + s.size a ≤ s.size a) :
    View.readAt (Elt F) M.view (Rect.unit (s := s) off s.size inb).toLoadRect (hM.unread x) = x := by
  rw [View.readAt_eq_ld, hM.read_unread]
  funext y
  refine congrArg x ?_
  funext a; apply Fin.ext
  have := inb a
  show off a + 1 * (y a).val = (y a).val
  omega

theorem ld_part {M : Memref sig .tc .vmem S2048x4096 .bf16} (hM : M.IsWhole) (x : Vec F S2048x4096 .bf16) (o : ℕ) (ho : o + 512 ≤ 2048)
    (hr : ∀ a, (![o, 0] : Fin 2 → ℕ) a + S512x4096.size a ≤ S2048x4096.size a) :
    View.readAt (Elt F) M.view (Rect.unit (s := S2048x4096) ![o, 0] S512x4096.size hr).toLoadRect (hM.unread x) = part x o := by
  rw [View.readAt_eq_ld, hM.read_unread]
  funext z
  refine congrArg x ?_
  funext a; apply Fin.ext
  match a with
  | ⟨0, _⟩ =>
    have hz : (z 0).val < 512 := (z 0).isLt
    show o + 1 * (z 0).val = (o + (z 0).val) % 2048
    omega
  | ⟨1, _⟩ => show 0 + 1 * (z 1).val = (z 1).val; omega

section
variable {M2 : Memref sig .tc .vmem S128x4096 .bf16} (h2 : M2.IsWhole) {M3 : Memref sig .tc .vmem S2048x4096 .bf16} (h3 : M3.IsWhole) {M4 : Memref sig .tc .vmem S1x4096x512 .f32} (h4 : M4.IsWhole)
  (x0 : Vec F S128x4096 .bf16) (x1 : Vec F S2048x4096 .bf16) (x2 : Vec F S1x4096x512 .f32)

theorem rows_of (o : ℕ) (ho : o + 512 ≤ 2048) (hw : ∀ a, (![0, 0, 0] : Fin 3 → ℕ) a + S1x4096x512.size a ≤ S1x4096x512.size a)
    (hr : ∀ a, (![o, 0] : Fin 2 → ℕ) a + S512x4096.size a ≤ S2048x4096.size a) :
    rows (View.readAt (Elt F) M4.view (Rect.unit (s := S1x4096x512) ![0, 0, 0] S1x4096x512.size hw).toLoadRect (h4.unread x2))
        (View.readAt (Elt F) M3.view (Rect.unit (s := S2048x4096) ![o, 0] S512x4096.size hr).toLoadRect (h3.unread x1)) = rows x2 (part x1 o) := by
  rw [ld_whole h4, ld_part h3 x1 o ho]

theorem samp_of (hw : ∀ a, (![0, 0, 0] : Fin 3 → ℕ) a + S1x4096x512.size a ≤ S1x4096x512.size a)
    (hr : ∀ a, (![0, 0] : Fin 2 → ℕ) a + S128x4096.size a ≤ S128x4096.size a) :
    samp (View.readAt (Elt F) M2.view (Rect.unit (s := S128x4096) ![0, 0] S128x4096.size hr).toLoadRect (h2.unread x0))
      (View.readAt (Elt F) M4.view (Rect.unit (s := S1x4096x512) ![0, 0, 0] S1x4096x512.size hw).toLoadRect (h4.unread x2)) = samp x0 x2 := by
  rw [ld_whole h4, ld_whole h2]

/-- What one chunk of rows is stored at. -/
theorem chunk (o : ℕ) (ho : o + 512 ≤ 2048) (hd : o % 512 = 0) (hw : ∀ a, (![0, 0, 0] : Fin 3 → ℕ) a + S1x4096x512.size a ≤ S1x4096x512.size a)
    (hr : ∀ a, (![o, 0] : Fin 2 → ℕ) a + S512x4096.size a ≤ S2048x4096.size a)
    (hs : ∀ a, (![o, 0] : Fin 2 → ℕ) a + S512x512.size a ≤ S2048x512.size a) (x : S512x512.Idx) :
    truncf .bf16 (rows (View.readAt (Elt F) M4.view (Rect.unit (s := S1x4096x512) ![0, 0, 0] S1x4096x512.size hw).toLoadRect (h4.unread x2))
        (View.readAt (Elt F) M3.view (Rect.unit (s := S2048x4096) ![o, 0] S512x4096.size hr).toLoadRect (h3.unread x1))) bitsLt_bf16_f32 x
      = blockP x1 x2 ((Rect.unit (s := S2048x512) ![o, 0] S512x512.size hs).emb x) := by
  rw [rows_of h3 h4 x1 x2 o ho]
  have hx : (x 0).val < 512 := (x 0).isLt
  have e0 : 512 * ((((Rect.unit (s := S2048x512) ![o, 0] S512x512.size hs).emb x) 0).val / 512) = o := by
    show 512 * ((o + 1 * (x 0).val) / 512) = o
    omega
  unfold blockP
  rw [e0]
  refine congrArg (truncf .bf16 (rows x2 (part x1 o)) bitsLt_bf16_f32) ?_
  funext a; apply Fin.ext
  match a with
  | ⟨0, _⟩ => show (x 0).val = (o + 1 * (x 0).val) % 512; omega
  | ⟨1, _⟩ => show (x 1).val = 0 + 1 * (x 1).val; omega
end

end Cert.KvIdeal.Acc

end
-- ==== Proof.KvIdeal.Run.lean ====
module

public import proofs.«01_k».proof.Proof.KvIdeal.Setup
public import Idealize.ShloMosaic.Lib.VecWindow
public import Idealize.ShloMosaic.Lib.Pointwise
public import Idealize.ShloMosaic.Lib.Ring
public import Idealize.ShloMosaic.Lib.Tactic
public import Idealize.ShloMosaic.Lib.WordCmp

@[expose] public section

set_option maxRecDepth 16384

noncomputable section

namespace Cert.KvIdeal.Acc

open Cert.KvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The run of a point: the prompt's block is written; the newest rows go to the keys' buffer or to the values';
    the sample's rows are written at the last block of rows only. -/
theorem run (c : Dev nD) (i : grid0.Coords) (arg2 : Memref sig .tc .vmem S128x4096 .bf16) (harg2 : arg2.IsWhole) (arg3 : Memref sig .tc .vmem S2048x4096 .bf16) (harg3 : arg3.IsWhole) (arg4 : Memref sig .tc .vmem S1x4096x512 .f32) (harg4 : arg4.IsWhole) (arg5 : Memref sig .tc .vmem S2048x512 .bf16) (harg5 : arg5.IsWhole) (arg6 : Memref sig .tc .vmem S128x512 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S128x512 .f32) (harg9 : arg9.IsWhole) (arg10 : Memref sig .tc .vmem S128x512 .f32) (harg10 : arg10.IsWhole)
    (hb : (k0_cond1 i = 1#1 ∧ ¬k0_cond2 i = 1#1) ∨ (¬k0_cond1 i = 1#1 ∧ k0_cond2 i = 1#1))
    (x0 : Vec F S128x4096 .bf16) (x1 : Vec F S2048x4096 .bf16) (x2 : Vec F S1x4096x512 .f32) (d3 : Vec F S2048x512 .bf16) (d4 y4 : Vec F S128x512 .bf16) (d5 y5 d6 y6 : Vec F S512x512 .f32) (d7 y7 d8 y8 : Vec F S128x512 .f32)
    (hy4 : (k0_cond3 i = 1#1 → y4 = blockS x0 x2) ∧ (¬k0_cond3 i = 1#1 → y4 = d4))
    (hy5 : (k0_cond1 i = 1#1 → y5 = newest x1 x2) ∧ (¬k0_cond1 i = 1#1 → y5 = d5))
    (hy6 : (k0_cond2 i = 1#1 → y6 = newest x1 x2) ∧ (¬k0_cond2 i = 1#1 → y6 = d6))
    (hy7 : (k0_cond3 i = 1#1 ∧ k0_cond1 i = 1#1 → y7 = samp x0 x2) ∧ (¬(k0_cond3 i = 1#1 ∧ k0_cond1 i = 1#1) → y7 = d7))
    (hy8 : (k0_cond3 i = 1#1 ∧ k0_cond2 i = 1#1 → y8 = samp x0 x2) ∧ (¬(k0_cond3 i = 1#1 ∧ k0_cond2 i = 1#1) → y8 = d8)) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare d3 ∗ owns (c : Thread nD τ) arg6 fullShare d4 ∗ owns (c : Thread nD τ) arg7 fullShare d5 ∗ owns (c : Thread nD τ) arg8 fullShare d6 ∗ owns (c : Thread nD τ) arg9 fullShare d7 ∗ owns (c : Thread nD τ) arg10 fullShare d8
            ∗ (iprop(owns (c : Thread nD τ) arg2 fullShare x0 ∗ owns (c : Thread nD τ) arg3 fullShare x1 ∗ owns (c : Thread nD τ) arg4 fullShare x2 ∗ owns (c : Thread nD τ) arg5 fullShare (blockP x1 x2) ∗ owns (c : Thread nD τ) arg6 fullShare y4 ∗ owns (c : Thread nD τ) arg7 fullShare y5 ∗ owns (c : Thread nD τ) arg8 fullShare y6 ∗ owns (c : Thread nD τ) arg9 fullShare y7 ∗ owns (c : Thread nD τ) arg10 fullShare y8) -∗ K ⟨⟩))
          ⊢ wp frame (wpE (defs₀ (F := F)) Variants.none c none) E (cc0_mm_rows_none i arg2 harg2 arg3 harg3 arg4 harg4 arg5 harg5 arg6 harg6 arg7 harg7 arg8 harg8 arg9 harg9 arg10 harg10) K := by
  intro E K
  unfold cc0_mm_rows_none k0_part1
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  rcases hb with ⟨h1, h2⟩ | ⟨h1, h2⟩ <;> by_cases h3 : k0_cond3 i = 1#1
  all_goals
    have h4 := h1
    have h5 := h2
    rw [← condKey_eq] at h4
    rw [← condValue_eq] at h5
    sl_exec (disch := first | sl_exact h1 | sl_exact h2 | sl_exact h3 | sl_exact h4 | sl_exact h5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      funext y
      refine View.read_writes_apply_of_pieces _ _ (blockP x1 x2) _ ?_ y ?_
      swap
      · exact View.cover_of_tiledL (s := S2048x512) _ S512x512.size (by sl_kernel_rfl) y
      exact List.forall_mem_cons.2 ⟨fun x => chunk harg3 harg4 x1 x2 1536 (by omega) (by omega) _ _ inb_S2048x512_S512x512_1536_0 x, List.forall_mem_cons.2 ⟨fun x => chunk harg3 harg4 x1 x2 1024 (by omega) (by omega) _ _ inb_S2048x512_S512x512_1024_0 x,
        List.forall_mem_cons.2 ⟨fun x => chunk harg3 harg4 x1 x2 512 (by omega) (by omega) _ _ inb_S2048x512_S512x512_512_0 x, List.forall_mem_cons.2 ⟨fun x => chunk harg3 harg4 x1 x2 0 (by omega) (by omega) _ _ inb_S2048x512_S512x512_0_0 x, List.forall_mem_nil _⟩⟩⟩⟩
    isplitl [H4]
    · iexists _; isplitr; swap; · iexact H4
      ipureintro
      first | (rw [harg6.read_unread]; exact (hy4.2 (by tauto)).symm) | (rw [View.read_writes_full, hy4.1 (by tauto)]; exact congrArg (fun a : FVec F S128x512 .f32 => truncf .bf16 a bitsLt_bf16_f32) (samp_of harg2 harg4 x0 x2 _ _))
    isplitl [H5]
    · iexists _; isplitr; swap; · iexact H5
      ipureintro
      first | (rw [harg7.read_unread]; exact (hy5.2 (by tauto)).symm) | (rw [View.read_writes_full, hy5.1 (by tauto)]; exact rows_of harg3 harg4 x1 x2 1536 (by omega) _ _)
    isplitl [H6]
    · iexists _; isplitr; swap; · iexact H6
      ipureintro
      first | (rw [harg8.read_unread]; exact (hy6.2 (by tauto)).symm) | (rw [View.read_writes_full, hy6.1 (by tauto)]; exact rows_of harg3 harg4 x1 x2 1536 (by omega) _ _)
    isplitl [H7]
    · iexists _; isplitr; swap; · iexact H7
      ipureintro
      first | (rw [harg9.read_unread]; exact (hy7.2 (by tauto)).symm) | (rw [View.read_writes_full, hy7.1 (by tauto)]; exact samp_of harg2 harg4 x0 x2 _ _)
    iexists _; isplitr; swap; · iexact H8
    ipureintro
    first | (rw [harg10.read_unread]; exact (hy8.2 (by tauto)).symm) | (rw [View.read_writes_full, hy8.1 (by tauto)]; exact samp_of harg2 harg4 x0 x2 _ _)

end Cert.KvIdeal.Acc

end
-- ==== Proof.KvIdeal.Frame.lean ====
module

public import proofs.«01_k».proof.Proof.KvIdeal.Run
public import Idealize.ShloMosaic.Lib.Pipeline.FrameBody
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KvIdeal.Acc

open Cert.KvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Grid point `n`. -/
def pt (n : ℕ) : Fin cfg0.N := ⟨n % 64, by rw [show cfg0.N = 64 from N_0]; exact Nat.mod_lt _ (by decide)⟩

theorem pt_val (t : Fin cfg0.N) : pt t.val = t := Fin.ext (Nat.mod_eq_of_lt (lt_of_lt_of_eq t.isLt (show cfg0.N = 64 from N_0)))

/-- The newest rows of point `n`'s block, and its sample's block. -/
def newestAt (c : Dev nD) (n : ℕ) : Vec F S512x512 .f32 := newest (iblk m c 1 (pt n)) (iblk m c 2 (pt n))
def sampAt (c : Dev nD) (n : ℕ) : Vec F S128x512 .f32 := samp (iblk m c 0 (pt n)) (iblk m c 2 (pt n))

/-- The keys' buffers keep what the last block of keys left while the blocks of values go by. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockP (iblk m c 1 t) (iblk m c 2 t)
    | ⟨4, _⟩ => blockS (iblk m c 0 t) (iblk m c 2 t)
    | ⟨5, _⟩ => newestAt m c (16 * (t.val / 16) + min (t.val % 16) 7)
    | ⟨6, _⟩ => newestAt m c t.val
    | ⟨7, _⟩ => sampAt m c (48 + min (t.val - 48) 7)
    | ⟨8, _⟩ => sampAt m c t.val
  Φ _ := Pipeline.ΦA spec0 c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem leaves0 (c : Dev nD) (t : Fin cfg0.N) : (dats m 0 c).leavesExact 0 t = owns (c : Thread nD τ) (st0 t) fullShare (iblk m c 0 t) := by
  unfold Dat.leavesExact; rw [show cfg0.idle 0 (cfg0.grid.coords t) = false from rfl, after0]
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem leaves1 (c : Dev nD) (t : Fin cfg0.N) : (dats m 0 c).leavesExact 1 t = owns (c : Thread nD τ) (st1 t) fullShare (iblk m c 1 t) := by
  unfold Dat.leavesExact; rw [show cfg0.idle 1 (cfg0.grid.coords t) = false from rfl, after1]
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem leaves2 (c : Dev nD) (t : Fin cfg0.N) : (dats m 0 c).leavesExact 2 t = owns (c : Thread nD τ) (st2 t) fullShare (iblk m c 2 t) := by
  unfold Dat.leavesExact; rw [show cfg0.idle 2 (cfg0.grid.coords t) = false from rfl, after2]
theorem after3 (c : Dev nD) (t : Fin cfg0.N) : (dats m 0 c).after 3 t = blockP (iblk m c 1 t) (iblk m c 2 t) := by dsimp only [dats]
theorem after4 (c : Dev nD) (t : Fin cfg0.N) : (dats m 0 c).after 4 t = blockS (iblk m c 0 t) (iblk m c 2 t) := by dsimp only [dats]
theorem after5 (c : Dev nD) (t : Fin cfg0.N) : (dats m 0 c).after 5 t = newestAt m c (16 * (t.val / 16) + min (t.val % 16) 7) := by dsimp only [dats]
theorem after6 (c : Dev nD) (t : Fin cfg0.N) : (dats m 0 c).after 6 t = newestAt m c t.val := by dsimp only [dats]
theorem after7 (c : Dev nD) (t : Fin cfg0.N) : (dats m 0 c).after 7 t = sampAt m c (48 + min (t.val - 48) 7) := by dsimp only [dats]
theorem after8 (c : Dev nD) (t : Fin cfg0.N) : (dats m 0 c).after 8 t = sampAt m c t.val := by dsimp only [dats]
theorem leaves3 (c : Dev nD) (t : Fin cfg0.N) : (dats m 0 c).leavesExact 3 t = owns (c : Thread nD τ) (st3 t) fullShare ((dats m 0 c).after 3 t) := by
  unfold Dat.leavesExact; rw [show cfg0.idle 3 (cfg0.grid.coords t) = false from rfl]

/-! ## Where a buffer is written, and where it is left alone -/

theorem idle4 : ∀ t : Fin cfg0.N, cfg0.idle 4 (cfg0.grid.coords t) = false ↔ 48 ≤ t.val :=
  (by decide +kernel : ∀ t : Fin grid0.N, idle0 4 (grid0.coords t) = false ↔ 48 ≤ t.val)
theorem idle5 : ∀ t : Fin cfg0.N, cfg0.idle 5 (cfg0.grid.coords t) = false ↔ t.val % 16 < 8 :=
  (by decide +kernel : ∀ t : Fin grid0.N, idle0 5 (grid0.coords t) = false ↔ t.val % 16 < 8)
theorem idle6 : ∀ t : Fin cfg0.N, cfg0.idle 6 (cfg0.grid.coords t) = false ↔ 8 ≤ t.val % 16 :=
  (by decide +kernel : ∀ t : Fin grid0.N, idle0 6 (grid0.coords t) = false ↔ 8 ≤ t.val % 16)
theorem idle7 : ∀ t : Fin cfg0.N, cfg0.idle 7 (cfg0.grid.coords t) = false ↔ 48 ≤ t.val ∧ t.val % 16 < 8 :=
  (by decide +kernel : ∀ t : Fin grid0.N, idle0 7 (grid0.coords t) = false ↔ 48 ≤ t.val ∧ t.val % 16 < 8)
theorem idle8 : ∀ t : Fin cfg0.N, cfg0.idle 8 (cfg0.grid.coords t) = false ↔ 48 ≤ t.val ∧ 8 ≤ t.val % 16 :=
  (by decide +kernel : ∀ t : Fin grid0.N, idle0 8 (grid0.coords t) = false ↔ 48 ≤ t.val ∧ 8 ≤ t.val % 16)
theorem live4 (c : Dev nD) (t : Fin cfg0.N) (h : 48 ≤ t.val) : (dats m 0 c).leavesExact 4 t = owns (c : Thread nD τ) (st4 t) fullShare ((dats m 0 c).after 4 t) := by
  unfold Dat.leavesExact; rw [(idle4 t).2 h]
theorem live5 (c : Dev nD) (t : Fin cfg0.N) (h : t.val % 16 < 8) : (dats m 0 c).leavesExact 5 t = owns (c : Thread nD τ) (st5 t) fullShare ((dats m 0 c).after 5 t) := by
  unfold Dat.leavesExact; rw [(idle5 t).2 h]
theorem live6 (c : Dev nD) (t : Fin cfg0.N) (h : 8 ≤ t.val % 16) : (dats m 0 c).leavesExact 6 t = owns (c : Thread nD τ) (st6 t) fullShare ((dats m 0 c).after 6 t) := by
  unfold Dat.leavesExact; rw [(idle6 t).2 h]
theorem live7 (c : Dev nD) (t : Fin cfg0.N) (h : 48 ≤ t.val ∧ t.val % 16 < 8) : (dats m 0 c).leavesExact 7 t = owns (c : Thread nD τ) (st7 t) fullShare ((dats m 0 c).after 7 t) := by
  unfold Dat.leavesExact; rw [(idle7 t).2 h]
theorem live8 (c : Dev nD) (t : Fin cfg0.N) (h : 48 ≤ t.val ∧ 8 ≤ t.val % 16) : (dats m 0 c).leavesExact 8 t = owns (c : Thread nD τ) (st8 t) fullShare ((dats m 0 c).after 8 t) := by
  unfold Dat.leavesExact; rw [(idle8 t).2 h]
theorem flushed4 : ∀ t : Fin cfg0.N, (cfg0.win 4).flush t = true → 48 ≤ t.val :=
  (by decide +kernel : ∀ t : Fin grid0.N, win0_4.flush t = true → 48 ≤ t.val)
theorem still4 (c : Dev nD) (t : Fin cfg0.N) (h : ¬(48 ≤ t.val)) (d) : owns (c : Thread nD τ) (st4 t) fullShare ((dats m 0 c).before 4 t d) ⊢ (dats m 0 c).leavesExact 4 t := by
  rw [(dats m 0 c).leavesExact_idle 4 t (Bool.eq_true_of_not_eq_false fun e => h ((idle4 t).1 e)) (Bool.eq_false_iff.2 fun e => h (flushed4 t e))]
  iintro H; iexists d; iexact H
theorem flushed6 : ∀ t : Fin cfg0.N, (cfg0.win 6).flush t = true → 8 ≤ t.val % 16 :=
  (by decide +kernel : ∀ t : Fin grid0.N, win0_6.flush t = true → 8 ≤ t.val % 16)
theorem still6 (c : Dev nD) (t : Fin cfg0.N) (h : ¬(8 ≤ t.val % 16)) (d) : owns (c : Thread nD τ) (st6 t) fullShare ((dats m 0 c).before 6 t d) ⊢ (dats m 0 c).leavesExact 6 t := by
  rw [(dats m 0 c).leavesExact_idle 6 t (Bool.eq_true_of_not_eq_false fun e => h ((idle6 t).1 e)) (Bool.eq_false_iff.2 fun e => h (flushed6 t e))]
  iintro H; iexists d; iexact H
theorem flushed8 : ∀ t : Fin cfg0.N, (cfg0.win 8).flush t = true → 48 ≤ t.val ∧ 8 ≤ t.val % 16 :=
  (by decide +kernel : ∀ t : Fin grid0.N, win0_8.flush t = true → 48 ≤ t.val ∧ 8 ≤ t.val % 16)
theorem still8 (c : Dev nD) (t : Fin cfg0.N) (h : ¬(48 ≤ t.val ∧ 8 ≤ t.val % 16)) (d) : owns (c : Thread nD τ) (st8 t) fullShare ((dats m 0 c).before 8 t d) ⊢ (dats m 0 c).leavesExact 8 t := by
  rw [(dats m 0 c).leavesExact_idle 8 t (Bool.eq_true_of_not_eq_false fun e => h ((idle8 t).1 e)) (Bool.eq_false_iff.2 fun e => h (flushed8 t e))]
  iintro H; iexists d; iexact H
theorem fresh5 : ∀ t : Fin cfg0.N, (cfg0.win 5).flush t = true → cfg0.idle 5 (cfg0.grid.coords t) = true → cfg0.fresh 5 t.val = false ∧ t.val ≠ 0 :=
  by decide +kernel
theorem carry5 (c : Dev nD) (t : Fin cfg0.N) (h0 : t.val ≠ 0) (hi : cfg0.idle 5 (cfg0.grid.coords t) = true) :
    (dats m 0 c).after 5 t = (dats m 0 c).after 5 ⟨t.val - 1, by omega⟩ := by
  have h : ¬(t.val % 16 < 8) := fun h => by rw [(idle5 t).2 h] at hi; exact Bool.false_ne_true hi
  have hN : t.val < 64 := lt_of_lt_of_eq t.isLt (show cfg0.N = 64 from N_0)
  rw [after5, after5]
  refine congrArg _ ?_
  show 16 * (t.val / 16) + min (t.val % 16) 7 = 16 * ((t.val - 1) / 16) + min ((t.val - 1) % 16) 7
  omega
theorem still5 (c : Dev nD) (t : Fin cfg0.N) (h : ¬(t.val % 16 < 8)) (d) : owns (c : Thread nD τ) (st5 t) fullShare ((dats m 0 c).before 5 t d) ⊢ (dats m 0 c).leavesExact 5 t := by
  have hi : cfg0.idle 5 (cfg0.grid.coords t) = true := Bool.eq_true_of_not_eq_false fun e => h ((idle5 t).1 e)
  by_cases hf : (cfg0.win 5).flush t = true
  · obtain ⟨hr, h0⟩ := fresh5 t hf hi
    have hb := (dats m 0 c).before_out_traj 5 rfl (fun _ _ => rfl) (fun t h0 hi _ => carry5 m c t h0 hi) t.val t rfl d
    rw [hr, if_neg Bool.false_ne_true, ← carry5 m c t h0 hi] at hb
    have hl : (dats m 0 c).leavesExact 5 t = owns (c : Thread nD τ) (st5 t) fullShare ((dats m 0 c).after 5 t) := by
      unfold Dat.leavesExact; rw [hi, hf]
    rw [hl, hb]
  · rw [(dats m 0 c).leavesExact_idle 5 t hi (Bool.eq_false_iff.2 hf)]
    iintro H; iexists d; iexact H
theorem fresh7 : ∀ t : Fin cfg0.N, (cfg0.win 7).flush t = true → cfg0.idle 7 (cfg0.grid.coords t) = true → cfg0.fresh 7 t.val = false ∧ t.val ≠ 0 :=
  by decide +kernel
theorem carry7 (c : Dev nD) (t : Fin cfg0.N) (h0 : t.val ≠ 0) (hi : cfg0.idle 7 (cfg0.grid.coords t) = true) :
    (dats m 0 c).after 7 t = (dats m 0 c).after 7 ⟨t.val - 1, by omega⟩ := by
  have h : ¬(48 ≤ t.val ∧ t.val % 16 < 8) := fun h => by rw [(idle7 t).2 h] at hi; exact Bool.false_ne_true hi
  have hN : t.val < 64 := lt_of_lt_of_eq t.isLt (show cfg0.N = 64 from N_0)
  rw [after7, after7]
  refine congrArg _ ?_
  show 48 + min (t.val - 48) 7 = 48 + min ((t.val - 1) - 48) 7
  omega
theorem still7 (c : Dev nD) (t : Fin cfg0.N) (h : ¬(48 ≤ t.val ∧ t.val % 16 < 8)) (d) : owns (c : Thread nD τ) (st7 t) fullShare ((dats m 0 c).before 7 t d) ⊢ (dats m 0 c).leavesExact 7 t := by
  have hi : cfg0.idle 7 (cfg0.grid.coords t) = true := Bool.eq_true_of_not_eq_false fun e => h ((idle7 t).1 e)
  by_cases hf : (cfg0.win 7).flush t = true
  · obtain ⟨hr, h0⟩ := fresh7 t hf hi
    have hb := (dats m 0 c).before_out_traj 7 rfl (fun _ _ => rfl) (fun t h0 hi _ => carry7 m c t h0 hi) t.val t rfl d
    rw [hr, if_neg Bool.false_ne_true, ← carry7 m c t h0 hi] at hb
    have hl : (dats m 0 c).leavesExact 7 t = owns (c : Thread nD τ) (st7 t) fullShare ((dats m 0 c).after 7 t) := by
      unfold Dat.leavesExact; rw [hi, hf]
    rw [hl, hb]
  · rw [(dats m 0 c).leavesExact_idle 7 t hi (Bool.eq_false_iff.2 hf)]
    iintro H; iexists d; iexact H

/-! ## One point -/

def bodyPre (c : Dev nD) (t : Fin cfg0.N) : sProp 𝕄 :=
  iprop((dats m 0 c).Φ t.castSucc
    ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d)))

def bodyPost (c : Dev nD) (t : Fin cfg0.N) : sProp 𝕄 :=
  iprop((dats m 0 c).Φ t.succ
    ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem run_point (c : Dev nD) (t : Fin cfg0.N) (d3 : Vec F S2048x512 .bf16) (d4 : Vec F S128x512 .bf16) (d5 d6 : Vec F S512x512 .f32) (d7 d8 : Vec F S128x512 .f32) (K : PUnit → sProp 𝕄) :
    iprop(owns (c : Thread nD τ) (st0 t) fullShare (iblk m c 0 t) ∗ owns (c : Thread nD τ) (st1 t) fullShare (iblk m c 1 t) ∗ owns (c : Thread nD τ) (st2 t) fullShare (iblk m c 2 t) ∗ owns (c : Thread nD τ) (st3 t) fullShare d3 ∗ owns (c : Thread nD τ) (st4 t) fullShare d4 ∗ owns (c : Thread nD τ) (st5 t) fullShare d5 ∗ owns (c : Thread nD τ) (st6 t) fullShare d6 ∗ owns (c : Thread nD τ) (st7 t) fullShare d7 ∗ owns (c : Thread nD τ) (st8 t) fullShare d8
        ∗ (iprop(owns (c : Thread nD τ) (st0 t) fullShare (iblk m c 0 t) ∗ owns (c : Thread nD τ) (st1 t) fullShare (iblk m c 1 t) ∗ owns (c : Thread nD τ) (st2 t) fullShare (iblk m c 2 t) ∗ owns (c : Thread nD τ) (st3 t) fullShare ((dats m 0 c).after 3 t) ∗ owns (c : Thread nD τ) (st4 t) fullShare (if 48 ≤ t.val then ((dats m 0 c).after 4 t) else d4) ∗ owns (c : Thread nD τ) (st5 t) fullShare (if t.val % 16 < 8 then ((dats m 0 c).after 5 t) else d5) ∗ owns (c : Thread nD τ) (st6 t) fullShare (if 8 ≤ t.val % 16 then ((dats m 0 c).after 6 t) else d6) ∗ owns (c : Thread nD τ) (st7 t) fullShare (if 48 ≤ t.val ∧ t.val % 16 < 8 then ((dats m 0 c).after 7 t) else d7) ∗ owns (c : Thread nD τ) (st8 t) fullShare (if 48 ≤ t.val ∧ 8 ≤ t.val % 16 then ((dats m 0 c).after 8 t) else d8)) -∗ K ⟨⟩))
      ⊢ wp frame (wpE (defs₀ (F := F)) Variants.none c none) Set.univ (bodyAt0 t) K := by
  unfold bodyAt0
  have hN : t.val < 64 := lt_of_lt_of_eq t.isLt (show cfg0.N = 64 from N_0)
  rw [after3]
  refine run c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) ?_ (iblk m c 0 t) (iblk m c 1 t) (iblk m c 2 t) d3 d4 _ d5 _ d6 _ d7 _ d8 _ ?_ ?_ ?_ ?_ ?_ Set.univ K
  all_goals simp only [condKey_iff t, condValue_iff t, condSample_iff t]
  · omega
  · exact ⟨fun h => (if_pos h).trans (after4 m c t), fun h => if_neg h⟩
  · refine ⟨fun h => (if_pos h).trans ((after5 m c t).trans ?_), fun h => if_neg h⟩
    rw [show 16 * (t.val / 16) + min (t.val % 16) 7 = t.val by omega]
    unfold newestAt; rw [pt_val]
  · refine ⟨fun h => (if_pos h).trans ((after6 m c t).trans ?_), fun h => if_neg h⟩
    unfold newestAt; rw [pt_val]
  · refine ⟨fun h => (if_pos h).trans ((after7 m c t).trans ?_), fun h => if_neg h⟩
    rw [show 48 + min (t.val - 48) 7 = t.val by omega]
    unfold sampAt; rw [pt_val]
  · refine ⟨fun h => (if_pos h).trans ((after8 m c t).trans ?_), fun h => if_neg h⟩
    unfold sampAt; rw [pt_val]

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, leaves0, leaves1, leaves2, leaves3]
  rw [show (dats m 0 c).owesAt () t.succ = (dats m 0 c).owesAt () t.castSucc from rfl,
    show (dats m 0 c).Φ t.succ = (dats m 0 c).Φ t.castSucc from rfl]
  iintro ⟨Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_point m c t _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [Hg]; · iexact Hg
  isplitl [Ho]; · iexact Ho
  isplitl [H0]; · iexact H0
  isplitl [H1]; · iexact H1
  isplitl [H2]; · iexact H2
  isplitl [H3]; · iexact H3
  isplitl [H4]
  · by_cases h : 48 ≤ t.val
    · rw [live4 m c t h, if_pos h]; iexact H4
    · rw [if_neg h]; iapply (still4 m c t h d4); iexact H4
  isplitl [H5]
  · by_cases h : t.val % 16 < 8
    · rw [live5 m c t h, if_pos h]; iexact H5
    · rw [if_neg h]; iapply (still5 m c t h d5); iexact H5
  isplitl [H6]
  · by_cases h : 8 ≤ t.val % 16
    · rw [live6 m c t h, if_pos h]; iexact H6
    · rw [if_neg h]; iapply (still6 m c t h d6); iexact H6
  isplitl [H7]
  · by_cases h : 48 ≤ t.val ∧ t.val % 16 < 8
    · rw [live7 m c t h, if_pos h]; iexact H7
    · rw [if_neg h]; iapply (still7 m c t h d7); iexact H7
  by_cases h : 48 ≤ t.val ∧ 8 ≤ t.val % 16
  · rw [live8 m c t h, if_pos h]; iexact H8
  · rw [if_neg h]; iapply (still8 m c t h d8); iexact H8

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run -/

set_option backward.isDefEq.respectTransparency.types false in
/-- Every execution ends, with the arrays as the points leave them and every counter at zero. -/
theorem run_main : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.KvIdeal.Acc

end
-- ==== Proof.KvIdeal.Out.lean ====
module

public import proofs.«01_k».proof.Proof.KvIdeal.Frame
public import Idealize.ShloMosaic.Lib.ValueIdxCore
public import Idealize.ShloMosaic.Lib.ValueLayout
public import Idealize.ShloMosaic.Lib.ValueLayoutCasts
public import Idealize.ShloMosaic.Lib.Pointwise
public import Idealize.ShloMosaic.Lib.Claim
public import Idealize.ShloMosaic.Lib.StableHlo.RunRead
public import Idealize.ShloMosaic.Lib.Pipeline.ValueKit.Geometry
public import Idealize.ShloMosaic.Lib.VecWindow
public import Idealize.ShloMosaic.PureOps.Ideal
public import Idealize.ShloMosaic.PureOps.Ideal.Laws

@[expose] public section

set_option maxRecDepth 16384

noncomputable section

namespace Cert.KvIdeal.Val

open Cert.KvIdeal Cert.KvIdeal.Gen Cert.KvIdeal.Acc
open Idealize.ShloMosaic Idealize.ShloMosaic.TcCoe Idealize.ShloMosaic.Tactic
open Idealize.ShloMosaic.Pipeline (Dat Cfg Window)
open Idealize.SL.Sem

/-! ## The entries of what one point computes -/

/-- Entries of the products of a block of the prompt's rows, and of the sample's, with a block of the weights' columns. -/
def sumP (x1 : Vec Ideal S2048x4096 .bf16) (x2 : Vec Ideal S1x4096x512 .f32) (r : Fin 2048) (k : Fin 512) : EReal :=
  ∑ n : Fin 4096, x1 (ix2 (n0 := 2048) (n1 := 4096) r n) * x2 (ix3 (n0 := 1) (n1 := 4096) (n2 := 512) 0 n k)
def sumS (x0 : Vec Ideal S128x4096 .bf16) (x2 : Vec Ideal S1x4096x512 .f32) (r : Fin 128) (k : Fin 512) : EReal :=
  ∑ n : Fin 4096, x0 (ix2 (n0 := 128) (n1 := 4096) r n) * x2 (ix3 (n0 := 1) (n1 := 4096) (n2 := 512) 0 n k)

theorem rows_entry (x2 : Vec Ideal S1x4096x512 .f32) (v : Vec Ideal S512x4096 .bf16) (r : Fin 512) (k : Fin 512) :
    rows (F := Ideal) x2 v (ix2 r k) = (∑ n : Fin 4096, v (ix2 (n0 := 512) (n1 := 4096) r n) * x2 (ix3 (n0 := 1) (n1 := 4096) (n2 := 512) 0 n k) : EReal) := by
  unfold rows wts
  pointwise

theorem samp_entry (x0 : Vec Ideal S128x4096 .bf16) (x2 : Vec Ideal S1x4096x512 .f32) (r : Fin 128) (k : Fin 512) :
    samp (F := Ideal) x0 x2 (ix2 r k) = sumS x0 x2 r k := by
  unfold samp wts sumS
  pointwise

theorem blockP_entry (x1 : Vec Ideal S2048x4096 .bf16) (x2 : Vec Ideal S1x4096x512 .f32) (r : Fin 2048) (k : Fin 512) :
    blockP (F := Ideal) x1 x2 (ix2 r k) = sumP x1 x2 r k := by
  refine (rows_entry x2 (part x1 (512 * (r.val / 512))) ⟨r.val % 512, by omega⟩ k).trans ?_
  refine Finset.sum_congr rfl fun n _ => congrArg (fun a : EReal => a * x2 (ix3 (n0 := 1) (n1 := 4096) (n2 := 512) 0 n k)) (congrArg x1 ?_)
  refine congrArg₂ (ix2 (n0 := 2048) (n1 := 4096)) (Fin.ext ?_) rfl
  show (512 * (r.val / 512) + r.val % 512) % 2048 = r.val
  omega

theorem newest_entry (x1 : Vec Ideal S2048x4096 .bf16) (x2 : Vec Ideal S1x4096x512 .f32) (r : Fin 512) (k : Fin 512) :
    newest (F := Ideal) x1 x2 (ix2 r k) = sumP x1 x2 ⟨1536 + r.val, by omega⟩ k := by
  refine (rows_entry x2 (part x1 1536) r k).trans ?_
  refine Finset.sum_congr rfl fun n _ => congrArg (fun a : EReal => a * x2 (ix3 (n0 := 1) (n1 := 4096) (n2 := 512) 0 n k)) (congrArg x1 ?_)
  refine congrArg₂ (ix2 (n0 := 2048) (n1 := 4096)) (Fin.ext ?_) rfl
  show (1536 + r.val) % 2048 = 1536 + r.val
  omega

/-! ## The arrays the call takes -/

variable (m : (ℓ : Loc nD τ sig) → Buf (Elt Ideal) ℓ) (c : Dev nD)

/-- A host operation line before the call, as one list. -/
theorem v_eq (r : Ref sig .tc) : V (F := Ideal) m c r = StableHlo.after hostOps0 (fun b => m (c, b)) (Proc.devRef .tc r) := rfl

/-- The prompt's normed rows, the sample's, and the weights, as given to the program. -/
def argP : FVec Ideal S4x2048x4096 .f32 := m ((c.tc : Thread nD τ).loc main_arg0)
def argS : FVec Ideal S8x16x4096 .f32 := m ((c.tc : Thread nD τ).loc main_arg1)
def argW : FVec Ideal S4096x8192 .f32 := m ((c.tc : Thread nD τ).loc main_arg2)

theorem p_entry (r : Fin 8192) (n : Fin 4096) :
    (V (F := Ideal) m c main_v1 : FVec Ideal S8192x4096 .bf16) (ix2 r n) = argP m c (ix3 (n0 := 4) (n1 := 2048) (n2 := 4096) ⟨r.val / 2048, by omega⟩ ⟨r.val % 2048, by omega⟩ n) := by
  rw [v_eq]
  after_reads_simp
  pointwise
  rfl

theorem s_entry (r : Fin 128) (n : Fin 4096) :
    (V (F := Ideal) m c main_v3 : FVec Ideal S128x4096 .bf16) (ix2 r n) = argS m c (ix3 (n0 := 8) (n1 := 16) (n2 := 4096) ⟨r.val / 16, by omega⟩ ⟨r.val % 16, by omega⟩ n) := by
  rw [v_eq]
  after_reads_simp
  pointwise
  rfl

theorem w_entry (n : Fin 4096) (k : Fin 8192) :
    (V (F := Ideal) m c main_v4 : FVec Ideal S1x4096x8192 .f32) (ix3 (n0 := 1) (n1 := 4096) (n2 := 8192) 0 n k) = argW m c (ix2 (n0 := 4096) (n1 := 8192) n k) := by
  rw [v_eq]
  after_reads_simp
  pointwise
  rfl

theorem index0 : ∀ t : Fin cfg0.N, win0_0.index t = ![0, 0] := by decide +kernel
theorem block0_entry (t : Fin cfg0.N) (r : Fin 128) (n : Fin 4096) :
    (iblk m c 0 t : Vec Ideal S128x4096 .bf16) (ix2 r n) = argS m c (ix3 (n0 := 8) (n1 := 16) (n2 := 4096) ⟨r.val / 16, by omega⟩ ⟨r.val % 16, by omega⟩ n) := by
  rw [← s_entry]
  unfold iblk
  refine congrArg (V m c main_v3) ?_
  funext a; apply Fin.ext
  refine (Pipeline.Window.rect_emb_val win0_0 t (ix2 (n0 := 128) (n1 := 4096) r n) a).trans ?_
  rw [index0 t]
  match a with
  | ⟨0, _⟩ => show 0 * 128 + r.val = r.val; omega
  | ⟨1, _⟩ => show 0 * 4096 + n.val = n.val; omega

theorem index1 : ∀ t : Fin cfg0.N, win0_1.index t = ![t.val / 16, 0] := by decide +kernel
theorem block1_entry (t : Fin cfg0.N) (r : Fin 2048) (n : Fin 4096) :
    (iblk m c 1 t : Vec Ideal S2048x4096 .bf16) (ix2 r n) = (V (F := Ideal) m c main_v1 : FVec Ideal S8192x4096 .bf16) (ix2 (n0 := 8192) (n1 := 4096) ⟨2048 * (t.val / 16) + r.val, by have hN := lt_of_lt_of_eq t.isLt (show cfg0.N = 64 from N_0); omega⟩ n) := by
  unfold iblk
  refine congrArg (V m c main_v1) ?_
  funext a; apply Fin.ext
  refine (Pipeline.Window.rect_emb_val win0_1 t (ix2 (n0 := 2048) (n1 := 4096) r n) a).trans ?_
  rw [index1 t]
  match a with
  | ⟨0, _⟩ => show (t.val / 16) * 2048 + r.val = 2048 * (t.val / 16) + r.val; omega
  | ⟨1, _⟩ => show 0 * 4096 + n.val = n.val; omega

theorem index2 : ∀ t : Fin cfg0.N, win0_2.index t = ![0, 0, t.val % 16] := by decide +kernel
theorem block2_entry (t : Fin cfg0.N) (n : Fin 4096) (k : Fin 512) :
    (iblk m c 2 t : Vec Ideal S1x4096x512 .f32) (ix3 0 n k) = argW m c (ix2 (n0 := 4096) (n1 := 8192) n ⟨512 * (t.val % 16) + k.val, by omega⟩) := by
  rw [← w_entry]
  unfold iblk
  refine congrArg (V m c main_v4) ?_
  funext a; apply Fin.ext
  refine (Pipeline.Window.rect_emb_val win0_2 t (ix3 (n0 := 1) (n1 := 4096) (n2 := 512) 0 n k) a).trans ?_
  rw [index2 t]
  match a with
  | ⟨0, _⟩ => show 0 * 1 + 0 = 0; omega
  | ⟨1, _⟩ => show 0 * 4096 + n.val = n.val; omega
  | ⟨2, _⟩ => show (t.val % 16) * 512 + k.val = 512 * (t.val % 16) + k.val; omega

/-! ## The six results -/

/-- The two products. -/
def dotP (r : Fin 8192) (k : Fin 8192) : EReal :=
  ∑ n : Fin 4096, argP m c (ix3 (n0 := 4) (n1 := 2048) (n2 := 4096) ⟨r.val / 2048, by omega⟩ ⟨r.val % 2048, by omega⟩ n) * argW m c (ix2 (n0 := 4096) (n1 := 8192) n k)
def dotS (r : Fin 128) (k : Fin 8192) : EReal :=
  ∑ n : Fin 4096, argS m c (ix3 (n0 := 8) (n1 := 16) (n2 := 4096) ⟨r.val / 16, by omega⟩ ⟨r.val % 16, by omega⟩ n) * argW m c (ix2 (n0 := 4096) (n1 := 8192) n k)

def wholeP (y : S8192x8192.Idx) : EReal := dotP m c (y 0) (y 1)
def wholeS (y : S128x8192.Idx) : EReal := dotS m c (y 0) (y 1)
/-- The newest 512 rows of each sequence of 2048: the first half of the columns are the keys, the second the values. -/
def newestRow (r : Fin 2048) : Fin 8192 := ⟨2048 * (r.val / 512) + 1536 + r.val % 512, by omega⟩
def wholeK (y : S2048x4096.Idx) : EReal := dotP m c (newestRow (y 0)) ⟨(y 1).val, lt_trans (show (y 1).val < 4096 from (y 1).isLt) (by decide)⟩
def wholeV (y : S2048x4096.Idx) : EReal := dotP m c (newestRow (y 0)) ⟨4096 + (y 1).val, Nat.add_lt_add_left (show (y 1).val < 4096 from (y 1).isLt) 4096⟩
def wholeSK (y : S128x4096.Idx) : EReal := dotS m c (y 0) ⟨(y 1).val, lt_trans (show (y 1).val < 4096 from (y 1).isLt) (by decide)⟩
def wholeSV (y : S128x4096.Idx) : EReal := dotS m c (y 0) ⟨4096 + (y 1).val, Nat.add_lt_add_left (show (y 1).val < 4096 from (y 1).isLt) 4096⟩

theorem prodP (t : Fin cfg0.N) (r : Fin 2048) (k : Fin 512) :
    sumP (iblk m c 1 t) (iblk m c 2 t) r k
      = dotP m c ⟨2048 * (t.val / 16) + r.val, by have hN := lt_of_lt_of_eq t.isLt (show cfg0.N = 64 from N_0); omega⟩ ⟨512 * (t.val % 16) + k.val, by omega⟩ := by
  unfold sumP dotP
  exact Finset.sum_congr rfl fun n _ => congrArg₂ (fun a b : EReal => a * b) ((block1_entry m c t r n).trans (p_entry m c _ n)) (block2_entry m c t n k)

theorem prodS (t : Fin cfg0.N) (r : Fin 128) (k : Fin 512) :
    sumS (iblk m c 0 t) (iblk m c 2 t) r k
      = dotS m c r ⟨512 * (t.val % 16) + k.val, by omega⟩ := by
  unfold sumS dotS
  exact Finset.sum_congr rfl fun n _ => congrArg₂ (fun a b : EReal => a * b) (block0_entry m c t r n) (block2_entry m c t n k)

theorem index3 : ∀ t : Fin cfg0.N, win0_3.index t = ![t.val / 16, t.val % 16] := by decide +kernel
theorem index4 : ∀ t : Fin cfg0.N, 48 ≤ t.val → win0_4.index t = ![0, t.val % 16] := by decide +kernel
theorem index5 : ∀ t : Fin cfg0.N, win0_5.index t = ![t.val / 16, min (t.val % 16) 7] := by decide +kernel
theorem index6 : ∀ t : Fin cfg0.N, 8 ≤ t.val % 16 → win0_6.index t = ![t.val / 16, t.val % 16 - 8] := by decide +kernel
theorem index7 : ∀ t : Fin cfg0.N, 48 ≤ t.val → win0_7.index t = ![0, min (t.val % 16) 7] := by decide +kernel
theorem index8 : ∀ t : Fin cfg0.N, 48 ≤ t.val → win0_8.index t = ![0, t.val % 16 - 8] := by decide +kernel
theorem late7 : ∀ t : Fin cfg0.N, (cfg0.win 7).flush t = true → 48 ≤ t.val := by decide +kernel

theorem emb3 (t : Fin cfg0.N) (r : Fin 2048) (k : Fin 512) :
    (win0_3.blk t).view.emb (ix2 (n0 := 2048) (n1 := 512) r k) = ix2 (n0 := 8192) (n1 := 8192) ⟨2048 * (t.val / 16) + r.val, by have hN := lt_of_lt_of_eq t.isLt (show cfg0.N = 64 from N_0); omega⟩ ⟨512 * (t.val % 16) + k.val, by omega⟩ := by
  funext a; apply Fin.ext
  refine (Pipeline.Window.rect_emb_val win0_3 t (ix2 (n0 := 2048) (n1 := 512) r k) a).trans ?_
  rw [index3 t]
  match a with
  | ⟨0, _⟩ => show (t.val / 16) * 2048 + r.val = 2048 * (t.val / 16) + r.val; omega
  | ⟨1, _⟩ => show (t.val % 16) * 512 + k.val = 512 * (t.val % 16) + k.val; omega

theorem emb4 (t : Fin cfg0.N) (ht : 48 ≤ t.val) (r : Fin 128) (k : Fin 512) :
    (win0_4.blk t).view.emb (ix2 (n0 := 128) (n1 := 512) r k) = ix2 (n0 := 128) (n1 := 8192) ⟨128 * (0) + r.val, by have hN := lt_of_lt_of_eq t.isLt (show cfg0.N = 64 from N_0); omega⟩ ⟨512 * (t.val % 16) + k.val, by omega⟩ := by
  funext a; apply Fin.ext
  refine (Pipeline.Window.rect_emb_val win0_4 t (ix2 (n0 := 128) (n1 := 512) r k) a).trans ?_
  rw [index4 t ht]
  match a with
  | ⟨0, _⟩ => show (0) * 128 + r.val = 128 * (0) + r.val; omega
  | ⟨1, _⟩ => show (t.val % 16) * 512 + k.val = 512 * (t.val % 16) + k.val; omega

theorem emb5 (t : Fin cfg0.N) (r : Fin 512) (k : Fin 512) :
    (win0_5.blk t).view.emb (ix2 (n0 := 512) (n1 := 512) r k) = ix2 (n0 := 2048) (n1 := 4096) ⟨512 * (t.val / 16) + r.val, by have hN := lt_of_lt_of_eq t.isLt (show cfg0.N = 64 from N_0); omega⟩ ⟨512 * (min (t.val % 16) 7) + k.val, by omega⟩ := by
  funext a; apply Fin.ext
  refine (Pipeline.Window.rect_emb_val win0_5 t (ix2 (n0 := 512) (n1 := 512) r k) a).trans ?_
  rw [index5 t]
  match a with
  | ⟨0, _⟩ => show (t.val / 16) * 512 + r.val = 512 * (t.val / 16) + r.val; omega
  | ⟨1, _⟩ => show (min (t.val % 16) 7) * 512 + k.val = 512 * (min (t.val % 16) 7) + k.val; omega

theorem emb6 (t : Fin cfg0.N) (ht : 8 ≤ t.val % 16) (r : Fin 512) (k : Fin 512) :
    (win0_6.blk t).view.emb (ix2 (n0 := 512) (n1 := 512) r k) = ix2 (n0 := 2048) (n1 := 4096) ⟨512 * (t.val / 16) + r.val, by have hN := lt_of_lt_of_eq t.isLt (show cfg0.N = 64 from N_0); omega⟩ ⟨512 * (t.val % 16 - 8) + k.val, by omega⟩ := by
  funext a; apply Fin.ext
  refine (Pipeline.Window.rect_emb_val win0_6 t (ix2 (n0 := 512) (n1 := 512) r k) a).trans ?_
  rw [index6 t ht]
  match a with
  | ⟨0, _⟩ => show (t.val / 16) * 512 + r.val = 512 * (t.val / 16) + r.val; omega
  | ⟨1, _⟩ => show (t.val % 16 - 8) * 512 + k.val = 512 * (t.val % 16 - 8) + k.val; omega

theorem emb7 (t : Fin cfg0.N) (ht : 48 ≤ t.val) (r : Fin 128) (k : Fin 512) :
    (win0_7.blk t).view.emb (ix2 (n0 := 128) (n1 := 512) r k) = ix2 (n0 := 128) (n1 := 4096) ⟨128 * (0) + r.val, by have hN := lt_of_lt_of_eq t.isLt (show cfg0.N = 64 from N_0); omega⟩ ⟨512 * (min (t.val % 16) 7) + k.val, by omega⟩ := by
  funext a; apply Fin.ext
  refine (Pipeline.Window.rect_emb_val win0_7 t (ix2 (n0 := 128) (n1 := 512) r k) a).trans ?_
  rw [index7 t ht]
  match a with
  | ⟨0, _⟩ => show (0) * 128 + r.val = 128 * (0) + r.val; omega
  | ⟨1, _⟩ => show (min (t.val % 16) 7) * 512 + k.val = 512 * (min (t.val % 16) 7) + k.val; omega

theorem emb8 (t : Fin cfg0.N) (ht : 48 ≤ t.val) (r : Fin 128) (k : Fin 512) :
    (win0_8.blk t).view.emb (ix2 (n0 := 128) (n1 := 512) r k) = ix2 (n0 := 128) (n1 := 4096) ⟨128 * (0) + r.val, by have hN := lt_of_lt_of_eq t.isLt (show cfg0.N = 64 from N_0); omega⟩ ⟨512 * (t.val % 16 - 8) + k.val, by omega⟩ := by
  funext a; apply Fin.ext
  refine (Pipeline.Window.rect_emb_val win0_8 t (ix2 (n0 := 128) (n1 := 512) r k) a).trans ?_
  rw [index8 t ht]
  match a with
  | ⟨0, _⟩ => show (0) * 128 + r.val = 128 * (0) + r.val; omega
  | ⟨1, _⟩ => show (t.val % 16 - 8) * 512 + k.val = 512 * (t.val % 16 - 8) + k.val; omega

theorem arr3 : (dats m 0 c).arrAt 3 cfg0.N = wholeP m c := by
  refine (dats m 0 c).arrAt_eq_of_covers 3 _ (by decide +kernel) fun t hf y => ?_
  have hN := lt_of_lt_of_eq t.isLt (show cfg0.N = 64 from N_0)
  have e : y = ix2 (n0 := 2048) (n1 := 512) ⟨(y 0).val, (y 0).isLt⟩ ⟨(y 1).val, (y 1).isLt⟩ := eq_ix2 y
  have hr : (y 0).val < 2048 := (y 0).isLt
  have hk : (y 1).val < 512 := (y 1).isLt
  rw [after3, e]
  refine Eq.trans ?_ (congrArg (wholeP m c) (emb3 t ⟨(y 0).val, (y 0).isLt⟩ ⟨(y 1).val, (y 1).isLt⟩).symm)
  exact (blockP_entry _ _ _ _).trans (prodP m c t _ _)

theorem arr4 : (dats m 0 c).arrAt 4 cfg0.N = wholeS m c := by
  refine (dats m 0 c).arrAt_eq_of_covers 4 _ (by decide +kernel) fun t hf y => ?_
  have hN := lt_of_lt_of_eq t.isLt (show cfg0.N = 64 from N_0)
  have ht : 48 ≤ t.val := flushed4 t hf
  have e : y = ix2 (n0 := 128) (n1 := 512) ⟨(y 0).val, (y 0).isLt⟩ ⟨(y 1).val, (y 1).isLt⟩ := eq_ix2 y
  have hr : (y 0).val < 128 := (y 0).isLt
  have hk : (y 1).val < 512 := (y 1).isLt
  rw [after4, e]
  refine Eq.trans ?_ (congrArg (wholeS m c) (emb4 t ht ⟨(y 0).val, (y 0).isLt⟩ ⟨(y 1).val, (y 1).isLt⟩).symm)
  refine (samp_entry _ _ _ _).trans ((prodS m c t _ _).trans ?_)
  refine congrArg₂ (dotS m c) (Fin.ext ?_) (Fin.ext ?_)
  · show (y 0).val = 128 * 0 + (y 0).val; omega
  · show 512 * (t.val % 16) + (y 1).val = 512 * (t.val % 16) + (y 1).val; rfl

theorem arr5 : (dats m 0 c).arrAt 5 cfg0.N = wholeK m c := by
  refine (dats m 0 c).arrAt_eq_of_covers 5 _ (by decide +kernel) fun t hf y => ?_
  have hN := lt_of_lt_of_eq t.isLt (show cfg0.N = 64 from N_0)
  have e : y = ix2 (n0 := 512) (n1 := 512) ⟨(y 0).val, (y 0).isLt⟩ ⟨(y 1).val, (y 1).isLt⟩ := eq_ix2 y
  have hr : (y 0).val < 512 := (y 0).isLt
  have hk : (y 1).val < 512 := (y 1).isLt
  rw [after5, e]
  refine Eq.trans ?_ (congrArg (wholeK m c) (emb5 t ⟨(y 0).val, (y 0).isLt⟩ ⟨(y 1).val, (y 1).isLt⟩).symm)
  refine (newest_entry _ _ _ _).trans ((prodP m c (pt (16 * (t.val / 16) + min (t.val % 16) 7)) _ _).trans ?_)
  unfold wholeK
  refine congrArg₂ (dotP m c) (Fin.ext ?_) (Fin.ext ?_)
  · show 2048 * ((16 * (t.val / 16) + min (t.val % 16) 7) % 64 / 16) + (1536 + (y 0).val) = 2048 * ((512 * (t.val / 16) + (y 0).val) / 512) + 1536 + (512 * (t.val / 16) + (y 0).val) % 512
    omega
  · show 512 * ((16 * (t.val / 16) + min (t.val % 16) 7) % 64 % 16) + (y 1).val = 512 * (min (t.val % 16) 7) + (y 1).val
    omega

theorem arr6 : (dats m 0 c).arrAt 6 cfg0.N = wholeV m c := by
  refine (dats m 0 c).arrAt_eq_of_covers 6 _ (by decide +kernel) fun t hf y => ?_
  have hN := lt_of_lt_of_eq t.isLt (show cfg0.N = 64 from N_0)
  have ht : 8 ≤ t.val % 16 := flushed6 t hf
  have e : y = ix2 (n0 := 512) (n1 := 512) ⟨(y 0).val, (y 0).isLt⟩ ⟨(y 1).val, (y 1).isLt⟩ := eq_ix2 y
  have hr : (y 0).val < 512 := (y 0).isLt
  have hk : (y 1).val < 512 := (y 1).isLt
  rw [after6, e]
  refine Eq.trans ?_ (congrArg (wholeV m c) (emb6 t ht ⟨(y 0).val, (y 0).isLt⟩ ⟨(y 1).val, (y 1).isLt⟩).symm)
  unfold newestAt
  rw [pt_val]
  refine (newest_entry _ _ _ _).trans ((prodP m c t _ _).trans ?_)
  unfold wholeV
  refine congrArg₂ (dotP m c) (Fin.ext ?_) (Fin.ext ?_)
  · show 2048 * (t.val / 16) + (1536 + (y 0).val) = 2048 * ((512 * (t.val / 16) + (y 0).val) / 512) + 1536 + (512 * (t.val / 16) + (y 0).val) % 512
    omega
  · show 512 * (t.val % 16) + (y 1).val = 4096 + (512 * (t.val % 16 - 8) + (y 1).val)
    omega

theorem arr7 : (dats m 0 c).arrAt 7 cfg0.N = wholeSK m c := by
  refine (dats m 0 c).arrAt_eq_of_covers 7 _ (by decide +kernel) fun t hf y => ?_
  have hN := lt_of_lt_of_eq t.isLt (show cfg0.N = 64 from N_0)
  have ht : 48 ≤ t.val := late7 t hf
  have e : y = ix2 (n0 := 128) (n1 := 512) ⟨(y 0).val, (y 0).isLt⟩ ⟨(y 1).val, (y 1).isLt⟩ := eq_ix2 y
  have hr : (y 0).val < 128 := (y 0).isLt
  have hk : (y 1).val < 512 := (y 1).isLt
  rw [after7, e]
  refine Eq.trans ?_ (congrArg (wholeSK m c) (emb7 t ht ⟨(y 0).val, (y 0).isLt⟩ ⟨(y 1).val, (y 1).isLt⟩).symm)
  refine (samp_entry _ _ _ _).trans ((prodS m c (pt (48 + min (t.val - 48) 7)) _ _).trans ?_)
  unfold wholeSK
  refine congrArg₂ (dotS m c) (Fin.ext ?_) (Fin.ext ?_)
  · show (y 0).val = 128 * 0 + (y 0).val; omega
  · show 512 * ((48 + min (t.val - 48) 7) % 64 % 16) + (y 1).val = 512 * (min (t.val % 16) 7) + (y 1).val
    omega

theorem arr8 : (dats m 0 c).arrAt 8 cfg0.N = wholeSV m c := by
  refine (dats m 0 c).arrAt_eq_of_covers 8 _ (by decide +kernel) fun t hf y => ?_
  have hN := lt_of_lt_of_eq t.isLt (show cfg0.N = 64 from N_0)
  have h8 := flushed8 t hf
  have ht : 48 ≤ t.val := h8.1
  have e : y = ix2 (n0 := 128) (n1 := 512) ⟨(y 0).val, (y 0).isLt⟩ ⟨(y 1).val, (y 1).isLt⟩ := eq_ix2 y
  have hr : (y 0).val < 128 := (y 0).isLt
  have hk : (y 1).val < 512 := (y 1).isLt
  rw [after8, e]
  refine Eq.trans ?_ (congrArg (wholeSV m c) (emb8 t ht ⟨(y 0).val, (y 0).isLt⟩ ⟨(y 1).val, (y 1).isLt⟩).symm)
  unfold sampAt
  rw [pt_val]
  refine (samp_entry _ _ _ _).trans ((prodS m c t _ _).trans ?_)
  unfold wholeSV
  refine congrArg₂ (dotS m c) (Fin.ext ?_) (Fin.ext ?_)
  · show (y 0).val = 128 * 0 + (y 0).val; omega
  · show 512 * (t.val % 16) + (y 1).val = 4096 + (512 * (t.val % 16 - 8) + (y 1).val)
    omega

end Cert.KvIdeal.Val

end
-- ==== Proof.RefKvIdeal.Ref.lean ====
module

public import proofs.«01_k».proof.Proof.Gen.RefKvIdeal
public import proofs.«01_k».proof.Proof.Gen.RefKvIdeal.Run
public import Idealize.ShloMosaic.Lib.ValueIdxCore
public import Idealize.ShloMosaic.Lib.ValueLayout
public import Idealize.ShloMosaic.Lib.ValueLayoutCasts
public import Idealize.ShloMosaic.Lib.Pointwise
public import Idealize.ShloMosaic.Lib.Claim
public import Idealize.ShloMosaic.PureOps.Ideal
public import Idealize.ShloMosaic.PureOps.Ideal.Laws

@[expose] public section

set_option maxRecDepth 16384

noncomputable section

namespace Cert.RefKvIdeal.Val

open Cert.RefKvIdeal Cert.RefKvIdeal.Gen
open Idealize.ShloMosaic Idealize.ShloMosaic.TcCoe Idealize.ShloMosaic.Tactic

variable (p : FVec Ideal S4x2048x4096 .f32) (s : FVec Ideal S8x16x4096 .f32) (w : FVec Ideal S4096x8192 .f32)

/-- The two products, entry by entry. -/
def dotP (r : Fin 8192) (k : Fin 8192) : EReal :=
  ∑ n : Fin 4096, p (ix3 (n0 := 4) (n1 := 2048) (n2 := 4096) ⟨r.val / 2048, by omega⟩ ⟨r.val % 2048, by omega⟩ n) * w (ix2 (n0 := 4096) (n1 := 8192) n k)
def dotS (r : Fin 128) (k : Fin 8192) : EReal :=
  ∑ n : Fin 4096, s (ix3 (n0 := 8) (n1 := 16) (n2 := 4096) ⟨r.val / 16, by omega⟩ ⟨r.val % 16, by omega⟩ n) * w (ix2 (n0 := 4096) (n1 := 8192) n k)

/-- The reference's six results. -/
def resultP : FVec Ideal S8192x8192 .bf16 := shapeCast _ (truncf .bf16 (Host.dotGeneral dot_S4x2048x4096_S4096x8192_S4x2048x8192_2_0_01_1_n_n none p w) bitsLt_bf16_f32) shapeCasts_S4x2048x8192_S8192x8192
def resultS : FVec Ideal S128x8192 .bf16 := shapeCast _ (truncf .bf16 (Host.dotGeneral dot_S8x16x4096_S4096x8192_S8x16x8192_2_0_01_1_n_n none s w) bitsLt_bf16_f32) shapeCasts_S8x16x8192_S128x8192
def resultK : FVec Ideal S2048x4096 .f32 :=
  shapeCast _ (extractStridedSlice S4x512x4096 ![0, 1536, 0] (extractStridedSlice S4x2048x4096 ![0, 0, 0] (Host.dotGeneral dot_S4x2048x4096_S4096x8192_S4x2048x8192_2_0_01_1_n_n none p w) slices_S4x2048x8192_S4x2048x4096_0_0_0) slices_S4x2048x4096_S4x512x4096_0_1536_0) shapeCasts_S4x512x4096_S2048x4096
def resultV : FVec Ideal S2048x4096 .f32 :=
  shapeCast _ (extractStridedSlice S4x512x4096 ![0, 1536, 0] (extractStridedSlice S4x2048x4096 ![0, 0, 4096] (Host.dotGeneral dot_S4x2048x4096_S4096x8192_S4x2048x8192_2_0_01_1_n_n none p w) slices_S4x2048x8192_S4x2048x4096_0_0_4096) slices_S4x2048x4096_S4x512x4096_0_1536_0) shapeCasts_S4x512x4096_S2048x4096
def resultSK : FVec Ideal S128x4096 .f32 :=
  shapeCast _ (extractStridedSlice S8x16x4096 ![0, 0, 0] (Host.dotGeneral dot_S8x16x4096_S4096x8192_S8x16x8192_2_0_01_1_n_n none s w) slices_S8x16x8192_S8x16x4096_0_0_0) shapeCasts_S8x16x4096_S128x4096
def resultSV : FVec Ideal S128x4096 .f32 :=
  shapeCast _ (extractStridedSlice S8x16x4096 ![0, 0, 4096] (Host.dotGeneral dot_S8x16x4096_S4096x8192_S8x16x8192_2_0_01_1_n_n none s w) slices_S8x16x8192_S8x16x4096_0_0_4096) shapeCasts_S8x16x4096_S128x4096

theorem resultP_entry (r : Fin 8192) (k : Fin 8192) : resultP p w (ix2 r k) = dotP p w r k := by
  unfold resultP dotP
  pointwise

theorem resultS_entry (r : Fin 128) (k : Fin 8192) : resultS s w (ix2 r k) = dotS s w r k := by
  unfold resultS dotS
  pointwise

/-- Row `r` of the newest rows of the four sequences. -/
theorem newest_eq (r : Fin 2048) (k : Fin 8192) : (∑ n : Fin 4096, p (ix3 (n0 := 4) (n1 := 2048) (n2 := 4096) ⟨r.val / 512, by omega⟩ ⟨1536 + r.val % 512, by omega⟩ n) * w (ix2 (n0 := 4096) (n1 := 8192) n k) : EReal)
    = dotP p w ⟨2048 * (r.val / 512) + 1536 + r.val % 512, by omega⟩ k := by
  unfold dotP
  refine Finset.sum_congr rfl fun n _ => congrArg (fun a : EReal => a * w (ix2 (n0 := 4096) (n1 := 8192) n k)) (congrArg p ?_)
  have e0 : (2048 * (r.val / 512) + 1536 + r.val % 512) / 2048 = r.val / 512 := by omega
  have e1 : (2048 * (r.val / 512) + 1536 + r.val % 512) % 2048 = 1536 + r.val % 512 := by omega
  funext a; apply Fin.ext
  match a with
  | ⟨0, _⟩ => exact e0.symm
  | ⟨1, _⟩ => exact e1.symm
  | ⟨2, _⟩ => rfl

theorem resultK_entry (r : Fin 2048) (k : Fin 4096) : resultK p w (ix2 r k) = dotP p w ⟨2048 * (r.val / 512) + 1536 + r.val % 512, by omega⟩ ⟨k.val, by omega⟩ := by
  rw [← newest_eq]
  unfold resultK
  pointwise

theorem resultV_entry (r : Fin 2048) (k : Fin 4096) : resultV p w (ix2 r k) = dotP p w ⟨2048 * (r.val / 512) + 1536 + r.val % 512, by omega⟩ ⟨4096 + k.val, by omega⟩ := by
  rw [← newest_eq]
  unfold resultV
  pointwise

theorem resultSK_entry (r : Fin 128) (k : Fin 4096) : resultSK s w (ix2 r k) = dotS s w r ⟨k.val, by omega⟩ := by
  unfold resultSK dotS
  pointwise

theorem resultSV_entry (r : Fin 128) (k : Fin 4096) : resultSV s w (ix2 r k) = dotS s w r ⟨4096 + k.val, by omega⟩ := by
  unfold resultSV dotS
  pointwise

/-- The reference has no semaphore. -/
theorem no_sem (f : GSem nD τ sig → Int) : f = fun _ => 0 := by
  funext g
  obtain ⟨t, s⟩ := g
  cases s with
  | reg s => exact absurd s.isLt (Nat.not_lt_zero _)
  | dma s => exact absurd s.isLt (Nat.not_lt_zero _)

end Cert.RefKvIdeal.Val

end
-- ==== Proof.KvIdeal.Values.lean ====
/- The claims about the shared keys and values. -/
module

public import proofs.«01_k».proof.Defs
public import proofs.«01_k».proof.Proof.Gen.Kv
public import proofs.«01_k».proof.Proof.Gen.KvIdeal
public import proofs.«01_k».proof.Proof.Gen.RefKvIdeal
public import proofs.«01_k».proof.Proof.KvIdeal.Out
public import proofs.«01_k».proof.Proof.RefKvIdeal.Ref
public import Idealize.ShloMosaic.Adequacy
public import Idealize.ShloMosaic.Init

@[expose] public section

noncomputable section

namespace Cert.KvIdeal.Val

open Idealize.ShloMosaic Idealize.SL.Sem

/-- The two programs have the same text, so the same body table at the same float values. -/
theorem bodies_eq : @Cert.Kv.defs₀ Bits _ _ = @Cert.KvIdeal.defs₀ Bits _ _ := by
  unfold Cert.Kv.defs₀ Cert.KvIdeal.defs₀
  refine congrArg Defs.onTc ?_
  funext l x
  match l, x with
  | 0, (t, s) => rfl
  | ⟨_ + 1, h⟩, _ => exact absurd h (Nat.not_lt.2 (Nat.le_add_left _ _))

theorem defs_eq : @Cert.Kv.defs Bits _ _ = @Cert.KvIdeal.defs Bits _ _ := congrArg (Pipeline.defs _) bodies_eq

theorem frame_kernel : Cert.quiescent_Kv (hKv := Cert.Kv.Gen.facts) := fun m g _ => by
  have h := Cert.KvIdeal.Acc.frame (F := Bits) m g
  rw [← defs_eq] at h
  exact h

theorem frame_reference : Cert.quiescent_RefKvIdeal (hRefKvIdeal := Cert.RefKvIdeal.Gen.facts) := fun m g _ =>
  (θ_run _ _ _).mono (fun r h => ⟨fun c => (h c).2.2.2.2.2.2, Cert.RefKvIdeal.Val.no_sem _⟩) (Cert.RefKvIdeal.Value.run (F := Ideal) m g)

/-- The kernel and the reference leave the same six arrays. -/
theorem values : Cert.algebraic_KvIdeal_RefKvIdeal (hKvIdeal := Cert.KvIdeal.Gen.facts) (hRefKvIdeal := Cert.RefKvIdeal.Gen.facts) := by
  intro m g m' g' _ hagree
  refine ⟨fun c => wholeP m c, fun c => wholeS m c, fun c => wholeK m c, fun c => wholeV m c, fun c => wholeSK m c, fun c => wholeSV m c, ?_, ?_⟩
  · refine (θ_run _ _ _).mono (fun r h c => ?_) (θ_run_and (Cert.KvIdeal.Acc.run_main (F := Ideal) m g) (Cert.KvIdeal.Acc.frame (F := Ideal) m g))
    exact ⟨((h.1.1 c).1 3).trans (arr3 m c), ((h.1.1 c).1 4).trans (arr4 m c), ((h.1.1 c).1 5).trans (arr5 m c), ((h.1.1 c).1 6).trans (arr6 m c),
      ((h.1.1 c).1 7).trans (arr7 m c), ((h.1.1 c).1 8).trans (arr8 m c), h.2.1 c⟩
  · refine (θ_run _ _ _).mono (fun r h c => ⟨((h c).1).trans ?_, ((h c).2.1).trans ?_, ((h c).2.2.1).trans ?_, ((h c).2.2.2.1).trans ?_, ((h c).2.2.2.2.1).trans ?_, ((h c).2.2.2.2.2.1).trans ?_, (h c).2.2.2.2.2.2⟩) (Cert.RefKvIdeal.Value.run (F := Ideal) m' g')
    · rw [(hagree c).1, (hagree c).2.2]
      funext y
      rw [eq_ix2 y]
      exact Cert.RefKvIdeal.Val.resultP_entry (argP m c) (argW m c) (y 0) (y 1)
    · rw [(hagree c).2.1, (hagree c).2.2]
      funext y
      rw [eq_ix2 y]
      exact Cert.RefKvIdeal.Val.resultS_entry (argS m c) (argW m c) (y 0) (y 1)
    · rw [(hagree c).1, (hagree c).2.2]
      funext y
      rw [eq_ix2 y]
      exact Cert.RefKvIdeal.Val.resultK_entry (argP m c) (argW m c) (y 0) (y 1)
    · rw [(hagree c).1, (hagree c).2.2]
      funext y
      rw [eq_ix2 y]
      exact Cert.RefKvIdeal.Val.resultV_entry (argP m c) (argW m c) (y 0) (y 1)
    · rw [(hagree c).2.1, (hagree c).2.2]
      funext y
      rw [eq_ix2 y]
      exact Cert.RefKvIdeal.Val.resultSK_entry (argS m c) (argW m c) (y 0) (y 1)
    · rw [(hagree c).2.1, (hagree c).2.2]
      funext y
      rw [eq_ix2 y]
      exact Cert.RefKvIdeal.Val.resultSV_entry (argS m c) (argW m c) (y 0) (y 1)

end Cert.KvIdeal.Val

end
-- ==== Proof.QueryIdeal.Step.lean ====
module

public import proofs.«01_k».proof.Proof.Gen.QueryIdeal.Value
public import Idealize.ShloMosaic.Lib.ValueIdxCore
public import Idealize.ShloMosaic.Lib.ValueLayout
public import Idealize.ShloMosaic.Lib.ValueLayoutCasts
public import Idealize.ShloMosaic.Lib.Pointwise
public import Idealize.ShloMosaic.Lib.Claim
public import Idealize.ShloMosaic.Lib.StableHlo.RunRead
public import Idealize.ShloMosaic.Lib.Pipeline.ValueKit.Geometry
public import Idealize.ShloMosaic.Lib.VecWindow
public import Idealize.ShloMosaic.PureOps.Ideal
public import Idealize.ShloMosaic.PureOps.Ideal.Laws

@[expose] public section

set_option maxRecDepth 16384

noncomputable section

namespace Cert.QueryIdeal.Val

open Cert.QueryIdeal Cert.QueryIdeal.Gen
open Idealize.ShloMosaic Idealize.ShloMosaic.TcCoe Idealize.ShloMosaic.Tactic
open Idealize.ShloMosaic.Pipeline (Dat Cfg Window)
open Idealize.SL.Sem

/-- The scale on the queries, for scores in powers of two. -/
def unit : EReal := (((Real.sqrt 128 * Real.log 2)⁻¹ : ℝ) : EReal)

theorem unit_eq : (Named.named κ "qscale" 0x3E0293EE#32 : Ideal .f32) = unit := rfl

/-- The scaled product of a block of the prompt's rows, and of the sample's, with a block of the weights' columns. -/
def prodP (x1 : Vec Ideal S2048x4096 .bf16) (x2 : Vec Ideal S1x4096x512 .f32) : Vec Ideal S2048x512 .bf16 := fun y =>
  (∑ n : Fin 4096, x1 (ix2 (n0 := 2048) (n1 := 4096) (y 0) n) * x2 (ix3 (n0 := 1) (n1 := 4096) (n2 := 512) 0 n (y 1)) : EReal) * unit
def prodS (x0 : Vec Ideal S128x4096 .bf16) (x2 : Vec Ideal S1x4096x512 .f32) : Vec Ideal S128x512 .bf16 := fun y =>
  (∑ n : Fin 4096, x0 (ix2 (n0 := 128) (n1 := 4096) (y 0) n) * x2 (ix3 (n0 := 1) (n1 := 4096) (n2 := 512) 0 n (y 1)) : EReal) * unit

theorem pay3_entry (x2 : Vec Ideal S1x4096x512 .f32) (v : Vec Ideal S512x4096 .bf16) (r : Fin 512) (k : Fin 512) :
    k0_pay3 (F := Ideal) x2 v (ix2 r k) = (∑ n : Fin 4096, v (ix2 (n0 := 512) (n1 := 4096) r n) * x2 (ix3 (n0 := 1) (n1 := 4096) (n2 := 512) 0 n k) : EReal) * unit := by
  unfold k0_pay3 k0_pay2
  pointwise [unit_eq]

theorem pay1_entry (x2 : Vec Ideal S1x4096x512 .f32) (v : Vec Ideal S128x4096 .bf16) (r : Fin 128) (k : Fin 512) :
    k0_pay1 (F := Ideal) (k0_pay2 (F := Ideal) x2) v (ix2 r k) = (∑ n : Fin 4096, v (ix2 (n0 := 128) (n1 := 4096) r n) * x2 (ix3 (n0 := 1) (n1 := 4096) (n2 := 512) 0 n k) : EReal) * unit := by
  unfold k0_pay1 k0_pay2
  pointwise [unit_eq]

theorem whole {S : Shape} {e : EltTy} {m : Memref sig .tc .vmem S e} (hm : m.IsWhole) (x : Vec Ideal S e) (off : Fin S.rank → ℕ) (h0 : off = fun _ => 0)
    (h : ∀ a, off a + S.size a ≤ S.size a) : View.readAt (Elt Ideal) m.view (Rect.unit (s := S) off S.size h).toLoadRect (hm.unread x) = x := by
  rw [View.readAt_eq_ld, hm.read_unread]
  exact View.ld_unit_zero h0 h x

theorem zero2 : (![0, 0] : Fin 2 → ℕ) = fun _ => 0 := by funext a; fin_cases a <;> rfl
theorem zero3 : (![0, 0, 0] : Fin 3 → ℕ) = fun _ => 0 := by funext a; fin_cases a <;> rfl

/-- What one chunk of rows is stored at. -/
theorem chunk {m3 : Memref sig .tc .vmem S2048x4096 .bf16} (h3 : m3.IsWhole) {m4 : Memref sig .tc .vmem S1x4096x512 .f32} (h4 : m4.IsWhole)
    (x1 : Vec Ideal S2048x4096 .bf16) (x2 : Vec Ideal S1x4096x512 .f32) (o : ℕ) (ho : o + 512 ≤ 2048)
    (hw : ∀ a, (![0, 0, 0] : Fin 3 → ℕ) a + S1x4096x512.size a ≤ S1x4096x512.size a) (hr : ∀ a, (![o, 0] : Fin 2 → ℕ) a + S512x4096.size a ≤ S2048x4096.size a)
    (hs : ∀ a, (![o, 0] : Fin 2 → ℕ) a + S512x512.size a ≤ S2048x512.size a) (x : S512x512.Idx) :
    k0_pay3 (F := Ideal) (View.readAt (Elt Ideal) m4.view (Rect.unit (s := S1x4096x512) ![0, 0, 0] S1x4096x512.size hw).toLoadRect (h4.unread x2))
        (View.readAt (Elt Ideal) m3.view (Rect.unit (s := S2048x4096) ![o, 0] S512x4096.size hr).toLoadRect (h3.unread x1)) x
      = prodP x1 x2 ((Rect.unit (s := S2048x512) ![o, 0] S512x512.size hs).emb x) := by
  rw [whole h4 x2 _ zero3, View.readAt_eq_ld, h3.read_unread]
  have e : x = ix2 (n0 := 512) (n1 := 512) (x 0) (x 1) := eq_ix2 x
  rw [e]
  refine (pay3_entry x2 _ (x 0) (x 1)).trans ?_
  unfold prodP
  refine congrArg (fun a : EReal => a * unit) (Finset.sum_congr rfl fun n _ => congrArg₂ (fun a b : EReal => a * b) (congrArg x1 ?_) (congrArg x2 ?_))
  · funext a; apply Fin.ext
    match a with
    | ⟨0, _⟩ => rfl
    | ⟨1, _⟩ => show 0 + 1 * n.val = n.val; omega
  · funext a; apply Fin.ext
    match a with
    | ⟨0, _⟩ => rfl
    | ⟨1, _⟩ => rfl
    | ⟨2, _⟩ => show (x 1).val = 0 + 1 * (x 1).val; omega

section
variable (c : Dev nD) (i : grid0.Coords) (arg2 : Memref sig .tc .vmem S128x4096 .bf16) (harg2 : arg2.IsWhole) (arg3 : Memref sig .tc .vmem S2048x4096 .bf16) (harg3 : arg3.IsWhole) (arg4 : Memref sig .tc .vmem S1x4096x512 .f32) (harg4 : arg4.IsWhole) (arg5 : Memref sig .tc .vmem S2048x512 .bf16) (harg5 : arg5.IsWhole) (arg6 : Memref sig .tc .vmem S128x512 .bf16) (harg6 : arg6.IsWhole)
  (x0 : Vec Ideal S128x4096 .bf16) (x1 : Vec Ideal S2048x4096 .bf16) (x2 : Vec Ideal S1x4096x512 .f32)

theorem outA (hc : ¬cond0_0 i) : out0_A_3 (F := Ideal) c i arg2 harg2 arg3 harg3 arg4 harg4 arg5 harg5 arg6 harg6 hc x0 x1 x2 = prodP x1 x2 := by
  unfold out0_A_3
  funext y
  refine View.read_writes_apply_of_pieces _ _ (prodP x1 x2) _ ?_ y (cover0_A_3 c i arg2 harg2 arg3 harg3 arg4 harg4 arg5 harg5 arg6 harg6 hc x0 x1 x2 y)
  exact List.forall_mem_cons.2 ⟨fun x => chunk harg3 harg4 x1 x2 1536 (by omega) _ _ inb_S2048x512_S512x512_1536_0 x, List.forall_mem_cons.2 ⟨fun x => chunk harg3 harg4 x1 x2 1024 (by omega) _ _ inb_S2048x512_S512x512_1024_0 x,
    List.forall_mem_cons.2 ⟨fun x => chunk harg3 harg4 x1 x2 512 (by omega) _ _ inb_S2048x512_S512x512_512_0 x, List.forall_mem_cons.2 ⟨fun x => chunk harg3 harg4 x1 x2 0 (by omega) _ _ inb_S2048x512_S512x512_0_0 x, List.forall_mem_nil _⟩⟩⟩⟩

theorem outB (hc : cond0_0 i) : out0_B_3 (F := Ideal) c i arg2 harg2 arg3 harg3 arg4 harg4 arg5 harg5 arg6 harg6 hc x0 x1 x2 = prodP x1 x2 := by
  unfold out0_B_3
  funext y
  refine View.read_writes_apply_of_pieces _ _ (prodP x1 x2) _ ?_ y (cover0_B_3 c i arg2 harg2 arg3 harg3 arg4 harg4 arg5 harg5 arg6 harg6 hc x0 x1 x2 y)
  exact List.forall_mem_cons.2 ⟨fun x => chunk harg3 harg4 x1 x2 1536 (by omega) _ _ inb_S2048x512_S512x512_1536_0 x, List.forall_mem_cons.2 ⟨fun x => chunk harg3 harg4 x1 x2 1024 (by omega) _ _ inb_S2048x512_S512x512_1024_0 x,
    List.forall_mem_cons.2 ⟨fun x => chunk harg3 harg4 x1 x2 512 (by omega) _ _ inb_S2048x512_S512x512_512_0 x, List.forall_mem_cons.2 ⟨fun x => chunk harg3 harg4 x1 x2 0 (by omega) _ _ inb_S2048x512_S512x512_0_0 x, List.forall_mem_nil _⟩⟩⟩⟩

theorem outB_sample (hc : cond0_0 i) : out0_B_4 (F := Ideal) c i arg2 harg2 arg3 harg3 arg4 harg4 arg5 harg5 arg6 harg6 hc x0 x1 x2 = prodS x0 x2 := by
  unfold out0_B_4
  refine (View.read_writes_full _ _ _ _ _).trans ?_
  show k0_pay1 (F := Ideal) (k0_pay2 (F := Ideal) (View.readAt (Elt Ideal) arg4.view (Rect.unit (s := S1x4096x512) ![0, 0, 0] S1x4096x512.size _).toLoadRect (harg4.unread x2)))
    (View.readAt (Elt Ideal) arg2.view (Rect.unit (s := S128x4096) ![0, 0] S128x4096.size _).toLoadRect (harg2.unread x0)) = _
  rw [whole harg4 x2 _ zero3, whole harg2 x0 _ zero2]
  funext y
  have e : y = ix2 (n0 := 128) (n1 := 512) (y 0) (y 1) := eq_ix2 y
  rw [e]
  exact pay1_entry x2 x0 (y 0) (y 1)
end

end Cert.QueryIdeal.Val

end
-- ==== Proof.QueryIdeal.Out.lean ====
module

public import proofs.«01_k».proof.Proof.QueryIdeal.Step
public import Idealize.ShloMosaic.Lib.ValueIdxCore
public import Idealize.ShloMosaic.Lib.ValueLayout
public import Idealize.ShloMosaic.Lib.ValueLayoutCasts
public import Idealize.ShloMosaic.Lib.Pointwise
public import Idealize.ShloMosaic.Lib.Claim
public import Idealize.ShloMosaic.Lib.StableHlo.RunRead
public import Idealize.ShloMosaic.Lib.Pipeline.ValueKit.Geometry
public import Idealize.ShloMosaic.Lib.VecWindow
public import Idealize.ShloMosaic.PureOps.Ideal
public import Idealize.ShloMosaic.PureOps.Ideal.Laws

@[expose] public section

set_option maxRecDepth 16384

noncomputable section

namespace Cert.QueryIdeal.Val

open Cert.QueryIdeal Cert.QueryIdeal.Gen
open Idealize.ShloMosaic Idealize.ShloMosaic.TcCoe Idealize.ShloMosaic.Tactic
open Idealize.ShloMosaic.Pipeline (Dat Cfg Window)
open Idealize.SL.Sem

variable (m : (ℓ : Loc nD τ sig) → Buf (Elt Ideal) ℓ) (c : Dev nD)

/-- A host operation line before the call, as one list. -/
theorem v_eq (r : Ref sig .tc) : V (F := Ideal) m c r = StableHlo.after hostOps0 (fun b => m (c, b)) (Proc.devRef .tc r) := rfl

/-- The prompt's normed rows, the sample's, and the weights, as given to the program. -/
def argP : FVec Ideal S4x2048x4096 .f32 := m ((c.tc : Thread nD τ).loc main_arg0)
def argS : FVec Ideal S8x16x4096 .f32 := m ((c.tc : Thread nD τ).loc main_arg1)
def argW : FVec Ideal S2x4096x4096 .f32 := m ((c.tc : Thread nD τ).loc main_arg2)

/-- The rows the call takes, and its weights. -/
theorem p_entry (r : Fin 8192) (n : Fin 4096) :
    (V (F := Ideal) m c main_v1 : FVec Ideal S8192x4096 .bf16) (ix2 r n) = argP m c (ix3 (n0 := 4) (n1 := 2048) (n2 := 4096) ⟨r.val / 2048, by omega⟩ ⟨r.val % 2048, by omega⟩ n) := by
  rw [v_eq]
  after_reads_simp
  pointwise
  rfl

theorem s_entry (r : Fin 128) (n : Fin 4096) :
    (V (F := Ideal) m c main_v3 : FVec Ideal S128x4096 .bf16) (ix2 r n) = argS m c (ix3 (n0 := 8) (n1 := 16) (n2 := 4096) ⟨r.val / 16, by omega⟩ ⟨r.val % 16, by omega⟩ n) := by
  rw [v_eq]
  after_reads_simp
  pointwise
  rfl

theorem w_entry (l : Fin 2) (n : Fin 4096) (k : Fin 4096) :
    (V (F := Ideal) m c main_arg2 : FVec Ideal S2x4096x4096 .f32) (ix3 l n k) = argW m c (ix3 l n k) := by
  rw [V_main_arg2]; rfl

theorem index0 : ∀ t : Fin cfg0.N, win0_0.index t = ![0, 0] := by decide +kernel
theorem block0_entry (t : Fin cfg0.N) (r : Fin 128) (n : Fin 4096) :
    (iblk m c 0 t : Vec Ideal S128x4096 .bf16) (ix2 r n) = argS m c (ix3 (n0 := 8) (n1 := 16) (n2 := 4096) ⟨r.val / 16, by omega⟩ ⟨r.val % 16, by omega⟩ n) := by
  rw [← s_entry]
  unfold iblk
  refine congrArg (V m c main_v3) ?_
  funext a; apply Fin.ext
  refine (Pipeline.Window.rect_emb_val win0_0 t (ix2 (n0 := 128) (n1 := 4096) r n) a).trans ?_
  rw [index0 t]
  match a with
  | ⟨0, _⟩ => show 0 * 128 + r.val = r.val; omega
  | ⟨1, _⟩ => show 0 * 4096 + n.val = n.val; omega

theorem index1 : ∀ t : Fin cfg0.N, win0_1.index t = ![t.val / 8, 0] := by decide +kernel
theorem block1_entry (t : Fin cfg0.N) (r : Fin 2048) (n : Fin 4096) :
    (iblk m c 1 t : Vec Ideal S2048x4096 .bf16) (ix2 r n) = (V (F := Ideal) m c main_v1 : FVec Ideal S8192x4096 .bf16) (ix2 (n0 := 8192) (n1 := 4096) ⟨2048 * (t.val / 8) + r.val, by have hN := lt_of_lt_of_eq t.isLt (show cfg0.N = 32 from N_0); omega⟩ n) := by
  unfold iblk
  refine congrArg (V m c main_v1) ?_
  funext a; apply Fin.ext
  refine (Pipeline.Window.rect_emb_val win0_1 t (ix2 (n0 := 2048) (n1 := 4096) r n) a).trans ?_
  rw [index1 t]
  match a with
  | ⟨0, _⟩ => show (t.val / 8) * 2048 + r.val = 2048 * (t.val / 8) + r.val; omega
  | ⟨1, _⟩ => show 0 * 4096 + n.val = n.val; omega

theorem index2 : ∀ t : Fin cfg0.N, win0_2.index t = ![0, 0, t.val % 8] := by decide +kernel
theorem block2_entry (t : Fin cfg0.N) (n : Fin 4096) (k : Fin 512) :
    (iblk m c 2 t : Vec Ideal S1x4096x512 .f32) (ix3 0 n k) = argW m c (ix3 (n0 := 2) (n1 := 4096) (n2 := 4096) 0 n ⟨512 * (t.val % 8) + k.val, by omega⟩) := by
  rw [← w_entry]
  unfold iblk
  refine congrArg (V m c main_arg2) ?_
  funext a; apply Fin.ext
  refine (Pipeline.Window.rect_emb_val win0_2 t (ix3 (n0 := 1) (n1 := 4096) (n2 := 512) 0 n k) a).trans ?_
  rw [index2 t]
  match a with
  | ⟨0, _⟩ => show 0 * 1 + 0 = 0; omega
  | ⟨1, _⟩ => show 0 * 4096 + n.val = n.val; omega
  | ⟨2, _⟩ => show (t.val % 8) * 512 + k.val = 512 * (t.val % 8) + k.val; omega

/-- The two results. -/
def atP (r : Fin 8192) (k : Fin 4096) : EReal :=
  (∑ n : Fin 4096, argP m c (ix3 (n0 := 4) (n1 := 2048) (n2 := 4096) ⟨r.val / 2048, by omega⟩ ⟨r.val % 2048, by omega⟩ n) * argW m c (ix3 (n0 := 2) (n1 := 4096) (n2 := 4096) 0 n k)) * unit
def atS (r : Fin 128) (k : Fin 4096) : EReal :=
  (∑ n : Fin 4096, argS m c (ix3 (n0 := 8) (n1 := 16) (n2 := 4096) ⟨r.val / 16, by omega⟩ ⟨r.val % 16, by omega⟩ n) * argW m c (ix3 (n0 := 2) (n1 := 4096) (n2 := 4096) 0 n k)) * unit
def wholeP (y : S8192x4096.Idx) : EReal := atP m c (y 0) (y 1)
def wholeS (y : S128x4096.Idx) : EReal := atS m c (y 0) (y 1)

theorem index3 : ∀ t : Fin cfg0.N, win0_3.index t = ![t.val / 8, t.val % 8] := by decide +kernel
theorem index4 : ∀ t : Fin cfg0.N, 24 ≤ t.val → win0_4.index t = ![0, t.val % 8] := by decide +kernel
theorem late4 : ∀ t : Fin cfg0.N, (cfg0.win 4).flush t = true → 24 ≤ t.val := by decide +kernel

theorem pointP (t : Fin cfg0.N) (r : Fin 2048) (k : Fin 512) :
    prodP (iblk m c 1 t) (iblk m c 2 t) (ix2 r k) = wholeP m c ((win0_3.blk t).view.emb (ix2 (n0 := 2048) (n1 := 512) r k)) := by
  have hN := lt_of_lt_of_eq t.isLt (show cfg0.N = 32 from N_0)
  have e : (win0_3.blk t).view.emb (ix2 (n0 := 2048) (n1 := 512) r k) = ix2 (n0 := 8192) (n1 := 4096) ⟨2048 * (t.val / 8) + r.val, by omega⟩ ⟨512 * (t.val % 8) + k.val, by omega⟩ := by
    funext a; apply Fin.ext
    refine (Pipeline.Window.rect_emb_val win0_3 t (ix2 (n0 := 2048) (n1 := 512) r k) a).trans ?_
    rw [index3 t]
    match a with
    | ⟨0, _⟩ => show (t.val / 8) * 2048 + r.val = 2048 * (t.val / 8) + r.val; omega
    | ⟨1, _⟩ => show (t.val % 8) * 512 + k.val = 512 * (t.val % 8) + k.val; omega
  rw [e]
  unfold prodP wholeP atP
  refine congrArg (fun a : EReal => a * unit) (Finset.sum_congr rfl fun n _ => congrArg₂ (fun a b : EReal => a * b) ?_ ?_)
  · exact (block1_entry m c t r n).trans (p_entry m c _ n)
  · exact block2_entry m c t n k

theorem pointS (t : Fin cfg0.N) (ht : 24 ≤ t.val) (r : Fin 128) (k : Fin 512) :
    prodS (iblk m c 0 t) (iblk m c 2 t) (ix2 r k) = wholeS m c ((win0_4.blk t).view.emb (ix2 (n0 := 128) (n1 := 512) r k)) := by
  have e : (win0_4.blk t).view.emb (ix2 (n0 := 128) (n1 := 512) r k) = ix2 (n0 := 128) (n1 := 4096) r ⟨512 * (t.val % 8) + k.val, by omega⟩ := by
    funext a; apply Fin.ext
    refine (Pipeline.Window.rect_emb_val win0_4 t (ix2 (n0 := 128) (n1 := 512) r k) a).trans ?_
    rw [index4 t ht]
    match a with
    | ⟨0, _⟩ => show 0 * 128 + r.val = r.val; omega
    | ⟨1, _⟩ => show (t.val % 8) * 512 + k.val = 512 * (t.val % 8) + k.val; omega
  rw [e]
  unfold prodS wholeS atS
  refine congrArg (fun a : EReal => a * unit) (Finset.sum_congr rfl fun n _ => congrArg₂ (fun a b : EReal => a * b) ?_ ?_)
  · exact block0_entry m c t r n
  · exact block2_entry m c t n k

theorem arrP : (dats m 0 c).arrAt 3 cfg0.N = wholeP m c := by
  refine (dats m 0 c).arrAt_eq_of_covers 3 _ (by decide +kernel) fun t hf y => ?_
  have hp : (outsAt0 m c t.val t.isLt).1 = prodP (iblk m c 1 t) (iblk m c 2 t) := by
    by_cases h : 24 ≤ t.val
    · rw [outsAt0_B m c t h]; dsimp only; rw [outB]
    · rw [outsAt0_A m c t h]; dsimp only; rw [outA]
  have e : y = ix2 (n0 := 2048) (n1 := 512) ⟨(y 0).val, (y 0).isLt⟩ ⟨(y 1).val, (y 1).isLt⟩ := eq_ix2 y
  rw [after0_3, hp, e]
  exact pointP m c t _ _

theorem arrS : (dats m 0 c).arrAt 4 cfg0.N = wholeS m c := by
  refine (dats m 0 c).arrAt_eq_of_covers 4 _ (by decide +kernel) fun t hf y => ?_
  have h := late4 t hf
  have hp : (outsAt0 m c t.val t.isLt).2 = prodS (iblk m c 0 t) (iblk m c 2 t) := by
    rw [outsAt0_B m c t h]; dsimp only; rw [outB_sample]
  have e : y = ix2 (n0 := 128) (n1 := 512) ⟨(y 0).val, (y 0).isLt⟩ ⟨(y 1).val, (y 1).isLt⟩ := eq_ix2 y
  rw [after0_4, hp, e]
  exact pointS m c t h _ _

end Cert.QueryIdeal.Val

end
-- ==== Proof.RefQueryIdeal.Ref.lean ====
module

public import proofs.«01_k».proof.Proof.Gen.RefQueryIdeal
public import proofs.«01_k».proof.Proof.Gen.RefQueryIdeal.Run
public import proofs.«01_k».proof.Proof.Att.Host
public import proofs.«01_k».proof.Proof.QueryIdeal.Step
public import Idealize.ShloMosaic.Lib.ValueIdxCore
public import Idealize.ShloMosaic.Lib.ValueLayout
public import Idealize.ShloMosaic.Lib.ValueLayoutCasts
public import Idealize.ShloMosaic.Lib.Pointwise
public import Idealize.ShloMosaic.Lib.Claim
public import Idealize.ShloMosaic.PureOps.Ideal
public import Idealize.ShloMosaic.PureOps.Ideal.Laws

@[expose] public section

set_option maxRecDepth 16384

noncomputable section

namespace Cert.RefQueryIdeal.Val

open Cert.RefQueryIdeal Cert.RefQueryIdeal.Gen
open Idealize.ShloMosaic Idealize.ShloMosaic.TcCoe Idealize.ShloMosaic.Tactic

variable (p : FVec Ideal S4x2048x4096 .f32) (s : FVec Ideal S8x16x4096 .f32) (w : FVec Ideal S2x4096x4096 .f32)

/-- The layer's weights. -/
def weights : FVec Ideal S4096x4096 .f32 :=
  shapeCast _ (extractStridedSlice S1x4096x4096 ![0, 0, 0] w slices_S2x4096x4096_S1x4096x4096_0_0_0) shapeCasts_S1x4096x4096_S4096x4096

/-- The reference's two results. -/
def resultP : FVec Ideal S8192x4096 .bf16 :=
  shapeCast _ (truncf .bf16 (Host.divf (Host.dotGeneral dot_S4x2048x4096_S4096x4096_S4x2048x4096_2_0_01_1_n_n none p (weights w)) (broadcastInDim S4x2048x4096 ![] bcast_S_S4x2048x4096 (mulf (Host.sqrt (constant S_ .f32 0x43000000#32)) (Host.log (constant S_ .f32 0x40000000#32))))) bitsLt_bf16_f32) shapeCasts_S4x2048x4096_S8192x4096
def resultS : FVec Ideal S128x4096 .bf16 :=
  shapeCast _ (truncf .bf16 (Host.divf (Host.dotGeneral dot_S8x16x4096_S4096x4096_S8x16x4096_2_0_01_1_n_n none s (weights w)) (broadcastInDim S8x16x4096 ![] bcast_S_S8x16x4096 (mulf (Host.sqrt (constant S_ .f32 0x43000000#32)) (Host.log (constant S_ .f32 0x40000000#32))))) bitsLt_bf16_f32) shapeCasts_S8x16x4096_S128x4096

theorem weights_entry (n : Fin 4096) (k : Fin 4096) : weights w (ix2 n k) = w (ix3 (n0 := 2) (n1 := 4096) (n2 := 4096) 0 n k) := by
  unfold weights
  pointwise

theorem unit_eq (a : EReal) : Ideal.div a (Ideal.sqrt (Ideal.ofBits .f32 0x43000000#32) * Ideal.log (Ideal.ofBits .f32 0x40000000#32)) = a * Cert.QueryIdeal.Val.unit := by
  rw [Cert.KernelIdeal.Att.ofBits_128, Cert.KernelIdeal.Att.ofBits_2, Ideal.sqrt_coe, Ideal.log_coe, if_neg (by norm_num), if_neg (by norm_num), ← EReal.coe_mul,
    Ideal.div_coe (ne_of_gt (mul_pos (Real.sqrt_pos.mpr (by norm_num)) (Real.log_pos (by norm_num)))), one_div]
  rfl

theorem resultP_entry (r : Fin 8192) (k : Fin 4096) :
    resultP p w (ix2 r k) = (∑ n : Fin 4096, p (ix3 (n0 := 4) (n1 := 2048) (n2 := 4096) ⟨r.val / 2048, by omega⟩ ⟨r.val % 2048, by omega⟩ n) * w (ix3 (n0 := 2) (n1 := 4096) (n2 := 4096) 0 n k)) * Cert.QueryIdeal.Val.unit := by
  rw [← unit_eq]
  unfold resultP
  pointwise [weights_entry]

theorem resultS_entry (r : Fin 128) (k : Fin 4096) :
    resultS s w (ix2 r k) = (∑ n : Fin 4096, s (ix3 (n0 := 8) (n1 := 16) (n2 := 4096) ⟨r.val / 16, by omega⟩ ⟨r.val % 16, by omega⟩ n) * w (ix3 (n0 := 2) (n1 := 4096) (n2 := 4096) 0 n k)) * Cert.QueryIdeal.Val.unit := by
  rw [← unit_eq]
  unfold resultS
  pointwise [weights_entry]

/-- The reference has no semaphore. -/
theorem no_sem (f : GSem nD τ sig → Int) : f = fun _ => 0 := by
  funext g
  obtain ⟨t, s⟩ := g
  cases s with
  | reg s => exact absurd s.isLt (Nat.not_lt_zero _)
  | dma s => exact absurd s.isLt (Nat.not_lt_zero _)

end Cert.RefQueryIdeal.Val

end
-- ==== Proof.QueryIdeal.Values.lean ====
/- The claims about the projection to queries. -/
module

public import proofs.«01_k».proof.Defs
public import proofs.«01_k».proof.Proof.Gen.QueryIdeal
public import proofs.«01_k».proof.Proof.Gen.RefQueryIdeal
public import proofs.«01_k».proof.Proof.QueryIdeal.Out
public import proofs.«01_k».proof.Proof.RefQueryIdeal.Ref
public import Idealize.ShloMosaic.Adequacy
public import Idealize.ShloMosaic.Init

@[expose] public section

noncomputable section

namespace Cert.QueryIdeal.Val

open Idealize.ShloMosaic Idealize.SL.Sem

theorem frame_reference : Cert.quiescent_RefQueryIdeal (hRefQueryIdeal := Cert.RefQueryIdeal.Gen.facts) := fun m g _ =>
  (θ_run _ _ _).mono (fun r h => ⟨fun c => (h c).2.2, Cert.RefQueryIdeal.Val.no_sem _⟩) (Cert.RefQueryIdeal.Value.run (F := Ideal) m g)

/-- The kernel and the reference leave the same two arrays. -/
theorem values : Cert.algebraic_QueryIdeal_RefQueryIdeal (hQueryIdeal := Cert.QueryIdeal.Gen.facts) (hRefQueryIdeal := Cert.RefQueryIdeal.Gen.facts) := by
  intro m g m' g' _ hagree
  refine ⟨fun c => wholeP m c, fun c => wholeS m c, ?_, ?_⟩
  · exact (θ_run _ _ _).mono (fun r h c => ⟨(h c).1.trans (arrP m c), (h c).2.1.trans (arrS m c), (h c).2.2⟩) (Cert.QueryIdeal.Value.run_blocks (F := Ideal) m g)
  · refine (θ_run _ _ _).mono (fun r h c => ⟨(h c).1.trans ?_, (h c).2.1.trans ?_, (h c).2.2⟩) (Cert.RefQueryIdeal.Value.run (F := Ideal) m' g')
    · rw [(hagree c).1, (hagree c).2.2]
      funext y
      rw [eq_ix2 y]
      exact Cert.RefQueryIdeal.Val.resultP_entry (argP m c) (argW m c) (y 0) (y 1)
    · rw [(hagree c).2.1, (hagree c).2.2]
      funext y
      rw [eq_ix2 y]
      exact Cert.RefQueryIdeal.Val.resultS_entry (argS m c) (argW m c) (y 0) (y 1)

end Cert.QueryIdeal.Val

end
-- ==== Proof.InIdeal.Rows.lean ====
module

public import proofs.«01_k».proof.Proof.Gen.InIdeal.Frame
public import Idealize.ShloMosaic.Lib.VecWindow
public import Idealize.ShloMosaic.Lib.Pointwise
public import Idealize.ShloMosaic.Lib.Ring
public import Idealize.ShloMosaic.Lib.Tactic
public import Idealize.ShloMosaic.Lib.WordCmp

@[expose] public section

set_option maxRecDepth 16384

noncomputable section

namespace Cert.InIdeal.Acc

open Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one point computes -/

/-- 64 rows, each divided by its root mean square and modulated. -/
def normRows (x : FVec F S64x4096 .f32) (x1 x2 x3 : Vec F S1x1x4096 .f32) : FVec F S64x4096 .bf16 :=
  let ss : FVec F S64x1 .f32 := shapeCast S64x1 (multiReduction .add [1] S64 (mulf x x) 0x00000000#32 reduces_S64x4096_S64 (.inl rfl) rfl : FVec F S64 .f32) shapeCasts_S64_S64x1
  let rt : FVec F S64x1 .f32 := rsqrt (addf (divf ss (broadcast S64x1 (Scalar.ofBits .f32 0x45800000#32))) (broadcast S64x1 (Scalar.ofBits .f32 0x358637BD#32)))
  let g : FVec F S1x4096 .f32 := shapeCast S1x4096 x1 shapeCasts_S1x1x4096_S1x4096
  let s : FVec F S1x4096 .f32 := shapeCast S1x4096 x3 shapeCasts_S1x1x4096_S1x4096
  let b : FVec F S1x4096 .f32 := shapeCast S1x4096 x2 shapeCasts_S1x1x4096_S1x4096
  let u : FVec F S64x4096 .f32 := mulf (mulf x (broadcastTo S64x4096 rt broadcasts_S64x1_S64x4096)) (broadcastTo S64x4096 g broadcasts_S1x4096_S64x4096)
  let v : FVec F S64x4096 .f32 := mulf u (broadcastTo S64x4096 (addf (broadcast S1x4096 (Scalar.ofBits .f32 0x3F800000#32)) s) broadcasts_S1x4096_S64x4096)
  shapeCast S64x4096 (truncf .bf16 (addf v (broadcastTo S64x4096 b broadcasts_S1x4096_S64x4096)) bitsLt_bf16_f32 : FVec F S64x4096 .bf16) shapeCasts_S64x4096_S64x4096

/-- The same of a block of rows as it is read. -/
def normed (x0 : Vec F S64x4096 .f32) (x1 x2 x3 : Vec F S1x1x4096 .f32) : FVec F S64x4096 .bf16 :=
  normRows (shapeCast S64x4096 x0 shapeCasts_S64x4096_S64x4096) x1 x2 x3

/-- The activation of a block of products, as it is written. -/
def act {s : Shape} (r : FVec F s .f32) : FVec F s .bf16 :=
  truncf .bf16 (mulf r (mulf (broadcast s (Scalar.ofBits .f32 0x3F000000#32)) (addf (broadcast s (Scalar.ofBits .f32 0x3F800000#32))
    (tanh (mulf (broadcast s (Scalar.ofBits .f32 0x3F4C422A#32)) (addf r (mulf (broadcast s (Scalar.ofBits .f32 0x3D372713#32)) (mulf r (mulf r r))))))))) bitsLt_bf16_f32

/-- A block of the weights' columns. -/
def wts (x5 : Vec F S1x4096x512 .f32) : FVec F S4096x512 .bf16 :=
  truncf .bf16 (shapeCast S4096x512 x5 shapeCasts_S1x4096x512_S4096x512 : FVec F S4096x512 .f32) bitsLt_bf16_f32

/-- 512 normalized rows times a block of the weights' columns, activated. -/
def rows (x5 : Vec F S1x4096x512 .f32) (v : Vec F S512x4096 .bf16) : FVec F S512x512 .bf16 :=
  act (matmul dot_S512x4096_S4096x512_S512x512_1_0_0_1_n_n none v (wts x5) (constant S512x512 .f32 0x00000000#32) : FVec F S512x512 .f32)

/-- Rows `o … o + 511` of a block of rows. -/
def part (h : Vec F S1024x4096 .bf16) (o : ℕ) : Vec F S512x4096 .bf16 :=
  fun z => h (ix2 (n0 := 1024) (n1 := 4096) ⟨(o + (z 0).val) % 1024, Nat.mod_lt _ (by decide)⟩ ⟨(z 1).val, (z 1).isLt⟩)

/-- The prompt's block as it is written. -/
def blockP (h : Vec F S1024x4096 .bf16) (x5 : Vec F S1x4096x512 .f32) : Vec F S1024x512 .bf16 :=
  fun y => rows x5 (part h (512 * ((y 0).val / 512))) (ix2 (n0 := 512) (n1 := 512) ⟨(y 0).val % 512, Nat.mod_lt _ (by decide)⟩ ⟨(y 1).val, (y 1).isLt⟩)

/-- The sample's block as it is written. -/
def blockS (x4 : Vec F S128x4096 .bf16) (x5 : Vec F S1x4096x512 .f32) : Vec F S128x512 .bf16 :=
  act (matmul dot_S128x4096_S4096x512_S128x512_1_0_0_1_n_n none (shapeCast S128x4096 x4 shapeCasts_S128x4096_S128x4096 : FVec F S128x4096 .bf16) (wts x5) (constant S128x512 .f32 0x00000000#32) : FVec F S128x512 .f32)

/-- A buffer of normalized rows with its `j`-th block of 64 rows replaced. -/
def slot (a : Vec F S1024x4096 .bf16) (j : ℕ) (v : Vec F S64x4096 .bf16) : Vec F S1024x4096 .bf16 :=
  fun y => if (y 0).val / 64 = j then v (ix2 (n0 := 64) (n1 := 4096) ⟨(y 0).val % 64, Nat.mod_lt _ (by decide)⟩ ⟨(y 1).val, (y 1).isLt⟩) else a y

/-! ## What the loads read and the stores leave -/

variable {sg : RefSig}

theorem ld_whole {κ' : Kind} {sp : Space} {s : Shape} {e : EltTy} {M : Memref sg κ' sp s e} (hM : M.IsWhole) (x : s.Idx → Elt F e)
    {off : Fin s.rank → ℕ} (inb : ∀ a, off a + s.size a ≤ s.size a) :
    View.readAt (Elt F) M.view (Rect.unit (s := s) off s.size inb).toLoadRect (hM.unread x) = x :=
  (View.readAt_full M.view (hM.unread x) inb).trans (hM.read_unread x)

theorem ld_part {M : Memref sg .tc .vmem S1024x4096 .bf16} (hM : M.IsWhole) (h : Vec F S1024x4096 .bf16) (o : ℕ) (ho : o + 512 ≤ 1024)
    (hr : ∀ a, (![o, 0] : Fin 2 → ℕ) a + S512x4096.size a ≤ S1024x4096.size a) :
    View.readAt (Elt F) M.view (Rect.unit (s := S1024x4096) ![o, 0] S512x4096.size hr).toLoadRect (hM.unread h) = part h o := by
  rw [View.readAt_eq_ld, hM.read_unread]
  funext z
  refine congrArg h ?_
  funext a; apply Fin.ext
  match a with
  | ⟨0, _⟩ =>
    have hz : (z 0).val < 512 := (z 0).isLt
    show o + 1 * (z 0).val = (o + (z 0).val) % 1024
    omega
  | ⟨1, _⟩ => show 0 + 1 * (z 1).val = (z 1).val; omega

/-- A store of 64 rows over a buffer of normalized rows. -/
theorem st_slot {M : Memref sg .tc .vmem S1024x4096 .bf16} (hM : M.IsWhole) (a : Vec F S1024x4096 .bf16) (j : ℕ) {off : Fin 2 → ℕ} (ho : off = ![64 * j, 0])
    (inb : ∀ a, off a + S64x4096.size a ≤ S1024x4096.size a) (v : Vec F S64x4096 .bf16) :
    M.view.read (Elt F) (M.view.writes (Elt F) (hM.unread a) [⟨Rect.unit (s := S1024x4096) off S64x4096.size inb, v⟩]) = slot a j v := by
  funext y
  unfold slot
  by_cases hy : (y 0).val / 64 = j
  · rw [if_pos hy]
    refine View.read_writes_cons_unit_of_mem M.view _ inb v [] y _ ho fun a => ?_
    match a with
    | ⟨0, _⟩ => show (y 0).val = 64 * j + (y 0).val % 64; omega
    | ⟨1, _⟩ => show (y 1).val = 0 + (y 1).val; omega
  · rw [if_neg hy]
    refine (View.read_writes_cons_unit_of_not_mem M.view _ inb v [] y ho 0 ?_).trans ?_
    · show (y 0).val < 64 * j ∨ 64 * j + 64 ≤ (y 0).val
      omega
    · exact congrFun (hM.read_unread a) y

section
variable {M2 : Memref sg .tc .vmem S64x4096 .f32} (h2 : M2.IsWhole) {M3 : Memref sg .tc .vmem S1x1x4096 .f32} (h3 : M3.IsWhole) {M4 : Memref sg .tc .vmem S1x1x4096 .f32} (h4 : M4.IsWhole) {M5 : Memref sg .tc .vmem S1x1x4096 .f32} (h5 : M5.IsWhole)
  {M6 : Memref sg .tc .vmem S128x4096 .bf16} (h6 : M6.IsWhole) {M7 : Memref sg .tc .vmem S1x4096x512 .f32} (h7 : M7.IsWhole) {MS : Memref sg .tc .vmem S1024x4096 .bf16} (hS : MS.IsWhole)
  (x0 : Vec F S64x4096 .f32) (x1 x2 x3 : Vec F S1x1x4096 .f32) (x4 : Vec F S128x4096 .bf16) (x5 : Vec F S1x4096x512 .f32) (h : Vec F S1024x4096 .bf16)

/-- What a point leaves in the buffer it normalizes into. -/
theorem st_normed (j : ℕ) {off : Fin 2 → ℕ} (ho : off = ![64 * j, 0]) (inb : ∀ a, off a + S64x4096.size a ≤ S1024x4096.size a)
    (i2 : ∀ a, (![0, 0] : Fin 2 → ℕ) a + S64x4096.size a ≤ S64x4096.size a) (i3 i4 i5 : ∀ a, (![0, 0, 0] : Fin 3 → ℕ) a + S1x1x4096.size a ≤ S1x1x4096.size a) :
    MS.view.read (Elt F) (MS.view.writes (Elt F) (hS.unread h) [⟨Rect.unit (s := S1024x4096) off S64x4096.size inb,
      normed (View.readAt (Elt F) M2.view (Rect.unit (s := S64x4096) ![0, 0] S64x4096.size i2).toLoadRect (h2.unread x0))
        (View.readAt (Elt F) M3.view (Rect.unit (s := S1x1x4096) ![0, 0, 0] S1x1x4096.size i3).toLoadRect (h3.unread x1))
        (View.readAt (Elt F) M4.view (Rect.unit (s := S1x1x4096) ![0, 0, 0] S1x1x4096.size i4).toLoadRect (h4.unread x2))
        (View.readAt (Elt F) M5.view (Rect.unit (s := S1x1x4096) ![0, 0, 0] S1x1x4096.size i5).toLoadRect (h5.unread x3))⟩])
      = slot h j (normed x0 x1 x2 x3) := by
  rw [ld_whole h2, ld_whole h3, ld_whole h4, ld_whole h5]
  exact st_slot hS h j ho inb _

theorem samp_of (hw : ∀ a, (![0, 0, 0] : Fin 3 → ℕ) a + S1x4096x512.size a ≤ S1x4096x512.size a)
    (hr : ∀ a, (![0, 0] : Fin 2 → ℕ) a + S128x4096.size a ≤ S128x4096.size a) :
    blockS (View.readAt (Elt F) M6.view (Rect.unit (s := S128x4096) ![0, 0] S128x4096.size hr).toLoadRect (h6.unread x4))
      (View.readAt (Elt F) M7.view (Rect.unit (s := S1x4096x512) ![0, 0, 0] S1x4096x512.size hw).toLoadRect (h7.unread x5)) = blockS x4 x5 := by
  rw [ld_whole h6, ld_whole h7]

/-- What one chunk of rows is stored at. -/
theorem chunk (o : ℕ) (ho : o + 512 ≤ 1024) (hd : o % 512 = 0) (hw : ∀ a, (![0, 0, 0] : Fin 3 → ℕ) a + S1x4096x512.size a ≤ S1x4096x512.size a)
    (hr : ∀ a, (![o, 0] : Fin 2 → ℕ) a + S512x4096.size a ≤ S1024x4096.size a)
    (hs : ∀ a, (![o, 0] : Fin 2 → ℕ) a + S512x512.size a ≤ S1024x512.size a) (x : S512x512.Idx) :
    rows (View.readAt (Elt F) M7.view (Rect.unit (s := S1x4096x512) ![0, 0, 0] S1x4096x512.size hw).toLoadRect (h7.unread x5))
        (View.readAt (Elt F) MS.view (Rect.unit (s := S1024x4096) ![o, 0] S512x4096.size hr).toLoadRect (hS.unread h)) x
      = blockP h x5 ((Rect.unit (s := S1024x512) ![o, 0] S512x512.size hs).emb x) := by
  rw [ld_whole h7, ld_part hS h o ho]
  have hx : (x 0).val < 512 := (x 0).isLt
  have e0 : 512 * ((((Rect.unit (s := S1024x512) ![o, 0] S512x512.size hs).emb x) 0).val / 512) = o := by
    show 512 * ((o + 1 * (x 0).val) / 512) = o
    omega
  unfold blockP
  rw [e0]
  refine congrArg (rows x5 (part h o)) ?_
  funext a; apply Fin.ext
  match a with
  | ⟨0, _⟩ => show (x 0).val = (o + 1 * (x 0).val) % 512; omega
  | ⟨1, _⟩ => show (x 1).val = 0 + 1 * (x 1).val; omega
end

end Cert.InIdeal.Acc

end
-- ==== Proof.InIdeal.Setup.lean ====
module

public import proofs.«01_k».proof.Proof.InIdeal.Rows
public import proofs.«01_k».proof.Proof.Gen.InIdeal.Frame
public import Idealize.ShloMosaic.Lib.VecWindow
public import Idealize.ShloMosaic.Lib.Pointwise
public import Idealize.ShloMosaic.Lib.Ring
public import Idealize.ShloMosaic.Lib.Tactic
public import Idealize.ShloMosaic.Lib.WordCmp

@[expose] public section

set_option maxRecDepth 16384

noncomputable section

namespace Cert.InIdeal.Acc

open Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which branch a grid point takes -/

/-- The first sixteen points only normalize. -/
theorem condFirst_iff : ∀ t : Fin cfg0.N, k0_cond1 (grid0.coords t) = 1#1 ↔ t.val < 16 :=
  (by decide +kernel : ∀ t : Fin grid0.N, k0_cond1 (grid0.coords t) = 1#1 ↔ t.val < 16)

/-- Then odd and even blocks of rows take turns. -/
theorem condOdd_iff : ∀ t : Fin cfg0.N, k0_cond2 (grid0.coords t) = 1#1 ↔ (t.val / 16) % 2 = 1 :=
  (by decide +kernel : ∀ t : Fin grid0.N, k0_cond2 (grid0.coords t) = 1#1 ↔ (t.val / 16) % 2 = 1)
theorem condEven_iff : ∀ t : Fin cfg0.N, k0_cond3 (grid0.coords t) = 1#1 ↔ (16 ≤ t.val ∧ (t.val / 16) % 2 = 0) :=
  (by decide +kernel : ∀ t : Fin grid0.N, k0_cond3 (grid0.coords t) = 1#1 ↔ (16 ≤ t.val ∧ (t.val / 16) % 2 = 0))

/-- The last sixteen points multiply the sample's rows too. -/
theorem condSample_iff : ∀ t : Fin cfg0.N, k0_cond4 (grid0.coords t) = 1#1 ↔ 128 ≤ t.val :=
  (by decide +kernel : ∀ t : Fin grid0.N, k0_cond4 (grid0.coords t) = 1#1 ↔ 128 ≤ t.val)

/-- Where a point's rows are kept: at its block of 64 rows. -/
theorem off1_eq : ∀ i : grid0.Coords, k0_off1 i = ![64 * (i 1).val, 0] := by decide +kernel
theorem off2_eq (i : grid0.Coords) : k0_off2 i = ![64 * (i 1).val, 0] := off1_eq i
theorem off3_eq (i : grid0.Coords) : k0_off3 i = ![64 * (i 1).val, 0] := off1_eq i

/-- The column a point is at. -/
theorem col_val : ∀ t : Fin cfg0.N, (grid0.coords t 1).val = t.val % 16 :=
  (by decide +kernel : ∀ t : Fin grid0.N, (grid0.coords t 1).val = t.val % 16)

/-! ## The buffers a point is given -/

abbrev st0 (t : Fin cfg0.N) : Memref sig .tc .vmem S64x4096 .f32 := win0_0.stage (cfg0.slots t 0)
abbrev st1 (t : Fin cfg0.N) : Memref sig .tc .vmem S1x1x4096 .f32 := win0_1.stage (cfg0.slots t 1)
abbrev st2 (t : Fin cfg0.N) : Memref sig .tc .vmem S1x1x4096 .f32 := win0_2.stage (cfg0.slots t 2)
abbrev st3 (t : Fin cfg0.N) : Memref sig .tc .vmem S1x1x4096 .f32 := win0_3.stage (cfg0.slots t 3)
abbrev st4 (t : Fin cfg0.N) : Memref sig .tc .vmem S128x4096 .bf16 := win0_4.stage (cfg0.slots t 4)
abbrev st5 (t : Fin cfg0.N) : Memref sig .tc .vmem S1x4096x512 .f32 := win0_5.stage (cfg0.slots t 5)
abbrev st6 (t : Fin cfg0.N) : Memref sig .tc .vmem S1024x512 .bf16 := win0_6.stage (cfg0.slots t 6)
abbrev st7 (t : Fin cfg0.N) : Memref sig .tc .vmem S128x512 .bf16 := win0_7.stage (cfg0.slots t 7)

/-- The two buffers of normalized rows. -/
abbrev scrA : Memref sig .tc .vmem S1024x4096 .bf16 := Memref.whole cc0_scratch0
abbrev scrB : Memref sig .tc .vmem S1024x4096 .bf16 := Memref.whole cc0_scratch1

end Cert.InIdeal.Acc

end
-- ==== Proof.InIdeal.Run.lean ====
module

public import proofs.«01_k».proof.Proof.InIdeal.Setup
public import Idealize.ShloMosaic.Lib.VecWindow
public import Idealize.ShloMosaic.Lib.Pointwise
public import Idealize.ShloMosaic.Lib.Ring
public import Idealize.ShloMosaic.Lib.Tactic
public import Idealize.ShloMosaic.Lib.WordCmp

@[expose] public section

set_option maxRecDepth 16384

noncomputable section

namespace Cert.InIdeal.Acc

open Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The run of a point: 64 rows are normalized into one of the two buffers; past the first sixteen points the other
    buffer's rows are multiplied and written; the sample's rows at the last sixteen points. -/
theorem run (c : Dev nD) (i : grid0.Coords) (arg2 : Memref sig .tc .vmem S64x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S128x4096 .bf16) (harg6 : arg6.IsWhole) (arg7 : Memref sig .tc .vmem S1x4096x512 .f32) (harg7 : arg7.IsWhole) (arg8 : Memref sig .tc .vmem S1024x512 .bf16) (harg8 : arg8.IsWhole) (arg9 : Memref sig .tc .vmem S128x512 .bf16) (harg9 : arg9.IsWhole) (arg10 : Memref sig .tc .vmem S1024x4096 .bf16) (harg10 : arg10.IsWhole) (arg11 : Memref sig .tc .vmem S1024x4096 .bf16) (harg11 : arg11.IsWhole)
    (hb : (k0_cond1 i = 1#1 ∧ ¬k0_cond2 i = 1#1 ∧ ¬k0_cond3 i = 1#1 ∧ ¬k0_cond4 i = 1#1) ∨ (¬k0_cond1 i = 1#1 ∧ k0_cond2 i = 1#1 ∧ ¬k0_cond3 i = 1#1 ∧ ¬k0_cond4 i = 1#1)
      ∨ (¬k0_cond1 i = 1#1 ∧ ¬k0_cond2 i = 1#1 ∧ k0_cond3 i = 1#1 ∧ ¬k0_cond4 i = 1#1) ∨ (¬k0_cond1 i = 1#1 ∧ ¬k0_cond2 i = 1#1 ∧ k0_cond3 i = 1#1 ∧ k0_cond4 i = 1#1))
    (x0 : Vec F S64x4096 .f32) (x1 x2 x3 : Vec F S1x1x4096 .f32) (x4 : Vec F S128x4096 .bf16) (x5 : Vec F S1x4096x512 .f32) (d6 y6 : Vec F S1024x512 .bf16) (d7 y7 : Vec F S128x512 .bf16) (a a' b b' : Vec F S1024x4096 .bf16)
    (hy6 : (k0_cond1 i = 1#1 → y6 = d6) ∧ (k0_cond2 i = 1#1 → y6 = blockP a x5) ∧ (k0_cond3 i = 1#1 → y6 = blockP b x5))
    (hy7 : (k0_cond4 i = 1#1 → y7 = blockS x4 x5) ∧ (¬k0_cond4 i = 1#1 → y7 = d7))
    (ha : (k0_cond2 i = 1#1 → a' = a) ∧ (¬k0_cond2 i = 1#1 → a' = slot a (i 1).val (normed x0 x1 x2 x3)))
    (hb' : (k0_cond2 i = 1#1 → b' = slot b (i 1).val (normed x0 x1 x2 x3)) ∧ (¬k0_cond2 i = 1#1 → b' = b)) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare d7 ∗ owns (c : Thread nD τ) arg10 fullShare a ∗ owns (c : Thread nD τ) arg11 fullShare b
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare a' ∗ owns (c : Thread nD τ) arg11 fullShare b') -∗ K ⟨⟩))
          ⊢ wp frame (wpE (defs₀ (F := F)) Variants.none c none) E (cc0_mm_norm_gelu i arg2 harg2 arg3 harg3 arg4 harg4 arg5 harg5 arg6 harg6 arg7 harg7 arg8 harg8 arg9 harg9 arg10 harg10 arg11 harg11) K := by
  intro E K
  unfold cc0_mm_norm_gelu k0_part1 k0_part2
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  rcases hb with ⟨h1, h2, h3, h4⟩ | ⟨h1, h2, h3, h4⟩ | ⟨h1, h2, h3, h4⟩ | ⟨h1, h2, h3, h4⟩
  all_goals
    sl_exec (disch := first | sl_exact h1 | sl_exact h2 | sl_exact h3 | sl_exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      first
      | (rw [harg8.read_unread]; exact (hy6.1 (by assumption)).symm)
      | (rw [hy6.2.1 (by assumption)]
         funext y
         refine View.read_writes_apply_of_pieces _ _ (blockP a x5) _ ?_ y ?_
         swap
         · exact View.cover_of_tiledL (s := S1024x512) _ S512x512.size (by sl_kernel_rfl) y
         exact List.forall_mem_cons.2 ⟨fun x => chunk harg7 harg10 x5 a 512 (by omega) (by omega) _ _ inb_S1024x512_S512x512_512_0 x,
           List.forall_mem_cons.2 ⟨fun x => chunk harg7 harg10 x5 a 0 (by omega) (by omega) _ _ inb_S1024x512_S512x512_0_0 x, List.forall_mem_nil _⟩⟩)
      | (rw [hy6.2.2 (by assumption)]
         funext y
         refine View.read_writes_apply_of_pieces _ _ (blockP b x5) _ ?_ y ?_
         swap
         · exact View.cover_of_tiledL (s := S1024x512) _ S512x512.size (by sl_kernel_rfl) y
         exact List.forall_mem_cons.2 ⟨fun x => chunk harg7 harg11 x5 b 512 (by omega) (by omega) _ _ inb_S1024x512_S512x512_512_0 x,
           List.forall_mem_cons.2 ⟨fun x => chunk harg7 harg11 x5 b 0 (by omega) (by omega) _ _ inb_S1024x512_S512x512_0_0 x, List.forall_mem_nil _⟩⟩)
    isplitl [H7]
    · iexists _; isplitr; swap; · iexact H7
      ipureintro
      first | (rw [harg9.read_unread]; exact (hy7.2 (by assumption)).symm) | (rw [View.read_writes_full, hy7.1 (by assumption)]; exact samp_of harg6 harg7 x4 x5 _ _)
    isplitl [H8]
    · iexists _; isplitr; swap; · iexact H8
      ipureintro
      first | (rw [harg10.read_unread]; exact (ha.1 (by assumption)).symm) | (rw [ha.2 (by assumption)]; first | exact st_normed harg2 harg3 harg4 harg5 harg10 x0 x1 x2 x3 _ _ (off1_eq i) _ _ _ _ _ | exact st_normed harg2 harg3 harg4 harg5 harg10 x0 x1 x2 x3 _ _ (off3_eq i) _ _ _ _ _)
    iexists _; isplitr; swap; · iexact H9
    ipureintro
    first | (rw [harg11.read_unread]; exact (hb'.2 (by assumption)).symm) | (rw [hb'.1 (by assumption)]; exact st_normed harg2 harg3 harg4 harg5 harg11 x0 x1 x2 x3 _ _ (off2_eq i) _ _ _ _ _)

end Cert.InIdeal.Acc

end
-- ==== Proof.InIdeal.Turns.lean ====
module

public import proofs.«01_k».proof.Proof.InIdeal.Rows
public import Idealize.ShloMosaic.Lib.VecWindow
public import Idealize.ShloMosaic.Lib.Pointwise
public import Idealize.ShloMosaic.Lib.Ring
public import Idealize.ShloMosaic.Lib.Tactic
public import Idealize.ShloMosaic.Lib.WordCmp

@[expose] public section

set_option maxRecDepth 16384

noncomputable section

namespace Cert.InIdeal.Acc

open Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (f : ℕ → Vec F S64x4096 .bf16)

/-! ## What two buffers of normalized rows hold that take turns -/

/-- The 1024 rows points `16 p … 16 p + 15` normalize, when point `n` normalizes the 64 rows `f n`. -/
def tile (p : ℕ) : Vec F S1024x4096 .bf16 :=
  fun y => f (16 * p + (y 0).val / 64) (ix2 (n0 := 64) (n1 := 4096) ⟨(y 0).val % 64, Nat.mod_lt _ (by decide)⟩ ⟨(y 1).val, (y 1).isLt⟩)

/-- Before point `k` a buffer holds, of the last block of its parity, the rows normalized so far. -/
def Good (par k : ℕ) (a : Vec F S1024x4096 .bf16) : Prop :=
  ∀ p, p % 2 = par → ∀ y : S1024x4096.Idx, 16 * p + (y 0).val / 64 < k → k ≤ 16 * p + 32 → a y = tile f p y

theorem Good.start (par : ℕ) (a : Vec F S1024x4096 .bf16) : Good f par 0 a :=
  fun _ _ _ h _ => absurd h (Nat.not_lt_zero _)

/-- A point that normalizes into the other buffer leaves this one as it was. -/
theorem Good.keep {par k : ℕ} {a : Vec F S1024x4096 .bf16} (g : Good f par k a) (hk : (k / 16) % 2 ≠ par) : Good f par (k + 1) a := by
  intro p hp y h1 h2
  have hy : (y 0).val < 1024 := (y 0).isLt
  refine g p hp y ?_ (by omega)
  by_contra h
  exact hk (by rw [show k / 16 = p by omega]; exact hp)

/-- A point that normalizes into this buffer adds its 64 rows. -/
theorem Good.add {par k : ℕ} {a : Vec F S1024x4096 .bf16} (g : Good f par k a) (hk : (k / 16) % 2 = par) :
    Good f par (k + 1) (slot a (k % 16) (f k)) := by
  intro p hp y h1 h2
  have hy : (y 0).val < 1024 := (y 0).isLt
  have e : k / 16 = p := by omega
  unfold slot
  by_cases h : (y 0).val / 64 = k % 16
  · rw [if_pos h]
    unfold tile
    rw [show 16 * p + (y 0).val / 64 = k by omega]
  · rw [if_neg h]
    exact g p hp y (by omega) (by omega)

/-- The buffer a point multiplies holds the whole block of rows before. -/
theorem Good.full {par k : ℕ} {a : Vec F S1024x4096 .bf16} (g : Good f par k a) (h16 : 16 ≤ k) (hk : (k / 16 - 1) % 2 = par) : a = tile f (k / 16 - 1) := by
  funext y
  have hy : (y 0).val < 1024 := (y 0).isLt
  exact g (k / 16 - 1) hk y (by omega) (by omega)

/-- What a point makes of the two buffers. -/
def nextA (t : ℕ) (a : Vec F S1024x4096 .bf16) : Vec F S1024x4096 .bf16 :=
  if (t / 16) % 2 = 1 then a else slot a (t % 16) (f t)
def nextB (t : ℕ) (b : Vec F S1024x4096 .bf16) : Vec F S1024x4096 .bf16 :=
  if (t / 16) % 2 = 1 then slot b (t % 16) (f t) else b

theorem good_nextA {t : ℕ} {a : Vec F S1024x4096 .bf16} (g : Good f 0 t a) : Good f 0 (t + 1) (nextA f t a) := by
  unfold nextA
  split
  · exact g.keep f (by omega)
  · exact g.add f (by omega)

theorem good_nextB {t : ℕ} {b : Vec F S1024x4096 .bf16} (g : Good f 1 t b) : Good f 1 (t + 1) (nextB f t b) := by
  unfold nextB
  split
  · exact g.add f (by omega)
  · exact g.keep f (by omega)

end Cert.InIdeal.Acc

end
-- ==== Proof.InIdeal.Frame.lean ====
module

public import proofs.«01_k».proof.Proof.InIdeal.Run
public import proofs.«01_k».proof.Proof.InIdeal.Turns
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.InIdeal.Acc

open Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Grid point `n`. -/
def pt (n : ℕ) : Fin cfg0.N := ⟨n % 144, by rw [show cfg0.N = 144 from N_0]; exact Nat.mod_lt _ (by decide)⟩

theorem pt_val (t : Fin cfg0.N) : pt t.val = t := Fin.ext (Nat.mod_eq_of_lt (lt_of_lt_of_eq t.isLt (show cfg0.N = 144 from N_0)))

/-! ## What the two buffers of normalized rows hold -/

/-- The 64 rows point `n` normalizes. -/
def normedAt (c : Dev nD) (n : ℕ) : Vec F S64x4096 .bf16 := normed (iblk m c 0 (pt n)) (iblk m c 1 (pt n)) (iblk m c 2 (pt n)) (iblk m c 3 (pt n))

/-- Between points the first buffer holds rows of even blocks, the second rows of odd ones. -/
def carried (c : Dev nD) (k : Fin (cfg0.N + 1)) : sProp 𝕄 :=
  iprop(((∃ d, ⌜Good (normedAt m c) 0 k.val d⌝ ∗ owns (c : Thread nD τ) scrA fullShare d)
    ∗ (∃ d, ⌜Good (normedAt m c) 1 k.val d⌝ ∗ owns (c : Thread nD τ) scrB fullShare d)) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blockP (tile (normedAt m c) (t.val / 16 - 1)) (iblk m c 5 t)
    | ⟨7, _⟩ => blockS (iblk m c 4 t) (iblk m c 5 t)
  Φ k := carried m c k
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem leaves0 (c : Dev nD) (t : Fin cfg0.N) : (dats m 0 c).leavesExact 0 t = owns (c : Thread nD τ) (st0 t) fullShare (iblk m c 0 t) := by
  unfold Dat.leavesExact; rw [show cfg0.idle 0 (cfg0.grid.coords t) = false from rfl, after0]
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem leaves1 (c : Dev nD) (t : Fin cfg0.N) : (dats m 0 c).leavesExact 1 t = owns (c : Thread nD τ) (st1 t) fullShare (iblk m c 1 t) := by
  unfold Dat.leavesExact; rw [show cfg0.idle 1 (cfg0.grid.coords t) = false from rfl, after1]
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem leaves2 (c : Dev nD) (t : Fin cfg0.N) : (dats m 0 c).leavesExact 2 t = owns (c : Thread nD τ) (st2 t) fullShare (iblk m c 2 t) := by
  unfold Dat.leavesExact; rw [show cfg0.idle 2 (cfg0.grid.coords t) = false from rfl, after2]
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem leaves3 (c : Dev nD) (t : Fin cfg0.N) : (dats m 0 c).leavesExact 3 t = owns (c : Thread nD τ) (st3 t) fullShare (iblk m c 3 t) := by
  unfold Dat.leavesExact; rw [show cfg0.idle 3 (cfg0.grid.coords t) = false from rfl, after3]
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d
theorem leaves4 (c : Dev nD) (t : Fin cfg0.N) : (dats m 0 c).leavesExact 4 t = owns (c : Thread nD τ) (st4 t) fullShare (iblk m c 4 t) := by
  unfold Dat.leavesExact; rw [show cfg0.idle 4 (cfg0.grid.coords t) = false from rfl, after4]
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (A_eq m c 5) (after5 m c) t d
theorem leaves5 (c : Dev nD) (t : Fin cfg0.N) : (dats m 0 c).leavesExact 5 t = owns (c : Thread nD τ) (st5 t) fullShare (iblk m c 5 t) := by
  unfold Dat.leavesExact; rw [show cfg0.idle 5 (cfg0.grid.coords t) = false from rfl, after5]
theorem after6 (c : Dev nD) (t : Fin cfg0.N) : (dats m 0 c).after 6 t = blockP (tile (normedAt m c) (t.val / 16 - 1)) (iblk m c 5 t) := by dsimp only [dats]
theorem after7 (c : Dev nD) (t : Fin cfg0.N) : (dats m 0 c).after 7 t = blockS (iblk m c 4 t) (iblk m c 5 t) := by dsimp only [dats]

/-! ## Where a buffer is written, and where it is left alone -/

theorem idle6 : ∀ t : Fin cfg0.N, cfg0.idle 6 (cfg0.grid.coords t) = false ↔ 16 ≤ t.val :=
  (by decide +kernel : ∀ t : Fin grid0.N, idle0 6 (grid0.coords t) = false ↔ 16 ≤ t.val)
theorem flushed6 : ∀ t : Fin cfg0.N, (cfg0.win 6).flush t = true → 16 ≤ t.val :=
  (by decide +kernel : ∀ t : Fin grid0.N, win0_6.flush t = true → 16 ≤ t.val)
theorem live6 (c : Dev nD) (t : Fin cfg0.N) (h : 16 ≤ t.val) : (dats m 0 c).leavesExact 6 t = owns (c : Thread nD τ) (st6 t) fullShare ((dats m 0 c).after 6 t) := by
  unfold Dat.leavesExact; rw [(idle6 t).2 h]
theorem still6 (c : Dev nD) (t : Fin cfg0.N) (h : ¬16 ≤ t.val) (d) : owns (c : Thread nD τ) (st6 t) fullShare ((dats m 0 c).before 6 t d) ⊢ (dats m 0 c).leavesExact 6 t := by
  rw [(dats m 0 c).leavesExact_idle 6 t (Bool.eq_true_of_not_eq_false fun e => h ((idle6 t).1 e)) (Bool.eq_false_iff.2 fun e => h (flushed6 t e))]
  iintro H; iexists d; iexact H
theorem idle7 : ∀ t : Fin cfg0.N, cfg0.idle 7 (cfg0.grid.coords t) = false ↔ 128 ≤ t.val :=
  (by decide +kernel : ∀ t : Fin grid0.N, idle0 7 (grid0.coords t) = false ↔ 128 ≤ t.val)
theorem flushed7 : ∀ t : Fin cfg0.N, (cfg0.win 7).flush t = true → 128 ≤ t.val :=
  (by decide +kernel : ∀ t : Fin grid0.N, win0_7.flush t = true → 128 ≤ t.val)
theorem live7 (c : Dev nD) (t : Fin cfg0.N) (h : 128 ≤ t.val) : (dats m 0 c).leavesExact 7 t = owns (c : Thread nD τ) (st7 t) fullShare ((dats m 0 c).after 7 t) := by
  unfold Dat.leavesExact; rw [(idle7 t).2 h]
theorem still7 (c : Dev nD) (t : Fin cfg0.N) (h : ¬128 ≤ t.val) (d) : owns (c : Thread nD τ) (st7 t) fullShare ((dats m 0 c).before 7 t d) ⊢ (dats m 0 c).leavesExact 7 t := by
  rw [(dats m 0 c).leavesExact_idle 7 t (Bool.eq_true_of_not_eq_false fun e => h ((idle7 t).1 e)) (Bool.eq_false_iff.2 fun e => h (flushed7 t e))]
  iintro H; iexists d; iexact H

/-! ## One point -/

def bodyPre (c : Dev nD) (t : Fin cfg0.N) : sProp 𝕄 :=
  iprop((dats m 0 c).Φ t.castSucc
    ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d)))

def bodyPost (c : Dev nD) (t : Fin cfg0.N) : sProp 𝕄 :=
  iprop((dats m 0 c).Φ t.succ
    ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem run_point (c : Dev nD) (t : Fin cfg0.N) (d6 : Vec F S1024x512 .bf16) (d7 : Vec F S128x512 .bf16) (a b : Vec F S1024x4096 .bf16)
    (ga : Good (normedAt m c) 0 t.val a) (gb : Good (normedAt m c) 1 t.val b) (K : PUnit → sProp 𝕄) :
    iprop(owns (c : Thread nD τ) (st0 t) fullShare (iblk m c 0 t) ∗ owns (c : Thread nD τ) (st1 t) fullShare (iblk m c 1 t) ∗ owns (c : Thread nD τ) (st2 t) fullShare (iblk m c 2 t) ∗ owns (c : Thread nD τ) (st3 t) fullShare (iblk m c 3 t) ∗ owns (c : Thread nD τ) (st4 t) fullShare (iblk m c 4 t) ∗ owns (c : Thread nD τ) (st5 t) fullShare (iblk m c 5 t) ∗ owns (c : Thread nD τ) (st6 t) fullShare d6 ∗ owns (c : Thread nD τ) (st7 t) fullShare d7 ∗ owns (c : Thread nD τ) scrA fullShare a ∗ owns (c : Thread nD τ) scrB fullShare b
        ∗ (iprop(owns (c : Thread nD τ) (st0 t) fullShare (iblk m c 0 t) ∗ owns (c : Thread nD τ) (st1 t) fullShare (iblk m c 1 t) ∗ owns (c : Thread nD τ) (st2 t) fullShare (iblk m c 2 t) ∗ owns (c : Thread nD τ) (st3 t) fullShare (iblk m c 3 t) ∗ owns (c : Thread nD τ) (st4 t) fullShare (iblk m c 4 t) ∗ owns (c : Thread nD τ) (st5 t) fullShare (iblk m c 5 t) ∗ owns (c : Thread nD τ) (st6 t) fullShare (if 16 ≤ t.val then (dats m 0 c).after 6 t else d6) ∗ owns (c : Thread nD τ) (st7 t) fullShare (if 128 ≤ t.val then (dats m 0 c).after 7 t else d7) ∗ owns (c : Thread nD τ) scrA fullShare (nextA (normedAt m c) t.val a) ∗ owns (c : Thread nD τ) scrB fullShare (nextB (normedAt m c) t.val b)) -∗ K ⟨⟩))
      ⊢ wp frame (wpE (defs₀ (F := F)) Variants.none c none) Set.univ (bodyAt0 t) K := by
  unfold bodyAt0
  have hN : t.val < 144 := lt_of_lt_of_eq t.isLt (show cfg0.N = 144 from N_0)
  have en : normedAt m c t.val = normed (iblk m c 0 t) (iblk m c 1 t) (iblk m c 2 t) (iblk m c 3 t) := by unfold normedAt; rw [pt_val]
  refine run c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) scrA (Memref.isWhole_whole _) scrB (Memref.isWhole_whole _) ?_ (iblk m c 0 t) (iblk m c 1 t) (iblk m c 2 t) (iblk m c 3 t) (iblk m c 4 t) (iblk m c 5 t) d6 _ d7 _ a _ b _ ?_ ?_ ?_ ?_ Set.univ K
  all_goals simp only [condFirst_iff t, condOdd_iff t, condEven_iff t, condSample_iff t, col_val t]
  · omega
  · refine ⟨fun h => if_neg (by omega), fun h => (if_pos (by omega)).trans ((after6 m c t).trans ?_), fun h => (if_pos (by omega)).trans ((after6 m c t).trans ?_)⟩
    · rw [← ga.full _ (by omega) (by omega)]
    · rw [← gb.full _ (by omega) (by omega)]
  · exact ⟨fun h => (if_pos h).trans (after7 m c t), fun h => if_neg h⟩
  · rw [← en]; exact ⟨fun h => if_pos h, fun h => if_neg h⟩
  · rw [← en]; exact ⟨fun h => if_pos h, fun h => if_neg h⟩

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3, before4, before5, leaves0, leaves1, leaves2, leaves3, leaves4, leaves5]
  rw [show (dats m 0 c).owesAt () t.succ = (dats m 0 c).owesAt () t.castSucc from rfl,
    show (dats m 0 c).Φ t.castSucc = carried m c t.castSucc from rfl, show (dats m 0 c).Φ t.succ = carried m c t.succ from rfl]
  unfold carried
  iintro ⟨⟨⟨⟨%a, %ga, HA⟩, ⟨%b, %gb, HB⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_point m c t _ _ a b ga gb _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HA]; · iexact HA
  isplitl [HB]; · iexact HB
  iintro ⟨H0, H1, H2, H3, H4, H5, H6, H7, HA, HB⟩
  isplitl [HA HB Hg]
  · isplitl [HA HB]
    · isplitl [HA]
      · iexists _
        isplitr
        · ipureintro; exact good_nextA _ ga
        iexact HA
      iexists _
      isplitr
      · ipureintro; exact good_nextB _ gb
      iexact HB
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · by_cases h : 16 ≤ t.val
    · rw [live6 m c t h, if_pos h]; iexact H6
    · rw [if_neg h]; iapply still6 m c t h d6; iexact H6
  by_cases h : 128 ≤ t.val
  · rw [live7 m c t h, if_pos h]; iexact H7
  · rw [if_neg h]; iapply still7 m c t h d7; iexact H7

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run -/

theorem scratch_whole (c : Dev nD) :
    (Pipeline.ΦA spec0 c : sProp 𝕄) = iprop(iprop((∃ d, owns (c : Thread nD τ) scrA fullShare d) ∗ (∃ d, owns (c : Thread nD τ) scrB fullShare d)) ∗ (∃ r, prngReg c r)) := by
  unfold Pipeline.ΦA; rw [scopedRest0_eq]; simp only [scrA, scrB, owns_whole]; try rfl

theorem carried_in (c : Dev nD) : Pipeline.ΦA spec0 c ⊢ (dats (F := F) m 0 c).Φ 0 := by
  rw [scratch_whole, show (dats (F := F) m 0 c).Φ 0 = carried m c 0 from rfl]
  unfold carried
  iintro ⟨⟨⟨%d, HA⟩, ⟨%e, HB⟩⟩, Hg⟩
  isplitl [HA HB]
  · isplitl [HA]
    · iexists d
      isplitr
      · ipureintro; exact Good.start _ 0 d
      iexact HA
    iexists e
    isplitr
    · ipureintro; exact Good.start _ 1 e
    iexact HB
  iexact Hg

theorem carried_out (c : Dev nD) : (dats (F := F) m 0 c).Φ (Fin.last cfg0.N) ⊢ Pipeline.ΦA spec0 c := by
  rw [scratch_whole, show (dats (F := F) m 0 c).Φ (Fin.last cfg0.N) = carried m c (Fin.last cfg0.N) from rfl]
  unfold carried
  iintro ⟨⟨⟨%d, -, HA⟩, ⟨%e, -, HB⟩⟩, Hg⟩
  isplitl [HA HB]
  · isplitl [HA]
    · iexists d; iexact HA
    iexists e; iexact HB
  iexact Hg

set_option backward.isDefEq.respectTransparency.types false in
/-- Every execution ends, with the arrays as the points leave them and every counter at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl) (howed := fun _ _ => rfl) (V := V m) (hmain := hmain m Variants.none)
    (hA := A_eq m) (hin := carried_in m) (hout := carried_out m)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.InIdeal.Acc

end
-- ==== Proof.InIdeal.Math.lean ====
module

public import Idealize.ShloMosaic.Lib.ValueIdxCore
public import Idealize.ShloMosaic.Lib.ValueLayout
public import Idealize.ShloMosaic.Lib.ValueLayoutCasts
public import Idealize.ShloMosaic.Lib.Pointwise
public import Idealize.ShloMosaic.Lib.Claim
public import Idealize.ShloMosaic.Lib.StableHlo.RunRead
public import Idealize.ShloMosaic.Lib.Pipeline.ValueKit.Geometry
public import Idealize.ShloMosaic.Lib.VecWindow
public import Idealize.ShloMosaic.PureOps.Ideal
public import Idealize.ShloMosaic.PureOps.Ideal.Laws

@[expose] public section

noncomputable section

/-! The entries of an input projection of the gMLP, as the programs leave them. -/

namespace Cert.InMath

open Idealize.ShloMosaic

/-- The activation. -/
def gelu (z : EReal) : EReal :=
  z * (Ideal.ofBits .f32 0x3F000000#32 * (1 + Ideal.tanh (Ideal.ofBits .f32 0x3F4C422A#32 * (z + Ideal.ofBits .f32 0x3D372713#32 * (z * (z * z))))))

/-- Entry `n` of a row divided by its root mean square. -/
def rms (row : Fin 4096 → EReal) (n : Fin 4096) : EReal :=
  row n * Ideal.rsqrt (Ideal.div (∑ x : Fin 4096, row x * row x) (Ideal.ofBits .f32 0x45800000#32) + Ideal.ofBits .f32 0x358637BD#32)

/-- The same times a gain, modulated by a scale and a shift. -/
def modulated (row : Fin 4096 → EReal) (gain scale shift : EReal) (n : Fin 4096) : EReal := rms row n * gain * (1 + scale) + shift

section
variable (x y : FVec Ideal ⟨3, ![4, 2048, 4096]⟩ .f32) (gate : FVec Ideal ⟨3, ![4, 1, 4096]⟩ .f32) (post : FVec Ideal ⟨1, ![4096]⟩ .f32) (gain : FVec Ideal ⟨1, ![4096]⟩ .f32)
  (shift scale : FVec Ideal ⟨3, ![4, 1, 4096]⟩ .f32) (h : FVec Ideal ⟨3, ![8, 16, 4096]⟩ .f32) (l : Fin 2) (w : FVec Ideal ⟨3, ![2, 4096, 8192]⟩ .f32) (v : Fin 8192 → Fin 4096 → EReal)

/-- Row `r` of the prompt, sequences one after the other. -/
def flat (r : Fin 8192) (n : Fin 4096) : EReal := x (ix3 (n0 := 4) (n1 := 2048) (n2 := 4096) ⟨r.val / 2048, by omega⟩ ⟨r.val % 2048, by omega⟩ n)

/-- The same plus the gated, normalized row of another array. -/
def summed (r : Fin 8192) (n : Fin 4096) : EReal :=
  flat x r n + gate (ix3 (n0 := 4) (n1 := 1) (n2 := 4096) ⟨r.val / 2048, by omega⟩ 0 n) * (rms (flat y r) n * post (ix1 (n0 := 4096) n))

/-- Row `r` of `v` normalized and modulated. -/
def row (r : Fin 8192) (n : Fin 4096) : EReal :=
  modulated (v r) (gain (ix1 (n0 := 4096) n)) (scale (ix3 (n0 := 4) (n1 := 1) (n2 := 4096) ⟨r.val / 2048, by omega⟩ 0 n)) (shift (ix3 (n0 := 4) (n1 := 1) (n2 := 4096) ⟨r.val / 2048, by omega⟩ 0 n)) n

/-- The prompt's result and the sample's, with the weights of block `l`. -/
def entryP (r k : Fin 8192) : EReal :=
  gelu (∑ n : Fin 4096, row gain shift scale v r n * w (ix3 (n0 := 2) (n1 := 4096) (n2 := 8192) l n k))
def entryS (r : Fin 128) (k : Fin 8192) : EReal :=
  gelu (∑ n : Fin 4096, h (ix3 (n0 := 8) (n1 := 16) (n2 := 4096) ⟨r.val / 16, by omega⟩ ⟨r.val % 16, by omega⟩ n) * w (ix3 (n0 := 2) (n1 := 4096) (n2 := 8192) l n k))
end

end Cert.InMath

end
-- ==== Proof.InIdeal.Out.lean ====
module

public import proofs.«01_k».proof.Proof.InIdeal.Frame
public import proofs.«01_k».proof.Proof.InIdeal.Math
public import Idealize.ShloMosaic.Lib.ValueIdxCore
public import Idealize.ShloMosaic.Lib.ValueLayout
public import Idealize.ShloMosaic.Lib.ValueLayoutCasts
public import Idealize.ShloMosaic.Lib.Pointwise
public import Idealize.ShloMosaic.Lib.Claim
public import Idealize.ShloMosaic.Lib.StableHlo.RunRead
public import Idealize.ShloMosaic.Lib.Pipeline.ValueKit.Geometry
public import Idealize.ShloMosaic.Lib.VecWindow
public import Idealize.ShloMosaic.PureOps.Ideal
public import Idealize.ShloMosaic.PureOps.Ideal.Laws

@[expose] public section

set_option maxRecDepth 16384

noncomputable section

namespace Cert.InIdeal.Val

open Cert.InIdeal Cert.InIdeal.Gen Cert.InIdeal.Acc Cert.InMath
open Idealize.ShloMosaic Idealize.ShloMosaic.TcCoe Idealize.ShloMosaic.Tactic
open Idealize.ShloMosaic.Pipeline (Dat Cfg Window)
open Idealize.SL.Sem

/-! ## The entries of what one point computes -/

theorem rows_entry (x5 : Vec Ideal S1x4096x512 .f32) (v : Vec Ideal S512x4096 .bf16) (r : Fin 512) (k : Fin 512) :
    rows (F := Ideal) x5 v (ix2 r k) = gelu (∑ n : Fin 4096, v (ix2 (n0 := 512) (n1 := 4096) r n) * x5 (ix3 (n0 := 1) (n1 := 4096) (n2 := 512) 0 n k)) := by
  unfold rows wts act gelu
  pointwise

theorem blockS_entry (x4 : Vec Ideal S128x4096 .bf16) (x5 : Vec Ideal S1x4096x512 .f32) (r : Fin 128) (k : Fin 512) :
    blockS (F := Ideal) x4 x5 (ix2 r k) = gelu (∑ n : Fin 4096, x4 (ix2 (n0 := 128) (n1 := 4096) r n) * x5 (ix3 (n0 := 1) (n1 := 4096) (n2 := 512) 0 n k)) := by
  unfold blockS wts act gelu
  pointwise

theorem blockP_entry (h : Vec Ideal S1024x4096 .bf16) (x5 : Vec Ideal S1x4096x512 .f32) (r : Fin 1024) (k : Fin 512) :
    blockP (F := Ideal) h x5 (ix2 r k) = gelu (∑ n : Fin 4096, h (ix2 (n0 := 1024) (n1 := 4096) r n) * x5 (ix3 (n0 := 1) (n1 := 4096) (n2 := 512) 0 n k)) := by
  refine (rows_entry x5 (part h (512 * (r.val / 512))) ⟨r.val % 512, by omega⟩ k).trans ?_
  refine congrArg gelu (Finset.sum_congr rfl fun n _ => congrArg (fun a : EReal => a * x5 (ix3 (n0 := 1) (n1 := 4096) (n2 := 512) 0 n k)) (congrArg h ?_))
  refine congrArg₂ (ix2 (n0 := 1024) (n1 := 4096)) (Fin.ext ?_) rfl
  show (512 * (r.val / 512) + r.val % 512) % 1024 = r.val
  omega

theorem normRows_entry (x : FVec Ideal S64x4096 .f32) (x1 x2 x3 : Vec Ideal S1x1x4096 .f32) (r : Fin 64) (n : Fin 4096) :
    normRows (F := Ideal) x x1 x2 x3 (ix2 r n)
      = modulated (fun n => x (ix2 (n0 := 64) (n1 := 4096) r n)) (x1 (ix3 (n0 := 1) (n1 := 1) (n2 := 4096) 0 0 n)) (x3 (ix3 (n0 := 1) (n1 := 1) (n2 := 4096) 0 0 n)) (x2 (ix3 (n0 := 1) (n1 := 1) (n2 := 4096) 0 0 n)) n := by
  unfold normRows modulated rms
  pointwise

theorem normed_entry (x0 : Vec Ideal S64x4096 .f32) (x1 x2 x3 : Vec Ideal S1x1x4096 .f32) (r : Fin 64) (n : Fin 4096) :
    normed (F := Ideal) x0 x1 x2 x3 (ix2 r n)
      = modulated (fun n => x0 (ix2 (n0 := 64) (n1 := 4096) r n)) (x1 (ix3 (n0 := 1) (n1 := 1) (n2 := 4096) 0 0 n)) (x3 (ix3 (n0 := 1) (n1 := 1) (n2 := 4096) 0 0 n)) (x2 (ix3 (n0 := 1) (n1 := 1) (n2 := 4096) 0 0 n)) n := by
  refine (normRows_entry _ x1 x2 x3 r n).trans (congrArg (fun v : Fin 4096 → EReal => modulated v _ _ _ n) (funext fun n => ?_))
  pointwise

/-- A block of 1024 rows is sixteen blocks of 64. -/
theorem tile_of (f : ℕ → Vec Ideal S64x4096 .bf16) (v : Fin 8192 → Fin 4096 → EReal)
    (hf : ∀ (q : ℕ) (hq : q < 128) (r : Fin 64) (n : Fin 4096), f q (ix2 (n0 := 64) (n1 := 4096) r n) = v ⟨64 * q + r.val, by omega⟩ n) (p : ℕ) (hp : p < 8) (r : Fin 1024) (n : Fin 4096) :
    tile (F := Ideal) f p (ix2 r n) = v ⟨1024 * p + r.val, by omega⟩ n := by
  refine (hf (16 * p + r.val / 64) (by omega) ⟨r.val % 64, by omega⟩ n).trans ?_
  refine congrArg (fun r => v r n) (Fin.ext ?_)
  show 64 * (16 * p + r.val / 64) + r.val % 64 = 1024 * p + r.val
  omega

/-! ## The arrays the call takes -/

variable (m : (ℓ : Loc nD τ sig) → Buf (Elt Ideal) ℓ) (c : Dev nD)

/-- A host operation line before the call, as one list. -/
theorem v_eq (r : Ref sig .tc) : V (F := Ideal) m c r = StableHlo.after hostOps0 (fun b => m (c, b)) (Proc.devRef .tc r) := rfl

/-- The prompt's rows, the gain, the shift and scale of each sequence, the sample's rows and the weights, as given to the program. -/
def argX : FVec Ideal S4x2048x4096 .f32 := m ((c.tc : Thread nD τ).loc main_arg0)
def argG : FVec Ideal S4096 .f32 := m ((c.tc : Thread nD τ).loc main_arg1)
def argB : FVec Ideal S4x1x4096 .f32 := m ((c.tc : Thread nD τ).loc main_arg2)
def argC : FVec Ideal S4x1x4096 .f32 := m ((c.tc : Thread nD τ).loc main_arg3)
def argS : FVec Ideal S8x16x4096 .f32 := m ((c.tc : Thread nD τ).loc main_arg4)
def argW : FVec Ideal S2x4096x8192 .f32 := m ((c.tc : Thread nD τ).loc main_arg5)

theorem x_entry (r : Fin 8192) (n : Fin 4096) :
    (V (F := Ideal) m c main_v2 : FVec Ideal S8192x4096 .f32) (ix2 r n) = argX m c (ix3 (n0 := 4) (n1 := 2048) (n2 := 4096) ⟨r.val / 2048, by omega⟩ ⟨r.val % 2048, by omega⟩ n) := by
  rw [v_eq]
  after_reads_simp
  pointwise
  rfl

theorem g_entry (n : Fin 4096) :
    (V (F := Ideal) m c main_v3 : FVec Ideal S1x1x4096 .f32) (ix3 (n0 := 1) (n1 := 1) (n2 := 4096) 0 0 n) = argG m c (ix1 (n0 := 4096) n) := by
  rw [v_eq]
  after_reads_simp
  pointwise
  rfl

theorem s_entry (r : Fin 128) (n : Fin 4096) :
    (V (F := Ideal) m c main_v1 : FVec Ideal S128x4096 .bf16) (ix2 r n) = argS m c (ix3 (n0 := 8) (n1 := 16) (n2 := 4096) ⟨r.val / 16, by omega⟩ ⟨r.val % 16, by omega⟩ n) := by
  rw [v_eq]
  after_reads_simp
  pointwise
  rfl

theorem index0 : ∀ t : Fin cfg0.N, t.val < 128 → win0_0.index t = ![t.val, 0] := by decide +kernel
theorem block0_entry (t : Fin cfg0.N) (ht : t.val < 128) (r : Fin 64) (n : Fin 4096) :
    (iblk m c 0 t : Vec Ideal S64x4096 .f32) (ix2 r n) = (V (F := Ideal) m c main_v2 : FVec Ideal S8192x4096 .f32) (ix2 (n0 := 8192) (n1 := 4096) ⟨64 * t.val + r.val, by omega⟩ n) := by
  unfold iblk
  refine congrArg (V m c main_v2) ?_
  funext a; apply Fin.ext
  refine (Pipeline.Window.rect_emb_val win0_0 t (ix2 (n0 := 64) (n1 := 4096) r n) a).trans ?_
  rw [index0 t ht]
  match a with
  | ⟨0, _⟩ => show t.val * 64 + r.val = 64 * t.val + r.val; omega
  | ⟨1, _⟩ => show 0 * 4096 + n.val = n.val; omega

theorem index1 : ∀ t : Fin cfg0.N, win0_1.index t = ![0, 0, 0] := by decide +kernel
theorem block1_entry (t : Fin cfg0.N) (n : Fin 4096) :
    (iblk m c 1 t : Vec Ideal S1x1x4096 .f32) (ix3 0 0 n) = argG m c (ix1 (n0 := 4096) n) := by
  rw [← g_entry]
  unfold iblk
  refine congrArg (V m c main_v3) ?_
  funext a; apply Fin.ext
  refine (Pipeline.Window.rect_emb_val win0_1 t (ix3 (n0 := 1) (n1 := 1) (n2 := 4096) 0 0 n) a).trans ?_
  rw [index1 t]
  match a with
  | ⟨0, _⟩ => show 0 * 1 + 0 = 0; omega
  | ⟨1, _⟩ => show 0 * 1 + 0 = 0; omega
  | ⟨2, _⟩ => show 0 * 4096 + n.val = n.val; omega

theorem index2 : ∀ t : Fin cfg0.N, t.val < 128 → win0_2.index t = ![t.val / 32, 0, 0] := by decide +kernel
theorem block2_entry (t : Fin cfg0.N) (ht : t.val < 128) (n : Fin 4096) :
    (iblk m c 2 t : Vec Ideal S1x1x4096 .f32) (ix3 0 0 n) = argB m c (ix3 (n0 := 4) (n1 := 1) (n2 := 4096) ⟨t.val / 32, by omega⟩ 0 n) := by
  unfold iblk
  refine (congrArg (V m c main_arg2) ?_).trans (congrFun (V_main_arg2 (F := Ideal) m c) (ix3 (n0 := 4) (n1 := 1) (n2 := 4096) ⟨t.val / 32, by omega⟩ 0 n))
  funext a; apply Fin.ext
  refine (Pipeline.Window.rect_emb_val win0_2 t (ix3 (n0 := 1) (n1 := 1) (n2 := 4096) 0 0 n) a).trans ?_
  rw [index2 t ht]
  match a with
  | ⟨0, _⟩ => show (t.val / 32) * 1 + 0 = t.val / 32; omega
  | ⟨1, _⟩ => show 0 * 1 + 0 = 0; omega
  | ⟨2, _⟩ => show 0 * 4096 + n.val = n.val; omega

theorem index3 : ∀ t : Fin cfg0.N, t.val < 128 → win0_3.index t = ![t.val / 32, 0, 0] := by decide +kernel
theorem block3_entry (t : Fin cfg0.N) (ht : t.val < 128) (n : Fin 4096) :
    (iblk m c 3 t : Vec Ideal S1x1x4096 .f32) (ix3 0 0 n) = argC m c (ix3 (n0 := 4) (n1 := 1) (n2 := 4096) ⟨t.val / 32, by omega⟩ 0 n) := by
  unfold iblk
  refine (congrArg (V m c main_arg3) ?_).trans (congrFun (V_main_arg3 (F := Ideal) m c) (ix3 (n0 := 4) (n1 := 1) (n2 := 4096) ⟨t.val / 32, by omega⟩ 0 n))
  funext a; apply Fin.ext
  refine (Pipeline.Window.rect_emb_val win0_3 t (ix3 (n0 := 1) (n1 := 1) (n2 := 4096) 0 0 n) a).trans ?_
  rw [index3 t ht]
  match a with
  | ⟨0, _⟩ => show (t.val / 32) * 1 + 0 = t.val / 32; omega
  | ⟨1, _⟩ => show 0 * 1 + 0 = 0; omega
  | ⟨2, _⟩ => show 0 * 4096 + n.val = n.val; omega

theorem index4 : ∀ t : Fin cfg0.N, win0_4.index t = ![0, 0] := by decide +kernel
theorem block4_entry (t : Fin cfg0.N) (r : Fin 128) (n : Fin 4096) :
    (iblk m c 4 t : Vec Ideal S128x4096 .bf16) (ix2 r n) = argS m c (ix3 (n0 := 8) (n1 := 16) (n2 := 4096) ⟨r.val / 16, by omega⟩ ⟨r.val % 16, by omega⟩ n) := by
  rw [← s_entry]
  unfold iblk
  refine congrArg (V m c main_v1) ?_
  funext a; apply Fin.ext
  refine (Pipeline.Window.rect_emb_val win0_4 t (ix2 (n0 := 128) (n1 := 4096) r n) a).trans ?_
  rw [index4 t]
  match a with
  | ⟨0, _⟩ => show 0 * 128 + r.val = r.val; omega
  | ⟨1, _⟩ => show 0 * 4096 + n.val = n.val; omega

theorem index5 : ∀ t : Fin cfg0.N, 16 ≤ t.val → win0_5.index t = ![0, 0, t.val % 16] := by decide +kernel
theorem block5_entry (t : Fin cfg0.N) (ht : 16 ≤ t.val) (n : Fin 4096) (k : Fin 512) :
    (iblk m c 5 t : Vec Ideal S1x4096x512 .f32) (ix3 0 n k) = argW m c (ix3 (n0 := 2) (n1 := 4096) (n2 := 8192) 0 n ⟨512 * (t.val % 16) + k.val, by omega⟩) := by
  unfold iblk
  refine (congrArg (V m c main_arg5) ?_).trans (congrFun (V_main_arg5 (F := Ideal) m c) (ix3 (n0 := 2) (n1 := 4096) (n2 := 8192) 0 n ⟨512 * (t.val % 16) + k.val, by omega⟩))
  funext a; apply Fin.ext
  refine (Pipeline.Window.rect_emb_val win0_5 t (ix3 (n0 := 1) (n1 := 4096) (n2 := 512) 0 n k) a).trans ?_
  rw [index5 t ht]
  match a with
  | ⟨0, _⟩ => show 0 * 1 + 0 = 0; omega
  | ⟨1, _⟩ => show 0 * 4096 + n.val = n.val; omega
  | ⟨2, _⟩ => show (t.val % 16) * 512 + k.val = 512 * (t.val % 16) + k.val; omega

/-! ## The normalized rows -/

theorem normedAt_entry (q : ℕ) (hq : q < 128) (r : Fin 64) (n : Fin 4096) :
    normedAt (F := Ideal) m c q (ix2 r n) = row (argG m c) (argB m c) (argC m c) (flat (argX m c)) ⟨64 * q + r.val, by omega⟩ n := by
  have e : (pt q).val = q := Nat.mod_eq_of_lt (by omega)
  have h : (pt q).val < 128 := by omega
  refine (normed_entry _ _ _ _ r n).trans ?_
  have er : (fun n => (iblk m c 0 (pt q) : Vec Ideal S64x4096 .f32) (ix2 (n0 := 64) (n1 := 4096) r n))
      = fun n => argX m c (ix3 (n0 := 4) (n1 := 2048) (n2 := 4096) ⟨(64 * q + r.val) / 2048, by omega⟩ ⟨(64 * q + r.val) % 2048, by omega⟩ n) := by
    funext n
    refine (block0_entry m c (pt q) h r n).trans ((x_entry m c _ n).trans (congrArg (argX m c) ?_))
    exact congrArg₂ (fun a b => ix3 (n0 := 4) (n1 := 2048) (n2 := 4096) a b n) (Fin.ext (by show (64 * (pt q).val + r.val) / 2048 = _; rw [e])) (Fin.ext (by show (64 * (pt q).val + r.val) % 2048 = _; rw [e]))
  have eb : (⟨(pt q).val / 32, by omega⟩ : Fin 4) = ⟨(64 * q + r.val) / 2048, by omega⟩ := Fin.ext (by show (pt q).val / 32 = (64 * q + r.val) / 2048; omega)
  rw [er, block1_entry, block2_entry m c (pt q) h, block3_entry m c (pt q) h, eb]
  rfl

/-! ## The two results -/

def wholeP (y : S8192x8192.Idx) : EReal := entryP (argG m c) (argB m c) (argC m c) 0 (argW m c) (flat (argX m c)) (y 0) (y 1)
def wholeS (y : S128x8192.Idx) : EReal := entryS (argS m c) 0 (argW m c) (y 0) (y 1)

theorem index6 : ∀ t : Fin cfg0.N, 16 ≤ t.val → win0_6.index t = ![t.val / 16 - 1, t.val % 16] := by decide +kernel
theorem index7 : ∀ t : Fin cfg0.N, 128 ≤ t.val → win0_7.index t = ![0, t.val % 16] := by decide +kernel

theorem emb6 (t : Fin cfg0.N) (ht : 16 ≤ t.val) (r : Fin 1024) (k : Fin 512) :
    (win0_6.blk t).view.emb (ix2 (n0 := 1024) (n1 := 512) r k) = ix2 (n0 := 8192) (n1 := 8192) ⟨1024 * (t.val / 16 - 1) + r.val, by have hN := lt_of_lt_of_eq t.isLt (show cfg0.N = 144 from N_0); omega⟩ ⟨512 * (t.val % 16) + k.val, by omega⟩ := by
  funext a; apply Fin.ext
  refine (Pipeline.Window.rect_emb_val win0_6 t (ix2 (n0 := 1024) (n1 := 512) r k) a).trans ?_
  rw [index6 t ht]
  match a with
  | ⟨0, _⟩ => show (t.val / 16 - 1) * 1024 + r.val = 1024 * (t.val / 16 - 1) + r.val; omega
  | ⟨1, _⟩ => show (t.val % 16) * 512 + k.val = 512 * (t.val % 16) + k.val; omega

theorem arr6 : (dats m 0 c).arrAt 6 cfg0.N = wholeP m c := by
  refine (dats m 0 c).arrAt_eq_of_covers 6 _ (by decide +kernel) fun t hf y => ?_
  have hN := lt_of_lt_of_eq t.isLt (show cfg0.N = 144 from N_0)
  have ht : 16 ≤ t.val := flushed6 t hf
  have e : y = ix2 (n0 := 1024) (n1 := 512) ⟨(y 0).val, (y 0).isLt⟩ ⟨(y 1).val, (y 1).isLt⟩ := eq_ix2 y
  have hr : (y 0).val < 1024 := (y 0).isLt
  have hk : (y 1).val < 512 := (y 1).isLt
  rw [after6, e]
  refine Eq.trans ?_ (congrArg (wholeP m c) (emb6 t ht ⟨(y 0).val, (y 0).isLt⟩ ⟨(y 1).val, (y 1).isLt⟩).symm)
  refine (blockP_entry _ _ _ _).trans (congrArg gelu (Finset.sum_congr rfl fun n _ => ?_))
  exact congrArg₂ (fun a b : EReal => a * b) (tile_of _ _ (normedAt_entry m c) (t.val / 16 - 1) (by omega) _ n) (block5_entry m c t ht n _)

theorem emb7 (t : Fin cfg0.N) (ht : 128 ≤ t.val) (r : Fin 128) (k : Fin 512) :
    (win0_7.blk t).view.emb (ix2 (n0 := 128) (n1 := 512) r k) = ix2 (n0 := 128) (n1 := 8192) ⟨128 * (0) + r.val, by have hN := lt_of_lt_of_eq t.isLt (show cfg0.N = 144 from N_0); omega⟩ ⟨512 * (t.val % 16) + k.val, by omega⟩ := by
  funext a; apply Fin.ext
  refine (Pipeline.Window.rect_emb_val win0_7 t (ix2 (n0 := 128) (n1 := 512) r k) a).trans ?_
  rw [index7 t ht]
  match a with
  | ⟨0, _⟩ => show (0) * 128 + r.val = 128 * (0) + r.val; omega
  | ⟨1, _⟩ => show (t.val % 16) * 512 + k.val = 512 * (t.val % 16) + k.val; omega

theorem arr7 : (dats m 0 c).arrAt 7 cfg0.N = wholeS m c := by
  refine (dats m 0 c).arrAt_eq_of_covers 7 _ (by decide +kernel) fun t hf y => ?_
  have hN := lt_of_lt_of_eq t.isLt (show cfg0.N = 144 from N_0)
  have ht : 128 ≤ t.val := flushed7 t hf
  have e : y = ix2 (n0 := 128) (n1 := 512) ⟨(y 0).val, (y 0).isLt⟩ ⟨(y 1).val, (y 1).isLt⟩ := eq_ix2 y
  have hr : (y 0).val < 128 := (y 0).isLt
  have hk : (y 1).val < 512 := (y 1).isLt
  rw [after7, e]
  refine Eq.trans ?_ (congrArg (wholeS m c) (emb7 t ht ⟨(y 0).val, (y 0).isLt⟩ ⟨(y 1).val, (y 1).isLt⟩).symm)
  refine (blockS_entry _ _ _ _).trans (congrArg gelu (Finset.sum_congr rfl fun n _ => ?_))
  refine congrArg₂ (fun a b : EReal => a * b) ((block4_entry m c t _ n).trans (congrArg (argS m c) ?_)) (block5_entry m c t (by omega) n _)
  refine congrArg₂ (fun a b => ix3 (n0 := 8) (n1 := 16) (n2 := 4096) a b n) (Fin.ext ?_) (Fin.ext ?_)
  · show (y 0).val / 16 = (128 * 0 + (y 0).val) / 16; omega
  · show (y 0).val % 16 = (128 * 0 + (y 0).val) % 16; omega

end Cert.InIdeal.Val

end
-- ==== Proof.RefInIdeal.Ref.lean ====
module

public import proofs.«01_k».proof.Proof.Gen.RefInIdeal
public import proofs.«01_k».proof.Proof.Gen.RefInIdeal.Run
public import proofs.«01_k».proof.Proof.InIdeal.Math
public import Idealize.ShloMosaic.Lib.ValueIdxCore
public import Idealize.ShloMosaic.Lib.ValueLayout
public import Idealize.ShloMosaic.Lib.ValueLayoutCasts
public import Idealize.ShloMosaic.Lib.Pointwise
public import Idealize.ShloMosaic.Lib.Claim
public import Idealize.ShloMosaic.PureOps.Ideal
public import Idealize.ShloMosaic.PureOps.Ideal.Laws

@[expose] public section

set_option maxRecDepth 16384

noncomputable section

namespace Cert.RefInIdeal.Val

open Cert.RefInIdeal Cert.RefInIdeal.Gen Cert.InMath
open Idealize.ShloMosaic Idealize.ShloMosaic.TcCoe Idealize.ShloMosaic.Tactic

/-- The activation of the prompt's projections and of the sample's. -/
def geluP (z : FVec Ideal S4x2048x8192 .f32) : FVec Ideal S4x2048x8192 .f32 := mulf z (mulf (broadcastInDim S4x2048x8192 ![] bcast_S_S4x2048x8192 (constant S_ .f32 0x3F000000#32)) (addf (broadcastInDim S4x2048x8192 ![] bcast_S_S4x2048x8192 (constant S_ .f32 0x3F800000#32)) (Host.tanh (mulf (broadcastInDim S4x2048x8192 ![] bcast_S_S4x2048x8192 (constant S_ .f32 0x3F4C422A#32)) (addf z (mulf (broadcastInDim S4x2048x8192 ![] bcast_S_S4x2048x8192 (constant S_ .f32 0x3D372713#32)) (mulf (mulf z z) z)))))))
def geluS (z : FVec Ideal S8x16x8192 .f32) : FVec Ideal S8x16x8192 .f32 := mulf z (mulf (broadcastInDim S8x16x8192 ![] bcast_S_S8x16x8192 (constant S_ .f32 0x3F000000#32)) (addf (broadcastInDim S8x16x8192 ![] bcast_S_S8x16x8192 (constant S_ .f32 0x3F800000#32)) (Host.tanh (mulf (broadcastInDim S8x16x8192 ![] bcast_S_S8x16x8192 (constant S_ .f32 0x3F4C422A#32)) (addf z (mulf (broadcastInDim S8x16x8192 ![] bcast_S_S8x16x8192 (constant S_ .f32 0x3D372713#32)) (mulf (mulf z z) z)))))))

theorem geluP_entry (z : FVec Ideal S4x2048x8192 .f32) (a : Fin 4) (r : Fin 2048) (k : Fin 8192) : geluP z (ix3 a r k) = gelu (z (ix3 (n0 := 4) (n1 := 2048) (n2 := 8192) a r k)) := by
  unfold geluP gelu
  rw [mul_comm (z (ix3 (n0 := 4) (n1 := 2048) (n2 := 8192) a r k)) (z (ix3 (n0 := 4) (n1 := 2048) (n2 := 8192) a r k) * z (ix3 (n0 := 4) (n1 := 2048) (n2 := 8192) a r k))]
  pointwise

theorem geluS_entry (z : FVec Ideal S8x16x8192 .f32) (a : Fin 8) (r : Fin 16) (k : Fin 8192) : geluS z (ix3 a r k) = gelu (z (ix3 (n0 := 8) (n1 := 16) (n2 := 8192) a r k)) := by
  unfold geluS gelu
  rw [mul_comm (z (ix3 (n0 := 8) (n1 := 16) (n2 := 8192) a r k)) (z (ix3 (n0 := 8) (n1 := 16) (n2 := 8192) a r k) * z (ix3 (n0 := 8) (n1 := 16) (n2 := 8192) a r k))]
  pointwise

variable (x : FVec Ideal S4x2048x4096 .f32) (gain : FVec Ideal S4096 .f32) (shift scale : FVec Ideal S4x1x4096 .f32)
  (h : FVec Ideal S8x16x4096 .f32) (w : FVec Ideal S2x4096x8192 .f32)

/-- The weights of the first block. -/
def wts : FVec Ideal S4096x8192 .f32 := shapeCast _ (extractStridedSlice S1x4096x8192 ![0, 0, 0] w slices_S2x4096x8192_S1x4096x8192_0_0_0) shapeCasts_S1x4096x8192_S4096x8192

theorem wts_entry (n : Fin 4096) (k : Fin 8192) : wts w (ix2 n k) = w (ix3 (n0 := 2) (n1 := 4096) (n2 := 8192) 0 n k) := by
  unfold wts
  pointwise

/-- The prompt's rows, normalized and modulated. -/
def normed : FVec Ideal S4x2048x4096 .f32 :=
  addf (mulf (mulf (mulf x (broadcastInDim S4x2048x4096 ![0, 1, 2] bcast_S4x2048x1_S4x2048x4096_0_1_2 (Host.rsqrt (addf (Host.divf (broadcastInDim S4x2048x1 ![0, 1] bcast_S4x2048_S4x2048x1_0_1 (Host.reduceAdd (mulf x x) (constant S_ .f32 0x00000000#32) reducesTo_S4x2048x4096_S4x2048_d2 h_S_)) (broadcastInDim S4x2048x1 ![] bcast_S_S4x2048x1 (constant S_ .f32 0x45800000#32))) (broadcastInDim S4x2048x1 ![] bcast_S_S4x2048x1 (constant S_ .f32 0x358637BD#32)))))) (broadcastInDim S4x2048x4096 ![0, 1, 2] bcast_S1x1x4096_S4x2048x4096_0_1_2 (broadcastInDim S1x1x4096 ![2] bcast_S4096_S1x1x4096_2 gain))) (broadcastInDim S4x2048x4096 ![0, 1, 2] bcast_S4x1x4096_S4x2048x4096_0_1_2 (addf (broadcastInDim S4x1x4096 ![] bcast_S_S4x1x4096 (constant S_ .f32 0x3F800000#32)) scale))) (broadcastInDim S4x2048x4096 ![0, 1, 2] bcast_S4x1x4096_S4x2048x4096_0_1_2 shift)

theorem normed_entry (a : Fin 4) (r : Fin 2048) (n : Fin 4096) : normed x gain shift scale (ix3 a r n)
    = modulated (fun n => x (ix3 (n0 := 4) (n1 := 2048) (n2 := 4096) a r n)) (gain (ix1 (n0 := 4096) n)) (scale (ix3 (n0 := 4) (n1 := 1) (n2 := 4096) a 0 n)) (shift (ix3 (n0 := 4) (n1 := 1) (n2 := 4096) a 0 n)) n := by
  unfold normed modulated rms
  pointwise

/-- The reference's two results. -/
def resultP : FVec Ideal S8192x8192 .bf16 := shapeCast _ (truncf .bf16 (geluP (Host.dotGeneral dot_S4x2048x4096_S4096x8192_S4x2048x8192_2_0_01_1_n_n none (normed x gain shift scale) (wts w))) bitsLt_bf16_f32) shapeCasts_S4x2048x8192_S8192x8192
def resultS : FVec Ideal S128x8192 .bf16 := shapeCast _ (truncf .bf16 (geluS (Host.dotGeneral dot_S8x16x4096_S4096x8192_S8x16x8192_2_0_01_1_n_n none h (wts w))) bitsLt_bf16_f32) shapeCasts_S8x16x8192_S128x8192

theorem resultP_entry (r k : Fin 8192) : resultP x gain shift scale w (ix2 r k) = entryP gain shift scale 0 w (flat x) r k := by
  unfold resultP entryP row flat
  pointwise [geluP_entry, normed_entry, wts_entry]

theorem resultS_entry (r : Fin 128) (k : Fin 8192) : resultS h w (ix2 r k) = entryS h 0 w r k := by
  unfold resultS entryS
  pointwise [geluS_entry, wts_entry]

/-- The reference has no semaphore. -/
theorem no_sem (f : GSem nD τ sig → Int) : f = fun _ => 0 := by
  funext g
  obtain ⟨t, s⟩ := g
  cases s with
  | reg s => exact absurd s.isLt (Nat.not_lt_zero _)
  | dma s => exact absurd s.isLt (Nat.not_lt_zero _)

end Cert.RefInIdeal.Val

end
-- ==== Proof.InIdeal.Values.lean ====
/- The claims about the first block's input projection. -/
module

public import proofs.«01_k».proof.Defs
public import proofs.«01_k».proof.Proof.Gen.In
public import proofs.«01_k».proof.Proof.Gen.InIdeal
public import proofs.«01_k».proof.Proof.Gen.RefInIdeal
public import proofs.«01_k».proof.Proof.InIdeal.Out
public import proofs.«01_k».proof.Proof.RefInIdeal.Ref
public import Idealize.ShloMosaic.Adequacy
public import Idealize.ShloMosaic.Init

@[expose] public section

noncomputable section

namespace Cert.InIdeal.Val

open Idealize.ShloMosaic Idealize.SL.Sem

/-- The two programs have the same text, so the same body table at the same float values. -/
theorem bodies_eq : @Cert.In.defs₀ Bits _ _ = @Cert.InIdeal.defs₀ Bits _ _ := by
  unfold Cert.In.defs₀ Cert.InIdeal.defs₀
  refine congrArg Defs.onTc ?_
  funext l x
  match l, x with
  | 0, (t, s) => rfl
  | ⟨_ + 1, h⟩, _ => exact absurd h (Nat.not_lt.2 (Nat.le_add_left _ _))

theorem defs_eq : @Cert.In.defs Bits _ _ = @Cert.InIdeal.defs Bits _ _ := congrArg (Pipeline.defs _) bodies_eq

theorem frame_kernel : Cert.quiescent_In (hIn := Cert.In.Gen.facts) := fun m g _ => by
  have h := Cert.InIdeal.Acc.frame (F := Bits) m g
  rw [← defs_eq] at h
  exact h

theorem frame_reference : Cert.quiescent_RefInIdeal (hRefInIdeal := Cert.RefInIdeal.Gen.facts) := fun m g _ =>
  (θ_run _ _ _).mono (fun r h => ⟨fun c => (h c).2.2, Cert.RefInIdeal.Val.no_sem _⟩) (Cert.RefInIdeal.Value.run (F := Ideal) m g)

/-- The kernel and the reference leave the same two arrays. -/
theorem values : Cert.algebraic_InIdeal_RefInIdeal (hInIdeal := Cert.InIdeal.Gen.facts) (hRefInIdeal := Cert.RefInIdeal.Gen.facts) := by
  intro m g m' g' _ hagree
  refine ⟨fun c => wholeP m c, fun c => wholeS m c, ?_, ?_⟩
  · refine (θ_run _ _ _).mono (fun r h c => ?_) (θ_run_and (Cert.InIdeal.Acc.run_main (F := Ideal) m g) (Cert.InIdeal.Acc.frame (F := Ideal) m g))
    exact ⟨((h.1.1 c).1 6).trans (arr6 m c), ((h.1.1 c).1 7).trans (arr7 m c), h.2.1 c⟩
  · refine (θ_run _ _ _).mono (fun r h c => ⟨((h c).1).trans ?_, ((h c).2.1).trans ?_, (h c).2.2⟩) (Cert.RefInIdeal.Value.run (F := Ideal) m' g')
    · unfold Cert.RefInIdeal.Value.res_main_v36
      rw [(hagree c).1, (hagree c).2.1, (hagree c).2.2.1, (hagree c).2.2.2.1, (hagree c).2.2.2.2.2]
      funext y
      rw [eq_ix2 y]
      exact Cert.RefInIdeal.Val.resultP_entry (argX m c) (argG m c) (argB m c) (argC m c) (argW m c) (y 0) (y 1)
    · rw [(hagree c).2.2.2.2.1, (hagree c).2.2.2.2.2]
      funext y
      rw [eq_ix2 y]
      exact Cert.RefInIdeal.Val.resultS_entry (argS m c) (argW m c) (y 0) (y 1)

end Cert.InIdeal.Val

end
-- ==== Proof.SecondIdeal.Setup.lean ====
module

public import proofs.«01_k».proof.Proof.InIdeal.Turns
public import proofs.«01_k».proof.Proof.Gen.SecondIdeal.Frame
public import Idealize.ShloMosaic.Lib.VecWindow
public import Idealize.ShloMosaic.Lib.Pointwise
public import Idealize.ShloMosaic.Lib.Ring
public import Idealize.ShloMosaic.Lib.Tactic
public import Idealize.ShloMosaic.Lib.WordCmp

@[expose] public section

set_option maxRecDepth 16384

noncomputable section

namespace Cert.SecondIdeal.Acc

open Cert.SecondIdeal.Gen
open Cert.InIdeal.Acc (normRows act wts rows part blockP blockS slot ld_whole ld_part st_slot samp_of chunk tile Good Good.start Good.full nextA nextB good_nextA good_nextB)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which branch a grid point takes -/

/-- The first sixteen points only normalize. -/
theorem condFirst_iff : ∀ t : Fin cfg0.N, k0_cond1 (grid0.coords t) = 1#1 ↔ t.val < 16 :=
  (by decide +kernel : ∀ t : Fin grid0.N, k0_cond1 (grid0.coords t) = 1#1 ↔ t.val < 16)

/-- Then odd and even blocks of rows take turns. -/
theorem condOdd_iff : ∀ t : Fin cfg0.N, k0_cond2 (grid0.coords t) = 1#1 ↔ (t.val / 16) % 2 = 1 :=
  (by decide +kernel : ∀ t : Fin grid0.N, k0_cond2 (grid0.coords t) = 1#1 ↔ (t.val / 16) % 2 = 1)
theorem condEven_iff : ∀ t : Fin cfg0.N, k0_cond3 (grid0.coords t) = 1#1 ↔ (16 ≤ t.val ∧ (t.val / 16) % 2 = 0) :=
  (by decide +kernel : ∀ t : Fin grid0.N, k0_cond3 (grid0.coords t) = 1#1 ↔ (16 ≤ t.val ∧ (t.val / 16) % 2 = 0))

/-- The last sixteen points multiply the sample's rows too. -/
theorem condSample_iff : ∀ t : Fin cfg0.N, k0_cond4 (grid0.coords t) = 1#1 ↔ 128 ≤ t.val :=
  (by decide +kernel : ∀ t : Fin grid0.N, k0_cond4 (grid0.coords t) = 1#1 ↔ 128 ≤ t.val)

/-- Where a point's rows are kept: at its block of 64 rows. -/
theorem off1_eq : ∀ i : grid0.Coords, k0_off1 i = ![64 * (i 1).val, 0] := by decide +kernel
theorem off2_eq (i : grid0.Coords) : k0_off2 i = ![64 * (i 1).val, 0] := off1_eq i
theorem off3_eq (i : grid0.Coords) : k0_off3 i = ![64 * (i 1).val, 0] := off1_eq i

/-- The column a point is at. -/
theorem col_val : ∀ t : Fin cfg0.N, (grid0.coords t 1).val = t.val % 16 :=
  (by decide +kernel : ∀ t : Fin grid0.N, (grid0.coords t 1).val = t.val % 16)

/-! ## The buffers a point is given -/

abbrev st0 (t : Fin cfg0.N) : Memref sig .tc .vmem S64x4096 .f32 := win0_0.stage (cfg0.slots t 0)
abbrev st1 (t : Fin cfg0.N) : Memref sig .tc .vmem S64x4096 .bf16 := win0_1.stage (cfg0.slots t 1)
abbrev st2 (t : Fin cfg0.N) : Memref sig .tc .vmem S1x1x4096 .f32 := win0_2.stage (cfg0.slots t 2)
abbrev st3 (t : Fin cfg0.N) : Memref sig .tc .vmem S1x1x4096 .f32 := win0_3.stage (cfg0.slots t 3)
abbrev st4 (t : Fin cfg0.N) : Memref sig .tc .vmem S1x1x4096 .f32 := win0_4.stage (cfg0.slots t 4)
abbrev st5 (t : Fin cfg0.N) : Memref sig .tc .vmem S1x1x4096 .f32 := win0_5.stage (cfg0.slots t 5)
abbrev st6 (t : Fin cfg0.N) : Memref sig .tc .vmem S1x1x4096 .f32 := win0_6.stage (cfg0.slots t 6)
abbrev st7 (t : Fin cfg0.N) : Memref sig .tc .vmem S128x4096 .bf16 := win0_7.stage (cfg0.slots t 7)
abbrev st8 (t : Fin cfg0.N) : Memref sig .tc .vmem S1x4096x512 .f32 := win0_8.stage (cfg0.slots t 8)
abbrev st9 (t : Fin cfg0.N) : Memref sig .tc .vmem S64x4096 .f32 := win0_9.stage (cfg0.slots t 9)
abbrev st10 (t : Fin cfg0.N) : Memref sig .tc .vmem S1024x512 .bf16 := win0_10.stage (cfg0.slots t 10)
abbrev st11 (t : Fin cfg0.N) : Memref sig .tc .vmem S128x512 .bf16 := win0_11.stage (cfg0.slots t 11)

/-- The two buffers of normalized rows. -/
abbrev scrA : Memref sig .tc .vmem S1024x4096 .bf16 := Memref.whole cc0_scratch0
abbrev scrB : Memref sig .tc .vmem S1024x4096 .bf16 := Memref.whole cc0_scratch1

/-! ## What one point computes -/

/-- 64 rows plus the gated, normalized rows of the layer before. -/
def resid (x0 : Vec F S64x4096 .f32) (x1 : Vec F S64x4096 .bf16) (x2 x3 : Vec F S1x1x4096 .f32) : FVec F S64x4096 .f32 :=
  let x : FVec F S64x4096 .f32 := shapeCast S64x4096 x0 shapeCasts_S64x4096_S64x4096
  let y : FVec F S64x4096 .f32 := extf .f32 (shapeCast S64x4096 x1 shapeCasts_S64x4096_S64x4096 : FVec F S64x4096 .bf16) bitsLt_bf16_f32
  let ss : FVec F S64x1 .f32 := shapeCast S64x1 (multiReduction .add [1] S64 (mulf y y) 0x00000000#32 reduces_S64x4096_S64 (.inl rfl) rfl : FVec F S64 .f32) shapeCasts_S64_S64x1
  let rt : FVec F S64x1 .f32 := rsqrt (addf (divf ss (broadcast S64x1 (Scalar.ofBits .f32 0x45800000#32))) (broadcast S64x1 (Scalar.ofBits .f32 0x358637BD#32)))
  let g : FVec F S1x4096 .f32 := shapeCast S1x4096 x2 shapeCasts_S1x1x4096_S1x4096
  let p : FVec F S1x4096 .f32 := shapeCast S1x4096 x3 shapeCasts_S1x1x4096_S1x4096
  addf x (mulf (broadcastTo S64x4096 g broadcasts_S1x4096_S64x4096) (mulf (mulf y (broadcastTo S64x4096 rt broadcasts_S64x1_S64x4096)) (broadcastTo S64x4096 p broadcasts_S1x4096_S64x4096)))

section
variable {M2 : Memref sig .tc .vmem S64x4096 .f32} (h2 : M2.IsWhole) {M3 : Memref sig .tc .vmem S64x4096 .bf16} (h3 : M3.IsWhole)
  {M4 M5 M6 M7 M8 : Memref sig .tc .vmem S1x1x4096 .f32} (h4 : M4.IsWhole) (h5 : M5.IsWhole) (h6 : M6.IsWhole) (h7 : M7.IsWhole) (h8 : M8.IsWhole) {MS : Memref sig .tc .vmem S1024x4096 .bf16} (hS : MS.IsWhole)
  (x0 : Vec F S64x4096 .f32) (x1 : Vec F S64x4096 .bf16) (x2 x3 x4 x5 x6 : Vec F S1x1x4096 .f32) (h : Vec F S1024x4096 .bf16)

theorem resid_of (i2 i3 : ∀ a, (![0, 0] : Fin 2 → ℕ) a + S64x4096.size a ≤ S64x4096.size a) (i4 i5 : ∀ a, (![0, 0, 0] : Fin 3 → ℕ) a + S1x1x4096.size a ≤ S1x1x4096.size a) :
    resid (View.readAt (Elt F) M2.view (Rect.unit (s := S64x4096) ![0, 0] S64x4096.size i2).toLoadRect (h2.unread x0)) (View.readAt (Elt F) M3.view (Rect.unit (s := S64x4096) ![0, 0] S64x4096.size i3).toLoadRect (h3.unread x1)) (View.readAt (Elt F) M4.view (Rect.unit (s := S1x1x4096) ![0, 0, 0] S1x1x4096.size i4).toLoadRect (h4.unread x2)) (View.readAt (Elt F) M5.view (Rect.unit (s := S1x1x4096) ![0, 0, 0] S1x1x4096.size i5).toLoadRect (h5.unread x3))
      = resid x0 x1 x2 x3 := by
  rw [ld_whole h2, ld_whole h3, ld_whole h4, ld_whole h5]

/-- What a point leaves in the buffer it normalizes into. -/
theorem st_normed (j : ℕ) {off : Fin 2 → ℕ} (ho : off = ![64 * j, 0]) (inb : ∀ a, off a + S64x4096.size a ≤ S1024x4096.size a)
    (i2 i3 : ∀ a, (![0, 0] : Fin 2 → ℕ) a + S64x4096.size a ≤ S64x4096.size a) (i4 i5 i6 i7 i8 : ∀ a, (![0, 0, 0] : Fin 3 → ℕ) a + S1x1x4096.size a ≤ S1x1x4096.size a) :
    MS.view.read (Elt F) (MS.view.writes (Elt F) (hS.unread h) [⟨Rect.unit (s := S1024x4096) off S64x4096.size inb,
      normRows (resid (View.readAt (Elt F) M2.view (Rect.unit (s := S64x4096) ![0, 0] S64x4096.size i2).toLoadRect (h2.unread x0)) (View.readAt (Elt F) M3.view (Rect.unit (s := S64x4096) ![0, 0] S64x4096.size i3).toLoadRect (h3.unread x1)) (View.readAt (Elt F) M4.view (Rect.unit (s := S1x1x4096) ![0, 0, 0] S1x1x4096.size i4).toLoadRect (h4.unread x2)) (View.readAt (Elt F) M5.view (Rect.unit (s := S1x1x4096) ![0, 0, 0] S1x1x4096.size i5).toLoadRect (h5.unread x3)))
        (View.readAt (Elt F) M6.view (Rect.unit (s := S1x1x4096) ![0, 0, 0] S1x1x4096.size i6).toLoadRect (h6.unread x4))
        (View.readAt (Elt F) M7.view (Rect.unit (s := S1x1x4096) ![0, 0, 0] S1x1x4096.size i7).toLoadRect (h7.unread x5))
        (View.readAt (Elt F) M8.view (Rect.unit (s := S1x1x4096) ![0, 0, 0] S1x1x4096.size i8).toLoadRect (h8.unread x6))⟩])
      = slot h j (normRows (resid x0 x1 x2 x3) x4 x5 x6) := by
  rw [resid_of h2 h3 h4 h5, ld_whole h6, ld_whole h7, ld_whole h8]
  exact st_slot hS h j ho inb _
end

end Cert.SecondIdeal.Acc

end
-- ==== Proof.SecondIdeal.Run.lean ====
module

public import proofs.«01_k».proof.Proof.SecondIdeal.Setup
public import Idealize.ShloMosaic.Lib.VecWindow
public import Idealize.ShloMosaic.Lib.Pointwise
public import Idealize.ShloMosaic.Lib.Ring
public import Idealize.ShloMosaic.Lib.Tactic
public import Idealize.ShloMosaic.Lib.WordCmp

@[expose] public section

set_option maxRecDepth 16384

noncomputable section

namespace Cert.SecondIdeal.Acc

open Cert.SecondIdeal.Gen
open Cert.InIdeal.Acc (normRows act wts rows part blockP blockS slot ld_whole ld_part st_slot samp_of chunk tile Good Good.start Good.full nextA nextB good_nextA good_nextB)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The run of a point: 64 rows are added up, written, and normalized into one of the two buffers; past the first sixteen points
    the other buffer's rows are multiplied and written; the sample's rows at the last sixteen points. -/
theorem run (c : Dev nD) (i : grid0.Coords) (arg2 : Memref sig .tc .vmem S64x4096 .f32) (harg2 : arg2.IsWhole) (arg3 : Memref sig .tc .vmem S64x4096 .bf16) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S1x1x4096 .f32) (harg8 : arg8.IsWhole) (arg9 : Memref sig .tc .vmem S128x4096 .bf16) (harg9 : arg9.IsWhole) (arg10 : Memref sig .tc .vmem S1x4096x512 .f32) (harg10 : arg10.IsWhole) (arg11 : Memref sig .tc .vmem S64x4096 .f32) (harg11 : arg11.IsWhole) (arg12 : Memref sig .tc .vmem S1024x512 .bf16) (harg12 : arg12.IsWhole) (arg13 : Memref sig .tc .vmem S128x512 .bf16) (harg13 : arg13.IsWhole) (arg14 : Memref sig .tc .vmem S1024x4096 .bf16) (harg14 : arg14.IsWhole) (arg15 : Memref sig .tc .vmem S1024x4096 .bf16) (harg15 : arg15.IsWhole)
    (hb : (k0_cond1 i = 1#1 ∧ ¬k0_cond2 i = 1#1 ∧ ¬k0_cond3 i = 1#1 ∧ ¬k0_cond4 i = 1#1) ∨ (¬k0_cond1 i = 1#1 ∧ k0_cond2 i = 1#1 ∧ ¬k0_cond3 i = 1#1 ∧ ¬k0_cond4 i = 1#1)
      ∨ (¬k0_cond1 i = 1#1 ∧ ¬k0_cond2 i = 1#1 ∧ k0_cond3 i = 1#1 ∧ ¬k0_cond4 i = 1#1) ∨ (¬k0_cond1 i = 1#1 ∧ ¬k0_cond2 i = 1#1 ∧ k0_cond3 i = 1#1 ∧ k0_cond4 i = 1#1))
    (x0 : Vec F S64x4096 .f32) (x1 : Vec F S64x4096 .bf16) (x2 x3 x4 x5 x6 : Vec F S1x1x4096 .f32) (x7 : Vec F S128x4096 .bf16) (x8 : Vec F S1x4096x512 .f32) (d9 : Vec F S64x4096 .f32) (d10 y10 : Vec F S1024x512 .bf16) (d11 y11 : Vec F S128x512 .bf16) (a a' b b' : Vec F S1024x4096 .bf16)
    (hy10 : (k0_cond1 i = 1#1 → y10 = d10) ∧ (k0_cond2 i = 1#1 → y10 = blockP a x8) ∧ (k0_cond3 i = 1#1 → y10 = blockP b x8))
    (hy11 : (k0_cond4 i = 1#1 → y11 = blockS x7 x8) ∧ (¬k0_cond4 i = 1#1 → y11 = d11))
    (ha : (k0_cond2 i = 1#1 → a' = a) ∧ (¬k0_cond2 i = 1#1 → a' = slot a (i 1).val (normRows (resid x0 x1 x2 x3) x4 x5 x6)))
    (hb' : (k0_cond2 i = 1#1 → b' = slot b (i 1).val (normRows (resid x0 x1 x2 x3) x4 x5 x6)) ∧ (¬k0_cond2 i = 1#1 → b' = b)) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare d9 ∗ owns (c : Thread nD τ) arg12 fullShare d10 ∗ owns (c : Thread nD τ) arg13 fullShare d11 ∗ owns (c : Thread nD τ) arg14 fullShare a ∗ owns (c : Thread nD τ) arg15 fullShare b
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (resid x0 x1 x2 x3) ∗ owns (c : Thread nD τ) arg12 fullShare y10 ∗ owns (c : Thread nD τ) arg13 fullShare y11 ∗ owns (c : Thread nD τ) arg14 fullShare a' ∗ owns (c : Thread nD τ) arg15 fullShare b') -∗ K ⟨⟩))
          ⊢ wp frame (wpE (defs₀ (F := F)) Variants.none c none) E (cc0_mm_norm_gelu i arg2 harg2 arg3 harg3 arg4 harg4 arg5 harg5 arg6 harg6 arg7 harg7 arg8 harg8 arg9 harg9 arg10 harg10 arg11 harg11 arg12 harg12 arg13 harg13 arg14 harg14 arg15 harg15) K := by
  intro E K
  unfold cc0_mm_norm_gelu k0_part1 k0_part2 k0_part3 k0_part4 k0_part5
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
  rcases hb with ⟨h1, h2, h3, h4⟩ | ⟨h1, h2, h3, h4⟩ | ⟨h1, h2, h3, h4⟩ | ⟨h1, h2, h3, h4⟩
  all_goals
    sl_exec (disch := first | sl_exact h1 | sl_exact h2 | sl_exact h3 | sl_exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; swap; · iexact H9
      ipureintro
      rw [View.read_writes_full]
      exact resid_of harg2 harg3 harg4 harg5 x0 x1 x2 x3 _ _ _ _
    isplitl [H10]
    · iexists _; isplitr; swap; · iexact H10
      ipureintro
      first
      | (rw [harg12.read_unread]; exact (hy10.1 (by assumption)).symm)
      | (rw [hy10.2.1 (by assumption)]
         funext y
         refine View.read_writes_apply_of_pieces _ _ (blockP a x8) _ ?_ y ?_
         swap
         · exact View.cover_of_tiledL (s := S1024x512) _ S512x512.size (by sl_kernel_rfl) y
         exact List.forall_mem_cons.2 ⟨fun x => chunk harg10 harg14 x8 a 512 (by omega) (by omega) _ _ inb_S1024x512_S512x512_512_0 x,
           List.forall_mem_cons.2 ⟨fun x => chunk harg10 harg14 x8 a 0 (by omega) (by omega) _ _ inb_S1024x512_S512x512_0_0 x, List.forall_mem_nil _⟩⟩)
      | (rw [hy10.2.2 (by assumption)]
         funext y
         refine View.read_writes_apply_of_pieces _ _ (blockP b x8) _ ?_ y ?_
         swap
         · exact View.cover_of_tiledL (s := S1024x512) _ S512x512.size (by sl_kernel_rfl) y
         exact List.forall_mem_cons.2 ⟨fun x => chunk harg10 harg15 x8 b 512 (by omega) (by omega) _ _ inb_S1024x512_S512x512_512_0 x,
           List.forall_mem_cons.2 ⟨fun x => chunk harg10 harg15 x8 b 0 (by omega) (by omega) _ _ inb_S1024x512_S512x512_0_0 x, List.forall_mem_nil _⟩⟩)
    isplitl [H11]
    · iexists _; isplitr; swap; · iexact H11
      ipureintro
      first | (rw [harg13.read_unread]; exact (hy11.2 (by assumption)).symm) | (rw [View.read_writes_full, hy11.1 (by assumption)]; exact samp_of harg9 harg10 x7 x8 _ _)
    isplitl [H12]
    · iexists _; isplitr; swap; · iexact H12
      ipureintro
      first | (rw [harg14.read_unread]; exact (ha.1 (by assumption)).symm) | (rw [ha.2 (by assumption)]; first | exact st_normed harg2 harg3 harg4 harg5 harg6 harg7 harg8 harg14 x0 x1 x2 x3 x4 x5 x6 _ _ (off1_eq i) _ _ _ _ _ _ _ _ | exact st_normed harg2 harg3 harg4 harg5 harg6 harg7 harg8 harg14 x0 x1 x2 x3 x4 x5 x6 _ _ (off3_eq i) _ _ _ _ _ _ _ _)
    iexists _; isplitr; swap; · iexact H13
    ipureintro
    first | (rw [harg15.read_unread]; exact (hb'.2 (by assumption)).symm) | (rw [hb'.1 (by assumption)]; exact st_normed harg2 harg3 harg4 harg5 harg6 harg7 harg8 harg15 x0 x1 x2 x3 x4 x5 x6 _ _ (off2_eq i) _ _ _ _ _ _ _ _)

end Cert.SecondIdeal.Acc

end
-- ==== Proof.SecondIdeal.Frame.lean ====
module

public import proofs.«01_k».proof.Proof.SecondIdeal.Run
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.SecondIdeal.Acc

open Cert.SecondIdeal.Gen
open Cert.InIdeal.Acc (normRows act wts rows part blockP blockS slot ld_whole ld_part st_slot samp_of chunk tile Good Good.start Good.full nextA nextB good_nextA good_nextB)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Grid point `n`. -/
def pt (n : ℕ) : Fin cfg0.N := ⟨n % 144, by rw [show cfg0.N = 144 from N_0]; exact Nat.mod_lt _ (by decide)⟩

theorem pt_val (t : Fin cfg0.N) : pt t.val = t := Fin.ext (Nat.mod_eq_of_lt (lt_of_lt_of_eq t.isLt (show cfg0.N = 144 from N_0)))

/-! ## What the two buffers of normalized rows hold -/

/-- The 64 rows point `n` adds up, and the 64 rows it normalizes. -/
def sumAt (c : Dev nD) (n : ℕ) : Vec F S64x4096 .f32 := resid (iblk m c 0 (pt n)) (iblk m c 1 (pt n)) (iblk m c 2 (pt n)) (iblk m c 3 (pt n))
def normedAt (c : Dev nD) (n : ℕ) : Vec F S64x4096 .bf16 := normRows (sumAt m c n) (iblk m c 4 (pt n)) (iblk m c 5 (pt n)) (iblk m c 6 (pt n))

/-- Between points the first buffer holds rows of even blocks, the second rows of odd ones. -/
def carried (c : Dev nD) (k : Fin (cfg0.N + 1)) : sProp 𝕄 :=
  iprop(((∃ d, ⌜Good (normedAt m c) 0 k.val d⌝ ∗ owns (c : Thread nD τ) scrA fullShare d)
    ∗ (∃ d, ⌜Good (normedAt m c) 1 k.val d⌝ ∗ owns (c : Thread nD τ) scrB fullShare d)) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => sumAt m c t.val
    | ⟨10, _⟩ => blockP (tile (normedAt m c) (t.val / 16 - 1)) (iblk m c 8 t)
    | ⟨11, _⟩ => blockS (iblk m c 7 t) (iblk m c 8 t)
  Φ k := carried m c k
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem leaves0 (c : Dev nD) (t : Fin cfg0.N) : (dats m 0 c).leavesExact 0 t = owns (c : Thread nD τ) (st0 t) fullShare (iblk m c 0 t) := by
  unfold Dat.leavesExact; rw [show cfg0.idle 0 (cfg0.grid.coords t) = false from rfl, after0]
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem leaves1 (c : Dev nD) (t : Fin cfg0.N) : (dats m 0 c).leavesExact 1 t = owns (c : Thread nD τ) (st1 t) fullShare (iblk m c 1 t) := by
  unfold Dat.leavesExact; rw [show cfg0.idle 1 (cfg0.grid.coords t) = false from rfl, after1]
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem leaves2 (c : Dev nD) (t : Fin cfg0.N) : (dats m 0 c).leavesExact 2 t = owns (c : Thread nD τ) (st2 t) fullShare (iblk m c 2 t) := by
  unfold Dat.leavesExact; rw [show cfg0.idle 2 (cfg0.grid.coords t) = false from rfl, after2]
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem leaves3 (c : Dev nD) (t : Fin cfg0.N) : (dats m 0 c).leavesExact 3 t = owns (c : Thread nD τ) (st3 t) fullShare (iblk m c 3 t) := by
  unfold Dat.leavesExact; rw [show cfg0.idle 3 (cfg0.grid.coords t) = false from rfl, after3]
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d
theorem leaves4 (c : Dev nD) (t : Fin cfg0.N) : (dats m 0 c).leavesExact 4 t = owns (c : Thread nD τ) (st4 t) fullShare (iblk m c 4 t) := by
  unfold Dat.leavesExact; rw [show cfg0.idle 4 (cfg0.grid.coords t) = false from rfl, after4]
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (A_eq m c 5) (after5 m c) t d
theorem leaves5 (c : Dev nD) (t : Fin cfg0.N) : (dats m 0 c).leavesExact 5 t = owns (c : Thread nD τ) (st5 t) fullShare (iblk m c 5 t) := by
  unfold Dat.leavesExact; rw [show cfg0.idle 5 (cfg0.grid.coords t) = false from rfl, after5]
theorem after6 (c : Dev nD) (t : Fin cfg0.N) : (dats m 0 c).after 6 t = iblk m c 6 t := by dsimp only [dats]
theorem before6 (c : Dev nD) (t : Fin cfg0.N) (d) : (dats m 0 c).before 6 t d = iblk m c 6 t :=
  before0_6_of m (dats m 0 c) (A_eq m c 6) (after6 m c) t d
theorem leaves6 (c : Dev nD) (t : Fin cfg0.N) : (dats m 0 c).leavesExact 6 t = owns (c : Thread nD τ) (st6 t) fullShare (iblk m c 6 t) := by
  unfold Dat.leavesExact; rw [show cfg0.idle 6 (cfg0.grid.coords t) = false from rfl, after6]
theorem after7 (c : Dev nD) (t : Fin cfg0.N) : (dats m 0 c).after 7 t = iblk m c 7 t := by dsimp only [dats]
theorem before7 (c : Dev nD) (t : Fin cfg0.N) (d) : (dats m 0 c).before 7 t d = iblk m c 7 t :=
  before0_7_of m (dats m 0 c) (A_eq m c 7) (after7 m c) t d
theorem leaves7 (c : Dev nD) (t : Fin cfg0.N) : (dats m 0 c).leavesExact 7 t = owns (c : Thread nD τ) (st7 t) fullShare (iblk m c 7 t) := by
  unfold Dat.leavesExact; rw [show cfg0.idle 7 (cfg0.grid.coords t) = false from rfl, after7]
theorem after8 (c : Dev nD) (t : Fin cfg0.N) : (dats m 0 c).after 8 t = iblk m c 8 t := by dsimp only [dats]
theorem before8 (c : Dev nD) (t : Fin cfg0.N) (d) : (dats m 0 c).before 8 t d = iblk m c 8 t :=
  before0_8_of m (dats m 0 c) (A_eq m c 8) (after8 m c) t d
theorem leaves8 (c : Dev nD) (t : Fin cfg0.N) : (dats m 0 c).leavesExact 8 t = owns (c : Thread nD τ) (st8 t) fullShare (iblk m c 8 t) := by
  unfold Dat.leavesExact; rw [show cfg0.idle 8 (cfg0.grid.coords t) = false from rfl, after8]
theorem after9 (c : Dev nD) (t : Fin cfg0.N) : (dats m 0 c).after 9 t = sumAt m c t.val := by dsimp only [dats]
theorem after10 (c : Dev nD) (t : Fin cfg0.N) : (dats m 0 c).after 10 t = blockP (tile (normedAt m c) (t.val / 16 - 1)) (iblk m c 8 t) := by dsimp only [dats]
theorem after11 (c : Dev nD) (t : Fin cfg0.N) : (dats m 0 c).after 11 t = blockS (iblk m c 7 t) (iblk m c 8 t) := by dsimp only [dats]
theorem idle9 : ∀ t : Fin cfg0.N, cfg0.idle 9 (cfg0.grid.coords t) = false :=
  (by decide +kernel : ∀ t : Fin grid0.N, idle0 9 (grid0.coords t) = false)
theorem leaves9 (c : Dev nD) (t : Fin cfg0.N) : (dats m 0 c).leavesExact 9 t = owns (c : Thread nD τ) (st9 t) fullShare (sumAt m c t.val) := by
  unfold Dat.leavesExact; rw [idle9 t, after9]

/-! ## Where a buffer is written, and where it is left alone -/

theorem idle10 : ∀ t : Fin cfg0.N, cfg0.idle 10 (cfg0.grid.coords t) = false ↔ 16 ≤ t.val :=
  (by decide +kernel : ∀ t : Fin grid0.N, idle0 10 (grid0.coords t) = false ↔ 16 ≤ t.val)
theorem flushed10 : ∀ t : Fin cfg0.N, (cfg0.win 10).flush t = true → 16 ≤ t.val :=
  (by decide +kernel : ∀ t : Fin grid0.N, win0_10.flush t = true → 16 ≤ t.val)
theorem live10 (c : Dev nD) (t : Fin cfg0.N) (h : 16 ≤ t.val) : (dats m 0 c).leavesExact 10 t = owns (c : Thread nD τ) (st10 t) fullShare ((dats m 0 c).after 10 t) := by
  unfold Dat.leavesExact; rw [(idle10 t).2 h]
theorem still10 (c : Dev nD) (t : Fin cfg0.N) (h : ¬16 ≤ t.val) (d) : owns (c : Thread nD τ) (st10 t) fullShare ((dats m 0 c).before 10 t d) ⊢ (dats m 0 c).leavesExact 10 t := by
  rw [(dats m 0 c).leavesExact_idle 10 t (Bool.eq_true_of_not_eq_false fun e => h ((idle10 t).1 e)) (Bool.eq_false_iff.2 fun e => h (flushed10 t e))]
  iintro H; iexists d; iexact H
theorem idle11 : ∀ t : Fin cfg0.N, cfg0.idle 11 (cfg0.grid.coords t) = false ↔ 128 ≤ t.val :=
  (by decide +kernel : ∀ t : Fin grid0.N, idle0 11 (grid0.coords t) = false ↔ 128 ≤ t.val)
theorem flushed11 : ∀ t : Fin cfg0.N, (cfg0.win 11).flush t = true → 128 ≤ t.val :=
  (by decide +kernel : ∀ t : Fin grid0.N, win0_11.flush t = true → 128 ≤ t.val)
theorem live11 (c : Dev nD) (t : Fin cfg0.N) (h : 128 ≤ t.val) : (dats m 0 c).leavesExact 11 t = owns (c : Thread nD τ) (st11 t) fullShare ((dats m 0 c).after 11 t) := by
  unfold Dat.leavesExact; rw [(idle11 t).2 h]
theorem still11 (c : Dev nD) (t : Fin cfg0.N) (h : ¬128 ≤ t.val) (d) : owns (c : Thread nD τ) (st11 t) fullShare ((dats m 0 c).before 11 t d) ⊢ (dats m 0 c).leavesExact 11 t := by
  rw [(dats m 0 c).leavesExact_idle 11 t (Bool.eq_true_of_not_eq_false fun e => h ((idle11 t).1 e)) (Bool.eq_false_iff.2 fun e => h (flushed11 t e))]
  iintro H; iexists d; iexact H

/-! ## One point -/

def bodyPre (c : Dev nD) (t : Fin cfg0.N) : sProp 𝕄 :=
  iprop((dats m 0 c).Φ t.castSucc
    ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ d, owns (c : Thread nD τ) (st10 t) fullShare ((dats m 0 c).before 10 t d))
    ∗ (∃ d, owns (c : Thread nD τ) (st11 t) fullShare ((dats m 0 c).before 11 t d)))

def bodyPost (c : Dev nD) (t : Fin cfg0.N) : sProp 𝕄 :=
  iprop((dats m 0 c).Φ t.succ
    ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

theorem run_point (c : Dev nD) (t : Fin cfg0.N) (d9 : Vec F S64x4096 .f32) (d10 : Vec F S1024x512 .bf16) (d11 : Vec F S128x512 .bf16) (a b : Vec F S1024x4096 .bf16)
    (ga : Good (normedAt m c) 0 t.val a) (gb : Good (normedAt m c) 1 t.val b) (K : PUnit → sProp 𝕄) :
    iprop(owns (c : Thread nD τ) (st0 t) fullShare (iblk m c 0 t) ∗ owns (c : Thread nD τ) (st1 t) fullShare (iblk m c 1 t) ∗ owns (c : Thread nD τ) (st2 t) fullShare (iblk m c 2 t) ∗ owns (c : Thread nD τ) (st3 t) fullShare (iblk m c 3 t) ∗ owns (c : Thread nD τ) (st4 t) fullShare (iblk m c 4 t) ∗ owns (c : Thread nD τ) (st5 t) fullShare (iblk m c 5 t) ∗ owns (c : Thread nD τ) (st6 t) fullShare (iblk m c 6 t) ∗ owns (c : Thread nD τ) (st7 t) fullShare (iblk m c 7 t) ∗ owns (c : Thread nD τ) (st8 t) fullShare (iblk m c 8 t) ∗ owns (c : Thread nD τ) (st9 t) fullShare d9 ∗ owns (c : Thread nD τ) (st10 t) fullShare d10 ∗ owns (c : Thread nD τ) (st11 t) fullShare d11 ∗ owns (c : Thread nD τ) scrA fullShare a ∗ owns (c : Thread nD τ) scrB fullShare b
        ∗ (iprop(owns (c : Thread nD τ) (st0 t) fullShare (iblk m c 0 t) ∗ owns (c : Thread nD τ) (st1 t) fullShare (iblk m c 1 t) ∗ owns (c : Thread nD τ) (st2 t) fullShare (iblk m c 2 t) ∗ owns (c : Thread nD τ) (st3 t) fullShare (iblk m c 3 t) ∗ owns (c : Thread nD τ) (st4 t) fullShare (iblk m c 4 t) ∗ owns (c : Thread nD τ) (st5 t) fullShare (iblk m c 5 t) ∗ owns (c : Thread nD τ) (st6 t) fullShare (iblk m c 6 t) ∗ owns (c : Thread nD τ) (st7 t) fullShare (iblk m c 7 t) ∗ owns (c : Thread nD τ) (st8 t) fullShare (iblk m c 8 t) ∗ owns (c : Thread nD τ) (st9 t) fullShare (sumAt m c t.val) ∗ owns (c : Thread nD τ) (st10 t) fullShare (if 16 ≤ t.val then (dats m 0 c).after 10 t else d10) ∗ owns (c : Thread nD τ) (st11 t) fullShare (if 128 ≤ t.val then (dats m 0 c).after 11 t else d11) ∗ owns (c : Thread nD τ) scrA fullShare (nextA (normedAt m c) t.val a) ∗ owns (c : Thread nD τ) scrB fullShare (nextB (normedAt m c) t.val b)) -∗ K ⟨⟩))
      ⊢ wp frame (wpE (defs₀ (F := F)) Variants.none c none) Set.univ (bodyAt0 t) K := by
  unfold bodyAt0
  have hN : t.val < 144 := lt_of_lt_of_eq t.isLt (show cfg0.N = 144 from N_0)
  have es : sumAt m c t.val = resid (iblk m c 0 t) (iblk m c 1 t) (iblk m c 2 t) (iblk m c 3 t) := by unfold sumAt; rw [pt_val]
  have en : normedAt m c t.val = normRows (resid (iblk m c 0 t) (iblk m c 1 t) (iblk m c 2 t) (iblk m c 3 t)) (iblk m c 4 t) (iblk m c 5 t) (iblk m c 6 t) := by unfold normedAt; rw [es, pt_val]
  rw [es]
  refine run c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) scrA (Memref.isWhole_whole _) scrB (Memref.isWhole_whole _) ?_ (iblk m c 0 t) (iblk m c 1 t) (iblk m c 2 t) (iblk m c 3 t) (iblk m c 4 t) (iblk m c 5 t) (iblk m c 6 t) (iblk m c 7 t) (iblk m c 8 t) d9 d10 _ d11 _ a _ b _ ?_ ?_ ?_ ?_ Set.univ K
  all_goals simp only [condFirst_iff t, condOdd_iff t, condEven_iff t, condSample_iff t, col_val t]
  · omega
  · refine ⟨fun h => if_neg (by omega), fun h => (if_pos (by omega)).trans ((after10 m c t).trans ?_), fun h => (if_pos (by omega)).trans ((after10 m c t).trans ?_)⟩
    · rw [← ga.full _ (by omega) (by omega)]
    · rw [← gb.full _ (by omega) (by omega)]
  · exact ⟨fun h => (if_pos h).trans (after11 m c t), fun h => if_neg h⟩
  · rw [← en]; exact ⟨fun h => if_pos h, fun h => if_neg h⟩
  · rw [← en]; exact ⟨fun h => if_pos h, fun h => if_neg h⟩

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3, before4, before5, before6, before7, before8, leaves0, leaves1, leaves2, leaves3, leaves4, leaves5, leaves6, leaves7, leaves8, leaves9]
  rw [show (dats m 0 c).owesAt () t.succ = (dats m 0 c).owesAt () t.castSucc from rfl,
    show (dats m 0 c).Φ t.castSucc = carried m c t.castSucc from rfl, show (dats m 0 c).Φ t.succ = carried m c t.succ from rfl]
  unfold carried
  iintro ⟨⟨⟨⟨%a, %ga, HA⟩, ⟨%b, %gb, HB⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_point m c t _ _ _ a b ga gb _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HA]; · iexact HA
  isplitl [HB]; · iexact HB
  iintro ⟨H0, H1, H2, H3, H4, H5, H6, H7, H8, H9, H10, H11, HA, HB⟩
  isplitl [HA HB Hg]
  · isplitl [HA HB]
    · isplitl [HA]
      · iexists _
        isplitr
        · ipureintro; exact good_nextA _ ga
        iexact HA
      iexists _
      isplitr
      · ipureintro; exact good_nextB _ gb
      iexact HB
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · by_cases h : 16 ≤ t.val
    · rw [live10 m c t h, if_pos h]; iexact H10
    · rw [if_neg h]; iapply still10 m c t h d10; iexact H10
  by_cases h : 128 ≤ t.val
  · rw [live11 m c t h, if_pos h]; iexact H11
  · rw [if_neg h]; iapply still11 m c t h d11; iexact H11

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run -/

theorem scratch_whole (c : Dev nD) :
    (Pipeline.ΦA spec0 c : sProp 𝕄) = iprop(iprop((∃ d, owns (c : Thread nD τ) scrA fullShare d) ∗ (∃ d, owns (c : Thread nD τ) scrB fullShare d)) ∗ (∃ r, prngReg c r)) := by
  unfold Pipeline.ΦA; rw [scopedRest0_eq]; simp only [scrA, scrB, owns_whole]; try rfl

theorem carried_in (c : Dev nD) : Pipeline.ΦA spec0 c ⊢ (dats (F := F) m 0 c).Φ 0 := by
  rw [scratch_whole, show (dats (F := F) m 0 c).Φ 0 = carried m c 0 from rfl]
  unfold carried
  iintro ⟨⟨⟨%d, HA⟩, ⟨%e, HB⟩⟩, Hg⟩
  isplitl [HA HB]
  · isplitl [HA]
    · iexists d
      isplitr
      · ipureintro; exact Good.start _ 0 d
      iexact HA
    iexists e
    isplitr
    · ipureintro; exact Good.start _ 1 e
    iexact HB
  iexact Hg

theorem carried_out (c : Dev nD) : (dats (F := F) m 0 c).Φ (Fin.last cfg0.N) ⊢ Pipeline.ΦA spec0 c := by
  rw [scratch_whole, show (dats (F := F) m 0 c).Φ (Fin.last cfg0.N) = carried m c (Fin.last cfg0.N) from rfl]
  unfold carried
  iintro ⟨⟨⟨%d, -, HA⟩, ⟨%e, -, HB⟩⟩, Hg⟩
  isplitl [HA HB]
  · isplitl [HA]
    · iexists d; iexact HA
    iexists e; iexact HB
  iexact Hg

set_option backward.isDefEq.respectTransparency.types false in
/-- Every execution ends, with the arrays as the points leave them and every counter at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl) (howed := fun _ _ => rfl) (V := V m) (hmain := hmain m Variants.none)
    (hA := A_eq m) (hin := carried_in m) (hout := carried_out m)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.SecondIdeal.Acc

end
-- ==== Proof.SecondIdeal.Out.lean ====
module

public import proofs.«01_k».proof.Proof.SecondIdeal.Frame
public import proofs.«01_k».proof.Proof.InIdeal.Out
public import Idealize.ShloMosaic.Lib.ValueIdxCore
public import Idealize.ShloMosaic.Lib.ValueLayout
public import Idealize.ShloMosaic.Lib.ValueLayoutCasts
public import Idealize.ShloMosaic.Lib.Pointwise
public import Idealize.ShloMosaic.Lib.Claim
public import Idealize.ShloMosaic.Lib.StableHlo.RunRead
public import Idealize.ShloMosaic.Lib.Pipeline.ValueKit.Geometry
public import Idealize.ShloMosaic.Lib.VecWindow
public import Idealize.ShloMosaic.PureOps.Ideal
public import Idealize.ShloMosaic.PureOps.Ideal.Laws

@[expose] public section

set_option maxRecDepth 16384

noncomputable section

namespace Cert.SecondIdeal.Val

open Cert.SecondIdeal Cert.SecondIdeal.Gen Cert.SecondIdeal.Acc Cert.InMath
open Cert.InIdeal.Acc (normRows blockP blockS tile)
open Cert.InIdeal.Val (rows_entry blockP_entry blockS_entry normRows_entry tile_of)
open Idealize.ShloMosaic Idealize.ShloMosaic.TcCoe Idealize.ShloMosaic.Tactic
open Idealize.ShloMosaic.Pipeline (Dat Cfg Window)
open Idealize.SL.Sem

/-! ## The entries of what one point computes -/

theorem resid_entry (x0 : Vec Ideal S64x4096 .f32) (x1 : Vec Ideal S64x4096 .bf16) (x2 x3 : Vec Ideal S1x1x4096 .f32) (r : Fin 64) (n : Fin 4096) :
    resid (F := Ideal) x0 x1 x2 x3 (ix2 r n)
      = x0 (ix2 (n0 := 64) (n1 := 4096) r n) + x2 (ix3 (n0 := 1) (n1 := 1) (n2 := 4096) 0 0 n) * (rms (fun n => x1 (ix2 (n0 := 64) (n1 := 4096) r n)) n * x3 (ix3 (n0 := 1) (n1 := 1) (n2 := 4096) 0 0 n)) := by
  unfold resid rms
  pointwise

/-! ## The arrays the call takes -/

variable (m : (ℓ : Loc nD τ sig) → Buf (Elt Ideal) ℓ) (c : Dev nD)

/-- A host operation line before the call, as one list. -/
theorem v_eq (r : Ref sig .tc) : V (F := Ideal) m c r = StableHlo.after hostOps0 (fun b => m (c, b)) (Proc.devRef .tc r) := rfl

/-- The prompt's rows, the rows of the layer before with their gate and gain, the gain, the shift and scale of each sequence, the
    sample's rows and the weights, as given to the program. -/
def argX : FVec Ideal S4x2048x4096 .f32 := m ((c.tc : Thread nD τ).loc main_arg0)
def argY : FVec Ideal S4x2048x4096 .f32 := m ((c.tc : Thread nD τ).loc main_arg1)
def argGate : FVec Ideal S4x1x4096 .f32 := m ((c.tc : Thread nD τ).loc main_arg2)
def argPost : FVec Ideal S4096 .f32 := m ((c.tc : Thread nD τ).loc main_arg3)
def argG : FVec Ideal S4096 .f32 := m ((c.tc : Thread nD τ).loc main_arg4)
def argB : FVec Ideal S4x1x4096 .f32 := m ((c.tc : Thread nD τ).loc main_arg5)
def argC : FVec Ideal S4x1x4096 .f32 := m ((c.tc : Thread nD τ).loc main_arg6)
def argS : FVec Ideal S8x16x4096 .f32 := m ((c.tc : Thread nD τ).loc main_arg7)
def argW : FVec Ideal S2x4096x8192 .f32 := m ((c.tc : Thread nD τ).loc main_arg8)

theorem x_entry (r : Fin 8192) (n : Fin 4096) : (V (F := Ideal) m c main_v4 : FVec Ideal S8192x4096 .f32) (ix2 r n) = flat (argX m c) r n := by
  unfold flat
  rw [v_eq]
  after_reads_simp
  pointwise
  rfl

theorem y_entry (r : Fin 8192) (n : Fin 4096) : (V (F := Ideal) m c main_v1 : FVec Ideal S8192x4096 .bf16) (ix2 r n) = flat (argY m c) r n := by
  unfold flat
  rw [v_eq]
  after_reads_simp
  pointwise
  rfl

theorem post_entry (n : Fin 4096) : (V (F := Ideal) m c main_v5 : FVec Ideal S1x1x4096 .f32) (ix3 (n0 := 1) (n1 := 1) (n2 := 4096) 0 0 n) = argPost m c (ix1 (n0 := 4096) n) := by
  rw [v_eq]
  after_reads_simp
  pointwise
  rfl

theorem g_entry (n : Fin 4096) : (V (F := Ideal) m c main_v6 : FVec Ideal S1x1x4096 .f32) (ix3 (n0 := 1) (n1 := 1) (n2 := 4096) 0 0 n) = argG m c (ix1 (n0 := 4096) n) := by
  rw [v_eq]
  after_reads_simp
  pointwise
  rfl

theorem s_entry (r : Fin 128) (n : Fin 4096) :
    (V (F := Ideal) m c main_v3 : FVec Ideal S128x4096 .bf16) (ix2 r n) = argS m c (ix3 (n0 := 8) (n1 := 16) (n2 := 4096) ⟨r.val / 16, by omega⟩ ⟨r.val % 16, by omega⟩ n) := by
  rw [v_eq]
  after_reads_simp
  pointwise
  rfl

/-- The block of 64 rows a point is at: the last one again at the last sixteen points. -/
def at64 (t : ℕ) : ℕ := min t 127
theorem at64_le (t : ℕ) : at64 t < 128 := lt_of_le_of_lt (Nat.min_le_right t 127) (by decide)

theorem index0 : ∀ t : Fin cfg0.N, win0_0.index t = ![at64 t.val, 0] := by decide +kernel
theorem block0_entry (t : Fin cfg0.N) (r : Fin 64) (n : Fin 4096) :
    (iblk m c 0 t : Vec Ideal S64x4096 .f32) (ix2 r n) = flat (argX m c) ⟨64 * at64 t.val + r.val, by have := at64_le t.val; omega⟩ n := by
  rw [← x_entry]
  unfold iblk
  refine congrArg (V m c main_v4) ?_
  funext a; apply Fin.ext
  refine (Pipeline.Window.rect_emb_val win0_0 t (ix2 (n0 := 64) (n1 := 4096) r n) a).trans ?_
  rw [index0 t]
  match a with
  | ⟨0, _⟩ => show at64 t.val * 64 + r.val = 64 * at64 t.val + r.val; omega
  | ⟨1, _⟩ => show 0 * 4096 + n.val = n.val; omega

theorem index1 : ∀ t : Fin cfg0.N, win0_1.index t = ![at64 t.val, 0] := by decide +kernel
theorem block1_entry (t : Fin cfg0.N) (r : Fin 64) (n : Fin 4096) :
    (iblk m c 1 t : Vec Ideal S64x4096 .bf16) (ix2 r n) = flat (argY m c) ⟨64 * at64 t.val + r.val, by have := at64_le t.val; omega⟩ n := by
  rw [← y_entry]
  unfold iblk
  refine congrArg (V m c main_v1) ?_
  funext a; apply Fin.ext
  refine (Pipeline.Window.rect_emb_val win0_1 t (ix2 (n0 := 64) (n1 := 4096) r n) a).trans ?_
  rw [index1 t]
  match a with
  | ⟨0, _⟩ => show at64 t.val * 64 + r.val = 64 * at64 t.val + r.val; omega
  | ⟨1, _⟩ => show 0 * 4096 + n.val = n.val; omega

theorem index3 : ∀ t : Fin cfg0.N, win0_3.index t = ![0, 0, 0] := by decide +kernel
theorem block3_entry (t : Fin cfg0.N) (n : Fin 4096) : (iblk m c 3 t : Vec Ideal S1x1x4096 .f32) (ix3 0 0 n) = argPost m c (ix1 (n0 := 4096) n) := by
  rw [← post_entry]
  unfold iblk
  refine congrArg (V m c main_v5) ?_
  funext a; apply Fin.ext
  refine (Pipeline.Window.rect_emb_val win0_3 t (ix3 (n0 := 1) (n1 := 1) (n2 := 4096) 0 0 n) a).trans ?_
  rw [index3 t]
  match a with
  | ⟨0, _⟩ => show 0 * 1 + 0 = 0; omega
  | ⟨1, _⟩ => show 0 * 1 + 0 = 0; omega
  | ⟨2, _⟩ => show 0 * 4096 + n.val = n.val; omega

theorem index4 : ∀ t : Fin cfg0.N, win0_4.index t = ![0, 0, 0] := by decide +kernel
theorem block4_entry (t : Fin cfg0.N) (n : Fin 4096) : (iblk m c 4 t : Vec Ideal S1x1x4096 .f32) (ix3 0 0 n) = argG m c (ix1 (n0 := 4096) n) := by
  rw [← g_entry]
  unfold iblk
  refine congrArg (V m c main_v6) ?_
  funext a; apply Fin.ext
  refine (Pipeline.Window.rect_emb_val win0_4 t (ix3 (n0 := 1) (n1 := 1) (n2 := 4096) 0 0 n) a).trans ?_
  rw [index4 t]
  match a with
  | ⟨0, _⟩ => show 0 * 1 + 0 = 0; omega
  | ⟨1, _⟩ => show 0 * 1 + 0 = 0; omega
  | ⟨2, _⟩ => show 0 * 4096 + n.val = n.val; omega

theorem index2 : ∀ t : Fin cfg0.N, win0_2.index t = ![at64 t.val / 32, 0, 0] := by decide +kernel
theorem block2_entry (t : Fin cfg0.N) (r : Fin 64) (n : Fin 4096) :
    (iblk m c 2 t : Vec Ideal S1x1x4096 .f32) (ix3 0 0 n) = argGate m c (ix3 (n0 := 4) (n1 := 1) (n2 := 4096) ⟨(64 * at64 t.val + r.val) / 2048, by have := at64_le t.val; omega⟩ 0 n) := by
  unfold iblk
  refine (congrArg (V m c main_arg2) ?_).trans (congrFun (V_main_arg2 (F := Ideal) m c) (ix3 (n0 := 4) (n1 := 1) (n2 := 4096) ⟨(64 * at64 t.val + r.val) / 2048, by have := at64_le t.val; omega⟩ 0 n))
  funext a; apply Fin.ext
  refine (Pipeline.Window.rect_emb_val win0_2 t (ix3 (n0 := 1) (n1 := 1) (n2 := 4096) 0 0 n) a).trans ?_
  rw [index2 t]
  match a with
  | ⟨0, _⟩ => show (at64 t.val / 32) * 1 + 0 = (64 * at64 t.val + r.val) / 2048; omega
  | ⟨1, _⟩ => show 0 * 1 + 0 = 0; omega
  | ⟨2, _⟩ => show 0 * 4096 + n.val = n.val; omega

theorem index5 : ∀ t : Fin cfg0.N, win0_5.index t = ![at64 t.val / 32, 0, 0] := by decide +kernel
theorem block5_entry (t : Fin cfg0.N) (r : Fin 64) (n : Fin 4096) :
    (iblk m c 5 t : Vec Ideal S1x1x4096 .f32) (ix3 0 0 n) = argB m c (ix3 (n0 := 4) (n1 := 1) (n2 := 4096) ⟨(64 * at64 t.val + r.val) / 2048, by have := at64_le t.val; omega⟩ 0 n) := by
  unfold iblk
  refine (congrArg (V m c main_arg5) ?_).trans (congrFun (V_main_arg5 (F := Ideal) m c) (ix3 (n0 := 4) (n1 := 1) (n2 := 4096) ⟨(64 * at64 t.val + r.val) / 2048, by have := at64_le t.val; omega⟩ 0 n))
  funext a; apply Fin.ext
  refine (Pipeline.Window.rect_emb_val win0_5 t (ix3 (n0 := 1) (n1 := 1) (n2 := 4096) 0 0 n) a).trans ?_
  rw [index5 t]
  match a with
  | ⟨0, _⟩ => show (at64 t.val / 32) * 1 + 0 = (64 * at64 t.val + r.val) / 2048; omega
  | ⟨1, _⟩ => show 0 * 1 + 0 = 0; omega
  | ⟨2, _⟩ => show 0 * 4096 + n.val = n.val; omega

theorem index6 : ∀ t : Fin cfg0.N, win0_6.index t = ![at64 t.val / 32, 0, 0] := by decide +kernel
theorem block6_entry (t : Fin cfg0.N) (r : Fin 64) (n : Fin 4096) :
    (iblk m c 6 t : Vec Ideal S1x1x4096 .f32) (ix3 0 0 n) = argC m c (ix3 (n0 := 4) (n1 := 1) (n2 := 4096) ⟨(64 * at64 t.val + r.val) / 2048, by have := at64_le t.val; omega⟩ 0 n) := by
  unfold iblk
  refine (congrArg (V m c main_arg6) ?_).trans (congrFun (V_main_arg6 (F := Ideal) m c) (ix3 (n0 := 4) (n1 := 1) (n2 := 4096) ⟨(64 * at64 t.val + r.val) / 2048, by have := at64_le t.val; omega⟩ 0 n))
  funext a; apply Fin.ext
  refine (Pipeline.Window.rect_emb_val win0_6 t (ix3 (n0 := 1) (n1 := 1) (n2 := 4096) 0 0 n) a).trans ?_
  rw [index6 t]
  match a with
  | ⟨0, _⟩ => show (at64 t.val / 32) * 1 + 0 = (64 * at64 t.val + r.val) / 2048; omega
  | ⟨1, _⟩ => show 0 * 1 + 0 = 0; omega
  | ⟨2, _⟩ => show 0 * 4096 + n.val = n.val; omega

theorem index7 : ∀ t : Fin cfg0.N, win0_7.index t = ![0, 0] := by decide +kernel
theorem block7_entry (t : Fin cfg0.N) (r : Fin 128) (n : Fin 4096) :
    (iblk m c 7 t : Vec Ideal S128x4096 .bf16) (ix2 r n) = argS m c (ix3 (n0 := 8) (n1 := 16) (n2 := 4096) ⟨r.val / 16, by omega⟩ ⟨r.val % 16, by omega⟩ n) := by
  rw [← s_entry]
  unfold iblk
  refine congrArg (V m c main_v3) ?_
  funext a; apply Fin.ext
  refine (Pipeline.Window.rect_emb_val win0_7 t (ix2 (n0 := 128) (n1 := 4096) r n) a).trans ?_
  rw [index7 t]
  match a with
  | ⟨0, _⟩ => show 0 * 128 + r.val = r.val; omega
  | ⟨1, _⟩ => show 0 * 4096 + n.val = n.val; omega

theorem index8 : ∀ t : Fin cfg0.N, 16 ≤ t.val → win0_8.index t = ![1, 0, t.val % 16] := by decide +kernel
theorem block8_entry (t : Fin cfg0.N) (ht : 16 ≤ t.val) (n : Fin 4096) (k : Fin 512) :
    (iblk m c 8 t : Vec Ideal S1x4096x512 .f32) (ix3 0 n k) = argW m c (ix3 (n0 := 2) (n1 := 4096) (n2 := 8192) 1 n ⟨512 * (t.val % 16) + k.val, by omega⟩) := by
  unfold iblk
  refine (congrArg (V m c main_arg8) ?_).trans (congrFun (V_main_arg8 (F := Ideal) m c) (ix3 (n0 := 2) (n1 := 4096) (n2 := 8192) 1 n ⟨512 * (t.val % 16) + k.val, by omega⟩))
  funext a; apply Fin.ext
  refine (Pipeline.Window.rect_emb_val win0_8 t (ix3 (n0 := 1) (n1 := 4096) (n2 := 512) 0 n k) a).trans ?_
  rw [index8 t ht]
  match a with
  | ⟨0, _⟩ => show 1 * 1 + 0 = 1; omega
  | ⟨1, _⟩ => show 0 * 4096 + n.val = n.val; omega
  | ⟨2, _⟩ => show (t.val % 16) * 512 + k.val = 512 * (t.val % 16) + k.val; omega

/-! ## The rows added up, and the normalized rows -/

/-- The prompt's rows after the layer before. -/
def sums (r : Fin 8192) (n : Fin 4096) : EReal := summed (argX m c) (argY m c) (argGate m c) (argPost m c) r n

theorem sumAt_entry (t : Fin cfg0.N) (r : Fin 64) (n : Fin 4096) :
    sumAt (F := Ideal) m c t.val (ix2 r n) = sums m c ⟨64 * at64 t.val + r.val, by have := at64_le t.val; omega⟩ n := by
  unfold sumAt
  rw [pt_val]
  refine (resid_entry _ _ _ _ r n).trans ?_
  rw [block0_entry, block2_entry m c t r, block3_entry,
    show (fun n => (iblk m c 1 t : Vec Ideal S64x4096 .bf16) (ix2 (n0 := 64) (n1 := 4096) r n)) = flat (argY m c) ⟨64 * at64 t.val + r.val, by have := at64_le t.val; omega⟩ from
      funext fun n => block1_entry m c t r n]
  rfl

theorem normedAt_entry (q : ℕ) (hq : q < 128) (r : Fin 64) (n : Fin 4096) :
    normedAt (F := Ideal) m c q (ix2 r n) = row (argG m c) (argB m c) (argC m c) (sums m c) ⟨64 * q + r.val, by omega⟩ n := by
  have e : (pt q).val = q := Nat.mod_eq_of_lt (by omega)
  have e' : at64 (pt q).val = q := by rw [e]; exact Nat.min_eq_left (by omega)
  have er : (⟨64 * at64 (pt q).val + r.val, by have := at64_le (pt q).val; omega⟩ : Fin 8192) = ⟨64 * q + r.val, by omega⟩ := Fin.ext (by show 64 * at64 (pt q).val + r.val = _; rw [e'])
  have es : sumAt (F := Ideal) m c q = sumAt m c (pt q).val := by rw [e]
  rw [← er]
  unfold normedAt
  refine (normRows_entry _ _ _ _ r n).trans ?_
  rw [es, block4_entry, block5_entry m c (pt q) r, block6_entry m c (pt q) r,
    show (fun n => sumAt (F := Ideal) m c (pt q).val (ix2 (n0 := 64) (n1 := 4096) r n)) = sums m c ⟨64 * at64 (pt q).val + r.val, by have := at64_le (pt q).val; omega⟩ from
      funext fun n => sumAt_entry m c (pt q) r n]
  rfl

/-! ## The three results -/

def wholeX (y : S8192x4096.Idx) : EReal := sums m c (y 0) (y 1)
def wholeP (y : S8192x8192.Idx) : EReal := entryP (argG m c) (argB m c) (argC m c) 1 (argW m c) (sums m c) (y 0) (y 1)
def wholeS (y : S128x8192.Idx) : EReal := entryS (argS m c) 1 (argW m c) (y 0) (y 1)

theorem index9 : ∀ t : Fin cfg0.N, win0_9.index t = ![at64 t.val, 0] := by decide +kernel
theorem index10 : ∀ t : Fin cfg0.N, 16 ≤ t.val → win0_10.index t = ![t.val / 16 - 1, t.val % 16] := by decide +kernel
theorem index11 : ∀ t : Fin cfg0.N, 128 ≤ t.val → win0_11.index t = ![0, t.val % 16] := by decide +kernel

theorem emb9 (t : Fin cfg0.N) (r : Fin 64) (n : Fin 4096) :
    (win0_9.blk t).view.emb (ix2 (n0 := 64) (n1 := 4096) r n) = ix2 (n0 := 8192) (n1 := 4096) ⟨64 * at64 t.val + r.val, by have := at64_le t.val; omega⟩ n := by
  funext a; apply Fin.ext
  refine (Pipeline.Window.rect_emb_val win0_9 t (ix2 (n0 := 64) (n1 := 4096) r n) a).trans ?_
  rw [index9 t]
  match a with
  | ⟨0, _⟩ => show at64 t.val * 64 + r.val = 64 * at64 t.val + r.val; omega
  | ⟨1, _⟩ => show 0 * 4096 + n.val = n.val; omega

theorem arr9 : (dats m 0 c).arrAt 9 cfg0.N = wholeX m c := by
  refine (dats m 0 c).arrAt_eq_of_covers 9 _ (by decide +kernel) fun t hf y => ?_
  have e : y = ix2 (n0 := 64) (n1 := 4096) ⟨(y 0).val, (y 0).isLt⟩ ⟨(y 1).val, (y 1).isLt⟩ := eq_ix2 y
  rw [after9, e]
  refine Eq.trans ?_ (congrArg (wholeX m c) (emb9 t ⟨(y 0).val, (y 0).isLt⟩ ⟨(y 1).val, (y 1).isLt⟩).symm)
  exact sumAt_entry m c t _ _

theorem emb10 (t : Fin cfg0.N) (ht : 16 ≤ t.val) (r : Fin 1024) (k : Fin 512) :
    (win0_10.blk t).view.emb (ix2 (n0 := 1024) (n1 := 512) r k) = ix2 (n0 := 8192) (n1 := 8192) ⟨1024 * (t.val / 16 - 1) + r.val, by have hN := lt_of_lt_of_eq t.isLt (show cfg0.N = 144 from N_0); omega⟩ ⟨512 * (t.val % 16) + k.val, by omega⟩ := by
  funext a; apply Fin.ext
  refine (Pipeline.Window.rect_emb_val win0_10 t (ix2 (n0 := 1024) (n1 := 512) r k) a).trans ?_
  rw [index10 t ht]
  match a with
  | ⟨0, _⟩ => show (t.val / 16 - 1) * 1024 + r.val = 1024 * (t.val / 16 - 1) + r.val; omega
  | ⟨1, _⟩ => show (t.val % 16) * 512 + k.val = 512 * (t.val % 16) + k.val; omega

theorem arr10 : (dats m 0 c).arrAt 10 cfg0.N = wholeP m c := by
  refine (dats m 0 c).arrAt_eq_of_covers 10 _ (by decide +kernel) fun t hf y => ?_
  have hN := lt_of_lt_of_eq t.isLt (show cfg0.N = 144 from N_0)
  have ht : 16 ≤ t.val := flushed10 t hf
  have e : y = ix2 (n0 := 1024) (n1 := 512) ⟨(y 0).val, (y 0).isLt⟩ ⟨(y 1).val, (y 1).isLt⟩ := eq_ix2 y
  have hr : (y 0).val < 1024 := (y 0).isLt
  have hk : (y 1).val < 512 := (y 1).isLt
  rw [after10, e]
  refine Eq.trans ?_ (congrArg (wholeP m c) (emb10 t ht ⟨(y 0).val, (y 0).isLt⟩ ⟨(y 1).val, (y 1).isLt⟩).symm)
  refine (blockP_entry _ _ _ _).trans (congrArg gelu (Finset.sum_congr rfl fun n _ => ?_))
  exact congrArg₂ (fun a b : EReal => a * b) (tile_of _ _ (normedAt_entry m c) (t.val / 16 - 1) (by omega) _ n) (block8_entry m c t ht n _)

theorem emb11 (t : Fin cfg0.N) (ht : 128 ≤ t.val) (r : Fin 128) (k : Fin 512) :
    (win0_11.blk t).view.emb (ix2 (n0 := 128) (n1 := 512) r k) = ix2 (n0 := 128) (n1 := 8192) ⟨128 * (0) + r.val, by have hN := lt_of_lt_of_eq t.isLt (show cfg0.N = 144 from N_0); omega⟩ ⟨512 * (t.val % 16) + k.val, by omega⟩ := by
  funext a; apply Fin.ext
  refine (Pipeline.Window.rect_emb_val win0_11 t (ix2 (n0 := 128) (n1 := 512) r k) a).trans ?_
  rw [index11 t ht]
  match a with
  | ⟨0, _⟩ => show (0) * 128 + r.val = 128 * (0) + r.val; omega
  | ⟨1, _⟩ => show (t.val % 16) * 512 + k.val = 512 * (t.val % 16) + k.val; omega

theorem arr11 : (dats m 0 c).arrAt 11 cfg0.N = wholeS m c := by
  refine (dats m 0 c).arrAt_eq_of_covers 11 _ (by decide +kernel) fun t hf y => ?_
  have hN := lt_of_lt_of_eq t.isLt (show cfg0.N = 144 from N_0)
  have ht : 128 ≤ t.val := flushed11 t hf
  have e : y = ix2 (n0 := 128) (n1 := 512) ⟨(y 0).val, (y 0).isLt⟩ ⟨(y 1).val, (y 1).isLt⟩ := eq_ix2 y
  have hr : (y 0).val < 128 := (y 0).isLt
  have hk : (y 1).val < 512 := (y 1).isLt
  rw [after11, e]
  refine Eq.trans ?_ (congrArg (wholeS m c) (emb11 t ht ⟨(y 0).val, (y 0).isLt⟩ ⟨(y 1).val, (y 1).isLt⟩).symm)
  refine (blockS_entry _ _ _ _).trans (congrArg gelu (Finset.sum_congr rfl fun n _ => ?_))
  refine congrArg₂ (fun a b : EReal => a * b) ((block7_entry m c t _ n).trans (congrArg (argS m c) ?_)) (block8_entry m c t (by omega) n _)
  refine congrArg₂ (fun a b => ix3 (n0 := 8) (n1 := 16) (n2 := 4096) a b n) (Fin.ext ?_) (Fin.ext ?_)
  · show (y 0).val / 16 = (128 * 0 + (y 0).val) / 16; omega
  · show (y 0).val % 16 = (128 * 0 + (y 0).val) % 16; omega

end Cert.SecondIdeal.Val

end
-- ==== Proof.RefSecondIdeal.Ref.lean ====
module

public import proofs.«01_k».proof.Proof.Gen.RefSecondIdeal
public import proofs.«01_k».proof.Proof.Gen.RefSecondIdeal.Run
public import proofs.«01_k».proof.Proof.RefInIdeal.Ref
public import Idealize.ShloMosaic.Lib.ValueIdxCore
public import Idealize.ShloMosaic.Lib.ValueLayout
public import Idealize.ShloMosaic.Lib.ValueLayoutCasts
public import Idealize.ShloMosaic.Lib.Pointwise
public import Idealize.ShloMosaic.Lib.Claim
public import Idealize.ShloMosaic.PureOps.Ideal
public import Idealize.ShloMosaic.PureOps.Ideal.Laws

@[expose] public section

set_option maxRecDepth 16384

noncomputable section

namespace Cert.RefSecondIdeal.Val

open Cert.RefSecondIdeal Cert.RefSecondIdeal.Gen Cert.InMath
open Cert.RefInIdeal.Val (geluP geluS geluP_entry geluS_entry normed normed_entry)
open Idealize.ShloMosaic Idealize.ShloMosaic.TcCoe Idealize.ShloMosaic.Tactic

variable (x y : FVec Ideal S4x2048x4096 .f32) (gate : FVec Ideal S4x1x4096 .f32) (post gain : FVec Ideal S4096 .f32) (shift scale : FVec Ideal S4x1x4096 .f32)
  (h : FVec Ideal S8x16x4096 .f32) (w : FVec Ideal S2x4096x8192 .f32)

/-- The weights of the second block. -/
def wts : FVec Ideal S4096x8192 .f32 := shapeCast _ (extractStridedSlice S1x4096x8192 ![1, 0, 0] w slices_S2x4096x8192_S1x4096x8192_1_0_0) shapeCasts_S1x4096x8192_S4096x8192

theorem wts_entry (n : Fin 4096) (k : Fin 8192) : wts w (ix2 n k) = w (ix3 (n0 := 2) (n1 := 4096) (n2 := 8192) 1 n k) := by
  unfold wts
  pointwise

/-- The prompt's rows after the layer before. -/
def sum : FVec Ideal S4x2048x4096 .f32 :=
  addf x (mulf (broadcastInDim S4x2048x4096 ![0, 1, 2] bcast_S4x1x4096_S4x2048x4096_0_1_2 gate) (mulf (mulf y (broadcastInDim S4x2048x4096 ![0, 1, 2] bcast_S4x2048x1_S4x2048x4096_0_1_2 (Host.rsqrt (addf (Host.divf (broadcastInDim S4x2048x1 ![0, 1] bcast_S4x2048_S4x2048x1_0_1 (Host.reduceAdd (mulf y y) (constant S_ .f32 0x00000000#32) reducesTo_S4x2048x4096_S4x2048_d2 h_S_)) (broadcastInDim S4x2048x1 ![] bcast_S_S4x2048x1 (constant S_ .f32 0x45800000#32))) (broadcastInDim S4x2048x1 ![] bcast_S_S4x2048x1 (constant S_ .f32 0x358637BD#32)))))) (broadcastInDim S4x2048x4096 ![0, 1, 2] bcast_S1x1x4096_S4x2048x4096_0_1_2 (broadcastInDim S1x1x4096 ![2] bcast_S4096_S1x1x4096_2 post))))

theorem sum_entry (a : Fin 4) (r : Fin 2048) (n : Fin 4096) : sum x y gate post (ix3 a r n)
    = x (ix3 (n0 := 4) (n1 := 2048) (n2 := 4096) a r n) + gate (ix3 (n0 := 4) (n1 := 1) (n2 := 4096) a 0 n) * (rms (fun n => y (ix3 (n0 := 4) (n1 := 2048) (n2 := 4096) a r n)) n * post (ix1 (n0 := 4096) n)) := by
  unfold sum rms
  pointwise

theorem summed_eq (r : Fin 8192) : summed x y gate post r = fun n => sum x y gate post (ix3 (n0 := 4) (n1 := 2048) (n2 := 4096) ⟨r.val / 2048, by omega⟩ ⟨r.val % 2048, by omega⟩ n) :=
  funext fun n => (sum_entry x y gate post _ _ n).symm

/-- The reference's three results. -/
def resultX : FVec Ideal S8192x4096 .f32 := shapeCast _ (sum x y gate post) shapeCasts_S4x2048x4096_S8192x4096
def resultP : FVec Ideal S8192x8192 .bf16 := shapeCast _ (truncf .bf16 (geluP (Host.dotGeneral dot_S4x2048x4096_S4096x8192_S4x2048x8192_2_0_01_1_n_n none (normed (sum x y gate post) gain shift scale) (wts w))) bitsLt_bf16_f32) shapeCasts_S4x2048x8192_S8192x8192
def resultS : FVec Ideal S128x8192 .bf16 := shapeCast _ (truncf .bf16 (geluS (Host.dotGeneral dot_S8x16x4096_S4096x8192_S8x16x8192_2_0_01_1_n_n none h (wts w))) bitsLt_bf16_f32) shapeCasts_S8x16x8192_S128x8192

theorem resultX_entry (r : Fin 8192) (n : Fin 4096) : resultX x y gate post (ix2 r n) = summed x y gate post r n := by
  rw [summed_eq]
  unfold resultX
  pointwise

theorem resultP_entry (r k : Fin 8192) : resultP x y gate post gain shift scale w (ix2 r k) = entryP gain shift scale 1 w (summed x y gate post) r k := by
  unfold resultP entryP row
  rw [summed_eq]
  pointwise [geluP_entry, normed_entry, wts_entry]

theorem resultS_entry (r : Fin 128) (k : Fin 8192) : resultS h w (ix2 r k) = entryS h 1 w r k := by
  unfold resultS entryS
  pointwise [geluS_entry, wts_entry]

/-- The reference has no semaphore. -/
theorem no_sem (f : GSem nD τ sig → Int) : f = fun _ => 0 := by
  funext g
  obtain ⟨t, s⟩ := g
  cases s with
  | reg s => exact absurd s.isLt (Nat.not_lt_zero _)
  | dma s => exact absurd s.isLt (Nat.not_lt_zero _)

end Cert.RefSecondIdeal.Val

end
-- ==== Proof.SecondIdeal.Values.lean ====
/- The claims about the second block's input projection. -/
module

public import proofs.«01_k».proof.Defs
public import proofs.«01_k».proof.Proof.Gen.Second
public import proofs.«01_k».proof.Proof.Gen.SecondIdeal
public import proofs.«01_k».proof.Proof.Gen.RefSecondIdeal
public import proofs.«01_k».proof.Proof.SecondIdeal.Out
public import proofs.«01_k».proof.Proof.RefSecondIdeal.Ref
public import Idealize.ShloMosaic.Adequacy
public import Idealize.ShloMosaic.Init

@[expose] public section

noncomputable section

namespace Cert.SecondIdeal.Val

open Idealize.ShloMosaic Idealize.SL.Sem

/-- The two programs have the same text, so the same body table at the same float values. -/
theorem bodies_eq : @Cert.Second.defs₀ Bits _ _ = @Cert.SecondIdeal.defs₀ Bits _ _ := by
  unfold Cert.Second.defs₀ Cert.SecondIdeal.defs₀
  refine congrArg Defs.onTc ?_
  funext l x
  match l, x with
  | 0, (t, s) => rfl
  | ⟨_ + 1, h⟩, _ => exact absurd h (Nat.not_lt.2 (Nat.le_add_left _ _))

theorem defs_eq : @Cert.Second.defs Bits _ _ = @Cert.SecondIdeal.defs Bits _ _ := congrArg (Pipeline.defs _) bodies_eq

theorem frame_kernel : Cert.quiescent_Second (hSecond := Cert.Second.Gen.facts) := fun m g _ => by
  have h := Cert.SecondIdeal.Acc.frame (F := Bits) m g
  rw [← defs_eq] at h
  exact h

theorem frame_reference : Cert.quiescent_RefSecondIdeal (hRefSecondIdeal := Cert.RefSecondIdeal.Gen.facts) := fun m g _ =>
  (θ_run _ _ _).mono (fun r h => ⟨fun c => (h c).2.2.2, Cert.RefSecondIdeal.Val.no_sem _⟩) (Cert.RefSecondIdeal.Value.run (F := Ideal) m g)

/-- The kernel and the reference leave the same three arrays. -/
theorem values : Cert.algebraic_SecondIdeal_RefSecondIdeal (hSecondIdeal := Cert.SecondIdeal.Gen.facts) (hRefSecondIdeal := Cert.RefSecondIdeal.Gen.facts) := by
  intro m g m' g' _ hagree
  refine ⟨fun c => wholeX m c, fun c => wholeP m c, fun c => wholeS m c, ?_, ?_⟩
  · refine (θ_run _ _ _).mono (fun r h c => ?_) (θ_run_and (Cert.SecondIdeal.Acc.run_main (F := Ideal) m g) (Cert.SecondIdeal.Acc.frame (F := Ideal) m g))
    exact ⟨((h.1.1 c).1 9).trans (arr9 m c), ((h.1.1 c).1 10).trans (arr10 m c), ((h.1.1 c).1 11).trans (arr11 m c), h.2.1 c⟩
  · refine (θ_run _ _ _).mono (fun r h c => ⟨((h c).1).trans ?_, ((h c).2.1).trans ?_, ((h c).2.2.1).trans ?_, (h c).2.2.2⟩) (Cert.RefSecondIdeal.Value.run (F := Ideal) m' g')
    all_goals obtain ⟨e0, e1, e2, e3, e4, e5, e6, e7, e8⟩ := hagree c
    · rw [e0, e1, e2, e3]
      funext y
      rw [eq_ix2 y]
      exact Cert.RefSecondIdeal.Val.resultX_entry (argX m c) (argY m c) (argGate m c) (argPost m c) (y 0) (y 1)
    · unfold Cert.RefSecondIdeal.Value.res_main_v53
      rw [e0, e1, e2, e3, e4, e5, e6, e8]
      funext y
      rw [eq_ix2 y]
      exact Cert.RefSecondIdeal.Val.resultP_entry (argX m c) (argY m c) (argGate m c) (argPost m c) (argG m c) (argB m c) (argC m c) (argW m c) (y 0) (y 1)
    · rw [e7, e8]
      funext y
      rw [eq_ix2 y]
      exact Cert.RefSecondIdeal.Val.resultS_entry (argS m c) (argW m c) (y 0) (y 1)

end Cert.SecondIdeal.Val

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Down
public import proofs.«01_k».proof.Proof.Gen.DownIdeal
public import proofs.«01_k».proof.Proof.Gen.DownIdeal.Frame
public import proofs.«01_k».proof.Proof.Gen.RefDownIdeal
public import proofs.«01_k».proof.Proof.Gen.RefDownIdeal.Run
public import proofs.«01_k».proof.Proof.Gen.Gate
public import proofs.«01_k».proof.Proof.Gen.GateIdeal
public import proofs.«01_k».proof.Proof.Gen.GateIdeal.Frame
public import proofs.«01_k».proof.Proof.Gen.GateIdeal.Value
public import proofs.«01_k».proof.Proof.Gen.RefGateIdeal
public import proofs.«01_k».proof.Proof.Gen.RefGateIdeal.Run
public import proofs.«01_k».proof.Proof.Gen.Out
public import proofs.«01_k».proof.Proof.Gen.OutIdeal
public import proofs.«01_k».proof.Proof.Gen.OutIdeal.Frame
public import proofs.«01_k».proof.Proof.Gen.OutIdeal.Value
public import proofs.«01_k».proof.Proof.Gen.RefOutIdeal
public import proofs.«01_k».proof.Proof.Gen.RefOutIdeal.Run
public import proofs.«01_k».proof.Proof.Gen.Kv
public import proofs.«01_k».proof.Proof.Gen.KvIdeal
public import proofs.«01_k».proof.Proof.Gen.KvIdeal.Frame
public import proofs.«01_k».proof.Proof.Gen.RefKvIdeal
public import proofs.«01_k».proof.Proof.Gen.RefKvIdeal.Run
public import proofs.«01_k».proof.Proof.Gen.Query
public import proofs.«01_k».proof.Proof.Gen.Query.Frame
public import proofs.«01_k».proof.Proof.Gen.QueryIdeal
public import proofs.«01_k».proof.Proof.Gen.QueryIdeal.Frame
public import proofs.«01_k».proof.Proof.Gen.QueryIdeal.Value
public import proofs.«01_k».proof.Proof.Gen.RefQueryIdeal
public import proofs.«01_k».proof.Proof.Gen.RefQueryIdeal.Run
public import proofs.«01_k».proof.Proof.Gen.In
public import proofs.«01_k».proof.Proof.Gen.InIdeal
public import proofs.«01_k».proof.Proof.Gen.InIdeal.Frame
public import proofs.«01_k».proof.Proof.Gen.RefInIdeal
public import proofs.«01_k».proof.Proof.Gen.RefInIdeal.Run
public import proofs.«01_k».proof.Proof.Gen.RefSecondIdeal.Run
public import proofs.«01_k».proof.Proof.Gen.RefSecondIdeal
public import proofs.«01_k».proof.Proof.Gen.SecondIdeal.Frame
public import proofs.«01_k».proof.Proof.Gen.SecondIdeal
public import proofs.«01_k».proof.Proof.Gen.Second
public import proofs.«01_k».proof.Proof.Att.Bits
public import proofs.«01_k».proof.Proof.Att.Out
public import proofs.«01_k».proof.Proof.Att.Ref
public import proofs.«01_k».proof.Proof.Att.Finite
public import proofs.«01_k».proof.Proof.DownIdeal.Values
public import proofs.«01_k».proof.Proof.GateIdeal.Values
public import proofs.«01_k».proof.Proof.OutIdeal.Values
public import proofs.«01_k».proof.Proof.KvIdeal.Values
public import proofs.«01_k».proof.Proof.QueryIdeal.Values
public import proofs.«01_k».proof.Proof.InIdeal.Values
public import proofs.«01_k».proof.Proof.SecondIdeal.Values
public import Idealize.ShloMosaic.Adequacy
public import Idealize.ShloMosaic.Init

@[expose] public section

noncomputable section

namespace Cert.Proof

open Idealize.ShloMosaic Idealize.SL.Sem

/-- The reference has no semaphore. -/
theorem reference_sem (f : GSem Cert.ReferenceIdeal.nD Cert.ReferenceIdeal.τ Cert.ReferenceIdeal.sig → Int) : f = fun _ => 0 := by
  funext g
  obtain ⟨t, s⟩ := g
  cases s with
  | reg s => exact absurd s.isLt (Nat.not_lt_zero _)
  | dma s => exact absurd s.isLt (Nat.not_lt_zero _)

theorem reference_frame : Cert.quiescent_ReferenceIdeal (hReferenceIdeal := Cert.ReferenceIdeal.Gen.facts) := fun m g _ =>
  (θ_run _ _ _).mono (fun r h => ⟨fun c => (h c).2, reference_sem _⟩) (Cert.ReferenceIdeal.Value.run (F := Ideal) m g)

theorem values : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hagree
  refine ⟨fun c => Cert.KernelIdeal.Att.whole (fun b s d => (Cert.KernelIdeal.Att.argQ m c (ix3 b s d) : EReal).toReal)
    (fun b s d => (Cert.KernelIdeal.Att.argKV m c (ix3 b s d) : EReal).toReal) (fun h i => (Cert.KernelIdeal.Att.argB m c (ix2 h i) : EReal).toReal), ?_, ?_⟩
  · refine (θ_run _ _ _).mono (fun r h c => ?_) (θ_run_and (Cert.KernelIdeal.Att.run_main (F := Ideal) m g) (Cert.KernelIdeal.Att.frame (F := Ideal) m g))
    have hreal := Cert.Pre_finite.all_real (Cert.KernelIdeal.Att.argQ m c) (Cert.KernelIdeal.Att.argKV m c) (Cert.KernelIdeal.Att.argB m c) (hpre c)
    refine ⟨((h.1.1 c).1 8).trans ?_, h.2.1 c⟩
    exact Cert.KernelIdeal.Att.arr_out m c _ _ _ (fun b s d => hreal.1 _) (fun b s d => hreal.2.1 _) (fun h i => hreal.2.2 _)
  · refine (θ_run _ _ _).mono (fun r h c => ⟨(h c).1.trans ?_, (h c).2⟩) (Cert.ReferenceIdeal.Value.run (F := Ideal) m' g')
    have hreal := Cert.Pre_finite.all_real (Cert.KernelIdeal.Att.argQ m c) (Cert.KernelIdeal.Att.argKV m c) (Cert.KernelIdeal.Att.argB m c) (hpre c)
    rw [Cert.ReferenceIdeal.Att.result_eq, (hagree c).1, (hagree c).2.1, (hagree c).2.2]
    funext y
    rw [eq_ix3 y]
    exact Cert.ReferenceIdeal.Att.result_real (Cert.KernelIdeal.Att.argQ m c) (Cert.KernelIdeal.Att.argKV m c) (Cert.KernelIdeal.Att.argB m c)
      _ _ _ (fun b s d => hreal.1 _) (fun b s d => hreal.2.1 _) (fun h i => hreal.2.2 _) (y 0) (y 1) (y 2)

theorem claim : Cert.Claim := ⟨Cert.Kernel.Gen.facts, Cert.KernelIdeal.Gen.facts, Cert.ReferenceIdeal.Gen.facts, Cert.Down.Gen.facts, Cert.DownIdeal.Gen.facts,
  Cert.RefDownIdeal.Gen.facts, Cert.Gate.Gen.facts, Cert.GateIdeal.Gen.facts, Cert.RefGateIdeal.Gen.facts, Cert.Out.Gen.facts, Cert.OutIdeal.Gen.facts,
  Cert.RefOutIdeal.Gen.facts, Cert.Kv.Gen.facts, Cert.KvIdeal.Gen.facts, Cert.RefKvIdeal.Gen.facts, Cert.Query.Gen.facts, Cert.QueryIdeal.Gen.facts, Cert.RefQueryIdeal.Gen.facts, Cert.In.Gen.facts, Cert.InIdeal.Gen.facts, Cert.RefInIdeal.Gen.facts,
  Cert.Second.Gen.facts, Cert.SecondIdeal.Gen.facts, Cert.RefSecondIdeal.Gen.facts, Cert.Pre_finite.facts,
  fun m g _ => Cert.Kernel.Att.frame m g,
  fun m g _ => Cert.KernelIdeal.Att.frame m g,
  fun m g _ => Cert.KernelIdeal.Att.frame m g,
  reference_frame,
  fun m g _ => reference_frame m g trivial,
  Cert.DownIdeal.Acc.frame_kernel,
  fun m g _ => Cert.DownIdeal.Acc.frame m g,
  Cert.DownIdeal.Acc.frame_reference,
  Cert.GateIdeal.Val.frame_kernel,
  fun m g _ => Cert.GateIdeal.Gen.frame m g,
  Cert.GateIdeal.Val.frame_reference,
  Cert.OutIdeal.Val.frame_kernel,
  fun m g _ => Cert.OutIdeal.Gen.frame m g,
  Cert.OutIdeal.Val.frame_reference,
  Cert.KvIdeal.Val.frame_kernel,
  fun m g _ => Cert.KvIdeal.Acc.frame m g,
  Cert.KvIdeal.Val.frame_reference,
  fun m g _ => Cert.Query.Gen.frame m g,
  fun m g _ => Cert.QueryIdeal.Gen.frame m g,
  Cert.QueryIdeal.Val.frame_reference,
  Cert.InIdeal.Val.frame_kernel,
  fun m g _ => Cert.InIdeal.Acc.frame m g,
  Cert.InIdeal.Val.frame_reference,
  Cert.SecondIdeal.Val.frame_kernel,
  fun m g _ => Cert.SecondIdeal.Acc.frame m g,
  Cert.SecondIdeal.Val.frame_reference,
  ⟨IdealRules.named_const.statement _ _ _ _ _ rfl, IdealRules.named_const.statement _ _ _ _ _ rfl⟩,
  values,
  trivial,
  Cert.DownIdeal.Acc.values,
  trivial,
  Cert.GateIdeal.Val.values,
  trivial,
  Cert.OutIdeal.Val.values,
  trivial,
  Cert.KvIdeal.Val.values,
  IdealRules.named_const.statement _ _ _ _ _ rfl,
  Cert.QueryIdeal.Val.values,
  trivial,
  Cert.InIdeal.Val.values,
  trivial,
  Cert.SecondIdeal.Val.values⟩

end Cert.Proof

end
